-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_tame [hPre_rows_tame : Cert.Pre_rows_tame.Facts] (m : (ℓ : Loc Cert.KernelIdeal.nD Cert.KernelIdeal.τ Cert.KernelIdeal.sig) → Buf (Elt Ideal) ℓ) : Prop :=
  ∀ c : Dev Cert.KernelIdeal.nD,
    (Cert.Pre_rows_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_tame [hPre_rows_tame : Cert.Pre_rows_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_rows_tame [hKernelIdeal : Cert.KernelIdeal.Facts] [hPre_rows_tame : Cert.Pre_rows_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_tame [hReferenceIdeal : Cert.ReferenceIdeal.Facts] [hPre_rows_tame : Cert.Pre_rows_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "logit_scale" .f32 0x3AE7B46A#32 (((Real.sqrt 128)⁻¹ * 50⁻¹ : ℝ) : EReal)
  ∧ IdealRules.named_const.Statement Cert.KernelIdeal.κ "exp2_scale" .f32 0x429044FE#32 ((50 * (Real.log 2)⁻¹ : ℝ) : EReal)

def algebraic_KernelIdeal_ReferenceIdeal_pre_rows_tame [hKernelIdeal : Cert.KernelIdeal.Facts] [hReferenceIdeal : Cert.ReferenceIdeal.Facts] [hPre_rows_tame : Cert.Pre_rows_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_v151) = v5 c
          ∧ r.2.mem ((c.tc : Thread Cert.ReferenceIdeal.nD Cert.ReferenceIdeal.τ).loc Cert.ReferenceIdeal.main_v85) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rows_tame : Cert.Pre_rows_tame.Facts),
    quiescent_Kernel (hKernel := hKernel)
    ∧ quiescent_KernelIdeal (hKernelIdeal := hKernelIdeal)
    ∧ quiescent_KernelIdeal_pre_rows_tame (hKernelIdeal := hKernelIdeal) (hPre_rows_tame := hPre_rows_tame)
    ∧ quiescent_ReferenceIdeal (hReferenceIdeal := hReferenceIdeal)
    ∧ quiescent_ReferenceIdeal_pre_rows_tame (hReferenceIdeal := hReferenceIdeal) (hPre_rows_tame := hPre_rows_tame)
    ∧ preserves_Kernel_KernelIdeal
    ∧ algebraic_KernelIdeal_ReferenceIdeal_pre_rows_tame (hKernelIdeal := hKernelIdeal) (hReferenceIdeal := hReferenceIdeal) (hPre_rows_tame := hPre_rows_tame)
-- ==== Pre_rows_tame.lean ====
abbrev S8x2048x2048 : Shape := ⟨3, ![8, 2048, 2048]⟩
abbrev S8x2048x256 : Shape := ⟨3, ![8, 2048, 256]⟩
abbrev S8x2048x16x128 : Shape := ⟨4, ![8, 2048, 16, 128]⟩
abbrev S_ : Shape := ⟨0, ![]⟩
abbrev S8x2048x16 : Shape := ⟨3, ![8, 2048, 16]⟩
abbrev S8x2048x2x128 : Shape := ⟨4, ![8, 2048, 2, 128]⟩
abbrev S8x2048x2 : Shape := ⟨3, ![8, 2048, 2]⟩

class Facts : Prop where
  bitsLt_bf16_f32 : FTy.bits .bf16 < FTy.bits .f32
  shapeCasts_S8x2048x2048_S8x2048x16x128 : S8x2048x2048.ShapeCasts S8x2048x16x128
  reducesTo_S8x2048x16x128_S8x2048x16_d3 : S8x2048x16x128.ReducesTo [3] S8x2048x16
  h_S_ : 0 < S_.numel
  bcast_S_S8x2048x16 : S_.BroadcastsInDim S8x2048x16 (![] : Fin 0 → Fin S8x2048x16.rank)
  reducesTo_S8x2048x16_S_d0_1_2 : S8x2048x16.ReducesTo [0, 1, 2] S_
  shapeCasts_S8x2048x256_S8x2048x2x128 : S8x2048x256.ShapeCasts S8x2048x2x128
  reducesTo_S8x2048x2x128_S8x2048x2_d3 : S8x2048x2x128.ReducesTo [3] S8x2048x2
  bcast_S_S8x2048x2 : S_.BroadcastsInDim S8x2048x2 (![] : Fin 0 → Fin S8x2048x2.rank)
  reducesTo_S8x2048x2_S_d0_1_2 : S8x2048x2.ReducesTo [0, 1, 2] S_

variable [Facts]

def fn_part2 {F : FTy → Type} [FloatOps F] (main_v26 : IVec S_ 1) (main_v30 : FVec F S8x2048x2 .f32) (main_v32 : IVec S8x2048x2 1) (main_v34 : IVec S8x2048x2 1) : IVec S_ 1 :=
  let main_cst_11 : FVec F S_ .f32 := constant S_ .f32 0x7F7F0000#32
  let main_v35 : FVec F S8x2048x2 .f32 := broadcastInDim S8x2048x2 ![] bcast_S_S8x2048x2 main_cst_11
  let main_v36 : IVec S8x2048x2 1 := cmpf .ole main_v30 main_v35
  let main_v37 : IVec S8x2048x2 1 := andi main_v34 main_v36
  let main_v38 : IVec S8x2048x2 1 := ori main_v32 main_v37
  let main_c_12 : IVec S_ 1 := constantI S_ 1 1#1
  let main_v39 : IVec S_ 1 := (fun x v => Host.reduce IntOp.andi x v reducesTo_S8x2048x2_S_d0_1_2 h_S_) main_v38 main_c_12
  let main_v40 : IVec S_ 1 := andi main_v26 main_v39
  main_v40

def fn_part1 {F : FTy → Type} [FloatOps F] (main_arg2 : FVec F S8x2048x256 .bf16) (main_v12 : IVec S_ 1) (main_v16 : FVec F S8x2048x2 .f32) (main_cst_4 : FVec F S_ .f32) : IVec S_ 1 :=
  let main_v17 : FVec F S8x2048x2 .f32 := broadcastInDim S8x2048x2 ![] bcast_S_S8x2048x2 main_cst_4
  let main_v18 : IVec S8x2048x2 1 := cmpf .oeq main_v16 main_v17
  let main_cst_5 : FVec F S_ .f32 := constant S_ .f32 0x05000000#32
  let main_v19 : FVec F S8x2048x2 .f32 := broadcastInDim S8x2048x2 ![] bcast_S_S8x2048x2 main_cst_5
  let main_v20 : IVec S8x2048x2 1 := cmpf .oge main_v16 main_v19
  let main_cst_6 : FVec F S_ .f32 := constant S_ .f32 0x7F7F0000#32
  let main_v21 : FVec F S8x2048x2 .f32 := broadcastInDim S8x2048x2 ![] bcast_S_S8x2048x2 main_cst_6
  let main_v22 : IVec S8x2048x2 1 := cmpf .ole main_v16 main_v21
  let main_v23 : IVec S8x2048x2 1 := andi main_v20 main_v22
  let main_v24 : IVec S8x2048x2 1 := ori main_v18 main_v23
  let main_c_7 : IVec S_ 1 := constantI S_ 1 1#1
  let main_v25 : IVec S_ 1 := (fun x v => Host.reduce IntOp.andi x v reducesTo_S8x2048x2_S_d0_1_2 h_S_) main_v24 main_c_7
  let main_v26 : IVec S_ 1 := andi main_v12 main_v25
  let main_v27 : FVec F S8x2048x256 .f32 := (extf .f32 · bitsLt_bf16_f32) main_arg2
  let main_v28 : FVec F S8x2048x2x128 .f32 := shapeCast S8x2048x2x128 main_v27 shapeCasts_S8x2048x256_S8x2048x2x128
  let main_v29 : FVec F S8x2048x2x128 .f32 := Host.absf main_v28
  let main_cst_8 : FVec F S_ .f32 := constant S_ .f32 0xFF800000#32
  let main_v30 : FVec F S8x2048x2 .f32 := (fun x v => Host.reduce FloatOps.maximumf x v reducesTo_S8x2048x2x128_S8x2048x2_d3 h_S_) main_v29 main_cst_8
  let main_cst_9 : FVec F S_ .f32 := constant S_ .f32 0x00000000#32
  let main_v31 : FVec F S8x2048x2 .f32 := broadcastInDim S8x2048x2 ![] bcast_S_S8x2048x2 main_cst_9
  let main_v32 : IVec S8x2048x2 1 := cmpf .oeq main_v30 main_v31
  let main_cst_10 : FVec F S_ .f32 := constant S_ .f32 0x05000000#32
  let main_v33 : FVec F S8x2048x2 .f32 := broadcastInDim S8x2048x2 ![] bcast_S_S8x2048x2 main_cst_10
  let main_v34 : IVec S8x2048x2 1 := cmpf .oge main_v30 main_v33
  fn_part2 (F := F) main_v26 main_v30 main_v32 main_v34

def fn {F : FTy → Type} [FloatOps F] (main_arg0 : FVec F S8x2048x2048 .bf16) (main_arg1 : FVec F S8x2048x256 .bf16) (main_arg2 : FVec F S8x2048x256 .bf16) : IVec S_ 1 :=
  let main_v0 : FVec F S8x2048x2048 .f32 := (extf .f32 · bitsLt_bf16_f32) main_arg0
  let main_v1 : FVec F S8x2048x16x128 .f32 := shapeCast S8x2048x16x128 main_v0 shapeCasts_S8x2048x2048_S8x2048x16x128
  let main_v2 : FVec F S8x2048x16x128 .f32 := Host.absf main_v1
  let main_cst : FVec F S_ .f32 := constant S_ .f32 0xFF800000#32
  let main_v3 : FVec F S8x2048x16 .f32 := (fun x v => Host.reduce FloatOps.maximumf x v reducesTo_S8x2048x16x128_S8x2048x16_d3 h_S_) main_v2 main_cst
  let main_cst_0 : FVec F S_ .f32 := constant S_ .f32 0x00000000#32
  let main_v4 : FVec F S8x2048x16 .f32 := broadcastInDim S8x2048x16 ![] bcast_S_S8x2048x16 main_cst_0
  let main_v5 : IVec S8x2048x16 1 := cmpf .oeq main_v3 main_v4
  let main_cst_1 : FVec F S_ .f32 := constant S_ .f32 0x05000000#32
  let main_v6 : FVec F S8x2048x16 .f32 := broadcastInDim S8x2048x16 ![] bcast_S_S8x2048x16 main_cst_1
  let main_v7 : IVec S8x2048x16 1 := cmpf .oge main_v3 main_v6
  let main_cst_2 : FVec F S_ .f32 := constant S_ .f32 0x7F7F0000#32
  let main_v8 : FVec F S8x2048x16 .f32 := broadcastInDim S8x2048x16 ![] bcast_S_S8x2048x16 main_cst_2
  let main_v9 : IVec S8x2048x16 1 := cmpf .ole main_v3 main_v8
  let main_v10 : IVec S8x2048x16 1 := andi main_v7 main_v9
  let main_v11 : IVec S8x2048x16 1 := ori main_v5 main_v10
  let main_c : IVec S_ 1 := constantI S_ 1 1#1
  let main_v12 : IVec S_ 1 := (fun x v => Host.reduce IntOp.andi x v reducesTo_S8x2048x16_S_d0_1_2 h_S_) main_v11 main_c
  let main_v13 : FVec F S8x2048x256 .f32 := (extf .f32 · bitsLt_bf16_f32) main_arg1
  let main_v14 : FVec F S8x2048x2x128 .f32 := shapeCast S8x2048x2x128 main_v13 shapeCasts_S8x2048x256_S8x2048x2x128
  let main_v15 : FVec F S8x2048x2x128 .f32 := Host.absf main_v14
  let main_cst_3 : FVec F S_ .f32 := constant S_ .f32 0xFF800000#32
  let main_v16 : FVec F S8x2048x2 .f32 := (fun x v => Host.reduce FloatOps.maximumf x v reducesTo_S8x2048x2x128_S8x2048x2_d3 h_S_) main_v15 main_cst_3
  let main_cst_4 : FVec F S_ .f32 := constant S_ .f32 0x00000000#32
  fn_part1 (F := F) main_arg2 main_v12 main_v16 main_cst_4
-- ==== Kernel.lean ====
abbrev S8x2048x2048 : Shape := ⟨3, ![8, 2048, 2048]⟩
abbrev S8x2048x256 : Shape := ⟨3, ![8, 2048, 256]⟩
abbrev S8x2x8x2048 : Shape := ⟨4, ![8, 2, 8, 2048]⟩
abbrev S8x2x1x2048 : Shape := ⟨4, ![8, 2, 1, 2048]⟩
abbrev S1x2048x1024 : Shape := ⟨3, ![1, 2048, 1024]⟩
abbrev S1x2048x128 : Shape := ⟨3, ![1, 2048, 128]⟩
abbrev S1x1x8x2048 : Shape := ⟨4, ![1, 1, 8, 2048]⟩
abbrev S1x1x1x2048 : Shape := ⟨4, ![1, 1, 1, 2048]⟩
abbrev S128x2048 : Shape := ⟨2, ![128, 2048]⟩
abbrev S2048x128 : Shape := ⟨2, ![2048, 128]⟩
abbrev S2048x256 : Shape := ⟨2, ![2048, 256]⟩
abbrev S64x1x256 : Shape := ⟨3, ![64, 1, 256]⟩
abbrev S1x256 : Shape := ⟨2, ![1, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x1x1x128 : Shape := ⟨4, ![1, 1, 1, 128]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S8x128 : Shape := ⟨2, ![8, 128]⟩
abbrev S1x1x8x128 : Shape := ⟨4, ![1, 1, 8, 128]⟩
abbrev S1x1x256 : Shape := ⟨3, ![1, 1, 256]⟩
abbrev S256x128 : Shape := ⟨2, ![256, 128]⟩
abbrev S128x256 : Shape := ⟨2, ![128, 256]⟩
abbrev S16x8x256 : Shape := ⟨3, ![16, 8, 256]⟩
abbrev S8x256 : Shape := ⟨2, ![8, 256]⟩
abbrev S1x256x128 : Shape := ⟨3, ![1, 256, 128]⟩
abbrev S256x256 : Shape := ⟨2, ![256, 256]⟩
abbrev S256 : Shape := ⟨1, ![256]⟩
abbrev S128x384 : Shape := ⟨2, ![128, 384]⟩
abbrev S384x256 : Shape := ⟨2, ![384, 256]⟩
abbrev S128x512 : Shape := ⟨2, ![128, 512]⟩
abbrev S512x256 : Shape := ⟨2, ![512, 256]⟩
abbrev S128x640 : Shape := ⟨2, ![128, 640]⟩
abbrev S640x256 : Shape := ⟨2, ![640, 256]⟩
abbrev S128x768 : Shape := ⟨2, ![128, 768]⟩
abbrev S768x256 : Shape := ⟨2, ![768, 256]⟩
abbrev S128x896 : Shape := ⟨2, ![128, 896]⟩
abbrev S896x256 : Shape := ⟨2, ![896, 256]⟩
abbrev S128x1024 : Shape := ⟨2, ![128, 1024]⟩
abbrev S1024x256 : Shape := ⟨2, ![1024, 256]⟩
abbrev S128x1152 : Shape := ⟨2, ![128, 1152]⟩
abbrev S1152x256 : Shape := ⟨2, ![1152, 256]⟩
abbrev S128x1280 : Shape := ⟨2, ![128, 1280]⟩
abbrev S1280x256 : Shape := ⟨2, ![1280, 256]⟩
abbrev S128x1408 : Shape := ⟨2, ![128, 1408]⟩
abbrev S1408x256 : Shape := ⟨2, ![1408, 256]⟩
abbrev S128x1536 : Shape := ⟨2, ![128, 1536]⟩
abbrev S1536x256 : Shape := ⟨2, ![1536, 256]⟩
abbrev S128x1664 : Shape := ⟨2, ![128, 1664]⟩
abbrev S1664x256 : Shape := ⟨2, ![1664, 256]⟩
abbrev S128x1792 : Shape := ⟨2, ![128, 1792]⟩
abbrev S1792x256 : Shape := ⟨2, ![1792, 256]⟩
abbrev S128x1920 : Shape := ⟨2, ![128, 1920]⟩
abbrev S1920x256 : Shape := ⟨2, ![1920, 256]⟩

abbrev nBuf : Space → Nat
  | .hbm => 10
  | .vmem => 29
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x256, .bf16⟩
  | .hbm, ⟨2, _⟩ => ⟨S8x2048x256, .bf16⟩
  | .hbm, ⟨3, _⟩ => ⟨S8x2048x2048, .bf16⟩
  | .hbm, ⟨4, _⟩ => ⟨S8x2048x2048, .fp8e4m3⟩
  | .hbm, ⟨5, _⟩ => ⟨S8x2x8x2048, .f32⟩
  | .hbm, ⟨6, _⟩ => ⟨S8x2048x256, .fp8e4m3⟩
  | .hbm, ⟨7, _⟩ => ⟨S8x2x1x2048, .f32⟩
  | .hbm, ⟨8, _⟩ => ⟨S8x2048x256, .fp8e4m3⟩
  | .hbm, ⟨9, _⟩ => ⟨S8x2x1x2048, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .fp8e4m3⟩
  | .local _ .vmem, ⟨9, _⟩ => ⟨S1x2048x1024, .fp8e4m3⟩
  | .local _ .vmem, ⟨10, _⟩ => ⟨S1x1x8x2048, .f32⟩
  | .local _ .vmem, ⟨11, _⟩ => ⟨S1x1x8x2048, .f32⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x1x1x2048, .f32⟩
  | .local _ .vmem, ⟨15, _⟩ => ⟨S1x1x1x2048, .f32⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x1x1x2048, .f32⟩
  | .local _ .vmem, ⟨19, _⟩ => ⟨S1x1x1x2048, .f32⟩
  | .local _ .vmem, ⟨20, _⟩ => ⟨S128x2048, .fp8e4m3⟩
  | .local _ .vmem, ⟨21, _⟩ => ⟨S2048x128, .f32⟩
  | .local _ .vmem, ⟨22, _⟩ => ⟨S2048x128, .f32⟩
  | .local _ .vmem, ⟨23, _⟩ => ⟨S2048x256, .f32⟩
  | .local _ .vmem, ⟨24, _⟩ => ⟨S2048x256, .f32⟩
  | .local _ .vmem, ⟨25, _⟩ => ⟨S2048x256, .fp8e4m3⟩
  | .local _ .vmem, ⟨26, _⟩ => ⟨S64x1x256, .f32⟩
  | .local _ .vmem, ⟨27, _⟩ => ⟨S1x256, .f32⟩
  | .local _ .vmem, ⟨28, _⟩ => ⟨S1x256, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0_256 : Index := 0#32
  let c0_i32 : BitVec 32 := 0#32
  let c1_i32 : BitVec 32 := 1#32
  let arg21 : BitVec 32 := Scf.iv c0_i32 c1_i32 k0_t1
  let c128_i32 : BitVec 32 := 128#32
  let v380 : BitVec 32 := Scalar.muli arg21 c128_i32
  let v381 : Index := Scalar.indexCast v380
  let c0_257 : Index := 0#32
  ![0, v381.toNat, 0]
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v380 : BitVec 32 := Scalar.muli arg21 c128_i32
  let v479 : Index := Scalar.indexCast v380
  let c0_292 : Index := 0#32
  ![v479.toNat, 0]
def k0_off3 (k0_t1 : Fin k0_t1_loop.trips) : Fin 4 → Nat :=
  let c0_293 : Index := 0#32
  let c0_294 : Index := 0#32
  let c0_295 : Index := 0#32
  let c0_i32 : BitVec 32 := 0#32
  let c1_i32 : BitVec 32 := 1#32
  let arg21 : BitVec 32 := Scf.iv c0_i32 c1_i32 k0_t1
  let c128_i32 : BitVec 32 := 128#32
  let v380 : BitVec 32 := Scalar.muli arg21 c128_i32
  let v485 : Index := Scalar.indexCast v380
  ![0, 0, 0, v485.toNat]
def k0_off4 (k0_t1 : Fin k0_t1_loop.trips) : Fin 2 → Nat :=
  let c0_338 : Index := 0#32
  let c0_i32 : BitVec 32 := 0#32
  let c1_i32 : BitVec 32 := 1#32
  let arg21 : BitVec 32 := Scf.iv c0_i32 c1_i32 k0_t1
  let c128_i32 : BitVec 32 := 128#32
  let v380 : BitVec 32 := Scalar.muli arg21 c128_i32
  let v599 : Index := Scalar.indexCast v380
  ![0, v599.toNat]
@[reducible] def k0_t2_loop : Scf.Loop 32 :=
  let c0_i32_27 : BitVec 32 := 0#32
  let c16_i32_28 : BitVec 32 := 16#32
  let v86 : BitVec 32 := Scalar.addi c0_i32_27 c16_i32_28
  let c1_i32_29 : BitVec 32 := 1#32
  ⟨c0_i32_27, v86, c1_i32_29⟩
def k0_off5 (k0_t2 : Fin k0_t2_loop.trips) : Fin 3 → Nat :=
  let c0_256 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v381 : Index := Scalar.indexCast v380
  let c0_257 : Index := 0#32
  ![0, v381.toNat, 0]
def k0_off6 (k0_t2 : Fin k0_t2_loop.trips) : Fin 3 → Nat :=
  let c0_292 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v481 : Index := Scalar.indexCast v380
  let c128_293 : Index := 128#32
  ![0, v481.toNat, 128]
def k0_off7 (k0_t2 : Fin k0_t2_loop.trips) : Fin 3 → Nat :=
  let c0_330 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v581 : Index := Scalar.indexCast v380
  let c256_331 : Index := 256#32
  ![0, v581.toNat, 256]
def k0_off8 (k0_t2 : Fin k0_t2_loop.trips) : Fin 3 → Nat :=
  let c0_368 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v681 : Index := Scalar.indexCast v380
  let c384_369 : Index := 384#32
  ![0, v681.toNat, 384]
def k0_off9 (k0_t2 : Fin k0_t2_loop.trips) : Fin 3 → Nat :=
  let c0_406 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v781 : Index := Scalar.indexCast v380
  let c512_407 : Index := 512#32
  ![0, v781.toNat, 512]
def k0_off10 (k0_t2 : Fin k0_t2_loop.trips) : Fin 3 → Nat :=
  let c0_444 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v881 : Index := Scalar.indexCast v380
  let c640_445 : Index := 640#32
  ![0, v881.toNat, 640]
def k0_off11 (k0_t2 : Fin k0_t2_loop.trips) : Fin 3 → Nat :=
  let c0_482 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v981 : Index := Scalar.indexCast v380
  let c768_483 : Index := 768#32
  ![0, v981.toNat, 768]
def k0_off12 (k0_t2 : Fin k0_t2_loop.trips) : Fin 3 → Nat :=
  let c0_520 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v1081 : Index := Scalar.indexCast v380
  let c896_521 : Index := 896#32
  ![0, v1081.toNat, 896]
def k0_off13 (k0_t2 : Fin k0_t2_loop.trips) : Fin 4 → Nat :=
  let c0_558 : Index := 0#32
  let c0_559 : Index := 0#32
  let c0_560 : Index := 0#32
  let c0_i32_27 : BitVec 32 := 0#32
  let c1_i32_29 : BitVec 32 := 1#32
  let arg21 : BitVec 32 := Scf.iv c0_i32_27 c1_i32_29 k0_t2
  let c128_i32 : BitVec 32 := 128#32
  let v380 : BitVec 32 := Scalar.muli arg21 c128_i32
  let v1182 : Index := Scalar.indexCast v380
  ![0, 0, 0, v1182.toNat]
def k0_off14 (k0_t2 : Fin k0_t2_loop.trips) (c0_i32_563 : BitVec 32) : Fin 3 → Nat :=
  let c0_i32_27 : BitVec 32 := 0#32
  let c1_i32_29 : BitVec 32 := 1#32
  let arg21 : BitVec 32 := Scf.iv c0_i32_27 c1_i32_29 k0_t2
  let c4_i32_562 : BitVec 32 := 4#32
  let v1189 : BitVec 32 := Scalar.muli arg21 c4_i32_562
  let v1190 : BitVec 32 := Scalar.addi v1189 c0_i32_563
  let v1191 : Index := Scalar.indexCast v1190
  let c0_564 : Index := 0#32
  let c0_565 : Index := 0#32
  ![v1191.toNat, 0, 0]
@[reducible] def k0_t3_loop : Scf.Loop 32 :=
  let c0_i32_51 : BitVec 32 := 0#32
  let c4_i32 : BitVec 32 := 4#32
  let v110 : BitVec 32 := Scalar.addi c0_i32_51 c4_i32
  let c1_i32_52 : BitVec 32 := 1#32
  ⟨c0_i32_51, v110, c1_i32_52⟩
def k0_off15 (k0_t3 : Fin k0_t3_loop.trips) : Fin 3 → Nat :=
  let c0_i32_256 : BitVec 32 := 0#32
  let c0_i32_51 : BitVec 32 := 0#32
  let c1_i32_52 : BitVec 32 := 1#32
  let arg21 : BitVec 32 := Scf.iv c0_i32_51 c1_i32_52 k0_t3
  let v380 : BitVec 32 := Scalar.addi c0_i32_256 arg21
  let v385 : Index := Scalar.indexCast v380
  let c0_260 : Index := 0#32
  let c0_261 : Index := 0#32
  ![v385.toNat, 0, 0]
def k0_off16 (k0_t3 : Fin k0_t3_loop.trips) (c0_i32_279 : BitVec 32) : Fin 3 → Nat :=
  let c0_281 : Index := 0#32
  let c0_i32_256 : BitVec 32 := 0#32
  let c0_i32_51 : BitVec 32 := 0#32
  let c1_i32_52 : BitVec 32 := 1#32
  let arg21 : BitVec 32 := Scf.iv c0_i32_51 c1_i32_52 k0_t3
  let v380 : BitVec 32 := Scalar.addi c0_i32_256 arg21
  let c1_i32_257 : BitVec 32 := 1#32
  let v381 : BitVec 32 := Scalar.addi v380 c1_i32_257
  let c63_i32 : BitVec 32 := 63#32
  let v382 : BitVec 32 := Scalar.minsi v381 c63_i32
  let c0_i32_267 : BitVec 32 := 0#32
  let v391 : BitVec 1 := Scalar.cmpi .sgt v382 c0_i32_267
  let v392 : BitVec 32 := Scalar.extui v391
  let c0_i32_268 : BitVec 32 := 0#32
  let v393 : BitVec 1 := Scalar.cmpi .slt v382 c0_i32_268
  let v394 : BitVec 32 := Scalar.extui v393
  let v395 : BitVec 32 := Scalar.subi v392 v394
  let c4_i32_266 : BitVec 32 := 4#32
  let c0_i32_269 : BitVec 32 := 0#32
  let v396 : BitVec 1 := Scalar.cmpi .sgt c4_i32_266 c0_i32_269
  let v397 : BitVec 32 := Scalar.extui v396
  let c0_i32_270 : BitVec 32 := 0#32
  let v398 : BitVec 1 := Scalar.cmpi .slt c4_i32_266 c0_i32_270
  let v399 : BitVec 32 := Scalar.extui v398
  let v400 : BitVec 32 := Scalar.subi v397 v399
  let v401 : BitVec 1 := Scalar.cmpi .ne v395 v400
  let v402 : BitVec 32 := Scalar.remsi v382 c4_i32_266
  let c0_i32_271 : BitVec 32 := 0#32
  let v403 : BitVec 1 := Scalar.cmpi .ne v402 c0_i32_271
  let v404 : BitVec 1 := Scalar.andi v401 v403
  let v390 : BitVec 32 := Scalar.divsi v382 c4_i32_266
  let c1_i32_272 : BitVec 32 := 1#32
  let v405 : BitVec 32 := Scalar.subi v390 c1_i32_272
  let v406 : BitVec 32 := Scalar.select v404 v405 v390
  let c128_i32 : BitVec 32 := 128#32
  let v417 : BitVec 32 := Scalar.muli v406 c128_i32
  let v421 : Index := Scalar.indexCast v417
  let c4_i32_273 : BitVec 32 := 4#32
  let c0_i32_274 : BitVec 32 := 0#32
  let v407 : BitVec 1 := Scalar.cmpi .eq c4_i32_273 c0_i32_274
  let c1_i32_275 : BitVec 32 := 1#32
  let v408 : BitVec 32 := Scalar.select v407 c1_i32_275 c4_i32_273
  let v409 : BitVec 32 := Scalar.remsi v382 v408
  let c0_i32_277 : BitVec 32 := 0#32
  let v411 : BitVec 1 := Scalar.cmpi .slt v409 c0_i32_277
  let c0_i32_278 : BitVec 32 := 0#32
  let v412 : BitVec 1 := Scalar.cmpi .slt v408 c0_i32_278
  let v413 : BitVec 1 := Scalar.xori v411 v412
  let c0_i32_276 : BitVec 32 := 0#32
  let v410 : BitVec 1 := Scalar.cmpi .ne v409 c0_i32_276
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_279
  let c128_i32_280 : BitVec 32 := 128#32
  let v420 : BitVec 32 := Scalar.muli v419 c128_i32_280
  let v422 : Index := Scalar.indexCast v420
  ![0, v421.toNat, v422.toNat]
def k0_off17 (k0_t3 : Fin k0_t3_loop.trips) (c0_i32_331 : BitVec 32) : Fin 3 → Nat :=
  let c0_333 : Index := 0#32
  let c0_i32_256 : BitVec 32 := 0#32
  let c0_i32_51 : BitVec 32 := 0#32
  let c1_i32_52 : BitVec 32 := 1#32
  let arg21 : BitVec 32 := Scf.iv c0_i32_51 c1_i32_52 k0_t3
  let v380 : BitVec 32 := Scalar.addi c0_i32_256 arg21
  let c1_i32_258 : BitVec 32 := 1#32
  let v383 : BitVec 32 := Scalar.subi v380 c1_i32_258
  let c0_i32_259 : BitVec 32 := 0#32
  let v384 : BitVec 32 := Scalar.maxsi v383 c0_i32_259
  let c0_i32_312 : BitVec 32 := 0#32
  let v479 : BitVec 1 := Scalar.cmpi .sgt v384 c0_i32_312
  let v480 : BitVec 32 := Scalar.extui v479
  let c0_i32_313 : BitVec 32 := 0#32
  let v481 : BitVec 1 := Scalar.cmpi .slt v384 c0_i32_313
  let v482 : BitVec 32 := Scalar.extui v481
  let v483 : BitVec 32 := Scalar.subi v480 v482
  let c4_i32_311 : BitVec 32 := 4#32
  let c0_i32_314 : BitVec 32 := 0#32
  let v484 : BitVec 1 := Scalar.cmpi .sgt c4_i32_311 c0_i32_314
  let v485 : BitVec 32 := Scalar.extui v484
  let c0_i32_315 : BitVec 32 := 0#32
  let v486 : BitVec 1 := Scalar.cmpi .slt c4_i32_311 c0_i32_315
  let v487 : BitVec 32 := Scalar.extui v486
  let v488 : BitVec 32 := Scalar.subi v485 v487
  let v489 : BitVec 1 := Scalar.cmpi .ne v483 v488
  let v490 : BitVec 32 := Scalar.remsi v384 c4_i32_311
  let c0_i32_316 : BitVec 32 := 0#32
  let v491 : BitVec 1 := Scalar.cmpi .ne v490 c0_i32_316
  let v492 : BitVec 1 := Scalar.andi v489 v491
  let v478 : BitVec 32 := Scalar.divsi v384 c4_i32_311
  let c1_i32_317 : BitVec 32 := 1#32
  let v493 : BitVec 32 := Scalar.subi v478 c1_i32_317
  let v494 : BitVec 32 := Scalar.select v492 v493 v478
  let c128_i32_329 : BitVec 32 := 128#32
  let v511 : BitVec 32 := Scalar.muli v494 c128_i32_329
  let v517 : Index := Scalar.indexCast v511
  let c4_i32_318 : BitVec 32 := 4#32
  let c0_i32_319 : BitVec 32 := 0#32
  let v495 : BitVec 1 := Scalar.cmpi .eq c4_i32_318 c0_i32_319
  let c1_i32_320 : BitVec 32 := 1#32
  let v496 : BitVec 32 := Scalar.select v495 c1_i32_320 c4_i32_318
  let v497 : BitVec 32 := Scalar.remsi v384 v496
  let c0_i32_322 : BitVec 32 := 0#32
  let v499 : BitVec 1 := Scalar.cmpi .slt v497 c0_i32_322
  let c0_i32_323 : BitVec 32 := 0#32
  let v500 : BitVec 1 := Scalar.cmpi .slt v496 c0_i32_323
  let v501 : BitVec 1 := Scalar.xori v499 v500
  let c0_i32_321 : BitVec 32 := 0#32
  let v498 : BitVec 1 := Scalar.cmpi .ne v497 c0_i32_321
  let v502 : BitVec 1 := Scalar.andi v501 v498
  let v503 : BitVec 32 := Scalar.addi v497 v496
  let v504 : BitVec 32 := Scalar.select v502 v503 v497
  let c2_i32_330 : BitVec 32 := 2#32
  let v514 : BitVec 32 := Scalar.muli v504 c2_i32_330
  let v515 : BitVec 32 := Scalar.addi v514 c0_i32_331
  let c128_i32_332 : BitVec 32 := 128#32
  let v516 : BitVec 32 := Scalar.muli v515 c128_i32_332
  let v518 : Index := Scalar.indexCast v516
  ![0, v517.toNat, v518.toNat]
@[reducible] def k0_t4_loop : Scf.Loop 32 :=
  let c0_i32_57 : BitVec 32 := 0#32
  let c4_i32_58 : BitVec 32 := 4#32
  let v115 : BitVec 32 := Scalar.addi c0_i32_57 c4_i32_58
  let c1_i32_59 : BitVec 32 := 1#32
  ⟨c0_i32_57, v115, c1_i32_59⟩
def k0_off18 (k0_t4 : Fin k0_t4_loop.trips) : Fin 3 → Nat :=
  let c4_i32_256 : BitVec 32 := 4#32
  let c0_i32_57 : BitVec 32 := 0#32
  let c1_i32_59 : BitVec 32 := 1#32
  let arg21 : BitVec 32 := Scf.iv c0_i32_57 c1_i32_59 k0_t4
  let v380 : BitVec 32 := Scalar.addi c4_i32_256 arg21
  let v385 : Index := Scalar.indexCast v380
  let c0_260 : Index := 0#32
  let c0_261 : Index := 0#32
  ![v385.toNat, 0, 0]
def k0_off19 (k0_t4 : Fin k0_t4_loop.trips) (c0_i32_279 : BitVec 32) : Fin 3 → Nat :=
  let c0_281 : Index := 0#32
  let c4_i32_256 : BitVec 32 := 4#32
  let c0_i32_57 : BitVec 32 := 0#32
  let c1_i32_59 : BitVec 32 := 1#32
  let arg21 : BitVec 32 := Scf.iv c0_i32_57 c1_i32_59 k0_t4
  let v380 : BitVec 32 := Scalar.addi c4_i32_256 arg21
  let c1_i32_257 : BitVec 32 := 1#32
  let v381 : BitVec 32 := Scalar.addi v380 c1_i32_257
  let c63_i32 : BitVec 32 := 63#32
  let v382 : BitVec 32 := Scalar.minsi v381 c63_i32
  let c0_i32_267 : BitVec 32 := 0#32
  let v391 : BitVec 1 := Scalar.cmpi .sgt v382 c0_i32_267
  let v392 : BitVec 32 := Scalar.extui v391
  let c0_i32_268 : BitVec 32 := 0#32
  let v393 : BitVec 1 := Scalar.cmpi .slt v382 c0_i32_268
  let v394 : BitVec 32 := Scalar.extui v393
  let v395 : BitVec 32 := Scalar.subi v392 v394
  let c4_i32_266 : BitVec 32 := 4#32
  let c0_i32_269 : BitVec 32 := 0#32
  let v396 : BitVec 1 := Scalar.cmpi .sgt c4_i32_266 c0_i32_269
  let v397 : BitVec 32 := Scalar.extui v396
  let c0_i32_270 : BitVec 32 := 0#32
  let v398 : BitVec 1 := Scalar.cmpi .slt c4_i32_266 c0_i32_270
  let v399 : BitVec 32 := Scalar.extui v398
  let v400 : BitVec 32 := Scalar.subi v397 v399
  let v401 : BitVec 1 := Scalar.cmpi .ne v395 v400
  let v402 : BitVec 32 := Scalar.remsi v382 c4_i32_266
  let c0_i32_271 : BitVec 32 := 0#32
  let v403 : BitVec 1 := Scalar.cmpi .ne v402 c0_i32_271
  let v404 : BitVec 1 := Scalar.andi v401 v403
  let v390 : BitVec 32 := Scalar.divsi v382 c4_i32_266
  let c1_i32_272 : BitVec 32 := 1#32
  let v405 : BitVec 32 := Scalar.subi v390 c1_i32_272
  let v406 : BitVec 32 := Scalar.select v404 v405 v390
  let c128_i32 : BitVec 32 := 128#32
  let v417 : BitVec 32 := Scalar.muli v406 c128_i32
  let v421 : Index := Scalar.indexCast v417
  let c4_i32_273 : BitVec 32 := 4#32
  let c0_i32_274 : BitVec 32 := 0#32
  let v407 : BitVec 1 := Scalar.cmpi .eq c4_i32_273 c0_i32_274
  let c1_i32_275 : BitVec 32 := 1#32
  let v408 : BitVec 32 := Scalar.select v407 c1_i32_275 c4_i32_273
  let v409 : BitVec 32 := Scalar.remsi v382 v408
  let c0_i32_277 : BitVec 32 := 0#32
  let v411 : BitVec 1 := Scalar.cmpi .slt v409 c0_i32_277
  let c0_i32_278 : BitVec 32 := 0#32
  let v412 : BitVec 1 := Scalar.cmpi .slt v408 c0_i32_278
  let v413 : BitVec 1 := Scalar.xori v411 v412
  let c0_i32_276 : BitVec 32 := 0#32
  let v410 : BitVec 1 := Scalar.cmpi .ne v409 c0_i32_276
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_279
  let c128_i32_280 : BitVec 32 := 128#32
  let v420 : BitVec 32 := Scalar.muli v419 c128_i32_280
  let v422 : Index := Scalar.indexCast v420
  ![0, v421.toNat, v422.toNat]
def k0_off20 (k0_t4 : Fin k0_t4_loop.trips) (c0_i32_355 : BitVec 32) : Fin 3 → Nat :=
  let c0_357 : Index := 0#32
  let c4_i32_256 : BitVec 32 := 4#32
  let c0_i32_57 : BitVec 32 := 0#32
  let c1_i32_59 : BitVec 32 := 1#32
  let arg21 : BitVec 32 := Scf.iv c0_i32_57 c1_i32_59 k0_t4
  let v380 : BitVec 32 := Scalar.addi c4_i32_256 arg21
  let c1_i32_258 : BitVec 32 := 1#32
  let v383 : BitVec 32 := Scalar.subi v380 c1_i32_258
  let c0_i32_259 : BitVec 32 := 0#32
  let v384 : BitVec 32 := Scalar.maxsi v383 c0_i32_259
  let c0_i32_336 : BitVec 32 := 0#32
  let v520 : BitVec 1 := Scalar.cmpi .sgt v384 c0_i32_336
  let v521 : BitVec 32 := Scalar.extui v520
  let c0_i32_337 : BitVec 32 := 0#32
  let v522 : BitVec 1 := Scalar.cmpi .slt v384 c0_i32_337
  let v523 : BitVec 32 := Scalar.extui v522
  let v524 : BitVec 32 := Scalar.subi v521 v523
  let c4_i32_335 : BitVec 32 := 4#32
  let c0_i32_338 : BitVec 32 := 0#32
  let v525 : BitVec 1 := Scalar.cmpi .sgt c4_i32_335 c0_i32_338
  let v526 : BitVec 32 := Scalar.extui v525
  let c0_i32_339 : BitVec 32 := 0#32
  let v527 : BitVec 1 := Scalar.cmpi .slt c4_i32_335 c0_i32_339
  let v528 : BitVec 32 := Scalar.extui v527
  let v529 : BitVec 32 := Scalar.subi v526 v528
  let v530 : BitVec 1 := Scalar.cmpi .ne v524 v529
  let v531 : BitVec 32 := Scalar.remsi v384 c4_i32_335
  let c0_i32_340 : BitVec 32 := 0#32
  let v532 : BitVec 1 := Scalar.cmpi .ne v531 c0_i32_340
  let v533 : BitVec 1 := Scalar.andi v530 v532
  let v519 : BitVec 32 := Scalar.divsi v384 c4_i32_335
  let c1_i32_341 : BitVec 32 := 1#32
  let v534 : BitVec 32 := Scalar.subi v519 c1_i32_341
  let v535 : BitVec 32 := Scalar.select v533 v534 v519
  let c128_i32_353 : BitVec 32 := 128#32
  let v552 : BitVec 32 := Scalar.muli v535 c128_i32_353
  let v558 : Index := Scalar.indexCast v552
  let c4_i32_342 : BitVec 32 := 4#32
  let c0_i32_343 : BitVec 32 := 0#32
  let v536 : BitVec 1 := Scalar.cmpi .eq c4_i32_342 c0_i32_343
  let c1_i32_344 : BitVec 32 := 1#32
  let v537 : BitVec 32 := Scalar.select v536 c1_i32_344 c4_i32_342
  let v538 : BitVec 32 := Scalar.remsi v384 v537
  let c0_i32_346 : BitVec 32 := 0#32
  let v540 : BitVec 1 := Scalar.cmpi .slt v538 c0_i32_346
  let c0_i32_347 : BitVec 32 := 0#32
  let v541 : BitVec 1 := Scalar.cmpi .slt v537 c0_i32_347
  let v542 : BitVec 1 := Scalar.xori v540 v541
  let c0_i32_345 : BitVec 32 := 0#32
  let v539 : BitVec 1 := Scalar.cmpi .ne v538 c0_i32_345
  let v543 : BitVec 1 := Scalar.andi v542 v539
  let v544 : BitVec 32 := Scalar.addi v538 v537
  let v545 : BitVec 32 := Scalar.select v543 v544 v538
  let c2_i32_354 : BitVec 32 := 2#32
  let v555 : BitVec 32 := Scalar.muli v545 c2_i32_354
  let v556 : BitVec 32 := Scalar.addi v555 c0_i32_355
  let c128_i32_356 : BitVec 32 := 128#32
  let v557 : BitVec 32 := Scalar.muli v556 c128_i32_356
  let v559 : Index := Scalar.indexCast v557
  ![0, v558.toNat, v559.toNat]
@[reducible] def k0_t5_loop : Scf.Loop 32 :=
  let c0_i32_63 : BitVec 32 := 0#32
  let c4_i32_64 : BitVec 32 := 4#32
  let v120 : BitVec 32 := Scalar.addi c0_i32_63 c4_i32_64
  let c1_i32_65 : BitVec 32 := 1#32
  ⟨c0_i32_63, v120, c1_i32_65⟩
def k0_off21 (k0_t5 : Fin k0_t5_loop.trips) : Fin 3 → Nat :=
  let c8_i32 : BitVec 32 := 8#32
  let c0_i32_63 : BitVec 32 := 0#32
  let c1_i32_65 : BitVec 32 := 1#32
  let arg21 : BitVec 32 := Scf.iv c0_i32_63 c1_i32_65 k0_t5
  let v380 : BitVec 32 := Scalar.addi c8_i32 arg21
  let v385 : Index := Scalar.indexCast v380
  let c0_259 : Index := 0#32
  let c0_260 : Index := 0#32
  ![v385.toNat, 0, 0]
def k0_off22 (k0_t5 : Fin k0_t5_loop.trips) (c0_i32_278 : BitVec 32) : Fin 3 → Nat :=
  let c0_280 : Index := 0#32
  let c8_i32 : BitVec 32 := 8#32
  let c0_i32_63 : BitVec 32 := 0#32
  let c1_i32_65 : BitVec 32 := 1#32
  let arg21 : BitVec 32 := Scf.iv c0_i32_63 c1_i32_65 k0_t5
  let v380 : BitVec 32 := Scalar.addi c8_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off23 (k0_t5 : Fin k0_t5_loop.trips) (c0_i32_372 : BitVec 32) : Fin 3 → Nat :=
  let c0_374 : Index := 0#32
  let c8_i32 : BitVec 32 := 8#32
  let c0_i32_63 : BitVec 32 := 0#32
  let c1_i32_65 : BitVec 32 := 1#32
  let arg21 : BitVec 32 := Scf.iv c0_i32_63 c1_i32_65 k0_t5
  let v380 : BitVec 32 := Scalar.addi c8_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_353 : BitVec 32 := 0#32
  let v555 : BitVec 1 := Scalar.cmpi .sgt v384 c0_i32_353
  let v556 : BitVec 32 := Scalar.extui v555
  let c0_i32_354 : BitVec 32 := 0#32
  let v557 : BitVec 1 := Scalar.cmpi .slt v384 c0_i32_354
  let v558 : BitVec 32 := Scalar.extui v557
  let v559 : BitVec 32 := Scalar.subi v556 v558
  let c4_i32_352 : BitVec 32 := 4#32
  let c0_i32_355 : BitVec 32 := 0#32
  let v560 : BitVec 1 := Scalar.cmpi .sgt c4_i32_352 c0_i32_355
  let v561 : BitVec 32 := Scalar.extui v560
  let c0_i32_356 : BitVec 32 := 0#32
  let v562 : BitVec 1 := Scalar.cmpi .slt c4_i32_352 c0_i32_356
  let v563 : BitVec 32 := Scalar.extui v562
  let v564 : BitVec 32 := Scalar.subi v561 v563
  let v565 : BitVec 1 := Scalar.cmpi .ne v559 v564
  let v566 : BitVec 32 := Scalar.remsi v384 c4_i32_352
  let c0_i32_357 : BitVec 32 := 0#32
  let v567 : BitVec 1 := Scalar.cmpi .ne v566 c0_i32_357
  let v568 : BitVec 1 := Scalar.andi v565 v567
  let v554 : BitVec 32 := Scalar.divsi v384 c4_i32_352
  let c1_i32_358 : BitVec 32 := 1#32
  let v569 : BitVec 32 := Scalar.subi v554 c1_i32_358
  let v570 : BitVec 32 := Scalar.select v568 v569 v554
  let c128_i32_370 : BitVec 32 := 128#32
  let v587 : BitVec 32 := Scalar.muli v570 c128_i32_370
  let v593 : Index := Scalar.indexCast v587
  let c4_i32_359 : BitVec 32 := 4#32
  let c0_i32_360 : BitVec 32 := 0#32
  let v571 : BitVec 1 := Scalar.cmpi .eq c4_i32_359 c0_i32_360
  let c1_i32_361 : BitVec 32 := 1#32
  let v572 : BitVec 32 := Scalar.select v571 c1_i32_361 c4_i32_359
  let v573 : BitVec 32 := Scalar.remsi v384 v572
  let c0_i32_363 : BitVec 32 := 0#32
  let v575 : BitVec 1 := Scalar.cmpi .slt v573 c0_i32_363
  let c0_i32_364 : BitVec 32 := 0#32
  let v576 : BitVec 1 := Scalar.cmpi .slt v572 c0_i32_364
  let v577 : BitVec 1 := Scalar.xori v575 v576
  let c0_i32_362 : BitVec 32 := 0#32
  let v574 : BitVec 1 := Scalar.cmpi .ne v573 c0_i32_362
  let v578 : BitVec 1 := Scalar.andi v577 v574
  let v579 : BitVec 32 := Scalar.addi v573 v572
  let v580 : BitVec 32 := Scalar.select v578 v579 v573
  let c2_i32_371 : BitVec 32 := 2#32
  let v590 : BitVec 32 := Scalar.muli v580 c2_i32_371
  let v591 : BitVec 32 := Scalar.addi v590 c0_i32_372
  let c128_i32_373 : BitVec 32 := 128#32
  let v592 : BitVec 32 := Scalar.muli v591 c128_i32_373
  let v594 : Index := Scalar.indexCast v592
  ![0, v593.toNat, v594.toNat]
@[reducible] def k0_t6_loop : Scf.Loop 32 :=
  let c0_i32_69 : BitVec 32 := 0#32
  let c4_i32_70 : BitVec 32 := 4#32
  let v125 : BitVec 32 := Scalar.addi c0_i32_69 c4_i32_70
  let c1_i32_71 : BitVec 32 := 1#32
  ⟨c0_i32_69, v125, c1_i32_71⟩
def k0_off24 (k0_t6 : Fin k0_t6_loop.trips) : Fin 3 → Nat :=
  let c12_i32 : BitVec 32 := 12#32
  let c0_i32_69 : BitVec 32 := 0#32
  let c1_i32_71 : BitVec 32 := 1#32
  let arg21 : BitVec 32 := Scf.iv c0_i32_69 c1_i32_71 k0_t6
  let v380 : BitVec 32 := Scalar.addi c12_i32 arg21
  let v385 : Index := Scalar.indexCast v380
  let c0_259 : Index := 0#32
  let c0_260 : Index := 0#32
  ![v385.toNat, 0, 0]
def k0_off25 (k0_t6 : Fin k0_t6_loop.trips) (c0_i32_278 : BitVec 32) : Fin 3 → Nat :=
  let c0_280 : Index := 0#32
  let c12_i32 : BitVec 32 := 12#32
  let c0_i32_69 : BitVec 32 := 0#32
  let c1_i32_71 : BitVec 32 := 1#32
  let arg21 : BitVec 32 := Scf.iv c0_i32_69 c1_i32_71 k0_t6
  let v380 : BitVec 32 := Scalar.addi c12_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off26 (k0_t6 : Fin k0_t6_loop.trips) (c0_i32_396 : BitVec 32) : Fin 3 → Nat :=
  let c0_398 : Index := 0#32
  let c12_i32 : BitVec 32 := 12#32
  let c0_i32_69 : BitVec 32 := 0#32
  let c1_i32_71 : BitVec 32 := 1#32
  let arg21 : BitVec 32 := Scf.iv c0_i32_69 c1_i32_71 k0_t6
  let v380 : BitVec 32 := Scalar.addi c12_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_377 : BitVec 32 := 0#32
  let v596 : BitVec 1 := Scalar.cmpi .sgt v384 c0_i32_377
  let v597 : BitVec 32 := Scalar.extui v596
  let c0_i32_378 : BitVec 32 := 0#32
  let v598 : BitVec 1 := Scalar.cmpi .slt v384 c0_i32_378
  let v599 : BitVec 32 := Scalar.extui v598
  let v600 : BitVec 32 := Scalar.subi v597 v599
  let c4_i32_376 : BitVec 32 := 4#32
  let c0_i32_379 : BitVec 32 := 0#32
  let v601 : BitVec 1 := Scalar.cmpi .sgt c4_i32_376 c0_i32_379
  let v602 : BitVec 32 := Scalar.extui v601
  let c0_i32_380 : BitVec 32 := 0#32
  let v603 : BitVec 1 := Scalar.cmpi .slt c4_i32_376 c0_i32_380
  let v604 : BitVec 32 := Scalar.extui v603
  let v605 : BitVec 32 := Scalar.subi v602 v604
  let v606 : BitVec 1 := Scalar.cmpi .ne v600 v605
  let v607 : BitVec 32 := Scalar.remsi v384 c4_i32_376
  let c0_i32_381 : BitVec 32 := 0#32
  let v608 : BitVec 1 := Scalar.cmpi .ne v607 c0_i32_381
  let v609 : BitVec 1 := Scalar.andi v606 v608
  let v595 : BitVec 32 := Scalar.divsi v384 c4_i32_376
  let c1_i32_382 : BitVec 32 := 1#32
  let v610 : BitVec 32 := Scalar.subi v595 c1_i32_382
  let v611 : BitVec 32 := Scalar.select v609 v610 v595
  let c128_i32_394 : BitVec 32 := 128#32
  let v628 : BitVec 32 := Scalar.muli v611 c128_i32_394
  let v634 : Index := Scalar.indexCast v628
  let c4_i32_383 : BitVec 32 := 4#32
  let c0_i32_384 : BitVec 32 := 0#32
  let v612 : BitVec 1 := Scalar.cmpi .eq c4_i32_383 c0_i32_384
  let c1_i32_385 : BitVec 32 := 1#32
  let v613 : BitVec 32 := Scalar.select v612 c1_i32_385 c4_i32_383
  let v614 : BitVec 32 := Scalar.remsi v384 v613
  let c0_i32_387 : BitVec 32 := 0#32
  let v616 : BitVec 1 := Scalar.cmpi .slt v614 c0_i32_387
  let c0_i32_388 : BitVec 32 := 0#32
  let v617 : BitVec 1 := Scalar.cmpi .slt v613 c0_i32_388
  let v618 : BitVec 1 := Scalar.xori v616 v617
  let c0_i32_386 : BitVec 32 := 0#32
  let v615 : BitVec 1 := Scalar.cmpi .ne v614 c0_i32_386
  let v619 : BitVec 1 := Scalar.andi v618 v615
  let v620 : BitVec 32 := Scalar.addi v614 v613
  let v621 : BitVec 32 := Scalar.select v619 v620 v614
  let c2_i32_395 : BitVec 32 := 2#32
  let v631 : BitVec 32 := Scalar.muli v621 c2_i32_395
  let v632 : BitVec 32 := Scalar.addi v631 c0_i32_396
  let c128_i32_397 : BitVec 32 := 128#32
  let v633 : BitVec 32 := Scalar.muli v632 c128_i32_397
  let v635 : Index := Scalar.indexCast v633
  ![0, v634.toNat, v635.toNat]
@[reducible] def k0_t7_loop : Scf.Loop 32 :=
  let c0_i32_75 : BitVec 32 := 0#32
  let c4_i32_76 : BitVec 32 := 4#32
  let v130 : BitVec 32 := Scalar.addi c0_i32_75 c4_i32_76
  let c1_i32_77 : BitVec 32 := 1#32
  ⟨c0_i32_75, v130, c1_i32_77⟩
def k0_off27 (k0_t7 : Fin k0_t7_loop.trips) : Fin 3 → Nat :=
  let c16_i32_256 : BitVec 32 := 16#32
  let c0_i32_75 : BitVec 32 := 0#32
  let c1_i32_77 : BitVec 32 := 1#32
  let arg21 : BitVec 32 := Scf.iv c0_i32_75 c1_i32_77 k0_t7
  let v380 : BitVec 32 := Scalar.addi c16_i32_256 arg21
  let v385 : Index := Scalar.indexCast v380
  let c0_260 : Index := 0#32
  let c0_261 : Index := 0#32
  ![v385.toNat, 0, 0]
def k0_off28 (k0_t7 : Fin k0_t7_loop.trips) (c0_i32_279 : BitVec 32) : Fin 3 → Nat :=
  let c0_281 : Index := 0#32
  let c16_i32_256 : BitVec 32 := 16#32
  let c0_i32_75 : BitVec 32 := 0#32
  let c1_i32_77 : BitVec 32 := 1#32
  let arg21 : BitVec 32 := Scf.iv c0_i32_75 c1_i32_77 k0_t7
  let v380 : BitVec 32 := Scalar.addi c16_i32_256 arg21
  let c1_i32_257 : BitVec 32 := 1#32
  let v381 : BitVec 32 := Scalar.addi v380 c1_i32_257
  let c63_i32 : BitVec 32 := 63#32
  let v382 : BitVec 32 := Scalar.minsi v381 c63_i32
  let c0_i32_267 : BitVec 32 := 0#32
  let v391 : BitVec 1 := Scalar.cmpi .sgt v382 c0_i32_267
  let v392 : BitVec 32 := Scalar.extui v391
  let c0_i32_268 : BitVec 32 := 0#32
  let v393 : BitVec 1 := Scalar.cmpi .slt v382 c0_i32_268
  let v394 : BitVec 32 := Scalar.extui v393
  let v395 : BitVec 32 := Scalar.subi v392 v394
  let c4_i32_266 : BitVec 32 := 4#32
  let c0_i32_269 : BitVec 32 := 0#32
  let v396 : BitVec 1 := Scalar.cmpi .sgt c4_i32_266 c0_i32_269
  let v397 : BitVec 32 := Scalar.extui v396
  let c0_i32_270 : BitVec 32 := 0#32
  let v398 : BitVec 1 := Scalar.cmpi .slt c4_i32_266 c0_i32_270
  let v399 : BitVec 32 := Scalar.extui v398
  let v400 : BitVec 32 := Scalar.subi v397 v399
  let v401 : BitVec 1 := Scalar.cmpi .ne v395 v400
  let v402 : BitVec 32 := Scalar.remsi v382 c4_i32_266
  let c0_i32_271 : BitVec 32 := 0#32
  let v403 : BitVec 1 := Scalar.cmpi .ne v402 c0_i32_271
  let v404 : BitVec 1 := Scalar.andi v401 v403
  let v390 : BitVec 32 := Scalar.divsi v382 c4_i32_266
  let c1_i32_272 : BitVec 32 := 1#32
  let v405 : BitVec 32 := Scalar.subi v390 c1_i32_272
  let v406 : BitVec 32 := Scalar.select v404 v405 v390
  let c128_i32 : BitVec 32 := 128#32
  let v417 : BitVec 32 := Scalar.muli v406 c128_i32
  let v421 : Index := Scalar.indexCast v417
  let c4_i32_273 : BitVec 32 := 4#32
  let c0_i32_274 : BitVec 32 := 0#32
  let v407 : BitVec 1 := Scalar.cmpi .eq c4_i32_273 c0_i32_274
  let c1_i32_275 : BitVec 32 := 1#32
  let v408 : BitVec 32 := Scalar.select v407 c1_i32_275 c4_i32_273
  let v409 : BitVec 32 := Scalar.remsi v382 v408
  let c0_i32_277 : BitVec 32 := 0#32
  let v411 : BitVec 1 := Scalar.cmpi .slt v409 c0_i32_277
  let c0_i32_278 : BitVec 32 := 0#32
  let v412 : BitVec 1 := Scalar.cmpi .slt v408 c0_i32_278
  let v413 : BitVec 1 := Scalar.xori v411 v412
  let c0_i32_276 : BitVec 32 := 0#32
  let v410 : BitVec 1 := Scalar.cmpi .ne v409 c0_i32_276
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_279
  let c128_i32_280 : BitVec 32 := 128#32
  let v420 : BitVec 32 := Scalar.muli v419 c128_i32_280
  let v422 : Index := Scalar.indexCast v420
  ![0, v421.toNat, v422.toNat]
def k0_off29 (k0_t7 : Fin k0_t7_loop.trips) (c0_i32_415 : BitVec 32) : Fin 3 → Nat :=
  let c0_417 : Index := 0#32
  let c16_i32_256 : BitVec 32 := 16#32
  let c0_i32_75 : BitVec 32 := 0#32
  let c1_i32_77 : BitVec 32 := 1#32
  let arg21 : BitVec 32 := Scf.iv c0_i32_75 c1_i32_77 k0_t7
  let v380 : BitVec 32 := Scalar.addi c16_i32_256 arg21
  let c1_i32_258 : BitVec 32 := 1#32
  let v383 : BitVec 32 := Scalar.subi v380 c1_i32_258
  let c0_i32_259 : BitVec 32 := 0#32
  let v384 : BitVec 32 := Scalar.maxsi v383 c0_i32_259
  let c0_i32_396 : BitVec 32 := 0#32
  let v631 : BitVec 1 := Scalar.cmpi .sgt v384 c0_i32_396
  let v632 : BitVec 32 := Scalar.extui v631
  let c0_i32_397 : BitVec 32 := 0#32
  let v633 : BitVec 1 := Scalar.cmpi .slt v384 c0_i32_397
  let v634 : BitVec 32 := Scalar.extui v633
  let v635 : BitVec 32 := Scalar.subi v632 v634
  let c4_i32_395 : BitVec 32 := 4#32
  let c0_i32_398 : BitVec 32 := 0#32
  let v636 : BitVec 1 := Scalar.cmpi .sgt c4_i32_395 c0_i32_398
  let v637 : BitVec 32 := Scalar.extui v636
  let c0_i32_399 : BitVec 32 := 0#32
  let v638 : BitVec 1 := Scalar.cmpi .slt c4_i32_395 c0_i32_399
  let v639 : BitVec 32 := Scalar.extui v638
  let v640 : BitVec 32 := Scalar.subi v637 v639
  let v641 : BitVec 1 := Scalar.cmpi .ne v635 v640
  let v642 : BitVec 32 := Scalar.remsi v384 c4_i32_395
  let c0_i32_400 : BitVec 32 := 0#32
  let v643 : BitVec 1 := Scalar.cmpi .ne v642 c0_i32_400
  let v644 : BitVec 1 := Scalar.andi v641 v643
  let v630 : BitVec 32 := Scalar.divsi v384 c4_i32_395
  let c1_i32_401 : BitVec 32 := 1#32
  let v645 : BitVec 32 := Scalar.subi v630 c1_i32_401
  let v646 : BitVec 32 := Scalar.select v644 v645 v630
  let c128_i32_413 : BitVec 32 := 128#32
  let v663 : BitVec 32 := Scalar.muli v646 c128_i32_413
  let v669 : Index := Scalar.indexCast v663
  let c4_i32_402 : BitVec 32 := 4#32
  let c0_i32_403 : BitVec 32 := 0#32
  let v647 : BitVec 1 := Scalar.cmpi .eq c4_i32_402 c0_i32_403
  let c1_i32_404 : BitVec 32 := 1#32
  let v648 : BitVec 32 := Scalar.select v647 c1_i32_404 c4_i32_402
  let v649 : BitVec 32 := Scalar.remsi v384 v648
  let c0_i32_406 : BitVec 32 := 0#32
  let v651 : BitVec 1 := Scalar.cmpi .slt v649 c0_i32_406
  let c0_i32_407 : BitVec 32 := 0#32
  let v652 : BitVec 1 := Scalar.cmpi .slt v648 c0_i32_407
  let v653 : BitVec 1 := Scalar.xori v651 v652
  let c0_i32_405 : BitVec 32 := 0#32
  let v650 : BitVec 1 := Scalar.cmpi .ne v649 c0_i32_405
  let v654 : BitVec 1 := Scalar.andi v653 v650
  let v655 : BitVec 32 := Scalar.addi v649 v648
  let v656 : BitVec 32 := Scalar.select v654 v655 v649
  let c2_i32_414 : BitVec 32 := 2#32
  let v666 : BitVec 32 := Scalar.muli v656 c2_i32_414
  let v667 : BitVec 32 := Scalar.addi v666 c0_i32_415
  let c128_i32_416 : BitVec 32 := 128#32
  let v668 : BitVec 32 := Scalar.muli v667 c128_i32_416
  let v670 : Index := Scalar.indexCast v668
  ![0, v669.toNat, v670.toNat]
@[reducible] def k0_t8_loop : Scf.Loop 32 :=
  let c0_i32_81 : BitVec 32 := 0#32
  let c4_i32_82 : BitVec 32 := 4#32
  let v135 : BitVec 32 := Scalar.addi c0_i32_81 c4_i32_82
  let c1_i32_83 : BitVec 32 := 1#32
  ⟨c0_i32_81, v135, c1_i32_83⟩
def k0_off30 (k0_t8 : Fin k0_t8_loop.trips) : Fin 3 → Nat :=
  let c20_i32 : BitVec 32 := 20#32
  let c0_i32_81 : BitVec 32 := 0#32
  let c1_i32_83 : BitVec 32 := 1#32
  let arg21 : BitVec 32 := Scf.iv c0_i32_81 c1_i32_83 k0_t8
  let v380 : BitVec 32 := Scalar.addi c20_i32 arg21
  let v385 : Index := Scalar.indexCast v380
  let c0_259 : Index := 0#32
  let c0_260 : Index := 0#32
  ![v385.toNat, 0, 0]
def k0_off31 (k0_t8 : Fin k0_t8_loop.trips) (c0_i32_278 : BitVec 32) : Fin 3 → Nat :=
  let c0_280 : Index := 0#32
  let c20_i32 : BitVec 32 := 20#32
  let c0_i32_81 : BitVec 32 := 0#32
  let c1_i32_83 : BitVec 32 := 1#32
  let arg21 : BitVec 32 := Scf.iv c0_i32_81 c1_i32_83 k0_t8
  let v380 : BitVec 32 := Scalar.addi c20_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off32 (k0_t8 : Fin k0_t8_loop.trips) (c0_i32_438 : BitVec 32) : Fin 3 → Nat :=
  let c0_440 : Index := 0#32
  let c20_i32 : BitVec 32 := 20#32
  let c0_i32_81 : BitVec 32 := 0#32
  let c1_i32_83 : BitVec 32 := 1#32
  let arg21 : BitVec 32 := Scf.iv c0_i32_81 c1_i32_83 k0_t8
  let v380 : BitVec 32 := Scalar.addi c20_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_419 : BitVec 32 := 0#32
  let v672 : BitVec 1 := Scalar.cmpi .sgt v384 c0_i32_419
  let v673 : BitVec 32 := Scalar.extui v672
  let c0_i32_420 : BitVec 32 := 0#32
  let v674 : BitVec 1 := Scalar.cmpi .slt v384 c0_i32_420
  let v675 : BitVec 32 := Scalar.extui v674
  let v676 : BitVec 32 := Scalar.subi v673 v675
  let c4_i32_418 : BitVec 32 := 4#32
  let c0_i32_421 : BitVec 32 := 0#32
  let v677 : BitVec 1 := Scalar.cmpi .sgt c4_i32_418 c0_i32_421
  let v678 : BitVec 32 := Scalar.extui v677
  let c0_i32_422 : BitVec 32 := 0#32
  let v679 : BitVec 1 := Scalar.cmpi .slt c4_i32_418 c0_i32_422
  let v680 : BitVec 32 := Scalar.extui v679
  let v681 : BitVec 32 := Scalar.subi v678 v680
  let v682 : BitVec 1 := Scalar.cmpi .ne v676 v681
  let v683 : BitVec 32 := Scalar.remsi v384 c4_i32_418
  let c0_i32_423 : BitVec 32 := 0#32
  let v684 : BitVec 1 := Scalar.cmpi .ne v683 c0_i32_423
  let v685 : BitVec 1 := Scalar.andi v682 v684
  let v671 : BitVec 32 := Scalar.divsi v384 c4_i32_418
  let c1_i32_424 : BitVec 32 := 1#32
  let v686 : BitVec 32 := Scalar.subi v671 c1_i32_424
  let v687 : BitVec 32 := Scalar.select v685 v686 v671
  let c128_i32_436 : BitVec 32 := 128#32
  let v704 : BitVec 32 := Scalar.muli v687 c128_i32_436
  let v710 : Index := Scalar.indexCast v704
  let c4_i32_425 : BitVec 32 := 4#32
  let c0_i32_426 : BitVec 32 := 0#32
  let v688 : BitVec 1 := Scalar.cmpi .eq c4_i32_425 c0_i32_426
  let c1_i32_427 : BitVec 32 := 1#32
  let v689 : BitVec 32 := Scalar.select v688 c1_i32_427 c4_i32_425
  let v690 : BitVec 32 := Scalar.remsi v384 v689
  let c0_i32_429 : BitVec 32 := 0#32
  let v692 : BitVec 1 := Scalar.cmpi .slt v690 c0_i32_429
  let c0_i32_430 : BitVec 32 := 0#32
  let v693 : BitVec 1 := Scalar.cmpi .slt v689 c0_i32_430
  let v694 : BitVec 1 := Scalar.xori v692 v693
  let c0_i32_428 : BitVec 32 := 0#32
  let v691 : BitVec 1 := Scalar.cmpi .ne v690 c0_i32_428
  let v695 : BitVec 1 := Scalar.andi v694 v691
  let v696 : BitVec 32 := Scalar.addi v690 v689
  let v697 : BitVec 32 := Scalar.select v695 v696 v690
  let c2_i32_437 : BitVec 32 := 2#32
  let v707 : BitVec 32 := Scalar.muli v697 c2_i32_437
  let v708 : BitVec 32 := Scalar.addi v707 c0_i32_438
  let c128_i32_439 : BitVec 32 := 128#32
  let v709 : BitVec 32 := Scalar.muli v708 c128_i32_439
  let v711 : Index := Scalar.indexCast v709
  ![0, v710.toNat, v711.toNat]
@[reducible] def k0_t9_loop : Scf.Loop 32 :=
  let c0_i32_87 : BitVec 32 := 0#32
  let c4_i32_88 : BitVec 32 := 4#32
  let v140 : BitVec 32 := Scalar.addi c0_i32_87 c4_i32_88
  let c1_i32_89 : BitVec 32 := 1#32
  ⟨c0_i32_87, v140, c1_i32_89⟩
def k0_off33 (k0_t9 : Fin k0_t9_loop.trips) : Fin 3 → Nat :=
  let c24_i32 : BitVec 32 := 24#32
  let c0_i32_87 : BitVec 32 := 0#32
  let c1_i32_89 : BitVec 32 := 1#32
  let arg21 : BitVec 32 := Scf.iv c0_i32_87 c1_i32_89 k0_t9
  let v380 : BitVec 32 := Scalar.addi c24_i32 arg21
  let v385 : Index := Scalar.indexCast v380
  let c0_259 : Index := 0#32
  let c0_260 : Index := 0#32
  ![v385.toNat, 0, 0]
def k0_off34 (k0_t9 : Fin k0_t9_loop.trips) (c0_i32_278 : BitVec 32) : Fin 3 → Nat :=
  let c0_280 : Index := 0#32
  let c24_i32 : BitVec 32 := 24#32
  let c0_i32_87 : BitVec 32 := 0#32
  let c1_i32_89 : BitVec 32 := 1#32
  let arg21 : BitVec 32 := Scf.iv c0_i32_87 c1_i32_89 k0_t9
  let v380 : BitVec 32 := Scalar.addi c24_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off35 (k0_t9 : Fin k0_t9_loop.trips) (c0_i32_456 : BitVec 32) : Fin 3 → Nat :=
  let c0_458 : Index := 0#32
  let c24_i32 : BitVec 32 := 24#32
  let c0_i32_87 : BitVec 32 := 0#32
  let c1_i32_89 : BitVec 32 := 1#32
  let arg21 : BitVec 32 := Scf.iv c0_i32_87 c1_i32_89 k0_t9
  let v380 : BitVec 32 := Scalar.addi c24_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_437 : BitVec 32 := 0#32
  let v707 : BitVec 1 := Scalar.cmpi .sgt v384 c0_i32_437
  let v708 : BitVec 32 := Scalar.extui v707
  let c0_i32_438 : BitVec 32 := 0#32
  let v709 : BitVec 1 := Scalar.cmpi .slt v384 c0_i32_438
  let v710 : BitVec 32 := Scalar.extui v709
  let v711 : BitVec 32 := Scalar.subi v708 v710
  let c4_i32_436 : BitVec 32 := 4#32
  let c0_i32_439 : BitVec 32 := 0#32
  let v712 : BitVec 1 := Scalar.cmpi .sgt c4_i32_436 c0_i32_439
  let v713 : BitVec 32 := Scalar.extui v712
  let c0_i32_440 : BitVec 32 := 0#32
  let v714 : BitVec 1 := Scalar.cmpi .slt c4_i32_436 c0_i32_440
  let v715 : BitVec 32 := Scalar.extui v714
  let v716 : BitVec 32 := Scalar.subi v713 v715
  let v717 : BitVec 1 := Scalar.cmpi .ne v711 v716
  let v718 : BitVec 32 := Scalar.remsi v384 c4_i32_436
  let c0_i32_441 : BitVec 32 := 0#32
  let v719 : BitVec 1 := Scalar.cmpi .ne v718 c0_i32_441
  let v720 : BitVec 1 := Scalar.andi v717 v719
  let v706 : BitVec 32 := Scalar.divsi v384 c4_i32_436
  let c1_i32_442 : BitVec 32 := 1#32
  let v721 : BitVec 32 := Scalar.subi v706 c1_i32_442
  let v722 : BitVec 32 := Scalar.select v720 v721 v706
  let c128_i32_454 : BitVec 32 := 128#32
  let v739 : BitVec 32 := Scalar.muli v722 c128_i32_454
  let v745 : Index := Scalar.indexCast v739
  let c4_i32_443 : BitVec 32 := 4#32
  let c0_i32_444 : BitVec 32 := 0#32
  let v723 : BitVec 1 := Scalar.cmpi .eq c4_i32_443 c0_i32_444
  let c1_i32_445 : BitVec 32 := 1#32
  let v724 : BitVec 32 := Scalar.select v723 c1_i32_445 c4_i32_443
  let v725 : BitVec 32 := Scalar.remsi v384 v724
  let c0_i32_447 : BitVec 32 := 0#32
  let v727 : BitVec 1 := Scalar.cmpi .slt v725 c0_i32_447
  let c0_i32_448 : BitVec 32 := 0#32
  let v728 : BitVec 1 := Scalar.cmpi .slt v724 c0_i32_448
  let v729 : BitVec 1 := Scalar.xori v727 v728
  let c0_i32_446 : BitVec 32 := 0#32
  let v726 : BitVec 1 := Scalar.cmpi .ne v725 c0_i32_446
  let v730 : BitVec 1 := Scalar.andi v729 v726
  let v731 : BitVec 32 := Scalar.addi v725 v724
  let v732 : BitVec 32 := Scalar.select v730 v731 v725
  let c2_i32_455 : BitVec 32 := 2#32
  let v742 : BitVec 32 := Scalar.muli v732 c2_i32_455
  let v743 : BitVec 32 := Scalar.addi v742 c0_i32_456
  let c128_i32_457 : BitVec 32 := 128#32
  let v744 : BitVec 32 := Scalar.muli v743 c128_i32_457
  let v746 : Index := Scalar.indexCast v744
  ![0, v745.toNat, v746.toNat]
@[reducible] def k0_t10_loop : Scf.Loop 32 :=
  let c0_i32_93 : BitVec 32 := 0#32
  let c4_i32_94 : BitVec 32 := 4#32
  let v145 : BitVec 32 := Scalar.addi c0_i32_93 c4_i32_94
  let c1_i32_95 : BitVec 32 := 1#32
  ⟨c0_i32_93, v145, c1_i32_95⟩
def k0_off36 (k0_t10 : Fin k0_t10_loop.trips) : Fin 3 → Nat :=
  let c28_i32 : BitVec 32 := 28#32
  let c0_i32_93 : BitVec 32 := 0#32
  let c1_i32_95 : BitVec 32 := 1#32
  let arg21 : BitVec 32 := Scf.iv c0_i32_93 c1_i32_95 k0_t10
  let v380 : BitVec 32 := Scalar.addi c28_i32 arg21
  let v385 : Index := Scalar.indexCast v380
  let c0_259 : Index := 0#32
  let c0_260 : Index := 0#32
  ![v385.toNat, 0, 0]
def k0_off37 (k0_t10 : Fin k0_t10_loop.trips) (c0_i32_278 : BitVec 32) : Fin 3 → Nat :=
  let c0_280 : Index := 0#32
  let c28_i32 : BitVec 32 := 28#32
  let c0_i32_93 : BitVec 32 := 0#32
  let c1_i32_95 : BitVec 32 := 1#32
  let arg21 : BitVec 32 := Scf.iv c0_i32_93 c1_i32_95 k0_t10
  let v380 : BitVec 32 := Scalar.addi c28_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off38 (k0_t10 : Fin k0_t10_loop.trips) (c0_i32_480 : BitVec 32) : Fin 3 → Nat :=
  let c0_482 : Index := 0#32
  let c28_i32 : BitVec 32 := 28#32
  let c0_i32_93 : BitVec 32 := 0#32
  let c1_i32_95 : BitVec 32 := 1#32
  let arg21 : BitVec 32 := Scf.iv c0_i32_93 c1_i32_95 k0_t10
  let v380 : BitVec 32 := Scalar.addi c28_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_461 : BitVec 32 := 0#32
  let v748 : BitVec 1 := Scalar.cmpi .sgt v384 c0_i32_461
  let v749 : BitVec 32 := Scalar.extui v748
  let c0_i32_462 : BitVec 32 := 0#32
  let v750 : BitVec 1 := Scalar.cmpi .slt v384 c0_i32_462
  let v751 : BitVec 32 := Scalar.extui v750
  let v752 : BitVec 32 := Scalar.subi v749 v751
  let c4_i32_460 : BitVec 32 := 4#32
  let c0_i32_463 : BitVec 32 := 0#32
  let v753 : BitVec 1 := Scalar.cmpi .sgt c4_i32_460 c0_i32_463
  let v754 : BitVec 32 := Scalar.extui v753
  let c0_i32_464 : BitVec 32 := 0#32
  let v755 : BitVec 1 := Scalar.cmpi .slt c4_i32_460 c0_i32_464
  let v756 : BitVec 32 := Scalar.extui v755
  let v757 : BitVec 32 := Scalar.subi v754 v756
  let v758 : BitVec 1 := Scalar.cmpi .ne v752 v757
  let v759 : BitVec 32 := Scalar.remsi v384 c4_i32_460
  let c0_i32_465 : BitVec 32 := 0#32
  let v760 : BitVec 1 := Scalar.cmpi .ne v759 c0_i32_465
  let v761 : BitVec 1 := Scalar.andi v758 v760
  let v747 : BitVec 32 := Scalar.divsi v384 c4_i32_460
  let c1_i32_466 : BitVec 32 := 1#32
  let v762 : BitVec 32 := Scalar.subi v747 c1_i32_466
  let v763 : BitVec 32 := Scalar.select v761 v762 v747
  let c128_i32_478 : BitVec 32 := 128#32
  let v780 : BitVec 32 := Scalar.muli v763 c128_i32_478
  let v786 : Index := Scalar.indexCast v780
  let c4_i32_467 : BitVec 32 := 4#32
  let c0_i32_468 : BitVec 32 := 0#32
  let v764 : BitVec 1 := Scalar.cmpi .eq c4_i32_467 c0_i32_468
  let c1_i32_469 : BitVec 32 := 1#32
  let v765 : BitVec 32 := Scalar.select v764 c1_i32_469 c4_i32_467
  let v766 : BitVec 32 := Scalar.remsi v384 v765
  let c0_i32_471 : BitVec 32 := 0#32
  let v768 : BitVec 1 := Scalar.cmpi .slt v766 c0_i32_471
  let c0_i32_472 : BitVec 32 := 0#32
  let v769 : BitVec 1 := Scalar.cmpi .slt v765 c0_i32_472
  let v770 : BitVec 1 := Scalar.xori v768 v769
  let c0_i32_470 : BitVec 32 := 0#32
  let v767 : BitVec 1 := Scalar.cmpi .ne v766 c0_i32_470
  let v771 : BitVec 1 := Scalar.andi v770 v767
  let v772 : BitVec 32 := Scalar.addi v766 v765
  let v773 : BitVec 32 := Scalar.select v771 v772 v766
  let c2_i32_479 : BitVec 32 := 2#32
  let v783 : BitVec 32 := Scalar.muli v773 c2_i32_479
  let v784 : BitVec 32 := Scalar.addi v783 c0_i32_480
  let c128_i32_481 : BitVec 32 := 128#32
  let v785 : BitVec 32 := Scalar.muli v784 c128_i32_481
  let v787 : Index := Scalar.indexCast v785
  ![0, v786.toNat, v787.toNat]
@[reducible] def k0_t11_loop : Scf.Loop 32 :=
  let c0_i32_99 : BitVec 32 := 0#32
  let c4_i32_100 : BitVec 32 := 4#32
  let v150 : BitVec 32 := Scalar.addi c0_i32_99 c4_i32_100
  let c1_i32_101 : BitVec 32 := 1#32
  ⟨c0_i32_99, v150, c1_i32_101⟩
def k0_off39 (k0_t11 : Fin k0_t11_loop.trips) : Fin 3 → Nat :=
  let c32_i32 : BitVec 32 := 32#32
  let c0_i32_99 : BitVec 32 := 0#32
  let c1_i32_101 : BitVec 32 := 1#32
  let arg21 : BitVec 32 := Scf.iv c0_i32_99 c1_i32_101 k0_t11
  let v380 : BitVec 32 := Scalar.addi c32_i32 arg21
  let v385 : Index := Scalar.indexCast v380
  let c0_259 : Index := 0#32
  let c0_260 : Index := 0#32
  ![v385.toNat, 0, 0]
def k0_off40 (k0_t11 : Fin k0_t11_loop.trips) (c0_i32_278 : BitVec 32) : Fin 3 → Nat :=
  let c0_280 : Index := 0#32
  let c32_i32 : BitVec 32 := 32#32
  let c0_i32_99 : BitVec 32 := 0#32
  let c1_i32_101 : BitVec 32 := 1#32
  let arg21 : BitVec 32 := Scf.iv c0_i32_99 c1_i32_101 k0_t11
  let v380 : BitVec 32 := Scalar.addi c32_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off41 (k0_t11 : Fin k0_t11_loop.trips) (c0_i32_498 : BitVec 32) : Fin 3 → Nat :=
  let c0_500 : Index := 0#32
  let c32_i32 : BitVec 32 := 32#32
  let c0_i32_99 : BitVec 32 := 0#32
  let c1_i32_101 : BitVec 32 := 1#32
  let arg21 : BitVec 32 := Scf.iv c0_i32_99 c1_i32_101 k0_t11
  let v380 : BitVec 32 := Scalar.addi c32_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_479 : BitVec 32 := 0#32
  let v783 : BitVec 1 := Scalar.cmpi .sgt v384 c0_i32_479
  let v784 : BitVec 32 := Scalar.extui v783
  let c0_i32_480 : BitVec 32 := 0#32
  let v785 : BitVec 1 := Scalar.cmpi .slt v384 c0_i32_480
  let v786 : BitVec 32 := Scalar.extui v785
  let v787 : BitVec 32 := Scalar.subi v784 v786
  let c4_i32_478 : BitVec 32 := 4#32
  let c0_i32_481 : BitVec 32 := 0#32
  let v788 : BitVec 1 := Scalar.cmpi .sgt c4_i32_478 c0_i32_481
  let v789 : BitVec 32 := Scalar.extui v788
  let c0_i32_482 : BitVec 32 := 0#32
  let v790 : BitVec 1 := Scalar.cmpi .slt c4_i32_478 c0_i32_482
  let v791 : BitVec 32 := Scalar.extui v790
  let v792 : BitVec 32 := Scalar.subi v789 v791
  let v793 : BitVec 1 := Scalar.cmpi .ne v787 v792
  let v794 : BitVec 32 := Scalar.remsi v384 c4_i32_478
  let c0_i32_483 : BitVec 32 := 0#32
  let v795 : BitVec 1 := Scalar.cmpi .ne v794 c0_i32_483
  let v796 : BitVec 1 := Scalar.andi v793 v795
  let v782 : BitVec 32 := Scalar.divsi v384 c4_i32_478
  let c1_i32_484 : BitVec 32 := 1#32
  let v797 : BitVec 32 := Scalar.subi v782 c1_i32_484
  let v798 : BitVec 32 := Scalar.select v796 v797 v782
  let c128_i32_496 : BitVec 32 := 128#32
  let v815 : BitVec 32 := Scalar.muli v798 c128_i32_496
  let v821 : Index := Scalar.indexCast v815
  let c4_i32_485 : BitVec 32 := 4#32
  let c0_i32_486 : BitVec 32 := 0#32
  let v799 : BitVec 1 := Scalar.cmpi .eq c4_i32_485 c0_i32_486
  let c1_i32_487 : BitVec 32 := 1#32
  let v800 : BitVec 32 := Scalar.select v799 c1_i32_487 c4_i32_485
  let v801 : BitVec 32 := Scalar.remsi v384 v800
  let c0_i32_489 : BitVec 32 := 0#32
  let v803 : BitVec 1 := Scalar.cmpi .slt v801 c0_i32_489
  let c0_i32_490 : BitVec 32 := 0#32
  let v804 : BitVec 1 := Scalar.cmpi .slt v800 c0_i32_490
  let v805 : BitVec 1 := Scalar.xori v803 v804
  let c0_i32_488 : BitVec 32 := 0#32
  let v802 : BitVec 1 := Scalar.cmpi .ne v801 c0_i32_488
  let v806 : BitVec 1 := Scalar.andi v805 v802
  let v807 : BitVec 32 := Scalar.addi v801 v800
  let v808 : BitVec 32 := Scalar.select v806 v807 v801
  let c2_i32_497 : BitVec 32 := 2#32
  let v818 : BitVec 32 := Scalar.muli v808 c2_i32_497
  let v819 : BitVec 32 := Scalar.addi v818 c0_i32_498
  let c128_i32_499 : BitVec 32 := 128#32
  let v820 : BitVec 32 := Scalar.muli v819 c128_i32_499
  let v822 : Index := Scalar.indexCast v820
  ![0, v821.toNat, v822.toNat]
@[reducible] def k0_t12_loop : Scf.Loop 32 :=
  let c0_i32_105 : BitVec 32 := 0#32
  let c4_i32_106 : BitVec 32 := 4#32
  let v155 : BitVec 32 := Scalar.addi c0_i32_105 c4_i32_106
  let c1_i32_107 : BitVec 32 := 1#32
  ⟨c0_i32_105, v155, c1_i32_107⟩
def k0_off42 (k0_t12 : Fin k0_t12_loop.trips) : Fin 3 → Nat :=
  let c36_i32 : BitVec 32 := 36#32
  let c0_i32_105 : BitVec 32 := 0#32
  let c1_i32_107 : BitVec 32 := 1#32
  let arg21 : BitVec 32 := Scf.iv c0_i32_105 c1_i32_107 k0_t12
  let v380 : BitVec 32 := Scalar.addi c36_i32 arg21
  let v385 : Index := Scalar.indexCast v380
  let c0_259 : Index := 0#32
  let c0_260 : Index := 0#32
  ![v385.toNat, 0, 0]
def k0_off43 (k0_t12 : Fin k0_t12_loop.trips) (c0_i32_278 : BitVec 32) : Fin 3 → Nat :=
  let c0_280 : Index := 0#32
  let c36_i32 : BitVec 32 := 36#32
  let c0_i32_105 : BitVec 32 := 0#32
  let c1_i32_107 : BitVec 32 := 1#32
  let arg21 : BitVec 32 := Scf.iv c0_i32_105 c1_i32_107 k0_t12
  let v380 : BitVec 32 := Scalar.addi c36_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off44 (k0_t12 : Fin k0_t12_loop.trips) (c0_i32_522 : BitVec 32) : Fin 3 → Nat :=
  let c0_524 : Index := 0#32
  let c36_i32 : BitVec 32 := 36#32
  let c0_i32_105 : BitVec 32 := 0#32
  let c1_i32_107 : BitVec 32 := 1#32
  let arg21 : BitVec 32 := Scf.iv c0_i32_105 c1_i32_107 k0_t12
  let v380 : BitVec 32 := Scalar.addi c36_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_503 : BitVec 32 := 0#32
  let v824 : BitVec 1 := Scalar.cmpi .sgt v384 c0_i32_503
  let v825 : BitVec 32 := Scalar.extui v824
  let c0_i32_504 : BitVec 32 := 0#32
  let v826 : BitVec 1 := Scalar.cmpi .slt v384 c0_i32_504
  let v827 : BitVec 32 := Scalar.extui v826
  let v828 : BitVec 32 := Scalar.subi v825 v827
  let c4_i32_502 : BitVec 32 := 4#32
  let c0_i32_505 : BitVec 32 := 0#32
  let v829 : BitVec 1 := Scalar.cmpi .sgt c4_i32_502 c0_i32_505
  let v830 : BitVec 32 := Scalar.extui v829
  let c0_i32_506 : BitVec 32 := 0#32
  let v831 : BitVec 1 := Scalar.cmpi .slt c4_i32_502 c0_i32_506
  let v832 : BitVec 32 := Scalar.extui v831
  let v833 : BitVec 32 := Scalar.subi v830 v832
  let v834 : BitVec 1 := Scalar.cmpi .ne v828 v833
  let v835 : BitVec 32 := Scalar.remsi v384 c4_i32_502
  let c0_i32_507 : BitVec 32 := 0#32
  let v836 : BitVec 1 := Scalar.cmpi .ne v835 c0_i32_507
  let v837 : BitVec 1 := Scalar.andi v834 v836
  let v823 : BitVec 32 := Scalar.divsi v384 c4_i32_502
  let c1_i32_508 : BitVec 32 := 1#32
  let v838 : BitVec 32 := Scalar.subi v823 c1_i32_508
  let v839 : BitVec 32 := Scalar.select v837 v838 v823
  let c128_i32_520 : BitVec 32 := 128#32
  let v856 : BitVec 32 := Scalar.muli v839 c128_i32_520
  let v862 : Index := Scalar.indexCast v856
  let c4_i32_509 : BitVec 32 := 4#32
  let c0_i32_510 : BitVec 32 := 0#32
  let v840 : BitVec 1 := Scalar.cmpi .eq c4_i32_509 c0_i32_510
  let c1_i32_511 : BitVec 32 := 1#32
  let v841 : BitVec 32 := Scalar.select v840 c1_i32_511 c4_i32_509
  let v842 : BitVec 32 := Scalar.remsi v384 v841
  let c0_i32_513 : BitVec 32 := 0#32
  let v844 : BitVec 1 := Scalar.cmpi .slt v842 c0_i32_513
  let c0_i32_514 : BitVec 32 := 0#32
  let v845 : BitVec 1 := Scalar.cmpi .slt v841 c0_i32_514
  let v846 : BitVec 1 := Scalar.xori v844 v845
  let c0_i32_512 : BitVec 32 := 0#32
  let v843 : BitVec 1 := Scalar.cmpi .ne v842 c0_i32_512
  let v847 : BitVec 1 := Scalar.andi v846 v843
  let v848 : BitVec 32 := Scalar.addi v842 v841
  let v849 : BitVec 32 := Scalar.select v847 v848 v842
  let c2_i32_521 : BitVec 32 := 2#32
  let v859 : BitVec 32 := Scalar.muli v849 c2_i32_521
  let v860 : BitVec 32 := Scalar.addi v859 c0_i32_522
  let c128_i32_523 : BitVec 32 := 128#32
  let v861 : BitVec 32 := Scalar.muli v860 c128_i32_523
  let v863 : Index := Scalar.indexCast v861
  ![0, v862.toNat, v863.toNat]
@[reducible] def k0_t13_loop : Scf.Loop 32 :=
  let c0_i32_111 : BitVec 32 := 0#32
  let c4_i32_112 : BitVec 32 := 4#32
  let v160 : BitVec 32 := Scalar.addi c0_i32_111 c4_i32_112
  let c1_i32_113 : BitVec 32 := 1#32
  ⟨c0_i32_111, v160, c1_i32_113⟩
def k0_off45 (k0_t13 : Fin k0_t13_loop.trips) : Fin 3 → Nat :=
  let c40_i32 : BitVec 32 := 40#32
  let c0_i32_111 : BitVec 32 := 0#32
  let c1_i32_113 : BitVec 32 := 1#32
  let arg21 : BitVec 32 := Scf.iv c0_i32_111 c1_i32_113 k0_t13
  let v380 : BitVec 32 := Scalar.addi c40_i32 arg21
  let v385 : Index := Scalar.indexCast v380
  let c0_259 : Index := 0#32
  let c0_260 : Index := 0#32
  ![v385.toNat, 0, 0]
def k0_off46 (k0_t13 : Fin k0_t13_loop.trips) (c0_i32_278 : BitVec 32) : Fin 3 → Nat :=
  let c0_280 : Index := 0#32
  let c40_i32 : BitVec 32 := 40#32
  let c0_i32_111 : BitVec 32 := 0#32
  let c1_i32_113 : BitVec 32 := 1#32
  let arg21 : BitVec 32 := Scf.iv c0_i32_111 c1_i32_113 k0_t13
  let v380 : BitVec 32 := Scalar.addi c40_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off47 (k0_t13 : Fin k0_t13_loop.trips) (c0_i32_540 : BitVec 32) : Fin 3 → Nat :=
  let c0_542 : Index := 0#32
  let c40_i32 : BitVec 32 := 40#32
  let c0_i32_111 : BitVec 32 := 0#32
  let c1_i32_113 : BitVec 32 := 1#32
  let arg21 : BitVec 32 := Scf.iv c0_i32_111 c1_i32_113 k0_t13
  let v380 : BitVec 32 := Scalar.addi c40_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_521 : BitVec 32 := 0#32
  let v859 : BitVec 1 := Scalar.cmpi .sgt v384 c0_i32_521
  let v860 : BitVec 32 := Scalar.extui v859
  let c0_i32_522 : BitVec 32 := 0#32
  let v861 : BitVec 1 := Scalar.cmpi .slt v384 c0_i32_522
  let v862 : BitVec 32 := Scalar.extui v861
  let v863 : BitVec 32 := Scalar.subi v860 v862
  let c4_i32_520 : BitVec 32 := 4#32
  let c0_i32_523 : BitVec 32 := 0#32
  let v864 : BitVec 1 := Scalar.cmpi .sgt c4_i32_520 c0_i32_523
  let v865 : BitVec 32 := Scalar.extui v864
  let c0_i32_524 : BitVec 32 := 0#32
  let v866 : BitVec 1 := Scalar.cmpi .slt c4_i32_520 c0_i32_524
  let v867 : BitVec 32 := Scalar.extui v866
  let v868 : BitVec 32 := Scalar.subi v865 v867
  let v869 : BitVec 1 := Scalar.cmpi .ne v863 v868
  let v870 : BitVec 32 := Scalar.remsi v384 c4_i32_520
  let c0_i32_525 : BitVec 32 := 0#32
  let v871 : BitVec 1 := Scalar.cmpi .ne v870 c0_i32_525
  let v872 : BitVec 1 := Scalar.andi v869 v871
  let v858 : BitVec 32 := Scalar.divsi v384 c4_i32_520
  let c1_i32_526 : BitVec 32 := 1#32
  let v873 : BitVec 32 := Scalar.subi v858 c1_i32_526
  let v874 : BitVec 32 := Scalar.select v872 v873 v858
  let c128_i32_538 : BitVec 32 := 128#32
  let v891 : BitVec 32 := Scalar.muli v874 c128_i32_538
  let v897 : Index := Scalar.indexCast v891
  let c4_i32_527 : BitVec 32 := 4#32
  let c0_i32_528 : BitVec 32 := 0#32
  let v875 : BitVec 1 := Scalar.cmpi .eq c4_i32_527 c0_i32_528
  let c1_i32_529 : BitVec 32 := 1#32
  let v876 : BitVec 32 := Scalar.select v875 c1_i32_529 c4_i32_527
  let v877 : BitVec 32 := Scalar.remsi v384 v876
  let c0_i32_531 : BitVec 32 := 0#32
  let v879 : BitVec 1 := Scalar.cmpi .slt v877 c0_i32_531
  let c0_i32_532 : BitVec 32 := 0#32
  let v880 : BitVec 1 := Scalar.cmpi .slt v876 c0_i32_532
  let v881 : BitVec 1 := Scalar.xori v879 v880
  let c0_i32_530 : BitVec 32 := 0#32
  let v878 : BitVec 1 := Scalar.cmpi .ne v877 c0_i32_530
  let v882 : BitVec 1 := Scalar.andi v881 v878
  let v883 : BitVec 32 := Scalar.addi v877 v876
  let v884 : BitVec 32 := Scalar.select v882 v883 v877
  let c2_i32_539 : BitVec 32 := 2#32
  let v894 : BitVec 32 := Scalar.muli v884 c2_i32_539
  let v895 : BitVec 32 := Scalar.addi v894 c0_i32_540
  let c128_i32_541 : BitVec 32 := 128#32
  let v896 : BitVec 32 := Scalar.muli v895 c128_i32_541
  let v898 : Index := Scalar.indexCast v896
  ![0, v897.toNat, v898.toNat]
@[reducible] def k0_t14_loop : Scf.Loop 32 :=
  let c0_i32_117 : BitVec 32 := 0#32
  let c4_i32_118 : BitVec 32 := 4#32
  let v165 : BitVec 32 := Scalar.addi c0_i32_117 c4_i32_118
  let c1_i32_119 : BitVec 32 := 1#32
  ⟨c0_i32_117, v165, c1_i32_119⟩
def k0_off48 (k0_t14 : Fin k0_t14_loop.trips) : Fin 3 → Nat :=
  let c44_i32 : BitVec 32 := 44#32
  let c0_i32_117 : BitVec 32 := 0#32
  let c1_i32_119 : BitVec 32 := 1#32
  let arg21 : BitVec 32 := Scf.iv c0_i32_117 c1_i32_119 k0_t14
  let v380 : BitVec 32 := Scalar.addi c44_i32 arg21
  let v385 : Index := Scalar.indexCast v380
  let c0_259 : Index := 0#32
  let c0_260 : Index := 0#32
  ![v385.toNat, 0, 0]
def k0_off49 (k0_t14 : Fin k0_t14_loop.trips) (c0_i32_278 : BitVec 32) : Fin 3 → Nat :=
  let c0_280 : Index := 0#32
  let c44_i32 : BitVec 32 := 44#32
  let c0_i32_117 : BitVec 32 := 0#32
  let c1_i32_119 : BitVec 32 := 1#32
  let arg21 : BitVec 32 := Scf.iv c0_i32_117 c1_i32_119 k0_t14
  let v380 : BitVec 32 := Scalar.addi c44_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off50 (k0_t14 : Fin k0_t14_loop.trips) (c0_i32_564 : BitVec 32) : Fin 3 → Nat :=
  let c0_566 : Index := 0#32
  let c44_i32 : BitVec 32 := 44#32
  let c0_i32_117 : BitVec 32 := 0#32
  let c1_i32_119 : BitVec 32 := 1#32
  let arg21 : BitVec 32 := Scf.iv c0_i32_117 c1_i32_119 k0_t14
  let v380 : BitVec 32 := Scalar.addi c44_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_545 : BitVec 32 := 0#32
  let v900 : BitVec 1 := Scalar.cmpi .sgt v384 c0_i32_545
  let v901 : BitVec 32 := Scalar.extui v900
  let c0_i32_546 : BitVec 32 := 0#32
  let v902 : BitVec 1 := Scalar.cmpi .slt v384 c0_i32_546
  let v903 : BitVec 32 := Scalar.extui v902
  let v904 : BitVec 32 := Scalar.subi v901 v903
  let c4_i32_544 : BitVec 32 := 4#32
  let c0_i32_547 : BitVec 32 := 0#32
  let v905 : BitVec 1 := Scalar.cmpi .sgt c4_i32_544 c0_i32_547
  let v906 : BitVec 32 := Scalar.extui v905
  let c0_i32_548 : BitVec 32 := 0#32
  let v907 : BitVec 1 := Scalar.cmpi .slt c4_i32_544 c0_i32_548
  let v908 : BitVec 32 := Scalar.extui v907
  let v909 : BitVec 32 := Scalar.subi v906 v908
  let v910 : BitVec 1 := Scalar.cmpi .ne v904 v909
  let v911 : BitVec 32 := Scalar.remsi v384 c4_i32_544
  let c0_i32_549 : BitVec 32 := 0#32
  let v912 : BitVec 1 := Scalar.cmpi .ne v911 c0_i32_549
  let v913 : BitVec 1 := Scalar.andi v910 v912
  let v899 : BitVec 32 := Scalar.divsi v384 c4_i32_544
  let c1_i32_550 : BitVec 32 := 1#32
  let v914 : BitVec 32 := Scalar.subi v899 c1_i32_550
  let v915 : BitVec 32 := Scalar.select v913 v914 v899
  let c128_i32_562 : BitVec 32 := 128#32
  let v932 : BitVec 32 := Scalar.muli v915 c128_i32_562
  let v938 : Index := Scalar.indexCast v932
  let c4_i32_551 : BitVec 32 := 4#32
  let c0_i32_552 : BitVec 32 := 0#32
  let v916 : BitVec 1 := Scalar.cmpi .eq c4_i32_551 c0_i32_552
  let c1_i32_553 : BitVec 32 := 1#32
  let v917 : BitVec 32 := Scalar.select v916 c1_i32_553 c4_i32_551
  let v918 : BitVec 32 := Scalar.remsi v384 v917
  let c0_i32_555 : BitVec 32 := 0#32
  let v920 : BitVec 1 := Scalar.cmpi .slt v918 c0_i32_555
  let c0_i32_556 : BitVec 32 := 0#32
  let v921 : BitVec 1 := Scalar.cmpi .slt v917 c0_i32_556
  let v922 : BitVec 1 := Scalar.xori v920 v921
  let c0_i32_554 : BitVec 32 := 0#32
  let v919 : BitVec 1 := Scalar.cmpi .ne v918 c0_i32_554
  let v923 : BitVec 1 := Scalar.andi v922 v919
  let v924 : BitVec 32 := Scalar.addi v918 v917
  let v925 : BitVec 32 := Scalar.select v923 v924 v918
  let c2_i32_563 : BitVec 32 := 2#32
  let v935 : BitVec 32 := Scalar.muli v925 c2_i32_563
  let v936 : BitVec 32 := Scalar.addi v935 c0_i32_564
  let c128_i32_565 : BitVec 32 := 128#32
  let v937 : BitVec 32 := Scalar.muli v936 c128_i32_565
  let v939 : Index := Scalar.indexCast v937
  ![0, v938.toNat, v939.toNat]
@[reducible] def k0_t15_loop : Scf.Loop 32 :=
  let c0_i32_123 : BitVec 32 := 0#32
  let c4_i32_124 : BitVec 32 := 4#32
  let v170 : BitVec 32 := Scalar.addi c0_i32_123 c4_i32_124
  let c1_i32_125 : BitVec 32 := 1#32
  ⟨c0_i32_123, v170, c1_i32_125⟩
def k0_off51 (k0_t15 : Fin k0_t15_loop.trips) : Fin 3 → Nat :=
  let c48_i32 : BitVec 32 := 48#32
  let c0_i32_123 : BitVec 32 := 0#32
  let c1_i32_125 : BitVec 32 := 1#32
  let arg21 : BitVec 32 := Scf.iv c0_i32_123 c1_i32_125 k0_t15
  let v380 : BitVec 32 := Scalar.addi c48_i32 arg21
  let v385 : Index := Scalar.indexCast v380
  let c0_259 : Index := 0#32
  let c0_260 : Index := 0#32
  ![v385.toNat, 0, 0]
def k0_off52 (k0_t15 : Fin k0_t15_loop.trips) (c0_i32_278 : BitVec 32) : Fin 3 → Nat :=
  let c0_280 : Index := 0#32
  let c48_i32 : BitVec 32 := 48#32
  let c0_i32_123 : BitVec 32 := 0#32
  let c1_i32_125 : BitVec 32 := 1#32
  let arg21 : BitVec 32 := Scf.iv c0_i32_123 c1_i32_125 k0_t15
  let v380 : BitVec 32 := Scalar.addi c48_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off53 (k0_t15 : Fin k0_t15_loop.trips) (c0_i32_582 : BitVec 32) : Fin 3 → Nat :=
  let c0_584 : Index := 0#32
  let c48_i32 : BitVec 32 := 48#32
  let c0_i32_123 : BitVec 32 := 0#32
  let c1_i32_125 : BitVec 32 := 1#32
  let arg21 : BitVec 32 := Scf.iv c0_i32_123 c1_i32_125 k0_t15
  let v380 : BitVec 32 := Scalar.addi c48_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_563 : BitVec 32 := 0#32
  let v935 : BitVec 1 := Scalar.cmpi .sgt v384 c0_i32_563
  let v936 : BitVec 32 := Scalar.extui v935
  let c0_i32_564 : BitVec 32 := 0#32
  let v937 : BitVec 1 := Scalar.cmpi .slt v384 c0_i32_564
  let v938 : BitVec 32 := Scalar.extui v937
  let v939 : BitVec 32 := Scalar.subi v936 v938
  let c4_i32_562 : BitVec 32 := 4#32
  let c0_i32_565 : BitVec 32 := 0#32
  let v940 : BitVec 1 := Scalar.cmpi .sgt c4_i32_562 c0_i32_565
  let v941 : BitVec 32 := Scalar.extui v940
  let c0_i32_566 : BitVec 32 := 0#32
  let v942 : BitVec 1 := Scalar.cmpi .slt c4_i32_562 c0_i32_566
  let v943 : BitVec 32 := Scalar.extui v942
  let v944 : BitVec 32 := Scalar.subi v941 v943
  let v945 : BitVec 1 := Scalar.cmpi .ne v939 v944
  let v946 : BitVec 32 := Scalar.remsi v384 c4_i32_562
  let c0_i32_567 : BitVec 32 := 0#32
  let v947 : BitVec 1 := Scalar.cmpi .ne v946 c0_i32_567
  let v948 : BitVec 1 := Scalar.andi v945 v947
  let v934 : BitVec 32 := Scalar.divsi v384 c4_i32_562
  let c1_i32_568 : BitVec 32 := 1#32
  let v949 : BitVec 32 := Scalar.subi v934 c1_i32_568
  let v950 : BitVec 32 := Scalar.select v948 v949 v934
  let c128_i32_580 : BitVec 32 := 128#32
  let v967 : BitVec 32 := Scalar.muli v950 c128_i32_580
  let v973 : Index := Scalar.indexCast v967
  let c4_i32_569 : BitVec 32 := 4#32
  let c0_i32_570 : BitVec 32 := 0#32
  let v951 : BitVec 1 := Scalar.cmpi .eq c4_i32_569 c0_i32_570
  let c1_i32_571 : BitVec 32 := 1#32
  let v952 : BitVec 32 := Scalar.select v951 c1_i32_571 c4_i32_569
  let v953 : BitVec 32 := Scalar.remsi v384 v952
  let c0_i32_573 : BitVec 32 := 0#32
  let v955 : BitVec 1 := Scalar.cmpi .slt v953 c0_i32_573
  let c0_i32_574 : BitVec 32 := 0#32
  let v956 : BitVec 1 := Scalar.cmpi .slt v952 c0_i32_574
  let v957 : BitVec 1 := Scalar.xori v955 v956
  let c0_i32_572 : BitVec 32 := 0#32
  let v954 : BitVec 1 := Scalar.cmpi .ne v953 c0_i32_572
  let v958 : BitVec 1 := Scalar.andi v957 v954
  let v959 : BitVec 32 := Scalar.addi v953 v952
  let v960 : BitVec 32 := Scalar.select v958 v959 v953
  let c2_i32_581 : BitVec 32 := 2#32
  let v970 : BitVec 32 := Scalar.muli v960 c2_i32_581
  let v971 : BitVec 32 := Scalar.addi v970 c0_i32_582
  let c128_i32_583 : BitVec 32 := 128#32
  let v972 : BitVec 32 := Scalar.muli v971 c128_i32_583
  let v974 : Index := Scalar.indexCast v972
  ![0, v973.toNat, v974.toNat]
@[reducible] def k0_t16_loop : Scf.Loop 32 :=
  let c0_i32_129 : BitVec 32 := 0#32
  let c4_i32_130 : BitVec 32 := 4#32
  let v175 : BitVec 32 := Scalar.addi c0_i32_129 c4_i32_130
  let c1_i32_131 : BitVec 32 := 1#32
  ⟨c0_i32_129, v175, c1_i32_131⟩
def k0_off54 (k0_t16 : Fin k0_t16_loop.trips) : Fin 3 → Nat :=
  let c52_i32 : BitVec 32 := 52#32
  let c0_i32_129 : BitVec 32 := 0#32
  let c1_i32_131 : BitVec 32 := 1#32
  let arg21 : BitVec 32 := Scf.iv c0_i32_129 c1_i32_131 k0_t16
  let v380 : BitVec 32 := Scalar.addi c52_i32 arg21
  let v385 : Index := Scalar.indexCast v380
  let c0_259 : Index := 0#32
  let c0_260 : Index := 0#32
  ![v385.toNat, 0, 0]
def k0_off55 (k0_t16 : Fin k0_t16_loop.trips) (c0_i32_278 : BitVec 32) : Fin 3 → Nat :=
  let c0_280 : Index := 0#32
  let c52_i32 : BitVec 32 := 52#32
  let c0_i32_129 : BitVec 32 := 0#32
  let c1_i32_131 : BitVec 32 := 1#32
  let arg21 : BitVec 32 := Scf.iv c0_i32_129 c1_i32_131 k0_t16
  let v380 : BitVec 32 := Scalar.addi c52_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off56 (k0_t16 : Fin k0_t16_loop.trips) (c0_i32_606 : BitVec 32) : Fin 3 → Nat :=
  let c0_608 : Index := 0#32
  let c52_i32 : BitVec 32 := 52#32
  let c0_i32_129 : BitVec 32 := 0#32
  let c1_i32_131 : BitVec 32 := 1#32
  let arg21 : BitVec 32 := Scf.iv c0_i32_129 c1_i32_131 k0_t16
  let v380 : BitVec 32 := Scalar.addi c52_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_587 : BitVec 32 := 0#32
  let v976 : BitVec 1 := Scalar.cmpi .sgt v384 c0_i32_587
  let v977 : BitVec 32 := Scalar.extui v976
  let c0_i32_588 : BitVec 32 := 0#32
  let v978 : BitVec 1 := Scalar.cmpi .slt v384 c0_i32_588
  let v979 : BitVec 32 := Scalar.extui v978
  let v980 : BitVec 32 := Scalar.subi v977 v979
  let c4_i32_586 : BitVec 32 := 4#32
  let c0_i32_589 : BitVec 32 := 0#32
  let v981 : BitVec 1 := Scalar.cmpi .sgt c4_i32_586 c0_i32_589
  let v982 : BitVec 32 := Scalar.extui v981
  let c0_i32_590 : BitVec 32 := 0#32
  let v983 : BitVec 1 := Scalar.cmpi .slt c4_i32_586 c0_i32_590
  let v984 : BitVec 32 := Scalar.extui v983
  let v985 : BitVec 32 := Scalar.subi v982 v984
  let v986 : BitVec 1 := Scalar.cmpi .ne v980 v985
  let v987 : BitVec 32 := Scalar.remsi v384 c4_i32_586
  let c0_i32_591 : BitVec 32 := 0#32
  let v988 : BitVec 1 := Scalar.cmpi .ne v987 c0_i32_591
  let v989 : BitVec 1 := Scalar.andi v986 v988
  let v975 : BitVec 32 := Scalar.divsi v384 c4_i32_586
  let c1_i32_592 : BitVec 32 := 1#32
  let v990 : BitVec 32 := Scalar.subi v975 c1_i32_592
  let v991 : BitVec 32 := Scalar.select v989 v990 v975
  let c128_i32_604 : BitVec 32 := 128#32
  let v1008 : BitVec 32 := Scalar.muli v991 c128_i32_604
  let v1014 : Index := Scalar.indexCast v1008
  let c4_i32_593 : BitVec 32 := 4#32
  let c0_i32_594 : BitVec 32 := 0#32
  let v992 : BitVec 1 := Scalar.cmpi .eq c4_i32_593 c0_i32_594
  let c1_i32_595 : BitVec 32 := 1#32
  let v993 : BitVec 32 := Scalar.select v992 c1_i32_595 c4_i32_593
  let v994 : BitVec 32 := Scalar.remsi v384 v993
  let c0_i32_597 : BitVec 32 := 0#32
  let v996 : BitVec 1 := Scalar.cmpi .slt v994 c0_i32_597
  let c0_i32_598 : BitVec 32 := 0#32
  let v997 : BitVec 1 := Scalar.cmpi .slt v993 c0_i32_598
  let v998 : BitVec 1 := Scalar.xori v996 v997
  let c0_i32_596 : BitVec 32 := 0#32
  let v995 : BitVec 1 := Scalar.cmpi .ne v994 c0_i32_596
  let v999 : BitVec 1 := Scalar.andi v998 v995
  let v1000 : BitVec 32 := Scalar.addi v994 v993
  let v1001 : BitVec 32 := Scalar.select v999 v1000 v994
  let c2_i32_605 : BitVec 32 := 2#32
  let v1011 : BitVec 32 := Scalar.muli v1001 c2_i32_605
  let v1012 : BitVec 32 := Scalar.addi v1011 c0_i32_606
  let c128_i32_607 : BitVec 32 := 128#32
  let v1013 : BitVec 32 := Scalar.muli v1012 c128_i32_607
  let v1015 : Index := Scalar.indexCast v1013
  ![0, v1014.toNat, v1015.toNat]
@[reducible] def k0_t17_loop : Scf.Loop 32 :=
  let c0_i32_135 : BitVec 32 := 0#32
  let c4_i32_136 : BitVec 32 := 4#32
  let v180 : BitVec 32 := Scalar.addi c0_i32_135 c4_i32_136
  let c1_i32_137 : BitVec 32 := 1#32
  ⟨c0_i32_135, v180, c1_i32_137⟩
def k0_off57 (k0_t17 : Fin k0_t17_loop.trips) : Fin 3 → Nat :=
  let c56_i32 : BitVec 32 := 56#32
  let c0_i32_135 : BitVec 32 := 0#32
  let c1_i32_137 : BitVec 32 := 1#32
  let arg21 : BitVec 32 := Scf.iv c0_i32_135 c1_i32_137 k0_t17
  let v380 : BitVec 32 := Scalar.addi c56_i32 arg21
  let v385 : Index := Scalar.indexCast v380
  let c0_259 : Index := 0#32
  let c0_260 : Index := 0#32
  ![v385.toNat, 0, 0]
def k0_off58 (k0_t17 : Fin k0_t17_loop.trips) (c0_i32_278 : BitVec 32) : Fin 3 → Nat :=
  let c0_280 : Index := 0#32
  let c56_i32 : BitVec 32 := 56#32
  let c0_i32_135 : BitVec 32 := 0#32
  let c1_i32_137 : BitVec 32 := 1#32
  let arg21 : BitVec 32 := Scf.iv c0_i32_135 c1_i32_137 k0_t17
  let v380 : BitVec 32 := Scalar.addi c56_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off59 (k0_t17 : Fin k0_t17_loop.trips) (c0_i32_624 : BitVec 32) : Fin 3 → Nat :=
  let c0_626 : Index := 0#32
  let c56_i32 : BitVec 32 := 56#32
  let c0_i32_135 : BitVec 32 := 0#32
  let c1_i32_137 : BitVec 32 := 1#32
  let arg21 : BitVec 32 := Scf.iv c0_i32_135 c1_i32_137 k0_t17
  let v380 : BitVec 32 := Scalar.addi c56_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_605 : BitVec 32 := 0#32
  let v1011 : BitVec 1 := Scalar.cmpi .sgt v384 c0_i32_605
  let v1012 : BitVec 32 := Scalar.extui v1011
  let c0_i32_606 : BitVec 32 := 0#32
  let v1013 : BitVec 1 := Scalar.cmpi .slt v384 c0_i32_606
  let v1014 : BitVec 32 := Scalar.extui v1013
  let v1015 : BitVec 32 := Scalar.subi v1012 v1014
  let c4_i32_604 : BitVec 32 := 4#32
  let c0_i32_607 : BitVec 32 := 0#32
  let v1016 : BitVec 1 := Scalar.cmpi .sgt c4_i32_604 c0_i32_607
  let v1017 : BitVec 32 := Scalar.extui v1016
  let c0_i32_608 : BitVec 32 := 0#32
  let v1018 : BitVec 1 := Scalar.cmpi .slt c4_i32_604 c0_i32_608
  let v1019 : BitVec 32 := Scalar.extui v1018
  let v1020 : BitVec 32 := Scalar.subi v1017 v1019
  let v1021 : BitVec 1 := Scalar.cmpi .ne v1015 v1020
  let v1022 : BitVec 32 := Scalar.remsi v384 c4_i32_604
  let c0_i32_609 : BitVec 32 := 0#32
  let v1023 : BitVec 1 := Scalar.cmpi .ne v1022 c0_i32_609
  let v1024 : BitVec 1 := Scalar.andi v1021 v1023
  let v1010 : BitVec 32 := Scalar.divsi v384 c4_i32_604
  let c1_i32_610 : BitVec 32 := 1#32
  let v1025 : BitVec 32 := Scalar.subi v1010 c1_i32_610
  let v1026 : BitVec 32 := Scalar.select v1024 v1025 v1010
  let c128_i32_622 : BitVec 32 := 128#32
  let v1043 : BitVec 32 := Scalar.muli v1026 c128_i32_622
  let v1049 : Index := Scalar.indexCast v1043
  let c4_i32_611 : BitVec 32 := 4#32
  let c0_i32_612 : BitVec 32 := 0#32
  let v1027 : BitVec 1 := Scalar.cmpi .eq c4_i32_611 c0_i32_612
  let c1_i32_613 : BitVec 32 := 1#32
  let v1028 : BitVec 32 := Scalar.select v1027 c1_i32_613 c4_i32_611
  let v1029 : BitVec 32 := Scalar.remsi v384 v1028
  let c0_i32_615 : BitVec 32 := 0#32
  let v1031 : BitVec 1 := Scalar.cmpi .slt v1029 c0_i32_615
  let c0_i32_616 : BitVec 32 := 0#32
  let v1032 : BitVec 1 := Scalar.cmpi .slt v1028 c0_i32_616
  let v1033 : BitVec 1 := Scalar.xori v1031 v1032
  let c0_i32_614 : BitVec 32 := 0#32
  let v1030 : BitVec 1 := Scalar.cmpi .ne v1029 c0_i32_614
  let v1034 : BitVec 1 := Scalar.andi v1033 v1030
  let v1035 : BitVec 32 := Scalar.addi v1029 v1028
  let v1036 : BitVec 32 := Scalar.select v1034 v1035 v1029
  let c2_i32_623 : BitVec 32 := 2#32
  let v1046 : BitVec 32 := Scalar.muli v1036 c2_i32_623
  let v1047 : BitVec 32 := Scalar.addi v1046 c0_i32_624
  let c128_i32_625 : BitVec 32 := 128#32
  let v1048 : BitVec 32 := Scalar.muli v1047 c128_i32_625
  let v1050 : Index := Scalar.indexCast v1048
  ![0, v1049.toNat, v1050.toNat]
@[reducible] def k0_t18_loop : Scf.Loop 32 :=
  let c0_i32_141 : BitVec 32 := 0#32
  let c4_i32_142 : BitVec 32 := 4#32
  let v185 : BitVec 32 := Scalar.addi c0_i32_141 c4_i32_142
  let c1_i32_143 : BitVec 32 := 1#32
  ⟨c0_i32_141, v185, c1_i32_143⟩
def k0_off60 (k0_t18 : Fin k0_t18_loop.trips) : Fin 3 → Nat :=
  let c60_i32 : BitVec 32 := 60#32
  let c0_i32_141 : BitVec 32 := 0#32
  let c1_i32_143 : BitVec 32 := 1#32
  let arg21 : BitVec 32 := Scf.iv c0_i32_141 c1_i32_143 k0_t18
  let v380 : BitVec 32 := Scalar.addi c60_i32 arg21
  let v385 : Index := Scalar.indexCast v380
  let c0_259 : Index := 0#32
  let c0_260 : Index := 0#32
  ![v385.toNat, 0, 0]
def k0_off61 (k0_t18 : Fin k0_t18_loop.trips) (c0_i32_278 : BitVec 32) : Fin 3 → Nat :=
  let c0_280 : Index := 0#32
  let c60_i32 : BitVec 32 := 60#32
  let c0_i32_141 : BitVec 32 := 0#32
  let c1_i32_143 : BitVec 32 := 1#32
  let arg21 : BitVec 32 := Scf.iv c0_i32_141 c1_i32_143 k0_t18
  let v380 : BitVec 32 := Scalar.addi c60_i32 arg21
  let c1_i32_256 : BitVec 32 := 1#32
  let v381 : BitVec 32 := Scalar.addi v380 c1_i32_256
  let c63_i32 : BitVec 32 := 63#32
  let v382 : BitVec 32 := Scalar.minsi v381 c63_i32
  let c0_i32_266 : BitVec 32 := 0#32
  let v391 : BitVec 1 := Scalar.cmpi .sgt v382 c0_i32_266
  let v392 : BitVec 32 := Scalar.extui v391
  let c0_i32_267 : BitVec 32 := 0#32
  let v393 : BitVec 1 := Scalar.cmpi .slt v382 c0_i32_267
  let v394 : BitVec 32 := Scalar.extui v393
  let v395 : BitVec 32 := Scalar.subi v392 v394
  let c4_i32_265 : BitVec 32 := 4#32
  let c0_i32_268 : BitVec 32 := 0#32
  let v396 : BitVec 1 := Scalar.cmpi .sgt c4_i32_265 c0_i32_268
  let v397 : BitVec 32 := Scalar.extui v396
  let c0_i32_269 : BitVec 32 := 0#32
  let v398 : BitVec 1 := Scalar.cmpi .slt c4_i32_265 c0_i32_269
  let v399 : BitVec 32 := Scalar.extui v398
  let v400 : BitVec 32 := Scalar.subi v397 v399
  let v401 : BitVec 1 := Scalar.cmpi .ne v395 v400
  let v402 : BitVec 32 := Scalar.remsi v382 c4_i32_265
  let c0_i32_270 : BitVec 32 := 0#32
  let v403 : BitVec 1 := Scalar.cmpi .ne v402 c0_i32_270
  let v404 : BitVec 1 := Scalar.andi v401 v403
  let v390 : BitVec 32 := Scalar.divsi v382 c4_i32_265
  let c1_i32_271 : BitVec 32 := 1#32
  let v405 : BitVec 32 := Scalar.subi v390 c1_i32_271
  let v406 : BitVec 32 := Scalar.select v404 v405 v390
  let c128_i32 : BitVec 32 := 128#32
  let v417 : BitVec 32 := Scalar.muli v406 c128_i32
  let v421 : Index := Scalar.indexCast v417
  let c4_i32_272 : BitVec 32 := 4#32
  let c0_i32_273 : BitVec 32 := 0#32
  let v407 : BitVec 1 := Scalar.cmpi .eq c4_i32_272 c0_i32_273
  let c1_i32_274 : BitVec 32 := 1#32
  let v408 : BitVec 32 := Scalar.select v407 c1_i32_274 c4_i32_272
  let v409 : BitVec 32 := Scalar.remsi v382 v408
  let c0_i32_276 : BitVec 32 := 0#32
  let v411 : BitVec 1 := Scalar.cmpi .slt v409 c0_i32_276
  let c0_i32_277 : BitVec 32 := 0#32
  let v412 : BitVec 1 := Scalar.cmpi .slt v408 c0_i32_277
  let v413 : BitVec 1 := Scalar.xori v411 v412
  let c0_i32_275 : BitVec 32 := 0#32
  let v410 : BitVec 1 := Scalar.cmpi .ne v409 c0_i32_275
  let v414 : BitVec 1 := Scalar.andi v413 v410
  let v415 : BitVec 32 := Scalar.addi v409 v408
  let v416 : BitVec 32 := Scalar.select v414 v415 v409
  let c2_i32 : BitVec 32 := 2#32
  let v418 : BitVec 32 := Scalar.muli v416 c2_i32
  let v419 : BitVec 32 := Scalar.addi v418 c0_i32_278
  let c128_i32_279 : BitVec 32 := 128#32
  let v420 : BitVec 32 := Scalar.muli v419 c128_i32_279
  let v422 : Index := Scalar.indexCast v420
  ![0, v421.toNat, v422.toNat]
def k0_off62 (k0_t18 : Fin k0_t18_loop.trips) (c0_i32_642 : BitVec 32) : Fin 3 → Nat :=
  let c0_644 : Index := 0#32
  let c60_i32 : BitVec 32 := 60#32
  let c0_i32_141 : BitVec 32 := 0#32
  let c1_i32_143 : BitVec 32 := 1#32
  let arg21 : BitVec 32 := Scf.iv c0_i32_141 c1_i32_143 k0_t18
  let v380 : BitVec 32 := Scalar.addi c60_i32 arg21
  let c1_i32_257 : BitVec 32 := 1#32
  let v383 : BitVec 32 := Scalar.subi v380 c1_i32_257
  let c0_i32_258 : BitVec 32 := 0#32
  let v384 : BitVec 32 := Scalar.maxsi v383 c0_i32_258
  let c0_i32_623 : BitVec 32 := 0#32
  let v1046 : BitVec 1 := Scalar.cmpi .sgt v384 c0_i32_623
  let v1047 : BitVec 32 := Scalar.extui v1046
  let c0_i32_624 : BitVec 32 := 0#32
  let v1048 : BitVec 1 := Scalar.cmpi .slt v384 c0_i32_624
  let v1049 : BitVec 32 := Scalar.extui v1048
  let v1050 : BitVec 32 := Scalar.subi v1047 v1049
  let c4_i32_622 : BitVec 32 := 4#32
  let c0_i32_625 : BitVec 32 := 0#32
  let v1051 : BitVec 1 := Scalar.cmpi .sgt c4_i32_622 c0_i32_625
  let v1052 : BitVec 32 := Scalar.extui v1051
  let c0_i32_626 : BitVec 32 := 0#32
  let v1053 : BitVec 1 := Scalar.cmpi .slt c4_i32_622 c0_i32_626
  let v1054 : BitVec 32 := Scalar.extui v1053
  let v1055 : BitVec 32 := Scalar.subi v1052 v1054
  let v1056 : BitVec 1 := Scalar.cmpi .ne v1050 v1055
  let v1057 : BitVec 32 := Scalar.remsi v384 c4_i32_622
  let c0_i32_627 : BitVec 32 := 0#32
  let v1058 : BitVec 1 := Scalar.cmpi .ne v1057 c0_i32_627
  let v1059 : BitVec 1 := Scalar.andi v1056 v1058
  let v1045 : BitVec 32 := Scalar.divsi v384 c4_i32_622
  let c1_i32_628 : BitVec 32 := 1#32
  let v1060 : BitVec 32 := Scalar.subi v1045 c1_i32_628
  let v1061 : BitVec 32 := Scalar.select v1059 v1060 v1045
  let c128_i32_640 : BitVec 32 := 128#32
  let v1078 : BitVec 32 := Scalar.muli v1061 c128_i32_640
  let v1084 : Index := Scalar.indexCast v1078
  let c4_i32_629 : BitVec 32 := 4#32
  let c0_i32_630 : BitVec 32 := 0#32
  let v1062 : BitVec 1 := Scalar.cmpi .eq c4_i32_629 c0_i32_630
  let c1_i32_631 : BitVec 32 := 1#32
  let v1063 : BitVec 32 := Scalar.select v1062 c1_i32_631 c4_i32_629
  let v1064 : BitVec 32 := Scalar.remsi v384 v1063
  let c0_i32_633 : BitVec 32 := 0#32
  let v1066 : BitVec 1 := Scalar.cmpi .slt v1064 c0_i32_633
  let c0_i32_634 : BitVec 32 := 0#32
  let v1067 : BitVec 1 := Scalar.cmpi .slt v1063 c0_i32_634
  let v1068 : BitVec 1 := Scalar.xori v1066 v1067
  let c0_i32_632 : BitVec 32 := 0#32
  let v1065 : BitVec 1 := Scalar.cmpi .ne v1064 c0_i32_632
  let v1069 : BitVec 1 := Scalar.andi v1068 v1065
  let v1070 : BitVec 32 := Scalar.addi v1064 v1063
  let v1071 : BitVec 32 := Scalar.select v1069 v1070 v1064
  let c2_i32_641 : BitVec 32 := 2#32
  let v1081 : BitVec 32 := Scalar.muli v1071 c2_i32_641
  let v1082 : BitVec 32 := Scalar.addi v1081 c0_i32_642
  let c128_i32_643 : BitVec 32 := 128#32
  let v1083 : BitVec 32 := Scalar.muli v1082 c128_i32_643
  let v1085 : Index := Scalar.indexCast v1083
  ![0, v1084.toNat, v1085.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "exp2_scale" => some ((50 * (Real.log 2)⁻¹ : ℝ) : EReal)
  | "logit_scale" => some (((Real.sqrt 128)⁻¹ * 50⁻¹ : ℝ) : EReal)
  | _ => none
-- ==== ReferenceIdeal.lean ====
abbrev S8x2048x2048 : Shape := ⟨3, ![8, 2048, 2048]⟩
abbrev S8x2048x256 : Shape := ⟨3, ![8, 2048, 256]⟩
abbrev S8x2048x16x128 : Shape := ⟨4, ![8, 2048, 16, 128]⟩
abbrev S_ : Shape := ⟨0, ![]⟩
abbrev S8x2048x16 : Shape := ⟨3, ![8, 2048, 16]⟩
abbrev S8x2048x16x1 : Shape := ⟨4, ![8, 2048, 16, 1]⟩
abbrev S8x2048x2x128 : Shape := ⟨4, ![8, 2048, 2, 128]⟩
abbrev S8x2048x2 : Shape := ⟨3, ![8, 2048, 2]⟩
abbrev S8x2048x2x1 : Shape := ⟨4, ![8, 2048, 2, 1]⟩
abbrev S8x2048x2x8x128 : Shape := ⟨5, ![8, 2048, 2, 8, 128]⟩
abbrev S8x2x8x2048x128 : Shape := ⟨5, ![8, 2, 8, 2048, 128]⟩
abbrev S8x2048x2x8 : Shape := ⟨4, ![8, 2048, 2, 8]⟩
abbrev S8x2x8x2048 : Shape := ⟨4, ![8, 2, 8, 2048]⟩
abbrev S8x2x2048 : Shape := ⟨3, ![8, 2, 2048]⟩
abbrev S8x2x1x2048 : Shape := ⟨4, ![8, 2, 1, 2048]⟩
abbrev S8x2x8x2048x2048 : Shape := ⟨5, ![8, 2, 8, 2048, 2048]⟩
abbrev S8x2x8x2048x1 : Shape := ⟨5, ![8, 2, 8, 2048, 1]⟩
abbrev S8x2x1x1x2048 : Shape := ⟨5, ![8, 2, 1, 1, 2048]⟩
abbrev S2048x2048 : Shape := ⟨2, ![2048, 2048]⟩

abbrev nBuf : Space → Nat
  | .hbm => 232
  | .vmem => 0
  | .smem => 0
  | _ => 0

abbrev hbmTy0_0 (i : Nat) : BufTy := match i % 128 with
  | 0 => ⟨S8x2048x2048, .bf16⟩
  | 1 => ⟨S8x2048x256, .bf16⟩
  | 2 => ⟨S8x2048x256, .bf16⟩
  | 3 => ⟨S8x2048x2048, .f32⟩
  | 4 => ⟨S8x2048x16x128, .f32⟩
  | 5 => ⟨S8x2048x16x128, .f32⟩
  | 6 => ⟨S_, .f32⟩
  | 7 => ⟨S8x2048x16, .f32⟩
  | 8 => ⟨S8x2048x16x1, .f32⟩
  | 9 => ⟨S_, .f32⟩
  | 10 => ⟨S8x2048x16x1, .f32⟩
  | 11 => ⟨S8x2048x16x1, .f32⟩
  | 12 => ⟨S8x2048x16x1, .f32⟩
  | 13 => ⟨S_, .f32⟩
  | 14 => ⟨S_, .f32⟩
  | 15 => ⟨S8x2048x16x1, .f32⟩
  | 16 => ⟨S8x2048x16x1, .f32⟩
  | 17 => ⟨S8x2048x16x1, .f32⟩
  | 18 => ⟨S_, .f32⟩
  | 19 => ⟨S8x2048x16x1, .f32⟩
  | 20 => ⟨S8x2048x16x1, .f32⟩
  | 21 => ⟨S_, .f32⟩
  | 22 => ⟨S8x2048x16x1, .f32⟩
  | 23 => ⟨S8x2048x16x1, .i1⟩
  | 24 => ⟨S_, .f32⟩
  | 25 => ⟨S_, .f32⟩
  | 26 => ⟨S8x2048x16x1, .f32⟩
  | 27 => ⟨S8x2048x16x1, .f32⟩
  | 28 => ⟨S_, .f32⟩
  | 29 => ⟨S8x2048x16x1, .f32⟩
  | 30 => ⟨S8x2048x16x1, .f32⟩
  | 31 => ⟨S8x2048x16x1, .f32⟩
  | 32 => ⟨S_, .f32⟩
  | 33 => ⟨S8x2048x16x1, .f32⟩
  | 34 => ⟨S8x2048x16x1, .f32⟩
  | 35 => ⟨S8x2048x16x128, .f32⟩
  | 36 => ⟨S8x2048x16x128, .f32⟩
  | 37 => ⟨S_, .f32⟩
  | 38 => ⟨S_, .f32⟩
  | 39 => ⟨S_, .f32⟩
  | 40 => ⟨S8x2048x16x128, .f32⟩
  | 41 => ⟨S8x2048x16x128, .f32⟩
  | 42 => ⟨S_, .f32⟩
  | 43 => ⟨S8x2048x16x128, .f32⟩
  | 44 => ⟨S8x2048x16x128, .f32⟩
  | 45 => ⟨S8x2048x256, .f32⟩
  | 46 => ⟨S8x2048x2x128, .f32⟩
  | 47 => ⟨S8x2048x2x128, .f32⟩
  | 48 => ⟨S_, .f32⟩
  | 49 => ⟨S8x2048x2, .f32⟩
  | 50 => ⟨S8x2048x2x1, .f32⟩
  | 51 => ⟨S_, .f32⟩
  | 52 => ⟨S8x2048x2x1, .f32⟩
  | 53 => ⟨S8x2048x2x1, .f32⟩
  | 54 => ⟨S8x2048x2x1, .f32⟩
  | 55 => ⟨S_, .f32⟩
  | 56 => ⟨S_, .f32⟩
  | 57 => ⟨S8x2048x2x1, .f32⟩
  | 58 => ⟨S8x2048x2x1, .f32⟩
  | 59 => ⟨S8x2048x2x1, .f32⟩
  | 60 => ⟨S_, .f32⟩
  | 61 => ⟨S8x2048x2x1, .f32⟩
  | 62 => ⟨S8x2048x2x1, .f32⟩
  | 63 => ⟨S_, .f32⟩
  | 64 => ⟨S8x2048x2x1, .f32⟩
  | 65 => ⟨S8x2048x2x1, .i1⟩
  | 66 => ⟨S_, .f32⟩
  | 67 => ⟨S_, .f32⟩
  | 68 => ⟨S8x2048x2x1, .f32⟩
  | 69 => ⟨S8x2048x2x1, .f32⟩
  | 70 => ⟨S_, .f32⟩
  | 71 => ⟨S8x2048x2x1, .f32⟩
  | 72 => ⟨S8x2048x2x1, .f32⟩
  | 73 => ⟨S8x2048x2x1, .f32⟩
  | 74 => ⟨S_, .f32⟩
  | 75 => ⟨S8x2048x2x1, .f32⟩
  | 76 => ⟨S8x2048x2x1, .f32⟩
  | 77 => ⟨S8x2048x2x128, .f32⟩
  | 78 => ⟨S8x2048x2x128, .f32⟩
  | 79 => ⟨S_, .f32⟩
  | 80 => ⟨S_, .f32⟩
  | 81 => ⟨S_, .f32⟩
  | 82 => ⟨S8x2048x2x128, .f32⟩
  | 83 => ⟨S8x2048x2x128, .f32⟩
  | 84 => ⟨S_, .f32⟩
  | 85 => ⟨S8x2048x2x128, .f32⟩
  | 86 => ⟨S8x2048x2x128, .f32⟩
  | 87 => ⟨S8x2048x256, .f32⟩
  | 88 => ⟨S8x2048x2x128, .f32⟩
  | 89 => ⟨S8x2048x2x128, .f32⟩
  | 90 => ⟨S_, .f32⟩
  | 91 => ⟨S8x2048x2, .f32⟩
  | 92 => ⟨S8x2048x2x1, .f32⟩
  | 93 => ⟨S_, .f32⟩
  | 94 => ⟨S8x2048x2x1, .f32⟩
  | 95 => ⟨S8x2048x2x1, .f32⟩
  | 96 => ⟨S8x2048x2x1, .f32⟩
  | 97 => ⟨S_, .f32⟩
  | 98 => ⟨S_, .f32⟩
  | 99 => ⟨S8x2048x2x1, .f32⟩
  | 100 => ⟨S8x2048x2x1, .f32⟩
  | 101 => ⟨S8x2048x2x1, .f32⟩
  | 102 => ⟨S_, .f32⟩
  | 103 => ⟨S8x2048x2x1, .f32⟩
  | 104 => ⟨S8x2048x2x1, .f32⟩
  | 105 => ⟨S_, .f32⟩
  | 106 => ⟨S8x2048x2x1, .f32⟩
  | 107 => ⟨S8x2048x2x1, .i1⟩
  | 108 => ⟨S_, .f32⟩
  | 109 => ⟨S_, .f32⟩
  | 110 => ⟨S8x2048x2x1, .f32⟩
  | 111 => ⟨S8x2048x2x1, .f32⟩
  | 112 => ⟨S_, .f32⟩
  | 113 => ⟨S8x2048x2x1, .f32⟩
  | 114 => ⟨S8x2048x2x1, .f32⟩
  | 115 => ⟨S8x2048x2x1, .f32⟩
  | 116 => ⟨S_, .f32⟩
  | 117 => ⟨S8x2048x2x1, .f32⟩
  | 118 => ⟨S8x2048x2x1, .f32⟩
  | 119 => ⟨S8x2048x2x128, .f32⟩
  | 120 => ⟨S8x2048x2x128, .f32⟩
  | 121 => ⟨S_, .f32⟩
  | 122 => ⟨S_, .f32⟩
  | 123 => ⟨S_, .f32⟩
  | 124 => ⟨S8x2048x2x128, .f32⟩
  | 125 => ⟨S8x2048x2x128, .f32⟩
  | 126 => ⟨S_, .f32⟩
  | 127 => ⟨S8x2048x2x128, .f32⟩
  | _ => ⟨S8x2048x2048, .bf16⟩

abbrev hbmTy0_1 (i : Nat) : BufTy := match i % 128 with
  | 0 => ⟨S8x2048x2x128, .f32⟩
  | 1 => ⟨S8x2048x2x8x128, .f32⟩
  | 2 => ⟨S8x2x8x2048x128, .f32⟩
  | 3 => ⟨S8x2048x16, .f32⟩
  | 4 => ⟨S8x2048x2x8, .f32⟩
  | 5 => ⟨S8x2x8x2048, .f32⟩
  | 6 => ⟨S8x2048x2, .f32⟩
  | 7 => ⟨S8x2x2048, .f32⟩
  | 8 => ⟨S8x2x1x2048, .f32⟩
  | 9 => ⟨S8x2048x2, .f32⟩
  | 10 => ⟨S8x2x2048, .f32⟩
  | 11 => ⟨S8x2x1x2048, .f32⟩
  | 12 => ⟨S8x2x8x2048x2048, .f32⟩
  | 13 => ⟨S8x2x8x2048x1, .f32⟩
  | 14 => ⟨S8x2x8x2048x2048, .f32⟩
  | 15 => ⟨S8x2x8x2048x2048, .f32⟩
  | 16 => ⟨S8x2x1x1x2048, .f32⟩
  | 17 => ⟨S8x2x8x2048x2048, .f32⟩
  | 18 => ⟨S8x2x8x2048x2048, .f32⟩
  | 19 => ⟨S_, .f32⟩
  | 20 => ⟨S_, .f32⟩
  | 21 => ⟨S8x2x8x2048x2048, .f32⟩
  | 22 => ⟨S8x2x8x2048x2048, .f32⟩
  | 23 => ⟨S_, .f32⟩
  | 24 => ⟨S8x2x8x2048x2048, .f32⟩
  | 25 => ⟨S8x2x8x2048x2048, .f32⟩
  | 26 => ⟨S8x2x8x2048x2048, .f32⟩
  | 27 => ⟨S_, .f32⟩
  | 28 => ⟨S8x2x8x2048x2048, .f32⟩
  | 29 => ⟨S8x2x8x2048x2048, .f32⟩
  | 30 => ⟨S2048x2048, .i32⟩
  | 31 => ⟨S2048x2048, .i32⟩
  | 32 => ⟨S2048x2048, .i1⟩
  | 33 => ⟨S_, .f32⟩
  | 34 => ⟨S_, .f32⟩
  | 35 => ⟨S8x2x8x2048x2048, .i1⟩
  | 36 => ⟨S8x2x8x2048x2048, .f32⟩
  | 37 => ⟨S8x2x8x2048x2048, .f32⟩
  | 38 => ⟨S_, .f32⟩
  | 39 => ⟨S8x2x8x2048, .f32⟩
  | 40 => ⟨S8x2x8x2048x1, .f32⟩
  | 41 => ⟨S8x2x8x2048x2048, .f32⟩
  | 42 => ⟨S8x2x8x2048x2048, .f32⟩
  | 43 => ⟨S8x2x8x2048x2048, .f32⟩
  | 44 => ⟨S_, .f32⟩
  | 45 => ⟨S8x2x8x2048, .f32⟩
  | 46 => ⟨S8x2x8x2048x1, .f32⟩
  | 47 => ⟨S8x2x1x1x2048, .f32⟩
  | 48 => ⟨S8x2x8x2048x2048, .f32⟩
  | 49 => ⟨S8x2x8x2048x2048, .f32⟩
  | 50 => ⟨S8x2x8x2048x2048, .f32⟩
  | 51 => ⟨S_, .f32⟩
  | 52 => ⟨S8x2x8x2048, .f32⟩
  | 53 => ⟨S8x2x8x2048x1, .f32⟩
  | 54 => ⟨S_, .f32⟩
  | 55 => ⟨S8x2x8x2048x1, .f32⟩
  | 56 => ⟨S8x2x8x2048x1, .f32⟩
  | 57 => ⟨S8x2x8x2048x1, .f32⟩
  | 58 => ⟨S_, .f32⟩
  | 59 => ⟨S_, .f32⟩
  | 60 => ⟨S8x2x8x2048x1, .f32⟩
  | 61 => ⟨S8x2x8x2048x1, .f32⟩
  | 62 => ⟨S8x2x8x2048x1, .f32⟩
  | 63 => ⟨S_, .f32⟩
  | 64 => ⟨S8x2x8x2048x1, .f32⟩
  | 65 => ⟨S8x2x8x2048x1, .f32⟩
  | 66 => ⟨S_, .f32⟩
  | 67 => ⟨S8x2x8x2048x1, .f32⟩
  | 68 => ⟨S8x2x8x2048x1, .i1⟩
  | 69 => ⟨S_, .f32⟩
  | 70 => ⟨S_, .f32⟩
  | 71 => ⟨S8x2x8x2048x1, .f32⟩
  | 72 => ⟨S8x2x8x2048x1, .f32⟩
  | 73 => ⟨S_, .f32⟩
  | 74 => ⟨S8x2x8x2048x1, .f32⟩
  | 75 => ⟨S8x2x8x2048x1, .f32⟩
  | 76 => ⟨S8x2x8x2048x1, .f32⟩
  | 77 => ⟨S_, .f32⟩
  | 78 => ⟨S8x2x8x2048x1, .f32⟩
  | 79 => ⟨S8x2x8x2048x1, .f32⟩
  | 80 => ⟨S8x2x8x2048x2048, .f32⟩
  | 81 => ⟨S8x2x8x2048x2048, .f32⟩
  | 82 => ⟨S_, .f32⟩
  | 83 => ⟨S_, .f32⟩
  | 84 => ⟨S_, .f32⟩
  | 85 => ⟨S8x2x8x2048x2048, .f32⟩
  | 86 => ⟨S8x2x8x2048x2048, .f32⟩
  | 87 => ⟨S_, .f32⟩
  | 88 => ⟨S8x2x8x2048x2048, .f32⟩
  | 89 => ⟨S8x2x8x2048x2048, .f32⟩
  | 90 => ⟨S8x2x8x2048x128, .f32⟩
  | 91 => ⟨S8x2x8x2048x128, .f32⟩
  | 92 => ⟨S8x2x8x2048x128, .f32⟩
  | 93 => ⟨S8x2x8x2048x128, .f32⟩
  | 94 => ⟨S8x2x8x2048x128, .f32⟩
  | 95 => ⟨S8x2048x2x8x128, .f32⟩
  | 96 => ⟨S8x2048x2048, .f32⟩
  | 97 => ⟨S8x2048x2048, .bf16⟩
  | 98 => ⟨S8x2048x2048, .f32⟩
  | 99 => ⟨S8x2048x2048, .fp8e4m3⟩
  | 100 => ⟨S8x2048x256, .f32⟩
  | 101 => ⟨S8x2048x256, .fp8e4m3⟩
  | 102 => ⟨S8x2048x256, .f32⟩
  | 103 => ⟨S8x2048x256, .fp8e4m3⟩
  | _ => ⟨S8x2048x2048, .bf16⟩

abbrev hbmTy (i : Nat) : BufTy := match i / 128 with
  | 0 => hbmTy0_0 i
  | 1 => hbmTy0_1 i
  | _ => ⟨S8x2048x2048, .bf16⟩

abbrev bufTy : (tb : Table) → Fin (tcTables nBuf tb) → BufTy
  | .hbm, ⟨i, _⟩ => hbmTy i
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_cst_13 : Ref sig .tc := ⟨.hbm, 63, rfl⟩
abbrev main_v39 : Ref sig .tc := ⟨.hbm, 64, rfl⟩
abbrev main_v40 : Ref sig .tc := ⟨.hbm, 65, rfl⟩
abbrev main_cst_14 : Ref sig .tc := ⟨.hbm, 66, rfl⟩
abbrev main_call2_v0 : Ref sig .tc := ⟨.hbm, 67, rfl⟩
abbrev main_call2_v1 : Ref sig .tc := ⟨.hbm, 68, rfl⟩
abbrev main_v41 : Ref sig .tc := ⟨.hbm, 69, rfl⟩
abbrev main_cst_15 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_16 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_17 : Ref sig .tc := ⟨.hbm, 79, rfl⟩
abbrev main_cst_18 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_19 : Ref sig .tc := ⟨.hbm, 90, rfl⟩
abbrev main_v53 : Ref sig .tc := ⟨.hbm, 91, rfl⟩
abbrev main_v54 : Ref sig .tc := ⟨.hbm, 92, rfl⟩
abbrev main_cst_20 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_21 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_22 : Ref sig .tc := ⟨.hbm, 102, rfl⟩
abbrev main_v62 : Ref sig .tc := ⟨.hbm, 103, rfl⟩
abbrev main_v63 : Ref sig .tc := ⟨.hbm, 104, rfl⟩
abbrev main_cst_23 : Ref sig .tc := ⟨.hbm, 105, rfl⟩
abbrev main_v64 : Ref sig .tc := ⟨.hbm, 106, rfl⟩
abbrev main_v65 : Ref sig .tc := ⟨.hbm, 107, rfl⟩
abbrev main_cst_24 : Ref sig .tc := ⟨.hbm, 108, rfl⟩
abbrev main_call4_v0 : Ref sig .tc := ⟨.hbm, 109, rfl⟩
abbrev main_call4_v1 : Ref sig .tc := ⟨.hbm, 110, rfl⟩
abbrev main_v66 : Ref sig .tc := ⟨.hbm, 111, rfl⟩
abbrev main_cst_25 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_cst_26 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_27 : Ref sig .tc := ⟨.hbm, 121, rfl⟩
abbrev main_cst_28 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_call5_v3 : Ref sig .tc := ⟨.hbm, 126, rfl⟩
abbrev main_call5_v4 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_29 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_30 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_31 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_32 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v104 : Ref sig .tc := ⟨.hbm, 165, rfl⟩
abbrev main_cst_33 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_34 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_35 : Ref sig .tc := ⟨.hbm, 179, rfl⟩
abbrev main_v116 : Ref sig .tc := ⟨.hbm, 180, rfl⟩
abbrev main_v117 : Ref sig .tc := ⟨.hbm, 181, rfl⟩
abbrev main_cst_36 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_cst_37 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_38 : Ref sig .tc := ⟨.hbm, 191, rfl⟩
abbrev main_v125 : Ref sig .tc := ⟨.hbm, 192, rfl⟩
abbrev main_v126 : Ref sig .tc := ⟨.hbm, 193, rfl⟩
abbrev main_cst_39 : Ref sig .tc := ⟨.hbm, 194, rfl⟩
abbrev main_v127 : Ref sig .tc := ⟨.hbm, 195, rfl⟩
abbrev main_v128 : Ref sig .tc := ⟨.hbm, 196, rfl⟩
abbrev main_cst_40 : Ref sig .tc := ⟨.hbm, 197, rfl⟩
abbrev main_call7_v0 : Ref sig .tc := ⟨.hbm, 198, rfl⟩
abbrev main_call7_v1 : Ref sig .tc := ⟨.hbm, 199, rfl⟩
abbrev main_v129 : Ref sig .tc := ⟨.hbm, 200, rfl⟩
abbrev main_cst_41 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_cst_42 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_cst_43 : Ref sig .tc := ⟨.hbm, 210, rfl⟩
abbrev main_cst_44 : Ref sig .tc := ⟨.hbm, 211, rfl⟩
abbrev main_call8_v0 : Ref sig .tc := ⟨.hbm, 212, rfl⟩
abbrev main_call8_v1 : Ref sig .tc := ⟨.hbm, 213, rfl⟩
abbrev main_call8_v2 : Ref sig .tc := ⟨.hbm, 214, rfl⟩
abbrev main_call8_v3 : Ref sig .tc := ⟨.hbm, 215, rfl⟩
abbrev main_call8_v4 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩

abbrev nD : Nat := 1
abbrev τ : Topo := Topo.v7x

variable {F : FTy → Type} [FloatOps F]
-- ==== Proof.Ops.lean ====
module

public import Idealize.ShloMosaic.Lib.Pipeline
public import Idealize.ShloMosaic.Lib.Scf
public import Idealize.ShloMosaic.Lib.Sig
public import Idealize.ShloMosaic.Lib.StableHlo
public import Idealize.ShloMosaic.PureOps

/-!
# The kernel's body as a program over chunks

The printed body repeats the same few blocks at different offsets: quantise a block of rows, form a block of
probabilities, form a block of scores, multiply by the values.  Here each block is one definition, over an
arbitrary float instance, with its offset a parameter; a step of the attention is a recursion over chunks.
-/

@[expose] public section

set_option maxRecDepth 16384

noncomputable section

namespace Attn

open Idealize.ShloMosaic Idealize.SL.Sem

abbrev S1 : Shape := ⟨1, ![1]⟩
abbrev S1x1x1 : Shape := ⟨3, ![1, 1, 1]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x2048x128 : Shape := ⟨3, ![1, 2048, 128]⟩
abbrev S1x2048x1024 : Shape := ⟨3, ![1, 2048, 1024]⟩
abbrev S1x1x8x2048 : Shape := ⟨4, ![1, 1, 8, 2048]⟩
abbrev S1x1x8x128 : Shape := ⟨4, ![1, 1, 8, 128]⟩
abbrev S1x1x1x2048 : Shape := ⟨4, ![1, 1, 1, 2048]⟩
abbrev S1x1x1x128 : Shape := ⟨4, ![1, 1, 1, 128]⟩
abbrev S1x2048 : Shape := ⟨2, ![1, 2048]⟩
abbrev S1x1x2048 : Shape := ⟨3, ![1, 1, 2048]⟩
abbrev S1x128 : Shape := ⟨2, ![1, 128]⟩
abbrev S8x128 : Shape := ⟨2, ![8, 128]⟩
abbrev S128x2048 : Shape := ⟨2, ![128, 2048]⟩
abbrev S2048x128 : Shape := ⟨2, ![2048, 128]⟩
abbrev S2048x256 : Shape := ⟨2, ![2048, 256]⟩
abbrev S128x256 : Shape := ⟨2, ![128, 256]⟩
abbrev S256x128 : Shape := ⟨2, ![256, 128]⟩
abbrev S1x256x128 : Shape := ⟨3, ![1, 256, 128]⟩
abbrev S256x256 : Shape := ⟨2, ![256, 256]⟩
abbrev S64x1x256 : Shape := ⟨3, ![64, 1, 256]⟩
abbrev S1x1x256 : Shape := ⟨3, ![1, 1, 256]⟩
abbrev S1x256 : Shape := ⟨2, ![1, 256]⟩
abbrev S256 : Shape := ⟨1, ![256]⟩
abbrev S8x256 : Shape := ⟨2, ![8, 256]⟩
abbrev S16x8x256 : Shape := ⟨3, ![16, 8, 256]⟩

variable {nD : ℕ} {τ : Topo} {sig : RefSig} {Λ : Labels} {F : FTy → Type} [FloatOps F]

/-- The buffers the body works on: three inputs, seven results, nine scratch buffers.  Those of a narrow element
type are whole buffers, so that a store of whole rows is exact. -/
structure Refs (sig : RefSig) where
  x : Memref sig .tc .vmem S1x2048x1024 .bf16
  k : Memref sig .tc .vmem S1x2048x128 .bf16
  v : Memref sig .tc .vmem S1x2048x128 .bf16
  o : Memref sig .tc .vmem S1x2048x1024 .bf16
  ho : o.IsWhole
  qc : Memref sig .tc .vmem S1x2048x1024 .fp8e4m3
  hqc : qc.IsWhole
  qs : Memref sig .tc .vmem S1x1x8x2048 .f32
  kc : Memref sig .tc .vmem S1x2048x128 .fp8e4m3
  hkc : kc.IsWhole
  ks : Memref sig .tc .vmem S1x1x1x2048 .f32
  vc : Memref sig .tc .vmem S1x2048x128 .fp8e4m3
  hvc : vc.IsWhole
  vs : Memref sig .tc .vmem S1x1x1x2048 .f32
  vt : Memref sig .tc .vmem S128x2048 .fp8e4m3
  hvt : vt.IsWhole
  ksb : Memref sig .tc .vmem S2048x128 .f32
  vsb : Memref sig .tc .vmem S2048x128 .f32
  s : Memref sig .tc .vmem S2048x256 .f32
  w : Memref sig .tc .vmem S2048x256 .f32
  wc : Memref sig .tc .vmem S2048x256 .fp8e4m3
  hwc : wc.IsWhole
  qrow : Memref sig .tc .vmem S64x1x256 .f32
  f : Memref sig .tc .vmem S1x256 .f32
  of : Memref sig .tc .vmem S1x256 .f32

/-- Load the block of sizes `n` at offsets `off`. -/
def ld {S : Shape} {e : EltTy} (m : Memref sig .tc .vmem S e) (off n : Fin S.rank → ℕ) (h : ∀ a, off a + n a ≤ S.size a)
    (hp : 0 < (Rect.unit off n h).shape.numel) : Prog (TpuEff nD τ sig (Elt F) Λ .tc) ((Rect.unit off n h).shape.Idx → Elt F e) :=
  Prog.lift (.load m (Rect.unit off n h).toLoadRect (View.loadsAt_vmem hp))

/-- Load a block, forget it, and store over it. -/
def st {S : Shape} {e : EltTy} (m : Memref sig .tc .vmem S e) (off n : Fin S.rank → ℕ) (h : ∀ a, off a + n a ≤ S.size a)
    (w : (Rect.unit off n h).shape.Idx → Elt F e) (hs : (m.access (Rect.unit off n h)).Stores Finset.univ) :
    Prog (TpuEff nD τ sig (Elt F) Λ .tc) PUnit := do
  let _ ← ld (F := F) m off n h (View.stores_vmem_iff.mp hs).1
  Prog.lift (.store m (Rect.unit off n h) w Finset.univ hs (.inl rfl))

/-- A block of a matrix of `N` columns. -/
theorem inb2 {R C r c k : ℕ} (h : k + r ≤ R) (hc : c ≤ C) :
    ∀ a, (![k, 0] : Fin 2 → ℕ) a + (![r, c] : Fin 2 → ℕ) a ≤ (⟨2, ![R, C]⟩ : Shape).size a := by
  intro a; fin_cases a
  · exact h
  · simpa using hc

theorem inb2c {R C r c k : ℕ} (h : r ≤ R) (hc : k + c ≤ C) :
    ∀ a, (![0, k] : Fin 2 → ℕ) a + (![r, c] : Fin 2 → ℕ) a ≤ (⟨2, ![R, C]⟩ : Shape).size a := by
  intro a; fin_cases a
  · simpa using h
  · exact hc

theorem inb3 {R C r c k : ℕ} (h : k + r ≤ R) (hc : c ≤ C) :
    ∀ a, (![0, k, 0] : Fin 3 → ℕ) a + (![1, r, c] : Fin 3 → ℕ) a ≤ (⟨3, ![1, R, C]⟩ : Shape).size a := by
  intro a; fin_cases a
  · exact Nat.le_refl 1
  · exact h
  · simpa using hc

theorem chunk_le {c : ℕ} (hc : c < 16) : 128 * c + 128 ≤ 2048 := by omega

theorem numel2 {r c : ℕ} (hr : 0 < r) (hc : 0 < c) : 0 < (⟨2, ![r, c]⟩ : Shape).numel := by
  simp [Shape.numel, Fin.prod_univ_two, hr, hc]

theorem packed2 {R C r c k p : ℕ} (h : ∀ a, (![k, 0] : Fin 2 → ℕ) a + (![r, c] : Fin 2 → ℕ) a ≤ (⟨2, ![R, C]⟩ : Shape).size a)
    (hk : p ∣ k) (hr : p ∣ r) : (Rect.unit (s := ⟨2, ![R, C]⟩) ![k, 0] ![r, c] h).PackedRows p :=
  .inr ⟨Nat.le_refl 2, rfl, .inl ⟨hk, hr⟩⟩

theorem pos_S128x128 : 0 < S128x128.numel := by decide
theorem pos_S128x256 : 0 < S128x256.numel := by decide
theorem pos_S1x128x128 : 0 < S1x128x128.numel := by decide
theorem pos_S1x1x1x128 : 0 < S1x1x1x128.numel := by decide
theorem pos_S1x1x1x2048 : 0 < S1x1x1x2048.numel := by decide
theorem pos_S1x1x256 : 0 < S1x1x256.numel := by decide
theorem pos_S1x1x8x128 : 0 < S1x1x8x128.numel := by decide
theorem pos_S1x256 : 0 < S1x256.numel := by decide
theorem pos_S1x256x128 : 0 < S1x256x128.numel := by decide
theorem pos_S2048x128 : 0 < S2048x128.numel := by decide
theorem pos_S256x256 : 0 < S256x256.numel := by decide
theorem catRows : Shape.Concatenates [S128x128, S128x128] S256x128 0 := by decide
theorem catCols : Shape.Concatenates [S128x128, S128x128] S128x256 1 := by decide
theorem catRow : Shape.Concatenates [S1x128, S1x128] S1x256 1 := by decide
theorem catHeads : Shape.Concatenates [S1x128, S1x128, S1x128, S1x128, S1x128, S1x128, S1x128, S1x128] S8x128 0 := by decide

/-! ## The power-of-two quantiser -/

/-- One bit of the search for the exponent field. -/
def expBit {S : Shape} (z : FVec F S .f32) (e : IVec S 32) (bit : BitVec 32) : IVec S 32 :=
  addi e (select (cmpf .oge z (bitcastToFloat .f32 (addi e (broadcast S bit)))) (broadcast S bit) (broadcast S 0#32))

/-- The exponent field of a non-negative `z`, as the bits of a power of two. -/
def expField {S : Shape} (z : FVec F S .f32) : IVec S 32 :=
  expBit z (expBit z (expBit z (expBit z (expBit z (expBit z (expBit z (expBit z (broadcast S 0#32)
    1073741824#32) 536870912#32) 268435456#32) 134217728#32) 67108864#32) 33554432#32) 16777216#32) 8388608#32

/-- The scale of a block whose largest magnitude over 448 is `z`. -/
def scaleOf {S : Shape} (z : FVec F S .f32) : FVec F S .f32 :=
  bitcastToFloat .f32 (select (cmpi .eq (expField z) (broadcast S 0#32)) (broadcast S 1065353216#32)
    (addi (expField z) (broadcast S 8388608#32)))

/-- The reciprocal of that scale. -/
def invOf {S : Shape} (z : FVec F S .f32) : FVec F S .f32 :=
  bitcastToFloat .f32 (select (cmpi .eq (expField z) (broadcast S 0#32)) (broadcast S 1065353216#32)
    (subi (broadcast S 2122317824#32) (expField z)))

/-- Clip to the range of the narrow type. -/
def clip {S : Shape} (x : FVec F S .f32) : FVec F S .f32 :=
  minimumf (broadcast S (Scalar.ofBits .f32 0x43E00000#32)) (maximumf (broadcast S (Scalar.ofBits .f32 0xC3E00000#32)) x)

def toF8 {S : Shape} (x : FVec F S .f32) : FVec F S .fp8e4m3 := truncf .fp8e4m3 x (by decide)

/-- The block as a matrix of 32-bit floats. -/
def blockOf (b : Vec F S1x128x128 .bf16) : FVec F S128x128 .f32 :=
  extf .f32 (shapeCast S128x128 b (by decide)) (by decide)

/-- Every row's largest magnitude, over 448, along the row. -/
def rowMax (b : Vec F S1x128x128 .bf16) : FVec F S128x128 .f32 :=
  mulf (broadcastTo S128x128 (shapeCast S128x1 (shapeCast S128x1
      (multiReduction .maximumf [1] S128 (absf (blockOf b)) 0xFF800000#32 (by decide) (.inl rfl) rfl)
      (by decide)) (by decide)) (by decide))
    (broadcast S128x128 (Scalar.ofBits .f32 0x3B124925#32))

def blockScale (b : Vec F S1x128x128 .bf16) : FVec F S128x128 .f32 := scaleOf (rowMax b)

def blockClip (b : Vec F S1x128x128 .bf16) : FVec F S128x128 .f32 := clip (mulf (blockOf b) (invOf (rowMax b)))

def blockCodes (b : Vec F S1x128x128 .bf16) : FVec F S1x128x128 .fp8e4m3 :=
  shapeCast S1x128x128 (toF8 (blockClip b)) (by decide)

/-- The scales of a block's rows, as one row. -/
def scaleRow (b : Vec F S1x128x128 .bf16) : FVec F S1x128 .f32 :=
  extractStridedSlice S1x128 ![0, 0] (transpose S128x128 [1, 0] (blockScale b) (by decide)) (by decide)

/-! ## Keys and values -/

/-- The codes and scales of one block of 128 rows of the keys and the values. -/
def quantKV (R : Refs sig) (o3 : Fin 3 → ℕ) (o2 : Fin 2 → ℕ) (o4 : Fin 4 → ℕ) (oT : Fin 2 → ℕ)
    (h3 : ∀ a, o3 a + S1x128x128.size a ≤ S1x2048x128.size a) (h2 : ∀ a, o2 a + S128x128.size a ≤ S2048x128.size a)
    (h4 : ∀ a, o4 a + S1x1x1x128.size a ≤ S1x1x1x2048.size a) (hT : ∀ a, oT a + S128x128.size a ≤ S128x2048.size a)
    (p3 : (Rect.unit (s := S1x2048x128) o3 S1x128x128.size h3).PackedRows (EltTy.packing .fp8e4m3))
    (pT : (Rect.unit (s := S128x2048) oT S128x128.size hT).PackedRows (EltTy.packing .fp8e4m3)) :
    Prog (TpuEff nD τ sig (Elt F) Λ .tc) Unit := do
  let kb : Vec F S1x128x128 .bf16 ← ld (F := F) R.k o3 S1x128x128.size h3 pos_S1x128x128
  st R.kc o3 S1x128x128.size h3 (blockCodes kb) (View.stores_vmem pos_S1x128x128 (R.hkc.storeExact_slice rfl _ p3) (fun _ => rfl))
  st R.ksb o2 S128x128.size h2 (shapeCast S128x128 (blockScale kb) (by decide)) (View.stores_vmem_bits_univ pos_S128x128 rfl)
  st R.ks o4 S1x1x1x128.size h4 (shapeCast S1x1x1x128 (scaleRow kb) (by decide)) (View.stores_vmem_bits_univ pos_S1x1x1x128 rfl)
  let vb : Vec F S1x128x128 .bf16 ← ld (F := F) R.v o3 S1x128x128.size h3 pos_S1x128x128
  st R.vc o3 S1x128x128.size h3 (blockCodes vb) (View.stores_vmem pos_S1x128x128 (R.hvc.storeExact_slice rfl _ p3) (fun _ => rfl))
  st R.vsb o2 S128x128.size h2 (shapeCast S128x128 (blockScale vb) (by decide)) (View.stores_vmem_bits_univ pos_S128x128 rfl)
  st R.vs o4 S1x1x1x128.size h4 (shapeCast S1x1x1x128 (scaleRow vb) (by decide)) (View.stores_vmem_bits_univ pos_S1x1x1x128 rfl)
  st R.vt oT S128x128.size hT (shapeCast S128x128 (toF8 (transpose S128x128 [1, 0] (blockClip vb) (by decide))) (by decide))
    (View.stores_vmem pos_S128x128 (R.hvt.storeExact_slice rfl _ pT) (fun _ => rfl))
  pure ⟨⟩

/-- The largest of the values' scales. -/
def vmaxOf (vs : Vec F S1x1x1x2048 .f32) : F .f32 :=
  extractAt ![0, 0, 0] (shapeCast S1x1x1 (multiReduction .maximumf [1, 2] S1
    (shapeCast S1x1x2048 (shapeCast S1x2048 vs (by decide)) (by decide)) 0xFF800000#32 (by decide) (.inl rfl) rfl) (by decide)) (by decide)

/-- `2⁻ᵉ` of the exponent of the largest scale: what the values' scales are divided by. -/
def normRow (vmax : F .f32) : FVec F S1x128 .f32 :=
  extractStridedSlice S1x128 ![0, 0] (bitcastToFloat .f32 (subi (broadcast S8x128 2130706432#32)
    (expField (broadcast S8x128 vmax)))) (by decide)

/-- The values' scales, normalised by the largest and scaled up. -/
def normVs (vmax : F .f32) (vsb : Vec F S2048x128 .f32) : FVec F S2048x128 .f32 :=
  mulf (mulf vsb (broadcastTo S2048x128 (normRow vmax) (by decide))) (broadcast S2048x128 (Scalar.ofBits .f32 0x57800000#32))

def unnormOf (vmax : F .f32) : F .f32 := Scalar.mulf vmax (Scalar.ofBits .f32 0x27800000#32)

/-- Normalise the broadcast scales of the values in place; the largest scale and the normalised scales are returned. -/
def normalise (R : Refs sig) : Prog (TpuEff nD τ sig (Elt F) Λ .tc) (F .f32 × FVec F S2048x128 .f32) := do
  let vs : Vec F S1x1x1x2048 .f32 ← ld (F := F) R.vs ![0, 0, 0, 0] S1x1x1x2048.size (by decide) pos_S1x1x1x2048
  let vsb : Vec F S2048x128 .f32 ← ld (F := F) R.vsb ![0, 0] S2048x128.size (by decide) pos_S2048x128
  st R.vsb ![0, 0] S2048x128.size (by decide) (shapeCast S2048x128 (normVs (vmaxOf vs) vsb) (by decide))
    (View.stores_vmem_bits_univ pos_S2048x128 rfl)
  pure (vmaxOf vs, mulf vsb (broadcastTo S2048x128 (normRow (vmaxOf vs)) (by decide)))

/-! ## Queries -/

/-- The codes of one block of 128 query rows of one head; the scales are returned as a row. -/
def quantHead (R : Refs sig) (o3 : Fin 3 → ℕ) (h3 : ∀ a, o3 a + S1x128x128.size a ≤ S1x2048x1024.size a)
    (p3 : (Rect.unit (s := S1x2048x1024) o3 S1x128x128.size h3).PackedRows (EltTy.packing .fp8e4m3)) :
    Prog (TpuEff nD τ sig (Elt F) Λ .tc) (FVec F S1x128 .f32) := do
  let b : Vec F S1x128x128 .bf16 ← ld (F := F) R.x o3 S1x128x128.size h3 pos_S1x128x128
  st R.qc o3 S1x128x128.size h3 (blockCodes b) (View.stores_vmem pos_S1x128x128 (R.hqc.storeExact_slice rfl _ p3) (fun _ => rfl))
  pure (scaleRow b)

/-- Two heads' scales side by side, times the constant of the logits. -/
def logitRow (lc : F .f32) (a b : FVec F S1x128 .f32) : FVec F S1x1x256 .f32 :=
  shapeCast S1x1x256 (mulf (concatenate S1x256 1 [⟨S1x128, a⟩, ⟨S1x128, b⟩] catRow) (broadcast S1x256 lc)) (by decide)

/-- The codes and scales of one block of 128 query rows of all eight heads. -/
def quantQ (R : Refs sig) (lc : F .f32) (o3 : Fin 8 → Fin 3 → ℕ) (o4 : Fin 4 → ℕ) (oR : Fin 4 → Fin 3 → ℕ)
    (h3 : ∀ j, ∀ a, o3 j a + S1x128x128.size a ≤ S1x2048x1024.size a)
    (h4 : ∀ a, o4 a + S1x1x8x128.size a ≤ S1x1x8x2048.size a)
    (hR : ∀ j, ∀ a, oR j a + S1x1x256.size a ≤ S64x1x256.size a)
    (p3 : ∀ j, (Rect.unit (s := S1x2048x1024) (o3 j) S1x128x128.size (h3 j)).PackedRows (EltTy.packing .fp8e4m3)) :
    Prog (TpuEff nD τ sig (Elt F) Λ .tc) Unit := do
  let a0 ← quantHead (F := F) R (o3 0) (h3 0) (p3 0)
  let a1 ← quantHead (F := F) R (o3 1) (h3 1) (p3 1)
  let a2 ← quantHead (F := F) R (o3 2) (h3 2) (p3 2)
  let a3 ← quantHead (F := F) R (o3 3) (h3 3) (p3 3)
  let a4 ← quantHead (F := F) R (o3 4) (h3 4) (p3 4)
  let a5 ← quantHead (F := F) R (o3 5) (h3 5) (p3 5)
  let a6 ← quantHead (F := F) R (o3 6) (h3 6) (p3 6)
  let a7 ← quantHead (F := F) R (o3 7) (h3 7) (p3 7)
  st R.qs o4 S1x1x8x128.size h4 (shapeCast S1x1x8x128 (concatenate S8x128 0 [⟨S1x128, a0⟩, ⟨S1x128, a1⟩, ⟨S1x128, a2⟩,
    ⟨S1x128, a3⟩, ⟨S1x128, a4⟩, ⟨S1x128, a5⟩, ⟨S1x128, a6⟩, ⟨S1x128, a7⟩] catHeads) (by decide)) (View.stores_vmem_bits_univ pos_S1x1x8x128 rfl)
  st R.qrow (oR 0) S1x1x256.size (hR 0) (logitRow lc a0 a1) (View.stores_vmem_bits_univ pos_S1x1x256 rfl)
  st R.qrow (oR 1) S1x1x256.size (hR 1) (logitRow lc a2 a3) (View.stores_vmem_bits_univ pos_S1x1x256 rfl)
  st R.qrow (oR 2) S1x1x256.size (hR 2) (logitRow lc a4 a5) (View.stores_vmem_bits_univ pos_S1x1x256 rfl)
  st R.qrow (oR 3) S1x1x256.size (hR 3) (logitRow lc a6 a7) (View.stores_vmem_bits_univ pos_S1x1x256 rfl)
  pure ⟨⟩

/-! ## Scores -/

/-- Two heads' query codes, one block of rows above the other. -/
def catQ (q0 q1 : Vec F S1x128x128 .fp8e4m3) : FVec F S256x128 .fp8e4m3 :=
  concatenate S256x128 0 [⟨S128x128, shapeCast S128x128 q0 (by decide)⟩,
    ⟨S128x128, shapeCast S128x128 q1 (by decide)⟩] catRows

/-- The scores of 128 rows of keys, from row `lo`. -/
def scores128 (R : Refs sig) (q : FVec F S256x128 .fp8e4m3) (lo : ℕ) (h : lo + 128 ≤ 2048) :
    Prog (TpuEff nD τ sig (Elt F) Λ .tc) PUnit := do
  let kb : Vec F S1x128x128 .fp8e4m3 ← ld (F := F) R.kc ![0, lo, 0] S1x128x128.size (inb3 h (by decide)) pos_S1x128x128
  st R.s ![lo, 0] S128x256.size (inb2 h (by decide))
    (shapeCast S128x256 (matmul (DotDims.transposedRhs 128 128 256) none
      (shapeCast S128x128 kb (by decide) : FVec F S128x128 .fp8e4m3) q
      (constant S128x256 .f32 0x00000000#32)) (by decide)) (View.stores_vmem_bits_univ pos_S128x256 rfl)

/-- The scores of 256 rows of keys, from row `lo`. -/
def scores256 (R : Refs sig) (q : FVec F S256x128 .fp8e4m3) (lo : ℕ) (h : lo + 256 ≤ 2048) :
    Prog (TpuEff nD τ sig (Elt F) Λ .tc) PUnit := do
  let kb : Vec F S1x256x128 .fp8e4m3 ← ld (F := F) R.kc ![0, lo, 0] S1x256x128.size (inb3 h (by decide)) pos_S1x256x128
  st R.s ![lo, 0] S256x256.size (inb2 h (by decide))
    (shapeCast S256x256 (matmul (DotDims.transposedRhs 256 128 256) none
      (shapeCast S256x128 kb (by decide) : FVec F S256x128 .fp8e4m3) q
      (constant S256x256 .f32 0x00000000#32)) (by decide)) (View.stores_vmem_bits_univ pos_S256x256 rfl)

/-! ## One chunk of 128 rows of keys -/

/-- Quantise the weights of the last step, in one chunk. -/
def quantChunk (R : Refs sig) (c : ℕ) (hc : c < 16) (fv : Vec F S1x256 .f32) : Prog (TpuEff nD τ sig (Elt F) Λ .tc) PUnit := do
  let w : Vec F S128x256 .f32 ← ld (F := F) R.w ![128 * c, 0] S128x256.size (inb2 (chunk_le hc) (by decide)) pos_S128x256
  st R.wc ![128 * c, 0] S128x256.size (inb2 (chunk_le hc) (by decide))
    (shapeCast S128x256 (toF8 (clip (mulf (w : FVec F S128x256 .f32) (broadcastTo S128x256 (fv : FVec F S1x256 .f32) (by decide))))) (by decide))
    (View.stores_vmem pos_S128x256 (R.hwc.storeExact_slice rfl _ (packed2 _ ⟨32 * c, by show 128 * c = 4 * (32 * c); omega⟩ ⟨32, rfl⟩)) (fun _ => rfl))

def cat2 (b : Vec F S128x128 .f32) : FVec F S128x256 .f32 :=
  concatenate S128x256 1 [⟨S128x128, b⟩, ⟨S128x128, b⟩] catCols

/-- The probabilities of a chunk, before they are divided by their sum. -/
def probs (e2 : F .f32) (qr : FVec F S1x256 .f32) (kb : Vec F S128x128 .f32) (sc : Vec F S128x256 .f32) : FVec F S128x256 .f32 :=
  exp2 (mulf (tanh (mulf (mulf (sc : FVec F S128x256 .f32) (broadcastTo S128x256 qr (by decide))) (cat2 kb))) (broadcast S128x256 e2))

/-- In the chunk on the diagonal, keys after the query get probability zero. -/
def causal (p : FVec F S128x256 .f32) : FVec F S128x256 .f32 :=
  select (cmpi .sle (iota .tc S128x256 32 [0] (by decide)) (andi (iota .tc S128x256 32 [1] (by decide)) (broadcast S128x256 127#32)))
    p (broadcast S128x256 (Scalar.ofBits .f32 0x00000000#32))

/-- Column statistics kept in eight rows: the sum of the probabilities, their largest, the largest weight. -/
abbrev Acc (F : FTy → Type) := FVec F S8x256 .f32 × FVec F S8x256 .f32 × FVec F S8x256 .f32

def stats (p w : FVec F S128x256 .f32) : Acc F :=
  (multiReduction .add [0] S8x256 (shapeCast S16x8x256 p (by decide)) 0x00000000#32 (by decide) (.inl rfl) rfl,
   multiReduction .maximumf [0] S8x256 (shapeCast S16x8x256 p (by decide)) 0xFF800000#32 (by decide) (.inl rfl) rfl,
   multiReduction .maximumf [0] S8x256 (shapeCast S16x8x256 w (by decide)) 0xFF800000#32 (by decide) (.inl rfl) rfl)

/-- Quantise the last step's weights in a chunk, then write this step's weights there. -/
def softChunk (R : Refs sig) (e2 : F .f32) (diag : Bool) (c : ℕ) (hc : c < 16) (qr : FVec F S1x256 .f32) (fv : Vec F S1x256 .f32) :
    Prog (TpuEff nD τ sig (Elt F) Λ .tc) (Acc F) := do
  quantChunk R c hc fv
  let kb : Vec F S128x128 .f32 ← ld (F := F) R.ksb ![128 * c, 0] S128x128.size (inb2 (chunk_le hc) (by decide)) pos_S128x128
  let vb : Vec F S128x128 .f32 ← ld (F := F) R.vsb ![128 * c, 0] S128x128.size (inb2 (chunk_le hc) (by decide)) pos_S128x128
  let sc : Vec F S128x256 .f32 ← ld (F := F) R.s ![128 * c, 0] S128x256.size (inb2 (chunk_le hc) (by decide)) pos_S128x256
  st R.w ![128 * c, 0] S128x256.size (inb2 (chunk_le hc) (by decide))
    (shapeCast S128x256 (mulf (cond diag (causal (probs e2 qr kb sc)) (probs e2 qr kb sc)) (cat2 vb)) (by decide))
    (View.stores_vmem_bits_univ pos_S128x256 rfl)
  pure (stats (cond diag (causal (probs e2 qr kb sc)) (probs e2 qr kb sc))
    (mulf (cond diag (causal (probs e2 qr kb sc)) (probs e2 qr kb sc)) (cat2 vb)))

/-- The `m` chunks from chunk `c` on of a step whose diagonal chunk is `i`; every second chunk, the next step's
scores replace the two chunks just read. -/
def chunks (R : Refs sig) (e2 : F .f32) (i : ℕ) (q : FVec F S256x128 .fp8e4m3) (qr : FVec F S1x256 .f32) (fv : Vec F S1x256 .f32) :
    (m c : ℕ) → c + 1 + m ≤ 16 → (l p w : FVec F S8x256 .f32) → Prog (TpuEff nD τ sig (Elt F) Λ .tc) (Acc F)
  | 0, _, _, l, p, w => pure (l, p, w)
  | m + 1, c, h, l, p, w => do
    let b ← softChunk R e2 (Nat.beq (c + 1) i) (c + 1) (by omega) qr fv
    cond (Nat.beq ((c + 1) % 2) 1) (scores256 R q (128 * c) (by omega)) (pure ⟨⟩)
    chunks R e2 i q qr fv m (c + 1) (by omega) (addf l b.1) (maximumf p b.2.1) (maximumf w b.2.2)

/-- The scores left over after the last chunk of a step. -/
def restScores (R : Refs sig) (i : ℕ) (hi : i < 16) (q : FVec F S256x128 .fp8e4m3) : Prog (TpuEff nD τ sig (Elt F) Λ .tc) PUnit :=
  if h : i % 2 = 0 then scores256 R q (128 * i) (by omega)
  else if h' : i < 15 then scores128 R q (128 * (i + 1)) (by omega) else pure ⟨⟩

/-! ## Values -/

/-- The weighted sum of the first `n` chunks of values, stored for two heads. -/
def pv (R : Refs sig) (n : ℕ) (hn : n ≤ 16) (hn0 : 0 < n) (ofv : Vec F S1x256 .f32) (o0 o1 : Fin 3 → ℕ)
    (h0 : ∀ a, o0 a + S1x128x128.size a ≤ S1x2048x1024.size a) (h1 : ∀ a, o1 a + S1x128x128.size a ≤ S1x2048x1024.size a)
    (p0 : (Rect.unit (s := S1x2048x1024) o0 S1x128x128.size h0).PackedRows (EltTy.packing .bf16))
    (p1 : (Rect.unit (s := S1x2048x1024) o1 S1x128x128.size h1).PackedRows (EltTy.packing .bf16)) :
    Prog (TpuEff nD τ sig (Elt F) Λ .tc) PUnit := do
  let vb : Vec F (⟨2, ![128, 128 * n]⟩ : Shape) .fp8e4m3 ← ld (F := F) R.vt ![0, 0] (⟨2, ![128, 128 * n]⟩ : Shape).size (inb2c (Nat.le_refl _) (by omega)) (numel2 (by decide) (by omega))
  let wb : Vec F (⟨2, ![128 * n, 256]⟩ : Shape) .fp8e4m3 ← ld (F := F) R.wc ![0, 0] (⟨2, ![128 * n, 256]⟩ : Shape).size (inb2 (by omega) (Nat.le_refl _)) (numel2 (by omega) (by decide))
  let a : FVec F S128x256 .f32 := matmul (DotDims.plain 128 (128 * n) 256) none
    (vb : FVec F ⟨2, ![128, 128 * n]⟩ .fp8e4m3) (wb : FVec F ⟨2, ![128 * n, 256]⟩ .fp8e4m3) (constant S128x256 .f32 0x00000000#32)
  let b : FVec F S128x256 .bf16 := truncf .bf16 (mulf a (broadcastTo S128x256 (ofv : FVec F S1x256 .f32) (by decide))) (by decide)
  st R.o o0 S1x128x128.size h0 (shapeCast S1x128x128 (transpose S128x128 [1, 0]
    (extractStridedSlice S128x128 ![0, 0] b (by decide)) (by decide)) (by decide))
    (View.stores_vmem pos_S1x128x128 (R.ho.storeExact_slice rfl _ p0) (fun _ => rfl))
  st R.o o1 S1x128x128.size h1 (shapeCast S1x128x128 (transpose S128x128 [1, 0]
    (extractStridedSlice S128x128 ![0, 128] b (by decide)) (by decide)) (by decide))
    (View.stores_vmem pos_S1x128x128 (R.ho.storeExact_slice rfl _ p1) (fun _ => rfl))

def colSum (a : FVec F S8x256 .f32) : FVec F S1x256 .f32 :=
  shapeCast S1x256 (multiReduction .add [0] S256 a 0x00000000#32 (by decide) (.inl rfl) rfl) (by decide)

def colMax (a : FVec F S8x256 .f32) : FVec F S1x256 .f32 :=
  shapeCast S1x256 (multiReduction .maximumf [0] S256 a 0xFF800000#32 (by decide) (.inl rfl) rfl) (by decide)

/-- One over the largest probability of a column. -/
def recipMax (a : Acc F) : FVec F S1x256 .f32 := divf (broadcast S1x256 (Scalar.ofBits .f32 0x3F800000#32)) (colMax a.2.1)

/-- The largest normalised weight of a column, over 448. -/
def weightMax (a : Acc F) : FVec F S1x256 .f32 :=
  mulf (mulf (colMax a.2.2) (recipMax a)) (broadcast S1x256 (Scalar.ofBits .f32 0x3B124925#32))

/-- What the next step multiplies the weights by before it rounds them. -/
def nextF (a : Acc F) : FVec F S1x256 .f32 := mulf (invOf (weightMax a)) (recipMax a)

/-- What the next step multiplies the sums by. -/
def nextOf (un : F .f32) (a : Acc F) : FVec F S1x256 .f32 :=
  mulf (mulf (scaleOf (weightMax a)) (divf (colMax a.2.1) (colSum a.1))) (broadcast S1x256 un)

/-- Store the two factors of a finished step. -/
def finish (R : Refs sig) (un : F .f32) (a : Acc F) : Prog (TpuEff nD τ sig (Elt F) Λ .tc) Unit := do
  st R.f ![0, 0] S1x256.size (by decide) (shapeCast S1x256 (nextF a) (by decide)) (View.stores_vmem_bits_univ pos_S1x256 rfl)
  st R.of ![0, 0] S1x256.size (by decide) (shapeCast S1x256 (nextOf un a) (by decide)) (View.stores_vmem_bits_univ pos_S1x256 rfl)
  pure ⟨⟩

/-- One step: the probabilities of one block of queries for one pair of heads, and the weighted sum of the
step before. -/
def step (R : Refs sig) (e2 un : F .f32) (i : ℕ) (hi : i < 16) (oR : Fin 3 → ℕ) (oQ oO : Fin 2 → Fin 3 → ℕ)
    (hR : ∀ a, oR a + S1x1x256.size a ≤ S64x1x256.size a)
    (hQ : ∀ j, ∀ a, oQ j a + S1x128x128.size a ≤ S1x2048x1024.size a)
    (hO : ∀ j, ∀ a, oO j a + S1x128x128.size a ≤ S1x2048x1024.size a)
    (pO : ∀ j, (Rect.unit (s := S1x2048x1024) (oO j) S1x128x128.size (hO j)).PackedRows (EltTy.packing .bf16)) :
    Prog (TpuEff nD τ sig (Elt F) Λ .tc) Unit := do
  let qr : Vec F S1x1x256 .f32 ← ld (F := F) R.qrow oR S1x1x256.size hR pos_S1x1x256
  let fv : Vec F S1x256 .f32 ← ld (F := F) R.f ![0, 0] S1x256.size (by decide) pos_S1x256
  let ofv : Vec F S1x256 .f32 ← ld (F := F) R.of ![0, 0] S1x256.size (by decide) pos_S1x256
  let q0 : Vec F S1x128x128 .fp8e4m3 ← ld (F := F) R.qc (oQ 0) S1x128x128.size (hQ 0) pos_S1x128x128
  let q1 : Vec F S1x128x128 .fp8e4m3 ← ld (F := F) R.qc (oQ 1) S1x128x128.size (hQ 1) pos_S1x128x128
  let b ← softChunk R e2 (Nat.beq 0 i) 0 (by decide) (shapeCast S1x256 qr (by decide)) fv
  let a ← chunks R e2 i (catQ q0 q1) (shapeCast S1x256 qr (by decide)) fv i 0 (by omega) b.1 b.2.1 b.2.2
  restScores R i hi (catQ q0 q1)
  pv R (i + 1) hi (Nat.succ_pos i) ofv (oO 0) (oO 1) (hO 0) (hO 1) (pO 0) (pO 1)
  finish R un a

/-! ## The whole body -/

/-- Before the first step: its scores, and zero factors. -/
def prologue (R : Refs sig) : Prog (TpuEff nD τ sig (Elt F) Λ .tc) Unit := do
  let q0 : Vec F S1x128x128 .fp8e4m3 ← ld (F := F) R.qc ![0, 0, 0] S1x128x128.size (by decide) pos_S1x128x128
  let q1 : Vec F S1x128x128 .fp8e4m3 ← ld (F := F) R.qc ![0, 0, 128] S1x128x128.size (by decide) pos_S1x128x128
  scores128 R (catQ q0 q1) 0 (by decide)
  st R.f ![0, 0] S1x256.size (by decide) (shapeCast S1x256 (broadcast S1x256 (Scalar.ofBits .f32 0x00000000#32) : FVec F S1x256 .f32) (by decide))
    (View.stores_vmem_bits_univ pos_S1x256 rfl)
  st R.of ![0, 0] S1x256.size (by decide) (shapeCast S1x256 (broadcast S1x256 (Scalar.ofBits .f32 0x00000000#32) : FVec F S1x256 .f32) (by decide))
    (View.stores_vmem_bits_univ pos_S1x256 rfl)

/-- Clear the weights of one chunk. -/
def zeroChunk (R : Refs sig) (c : ℕ) (hc : c < 16) : Prog (TpuEff nD τ sig (Elt F) Λ .tc) PUnit :=
  st R.w ![128 * c, 0] S128x256.size (inb2 (chunk_le hc) (by decide))
    (shapeCast S128x256 (broadcast S128x256 (Scalar.ofBits .f32 0x00000000#32) : FVec F S128x256 .f32) (by decide))
    (View.stores_vmem_bits_univ pos_S128x256 rfl)

/-- The `m` blocks of queries from `c` on: each clears one more chunk of weights and runs its four steps. -/
def outer (R : Refs sig) (lp : Fin 16 → Prog (TpuEff nD τ sig (Elt F) Λ .tc) Unit) :
    (m c : ℕ) → c + m ≤ 16 → Prog (TpuEff nD τ sig (Elt F) Λ .tc) Unit
  | 0, _, _ => pure ⟨⟩
  | m + 1, c, h => do
    zeroChunk R c (by omega)
    lp ⟨c, by omega⟩
    outer R lp m (c + 1) (by omega)

/-- Quantise the weights of the last step in the `m` chunks from `c` on. -/
def quantChunks (R : Refs sig) (fv : Vec F S1x256 .f32) : (m c : ℕ) → c + m ≤ 16 → Prog (TpuEff nD τ sig (Elt F) Λ .tc) Unit
  | 0, _, _ => pure ⟨⟩
  | m + 1, c, h => do
    quantChunk R c (by omega) fv
    quantChunks R fv m (c + 1) (by omega)

/-- After the last step: its weighted sum. -/
def epilogue (R : Refs sig) : Prog (TpuEff nD τ sig (Elt F) Λ .tc) Unit := do
  let fv : Vec F S1x256 .f32 ← ld (F := F) R.f ![0, 0] S1x256.size (by decide) pos_S1x256
  quantChunks R fv 16 0 (by decide)
  let ofv : Vec F S1x256 .f32 ← ld (F := F) R.of ![0, 0] S1x256.size (by decide) pos_S1x256
  pv R 16 (Nat.le_refl _) (by decide) ofv ![0, 1920, 768] ![0, 1920, 896] (by decide) (by decide) (by decide) (by decide)

/-- The body, its loops parameters. -/
def body (R : Refs sig) (kvLoop : Prog (TpuEff nD τ sig (Elt F) Λ .tc) Unit)
    (qLoop : F .f32 → FVec F S2048x128 .f32 → Prog (TpuEff nD τ sig (Elt F) Λ .tc) Unit)
    (lp : F .f32 → Fin 16 → Prog (TpuEff nD τ sig (Elt F) Λ .tc) Unit) : Prog (TpuEff nD τ sig (Elt F) Λ .tc) Unit := do
  kvLoop
  let v ← normalise R
  qLoop v.1 v.2
  prologue R
  outer R (lp (unnormOf v.1)) 16 0 (by decide)
  epilogue R
  pure ⟨⟩

end Attn
-- ==== Proof.K.Point.lean ====
module

public import proofs.«01_k».proof.Proof.Gen.Kernel.Skeleton
public import proofs.«01_k».proof.Proof.Ops

/-!
# The program of one grid point, with the printed buffers, offsets and constants
-/

@[expose] public section

set_option maxRecDepth 65536
set_option maxHeartbeats 4000000

noncomputable section

namespace Cert.Kernel

open Cert.Kernel.Gen
open Idealize.ShloMosaic Idealize.SL.Sem

variable {F : FTy → Type} [FloatOps F]

/-- The printed buffers, by name. -/
def refs (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) : Attn.Refs sig :=
  ⟨arg2, arg3, arg4, arg5, harg5, arg6, harg6, arg7, arg8, harg8, arg9, arg10, harg10, arg11, arg12, harg12, arg13, arg14, arg15, arg16, arg17, harg17, arg18, arg19, arg20⟩

/-- The eight heads' offsets in the block of queries `t`. -/
def offX (t : Fin k0_t2_loop.trips) (j : Fin 8) : Fin 3 → ℕ :=
  ![k0_off5 t, k0_off6 t, k0_off7 t, k0_off8 t, k0_off9 t, k0_off10 t, k0_off11 t, k0_off12 t] j

theorem offX_inb (t : Fin k0_t2_loop.trips) : ∀ j, ∀ a, offX t j a + Attn.S1x128x128.size a ≤ Attn.S1x2048x1024.size a := by
  decide +kernel +revert

theorem offX_packed (t : Fin k0_t2_loop.trips) : ∀ j,
    (Rect.unit (s := Attn.S1x2048x1024) (offX t j) Attn.S1x128x128.size (offX_inb t j)).PackedRows (EltTy.packing .fp8e4m3) := by
  decide +kernel +revert

/-- One block of keys and values. -/
def bodyKV (R : Attn.Refs sig) (t : Fin k0_t1_loop.trips) : Prog (TpuEff nD τ sig (Elt F) Λ₀ .tc) Unit :=
  Attn.quantKV R (k0_off1 t) (k0_off2 t) (k0_off3 t) (k0_off4 t) (k0_off1_inb t) (k0_off2_inb t) (k0_off3_inb t) (k0_off4_inb t)
    (k0_off1_packedfp8e4m3 t) (k0_off4_packedfp8e4m3 t)

/-- One block of queries. -/
def bodyQ (R : Attn.Refs sig) (t : Fin k0_t2_loop.trips) : Prog (TpuEff nD τ sig (Elt F) Λ₀ .tc) Unit :=
  Attn.quantQ R (Scalar.ofBits .f32 0x3AE7B46A#32) (offX t) (k0_off13 t) (fun j => k0_off14 t (BitVec.ofNat 32 j.val))
    (offX_inb t) (k0_off13_inb t) (k0_off14_inb t) (offX_packed t)

/-- One step of the block of queries 0. -/
def body3 (R : Attn.Refs sig) (un : F .f32) (t : Fin k0_t3_loop.trips) : Prog (TpuEff nD τ sig (Elt F) Λ₀ .tc) Unit :=
  Attn.step R (Scalar.ofBits .f32 0x429044FE#32) un 0 (by decide) (k0_off15 t) (fun j => k0_off16 t (BitVec.ofNat 32 j.val))
    (fun j => k0_off17 t (BitVec.ofNat 32 j.val)) (k0_off15_inb t) (k0_off16_inb t) (k0_off17_inb t) (k0_off17_packedbf16 t)

/-- One step of the block of queries 1. -/
def body4 (R : Attn.Refs sig) (un : F .f32) (t : Fin k0_t4_loop.trips) : Prog (TpuEff nD τ sig (Elt F) Λ₀ .tc) Unit :=
  Attn.step R (Scalar.ofBits .f32 0x429044FE#32) un 1 (by decide) (k0_off18 t) (fun j => k0_off19 t (BitVec.ofNat 32 j.val))
    (fun j => k0_off20 t (BitVec.ofNat 32 j.val)) (k0_off18_inb t) (k0_off19_inb t) (k0_off20_inb t) (k0_off20_packedbf16 t)

/-- One step of the block of queries 2. -/
def body5 (R : Attn.Refs sig) (un : F .f32) (t : Fin k0_t5_loop.trips) : Prog (TpuEff nD τ sig (Elt F) Λ₀ .tc) Unit :=
  Attn.step R (Scalar.ofBits .f32 0x429044FE#32) un 2 (by decide) (k0_off21 t) (fun j => k0_off22 t (BitVec.ofNat 32 j.val))
    (fun j => k0_off23 t (BitVec.ofNat 32 j.val)) (k0_off21_inb t) (k0_off22_inb t) (k0_off23_inb t) (k0_off23_packedbf16 t)

/-- One step of the block of queries 3. -/
def body6 (R : Attn.Refs sig) (un : F .f32) (t : Fin k0_t6_loop.trips) : Prog (TpuEff nD τ sig (Elt F) Λ₀ .tc) Unit :=
  Attn.step R (Scalar.ofBits .f32 0x429044FE#32) un 3 (by decide) (k0_off24 t) (fun j => k0_off25 t (BitVec.ofNat 32 j.val))
    (fun j => k0_off26 t (BitVec.ofNat 32 j.val)) (k0_off24_inb t) (k0_off25_inb t) (k0_off26_inb t) (k0_off26_packedbf16 t)

/-- One step of the block of queries 4. -/
def body7 (R : Attn.Refs sig) (un : F .f32) (t : Fin k0_t7_loop.trips) : Prog (TpuEff nD τ sig (Elt F) Λ₀ .tc) Unit :=
  Attn.step R (Scalar.ofBits .f32 0x429044FE#32) un 4 (by decide) (k0_off27 t) (fun j => k0_off28 t (BitVec.ofNat 32 j.val))
    (fun j => k0_off29 t (BitVec.ofNat 32 j.val)) (k0_off27_inb t) (k0_off28_inb t) (k0_off29_inb t) (k0_off29_packedbf16 t)

/-- One step of the block of queries 5. -/
def body8 (R : Attn.Refs sig) (un : F .f32) (t : Fin k0_t8_loop.trips) : Prog (TpuEff nD τ sig (Elt F) Λ₀ .tc) Unit :=
  Attn.step R (Scalar.ofBits .f32 0x429044FE#32) un 5 (by decide) (k0_off30 t) (fun j => k0_off31 t (BitVec.ofNat 32 j.val))
    (fun j => k0_off32 t (BitVec.ofNat 32 j.val)) (k0_off30_inb t) (k0_off31_inb t) (k0_off32_inb t) (k0_off32_packedbf16 t)

/-- One step of the block of queries 6. -/
def body9 (R : Attn.Refs sig) (un : F .f32) (t : Fin k0_t9_loop.trips) : Prog (TpuEff nD τ sig (Elt F) Λ₀ .tc) Unit :=
  Attn.step R (Scalar.ofBits .f32 0x429044FE#32) un 6 (by decide) (k0_off33 t) (fun j => k0_off34 t (BitVec.ofNat 32 j.val))
    (fun j => k0_off35 t (BitVec.ofNat 32 j.val)) (k0_off33_inb t) (k0_off34_inb t) (k0_off35_inb t) (k0_off35_packedbf16 t)

/-- One step of the block of queries 7. -/
def body10 (R : Attn.Refs sig) (un : F .f32) (t : Fin k0_t10_loop.trips) : Prog (TpuEff nD τ sig (Elt F) Λ₀ .tc) Unit :=
  Attn.step R (Scalar.ofBits .f32 0x429044FE#32) un 7 (by decide) (k0_off36 t) (fun j => k0_off37 t (BitVec.ofNat 32 j.val))
    (fun j => k0_off38 t (BitVec.ofNat 32 j.val)) (k0_off36_inb t) (k0_off37_inb t) (k0_off38_inb t) (k0_off38_packedbf16 t)

/-- One step of the block of queries 8. -/
def body11 (R : Attn.Refs sig) (un : F .f32) (t : Fin k0_t11_loop.trips) : Prog (TpuEff nD τ sig (Elt F) Λ₀ .tc) Unit :=
  Attn.step R (Scalar.ofBits .f32 0x429044FE#32) un 8 (by decide) (k0_off39 t) (fun j => k0_off40 t (BitVec.ofNat 32 j.val))
    (fun j => k0_off41 t (BitVec.ofNat 32 j.val)) (k0_off39_inb t) (k0_off40_inb t) (k0_off41_inb t) (k0_off41_packedbf16 t)

/-- One step of the block of queries 9. -/
def body12 (R : Attn.Refs sig) (un : F .f32) (t : Fin k0_t12_loop.trips) : Prog (TpuEff nD τ sig (Elt F) Λ₀ .tc) Unit :=
  Attn.step R (Scalar.ofBits .f32 0x429044FE#32) un 9 (by decide) (k0_off42 t) (fun j => k0_off43 t (BitVec.ofNat 32 j.val))
    (fun j => k0_off44 t (BitVec.ofNat 32 j.val)) (k0_off42_inb t) (k0_off43_inb t) (k0_off44_inb t) (k0_off44_packedbf16 t)

/-- One step of the block of queries 10. -/
def body13 (R : Attn.Refs sig) (un : F .f32) (t : Fin k0_t13_loop.trips) : Prog (TpuEff nD τ sig (Elt F) Λ₀ .tc) Unit :=
  Attn.step R (Scalar.ofBits .f32 0x429044FE#32) un 10 (by decide) (k0_off45 t) (fun j => k0_off46 t (BitVec.ofNat 32 j.val))
    (fun j => k0_off47 t (BitVec.ofNat 32 j.val)) (k0_off45_inb t) (k0_off46_inb t) (k0_off47_inb t) (k0_off47_packedbf16 t)

/-- One step of the block of queries 11. -/
def body14 (R : Attn.Refs sig) (un : F .f32) (t : Fin k0_t14_loop.trips) : Prog (TpuEff nD τ sig (Elt F) Λ₀ .tc) Unit :=
  Attn.step R (Scalar.ofBits .f32 0x429044FE#32) un 11 (by decide) (k0_off48 t) (fun j => k0_off49 t (BitVec.ofNat 32 j.val))
    (fun j => k0_off50 t (BitVec.ofNat 32 j.val)) (k0_off48_inb t) (k0_off49_inb t) (k0_off50_inb t) (k0_off50_packedbf16 t)

/-- One step of the block of queries 12. -/
def body15 (R : Attn.Refs sig) (un : F .f32) (t : Fin k0_t15_loop.trips) : Prog (TpuEff nD τ sig (Elt F) Λ₀ .tc) Unit :=
  Attn.step R (Scalar.ofBits .f32 0x429044FE#32) un 12 (by decide) (k0_off51 t) (fun j => k0_off52 t (BitVec.ofNat 32 j.val))
    (fun j => k0_off53 t (BitVec.ofNat 32 j.val)) (k0_off51_inb t) (k0_off52_inb t) (k0_off53_inb t) (k0_off53_packedbf16 t)

/-- One step of the block of queries 13. -/
def body16 (R : Attn.Refs sig) (un : F .f32) (t : Fin k0_t16_loop.trips) : Prog (TpuEff nD τ sig (Elt F) Λ₀ .tc) Unit :=
  Attn.step R (Scalar.ofBits .f32 0x429044FE#32) un 13 (by decide) (k0_off54 t) (fun j => k0_off55 t (BitVec.ofNat 32 j.val))
    (fun j => k0_off56 t (BitVec.ofNat 32 j.val)) (k0_off54_inb t) (k0_off55_inb t) (k0_off56_inb t) (k0_off56_packedbf16 t)

/-- One step of the block of queries 14. -/
def body17 (R : Attn.Refs sig) (un : F .f32) (t : Fin k0_t17_loop.trips) : Prog (TpuEff nD τ sig (Elt F) Λ₀ .tc) Unit :=
  Attn.step R (Scalar.ofBits .f32 0x429044FE#32) un 14 (by decide) (k0_off57 t) (fun j => k0_off58 t (BitVec.ofNat 32 j.val))
    (fun j => k0_off59 t (BitVec.ofNat 32 j.val)) (k0_off57_inb t) (k0_off58_inb t) (k0_off59_inb t) (k0_off59_packedbf16 t)

/-- One step of the block of queries 15. -/
def body18 (R : Attn.Refs sig) (un : F .f32) (t : Fin k0_t18_loop.trips) : Prog (TpuEff nD τ sig (Elt F) Λ₀ .tc) Unit :=
  Attn.step R (Scalar.ofBits .f32 0x429044FE#32) un 15 (by decide) (k0_off60 t) (fun j => k0_off61 t (BitVec.ofNat 32 j.val))
    (fun j => k0_off62 t (BitVec.ofNat 32 j.val)) (k0_off60_inb t) (k0_off61_inb t) (k0_off62_inb t) (k0_off62_packedbf16 t)

/-- The steps of every block of queries. -/
def loops (R : Attn.Refs sig) (un : F .f32) : Fin 16 → Prog (TpuEff nD τ sig (Elt F) Λ₀ .tc) Unit :=
  ![Scf.Loop.for k0_t3_loop k0_t3_ok ⟨⟩ fun t _ => body3 R un t,
    Scf.Loop.for k0_t4_loop k0_t4_ok ⟨⟩ fun t _ => body4 R un t,
    Scf.Loop.for k0_t5_loop k0_t5_ok ⟨⟩ fun t _ => body5 R un t,
    Scf.Loop.for k0_t6_loop k0_t6_ok ⟨⟩ fun t _ => body6 R un t,
    Scf.Loop.for k0_t7_loop k0_t7_ok ⟨⟩ fun t _ => body7 R un t,
    Scf.Loop.for k0_t8_loop k0_t8_ok ⟨⟩ fun t _ => body8 R un t,
    Scf.Loop.for k0_t9_loop k0_t9_ok ⟨⟩ fun t _ => body9 R un t,
    Scf.Loop.for k0_t10_loop k0_t10_ok ⟨⟩ fun t _ => body10 R un t,
    Scf.Loop.for k0_t11_loop k0_t11_ok ⟨⟩ fun t _ => body11 R un t,
    Scf.Loop.for k0_t12_loop k0_t12_ok ⟨⟩ fun t _ => body12 R un t,
    Scf.Loop.for k0_t13_loop k0_t13_ok ⟨⟩ fun t _ => body13 R un t,
    Scf.Loop.for k0_t14_loop k0_t14_ok ⟨⟩ fun t _ => body14 R un t,
    Scf.Loop.for k0_t15_loop k0_t15_ok ⟨⟩ fun t _ => body15 R un t,
    Scf.Loop.for k0_t16_loop k0_t16_ok ⟨⟩ fun t _ => body16 R un t,
    Scf.Loop.for k0_t17_loop k0_t17_ok ⟨⟩ fun t _ => body17 R un t,
    Scf.Loop.for k0_t18_loop k0_t18_ok ⟨⟩ fun t _ => body18 R un t]

/-- The program of one grid point. -/
def point (R : Attn.Refs sig) : Prog (TpuEff nD τ sig (Elt F) Λ₀ .tc) Unit :=
  Attn.body R (Scf.Loop.for k0_t1_loop k0_t1_ok ⟨⟩ fun t _ => bodyKV R t)
    (fun _ _ => Scf.Loop.for k0_t2_loop k0_t2_ok ⟨⟩ fun t _ => bodyQ R t) (loops R)

end Cert.Kernel
-- ==== Proof.K.Outside.lean ====
module

public import proofs.«01_k».proof.Proof.K.Point

/-!
# The printed body outside its loops

By unfolding; and the two loops that quantise.
-/

@[expose] public section

set_option maxRecDepth 65536
set_option maxHeartbeats 4000000

noncomputable section

namespace Cert.Kernel

open Cert.Kernel.Gen
open Idealize.ShloMosaic Idealize.SL.Sem

variable {F : FTy → Type} [FloatOps F]

theorem bodyKV_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (t : Fin k0_t1_loop.trips) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 t ⟨⟩ = bodyKV (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t := rfl

theorem bodyQ_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (v6 : F .f32) (v79 : FVec F S2048x128 .f32) (t : Fin k0_t2_loop.trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79 t ⟨⟩ = bodyQ (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t := rfl

/-- The body, with its loops as printed. -/
theorem outside_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      Attn.body (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20))
        (fun v6 v79 => Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79))
        (fun un => ![Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t6_loop k0_t6_ok ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t7_loop k0_t7_ok ⟨⟩ (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t8_loop k0_t8_ok ⟨⟩ (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t9_loop k0_t9_ok ⟨⟩ (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t10_loop k0_t10_ok ⟨⟩ (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t11_loop k0_t11_ok ⟨⟩ (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t12_loop k0_t12_ok ⟨⟩ (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t13_loop k0_t13_ok ⟨⟩ (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t14_loop k0_t14_ok ⟨⟩ (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t15_loop k0_t15_ok ⟨⟩ (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t16_loop k0_t16_ok ⟨⟩ (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (Scalar.ofBits .f32 0x00000000#32)),
    Scf.Loop.for k0_t17_loop k0_t17_ok ⟨⟩ (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (Scalar.ofBits .f32 0x00000000#32)),
    Scf.Loop.for k0_t18_loop k0_t18_ok ⟨⟩ (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (Scalar.ofBits .f32 0x00000000#32))]) := by
  rw [cc0_attn_eq_skeleton]
  unfold cc0_attn_skel
  simp only [k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton]
  simp only [k0_part247_skel, k0_part248_skel, k0_part249_skel, k0_part250_skel, k0_part251_skel, k0_part252_skel, k0_part253_skel, k0_part254_skel, k0_part255_skel, k0_part256_skel, k0_part257_skel, k0_part258_skel, bind_assoc, pure_bind]
  simp only [Attn.body, Attn.outer, bind_assoc, pure_bind]
  rfl

end Cert.Kernel
-- ==== Proof.K.Body0.lean ====
module

public import proofs.«01_k».proof.Proof.K.Point

/-!
# The printed steps of some blocks of queries, by unfolding
-/

@[expose] public section

set_option maxRecDepth 65536
set_option maxHeartbeats 4000000

noncomputable section

namespace Cert.Kernel

open Cert.Kernel.Gen
open Idealize.ShloMosaic Idealize.SL.Sem

variable {F : FTy → Type} [FloatOps F]

theorem body18_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : F .f32) (t : Fin k0_t18_loop.trips) :
    k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body18 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.Kernel
-- ==== Proof.K.Body1.lean ====
module

public import proofs.«01_k».proof.Proof.K.Point

/-!
# The printed steps of some blocks of queries, by unfolding
-/

@[expose] public section

set_option maxRecDepth 65536
set_option maxHeartbeats 4000000

noncomputable section

namespace Cert.Kernel

open Cert.Kernel.Gen
open Idealize.ShloMosaic Idealize.SL.Sem

variable {F : FTy → Type} [FloatOps F]

theorem body17_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : F .f32) (t : Fin k0_t17_loop.trips) :
    k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body17 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.Kernel
-- ==== Proof.K.Body2.lean ====
module

public import proofs.«01_k».proof.Proof.K.Point

/-!
# The printed steps of some blocks of queries, by unfolding
-/

@[expose] public section

set_option maxRecDepth 65536
set_option maxHeartbeats 4000000

noncomputable section

namespace Cert.Kernel

open Cert.Kernel.Gen
open Idealize.ShloMosaic Idealize.SL.Sem

variable {F : FTy → Type} [FloatOps F]

theorem body16_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : F .f32) (t : Fin k0_t16_loop.trips) :
    k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body16 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body15_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t15_loop.trips) :
    k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body15 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.Kernel
-- ==== Proof.K.Body3.lean ====
module

public import proofs.«01_k».proof.Proof.K.Point

/-!
# The printed steps of some blocks of queries, by unfolding
-/

@[expose] public section

set_option maxRecDepth 65536
set_option maxHeartbeats 4000000

noncomputable section

namespace Cert.Kernel

open Cert.Kernel.Gen
open Idealize.ShloMosaic Idealize.SL.Sem

variable {F : FTy → Type} [FloatOps F]

theorem body3_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t3_loop.trips) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body3 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body4_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t4_loop.trips) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body4 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body5_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t5_loop.trips) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body5 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body6_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t6_loop.trips) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body6 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body7_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t7_loop.trips) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body7 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body8_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t8_loop.trips) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body8 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body9_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t9_loop.trips) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body9 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body10_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t10_loop.trips) :
    k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body10 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body11_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t11_loop.trips) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body11 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body12_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t12_loop.trips) :
    k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body12 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body13_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t13_loop.trips) :
    k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body13 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body14_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t14_loop.trips) :
    k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body14 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.Kernel
-- ==== Proof.K.Eq.lean ====
module

public import proofs.«01_k».proof.Proof.K.Outside
public import proofs.«01_k».proof.Proof.K.Body0
public import proofs.«01_k».proof.Proof.K.Body1
public import proofs.«01_k».proof.Proof.K.Body2
public import proofs.«01_k».proof.Proof.K.Body3

/-!
# The printed body is the program of one grid point

Every loop is replaced by its program.
-/

@[expose] public section

set_option maxRecDepth 65536
set_option maxHeartbeats 4000000

noncomputable section

namespace Cert.Kernel

open Cert.Kernel.Gen
open Idealize.ShloMosaic Idealize.SL.Sem

variable {F : FTy → Type} [FloatOps F]

/-- The printed body is the program of one grid point. -/
theorem body_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) : cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = point (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  have e1 : k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = fun t _ => bodyKV (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t :=
    funext fun t => funext fun _ => bodyKV_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 t
  have e2 : ∀ v6 v79, k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79 = fun t _ => bodyQ (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t :=
    fun v6 v79 => funext fun t => funext fun _ => bodyQ_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79 t
  rw [outside_eq]
  unfold point
  refine congr (congr (congrArg (Attn.body (F := F) (Λ := Λ₀) (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) (congrArg (Scf.Loop.for k0_t1_loop k0_t1_ok PUnit.unit) e1))
    (funext fun v6 => funext fun v79 => congrArg (Scf.Loop.for k0_t2_loop k0_t2_ok PUnit.unit) (e2 v6 v79))) (funext fun un => ?_)
  unfold loops
  rw [show (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body3 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body3_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body4 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body4_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body5 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body5_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body6 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body6_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body7 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body7_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body8 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body8_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body9 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body9_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body10 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body10_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body11 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body11_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body12 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body12_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body13 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body13_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body14 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body14_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body15 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body15_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body16 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body16_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body17 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body17_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body18 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body18_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]

end Cert.Kernel
-- ==== Proof.Runs.lean ====
module

public import proofs.«01_k».proof.Proof.Ops
public import Idealize.ShloMosaic.Lib.Pipeline.FrameBody
public import Idealize.ShloMosaic.Lib.VecWindow
public import Idealize.ShloMosaic.Lib.Tactic

/-!
# What a program over the buffers does to their contents

A core owns the body's nineteen buffers at known contents (`Own`).  `Does p σ Q` says: from the contents `σ` the
program `p` runs to an end, and its result and the contents it leaves satisfy `Q`.  The rules below take a program
apart; nothing but the buffers' contents appears in them.
-/

@[expose] public section

set_option maxRecDepth 16384

noncomputable section

namespace Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The names of the buffers. -/
inductive B | x | k | v | o | qc | qs | kc | ks | vc | vs | vt | ksb | vsb | s | w | wc | qrow | f | of
  deriving DecidableEq

instance : Fintype B := Fintype.ofList [.x, .k, .v, .o, .qc, .qs, .kc, .ks, .vc, .vs, .vt, .ksb, .vsb, .s, .w, .wc, .qrow, .f, .of]
  (by intro b; cases b <;> decide)

@[reducible] def B.shape : B → Shape
  | .x => S1x2048x1024 | .k => S1x2048x128 | .v => S1x2048x128 | .o => S1x2048x1024 | .qc => S1x2048x1024
  | .qs => S1x1x8x2048 | .kc => S1x2048x128 | .ks => S1x1x1x2048 | .vc => S1x2048x128 | .vs => S1x1x1x2048
  | .vt => S128x2048 | .ksb => S2048x128 | .vsb => S2048x128 | .s => S2048x256 | .w => S2048x256
  | .wc => S2048x256 | .qrow => S64x1x256 | .f => S1x256 | .of => S1x256

@[reducible] def B.elt : B → EltTy
  | .x => .bf16 | .k => .bf16 | .v => .bf16 | .o => .bf16 | .qc => .fp8e4m3
  | .qs => .f32 | .kc => .fp8e4m3 | .ks => .f32 | .vc => .fp8e4m3 | .vs => .f32
  | .vt => .fp8e4m3 | .ksb => .f32 | .vsb => .f32 | .s => .f32 | .w => .f32
  | .wc => .fp8e4m3 | .qrow => .f32 | .f => .f32 | .of => .f32

variable {nD : ℕ} {τ : Topo} {sig : RefSig} {Λ : Labels} {F : FTy → Type} [FloatOps F]

/-- The buffer of a name. -/
@[reducible] def Refs.buf (R : Refs sig) : (b : B) → Memref sig .tc .vmem b.shape b.elt
  | .x => R.x | .k => R.k | .v => R.v | .o => R.o | .qc => R.qc
  | .qs => R.qs | .kc => R.kc | .ks => R.ks | .vc => R.vc | .vs => R.vs
  | .vt => R.vt | .ksb => R.ksb | .vsb => R.vsb | .s => R.s | .w => R.w
  | .wc => R.wc | .qrow => R.qrow | .f => R.f | .of => R.of

/-- The contents of every buffer. -/
abbrev State (F : FTy → Type) := (b : B) → b.shape.Idx → Elt F b.elt

/-- The contents with one buffer's replaced. -/
def State.set (σ : State F) (b : B) (X : b.shape.Idx → Elt F b.elt) : State F := Function.update σ b X

@[simp] theorem State.set_same (σ : State F) (b : B) (X : b.shape.Idx → Elt F b.elt) : σ.set b X b = X := Function.update_self _ _ _

theorem State.set_ne (σ : State F) {b b' : B} (h : b' ≠ b) (X : b.shape.Idx → Elt F b.elt) : σ.set b X b' = σ b' :=
  Function.update_of_ne h _ _

section Rules

variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ) (𝒱 : Variants) (c : Dev nD) (E : Set Name)

/-- Core `c` owns every buffer, at the contents `σ`. -/
def Own (R : Refs sig) (σ : State F) : sProp 𝕄 :=
  bigSep Finset.univ fun b => owns (c : Thread nD τ) (R.buf b) fullShare (σ b)

/-- The buffers one by one. -/
theorem Own_eq (R : Refs sig) (σ : State F) : (Own c R σ : sProp 𝕄) = iprop(owns (c : Thread nD τ) R.x fullShare (σ .x) ∗ owns (c : Thread nD τ) R.k fullShare (σ .k) ∗ owns (c : Thread nD τ) R.v fullShare (σ .v) ∗ owns (c : Thread nD τ) R.o fullShare (σ .o) ∗ owns (c : Thread nD τ) R.qc fullShare (σ .qc) ∗ owns (c : Thread nD τ) R.qs fullShare (σ .qs) ∗ owns (c : Thread nD τ) R.kc fullShare (σ .kc) ∗ owns (c : Thread nD τ) R.ks fullShare (σ .ks) ∗ owns (c : Thread nD τ) R.vc fullShare (σ .vc) ∗ owns (c : Thread nD τ) R.vs fullShare (σ .vs) ∗ owns (c : Thread nD τ) R.vt fullShare (σ .vt) ∗ owns (c : Thread nD τ) R.ksb fullShare (σ .ksb) ∗ owns (c : Thread nD τ) R.vsb fullShare (σ .vsb) ∗ owns (c : Thread nD τ) R.s fullShare (σ .s) ∗ owns (c : Thread nD τ) R.w fullShare (σ .w) ∗ owns (c : Thread nD τ) R.wc fullShare (σ .wc) ∗ owns (c : Thread nD τ) R.qrow fullShare (σ .qrow) ∗ owns (c : Thread nD τ) R.f fullShare (σ .f) ∗ owns (c : Thread nD τ) R.of fullShare (σ .of)) :=
  bigSep_univ_eq_bigSepL [B.x, .k, .v, .o, .qc, .qs, .kc, .ks, .vc, .vs, .vt, .ksb, .vsb, .s, .w, .wc, .qrow, .f, .of] (by decide) (by decide) _

/-- From the contents `σ` the program runs to an end where its result and the contents satisfy `Q`. -/
def Does (R : Refs sig) {α : Type} (p : Prog (TpuEff nD τ sig (Elt F) Λ .tc) α) (σ : State F) (Q : α → State F → Prop) : Prop :=
  (Own c R σ : sProp 𝕄) ⊢ wp frame (wpE defs 𝒱 (c : Thread nD τ) none) E p (fun a => iprop(∃ σ', ⌜Q a σ'⌝ ∗ Own c R σ'))

variable {defs 𝒱 c E} {R : Refs sig} {α β : Type}

local notation "Does'" => Does (Ix := Ix) (Name := Name) (U := U) (Lvl := Lvl) defs 𝒱 c E

theorem Does.pure {a : α} {σ : State F} {Q : α → State F → Prop} (h : Q a σ) : Does' R (pure a) σ Q := by
  unfold Does
  show _ ⊢ wp frame (wpE defs 𝒱 (c : Thread nD τ) none) E (.ret a) _
  rw [wp_ret]
  iintro H
  imodintro
  iexists σ
  isplitr
  · ipureintro; exact h
  · iexact H

theorem Does.bind {p : Prog (TpuEff nD τ sig (Elt F) Λ .tc) α} {k : α → Prog (TpuEff nD τ sig (Elt F) Λ .tc) β} {σ : State F}
    {P : α → State F → Prop} {Q : β → State F → Prop} (hp : Does' R p σ P) (hk : ∀ a σ', P a σ' → Does' R (k a) σ' Q) :
    Does' R (p >>= k) σ Q := by
  unfold Does at *
  rw [wp_bind]
  refine hp.trans (wp_mono _ _ _ fun a => ?_)
  iintro ⟨%σ', %h, H⟩
  iapply (hk a σ' h)
  iexact H

theorem Does.mono {p : Prog (TpuEff nD τ sig (Elt F) Λ .tc) α} {σ : State F} {P Q : α → State F → Prop}
    (hp : Does' R p σ P) (h : ∀ a σ', P a σ' → Q a σ') : Does' R p σ Q := by
  unfold Does at *
  refine hp.trans (wp_mono _ _ _ fun a => ?_)
  iintro ⟨%σ', %hP, H⟩
  iexists σ'
  isplitr
  · ipureintro; exact h a σ' hP
  · iexact H

theorem Does.ld (b : B) {off n : Fin b.shape.rank → ℕ} (h : ∀ a, off a + n a ≤ b.shape.size a)
    (hp : 0 < (Rect.unit off n h).shape.numel) {σ : State F} {Q : ((Rect.unit off n h).shape.Idx → Elt F b.elt) → State F → Prop}
    (hQ : Q (VecWindow.window (σ b) off n h) σ) : Does' R (ld (R.buf b) off n h hp) σ Q := by
  unfold Does Own Attn.ld
  rw [bigSep_univ_at _ b]
  unfold owns
  iintro ⟨⟨%f, %hf, H⟩, HR⟩
  iapply (wp_load 𝒱 (c : Thread nD τ) none E (m := R.buf b) (r := (Rect.unit off n h).toLoadRect)
    (S := (R.buf b).view.set) (View.setOn_subset_set _ _)) $$ H
  iintro H
  rw [wp_ret]
  imodintro
  iexists σ
  isplitr
  · ipureintro; rw [View.readAt_unit (R.buf b).view f h rfl h, hf]; exact hQ
  · rw [bigSep_univ_at _ b]
    isplitl [H]
    · iexists f
      isplitr
      · ipureintro; exact hf
      · iexact H
    · iexact HR

theorem Does.st (b : B) {off n : Fin b.shape.rank → ℕ} (h : ∀ a, off a + n a ≤ b.shape.size a)
    {w : (Rect.unit off n h).shape.Idx → Elt F b.elt} (hs : ((R.buf b).access (Rect.unit off n h)).Stores Finset.univ)
    {σ : State F} {Q : PUnit → State F → Prop}
    (hQ : Q ⟨⟩ (σ.set b (VecWindow.put (σ b) off n w))) : Does' R (st (R.buf b) off n h w hs) σ Q := by
  unfold Attn.st
  refine Does.bind (Does.ld b h _ (Q := fun _ σ' => σ' = σ) rfl) ?_
  rintro _ σ rfl
  have e : bigSep (M := 𝕄) (Finset.univ.erase b) (fun b' => owns (c : Thread nD τ) (R.buf b') fullShare (σ.set b (VecWindow.put (σ b) off n w) b'))
      = bigSep (Finset.univ.erase b) (fun b' => owns (c : Thread nD τ) (R.buf b') fullShare (σ b')) :=
    bigSep_congr fun b' hb' => by rw [State.set_ne _ (Finset.ne_of_mem_erase hb')]
  unfold Does Own
  rw [bigSep_univ_at _ b]
  iintro ⟨H, HR⟩
  unfold owns at e ⊢
  icases H with ⟨%f, %hf, H⟩
  iapply (wp_store_writes₀ 𝒱 (c : Thread nD τ) none E (m := R.buf b) (r := Rect.unit off n h) (w := w)
    (S := (R.buf b).view.set) (View.set_slice_subset _ _)) $$ H
  iintro H
  rw [wp_ret]
  imodintro
  iexists _
  isplitr
  · ipureintro; exact hQ
  · rw [bigSep_univ_at _ b]
    isplitl [H]
    · iexists ((R.buf b).view.writes (Elt F) f [⟨Rect.unit off n h, w⟩])
      isplitr
      · ipureintro
        rw [View.read_writes_cons_put _ _ h w [] rfl, View.writes_nil, hf, State.set_same]
      · iexact H
    · rw [e]
      iexact HR

theorem Does.loop (l : Scf.Loop 32) (hok : l.OK) {body : Fin l.trips → PUnit → Prog (TpuEff nD τ sig (Elt F) Λ .tc) PUnit}
    (I : ℕ → State F → Prop) {σ : State F} {Q : PUnit → State F → Prop} (h0 : I 0 σ)
    (hb : ∀ (k : Fin l.trips) σ, I k σ → Does' R (body k ⟨⟩) σ (fun _ => I (k + 1)))
    (hn : ∀ σ', I l.trips σ' → Q ⟨⟩ σ') : Does' R (Scf.Loop.for l hok ⟨⟩ body) σ Q := by
  unfold Does at *
  refine BIBase.Entails.trans ?_ (Scf.wp_for _ _ _ l.lb l.ub l.st hok ⟨⟩ body (fun k _ => iprop(∃ σ', ⌜I k σ'⌝ ∗ Own c R σ')) ?_)
  · iintro H
    isplitl [H]
    · iexists σ
      isplitr
      · ipureintro; exact h0
      · iexact H
    · iintro %_ ⟨%σ', %h, H⟩
      iexists σ'
      isplitr
      · ipureintro; exact hn σ' h
      · iexact H
  · intro k _
    iintro ⟨%σ', %h, H⟩
    iapply (hb k σ' h)
    iexact H

end Rules

end Attn
-- ==== Proof.Keeps.lean ====
module

public import proofs.«01_k».proof.Proof.Runs

/-!
# Every part of the body runs to its end and leaves the settled buffers as they are

From any contents whatever.  One lemma for each definition of the body.
-/

@[expose] public section

set_option maxRecDepth 16384

noncomputable section

namespace Attn

open Idealize.ShloMosaic Idealize.ShloMosaic.TcCoe Idealize.SL Idealize.SL.RA Idealize.SL.Sem

variable {nD : ℕ} {τ : Topo} {sig : RefSig} {Λ : Labels} {F : FTy → Type} [FloatOps F]
variable {Ix : Type} [DecidableEq Ix] {Name : Type} [DecidableEq Name] {U : Type} [URA U] {Lvl : Type} [Preorder Lvl]

/-- The three inputs. -/
def inputs : B → Bool
  | .x | .k | .v => true
  | _ => false

/-- What the attention leaves as it is: all but its own result, scores, weights and factors. -/
def settled : B → Bool
  | .o | .s | .w | .wc | .f | .of => false
  | _ => true

variable (Ix Name U Lvl) in
/-- From any contents the program runs to its end and leaves the buffers of `S` as they are. -/
def Keeps (S : B → Bool) (defs : Defs nD τ sig (Elt F) Λ) (𝒱 : Variants) (c : Dev nD) (E : Set Name) (R : Refs sig) {α : Type}
    (p : Prog (TpuEff nD τ sig (Elt F) Λ .tc) α) : Prop :=
  ∀ σ : State F, Does (Ix := Ix) (Name := Name) (U := U) (Lvl := Lvl) defs 𝒱 c E R p σ (fun _ σ' => ∀ b, S b = true → σ' b = σ b)

variable {S : B → Bool} {defs : Defs nD τ sig (Elt F) Λ} {𝒱 : Variants} {c : Dev nD} {E : Set Name} {R : Refs sig} {α β : Type}

local notation "Keeps'" => Keeps Ix Name U Lvl S defs 𝒱 c E R
local notation "KeepsIn" => Keeps Ix Name U Lvl inputs defs 𝒱 c E R
local notation "KeepsSet" => Keeps Ix Name U Lvl settled defs 𝒱 c E R

theorem Keeps.pure (a : α) : Keeps' (Pure.pure a) := fun _ => Does.pure fun _ _ => rfl

theorem Keeps.bind {p : Prog (TpuEff nD τ sig (Elt F) Λ .tc) α} {k : α → Prog (TpuEff nD τ sig (Elt F) Λ .tc) β}
    (hp : Keeps' p) (hk : ∀ a, Keeps' (k a)) : Keeps' (p >>= k) := fun σ =>
  Does.bind (hp σ) fun a σ' h => (hk a σ').mono fun _ _ h' b hb => (h' b hb).trans (h b hb)

theorem Keeps.ld (b : B) {off n : Fin b.shape.rank → ℕ} (h : ∀ a, off a + n a ≤ b.shape.size a)
    (hp : 0 < (Rect.unit off n h).shape.numel) : Keeps' (ld (R.buf b) off n h hp) := fun _ => Does.ld b h hp fun _ _ => rfl

theorem Keeps.st (b : B) (hb : S b = false) {off n : Fin b.shape.rank → ℕ} (h : ∀ a, off a + n a ≤ b.shape.size a)
    {w : (Rect.unit off n h).shape.Idx → Elt F b.elt} (hs : ((R.buf b).access (Rect.unit off n h)).Stores Finset.univ) :
    Keeps' (st (R.buf b) off n h w hs) := fun σ => Does.st b h hs fun b' hb' =>
  State.set_ne σ (fun e => by subst e; exact Bool.false_ne_true (hb.symm.trans hb')) _

theorem Keeps.loop (l : Scf.Loop 32) (hok : l.OK) {body : Fin l.trips → PUnit → Prog (TpuEff nD τ sig (Elt F) Λ .tc) PUnit}
    (hb : ∀ k, Keeps' (body k ⟨⟩)) : Keeps' (Scf.Loop.for l hok ⟨⟩ body) := fun σ =>
  Does.loop l hok (fun _ σ' => ∀ b, S b = true → σ' b = σ b) (fun _ _ => rfl)
    (fun k σ' h => (hb k σ').mono fun _ _ h' b hb => (h' b hb).trans (h b hb)) (fun _ h => h)

theorem Keeps.cond {b : Bool} {p q : Prog (TpuEff nD τ sig (Elt F) Λ .tc) α} (hp : Keeps' p) (hq : Keeps' q) : Keeps' (cond b p q) := by
  cases b
  · exact hq
  · exact hp

/-- What leaves all settled buffers as they are leaves the inputs. -/
theorem Keeps.inputs {p : Prog (TpuEff nD τ sig (Elt F) Λ .tc) α} (h : KeepsSet p) : KeepsIn p := fun σ =>
  (h σ).mono fun _ _ h' b hb => h' b (by cases b <;> first | rfl | exact absurd hb Bool.false_ne_true)

variable (R) in
theorem quantKV_keeps (o3 : Fin 3 → ℕ) (o2 : Fin 2 → ℕ) (o4 : Fin 4 → ℕ) (oT : Fin 2 → ℕ) (h3) (h2) (h4) (hT) (p3) (pT) :
    KeepsIn (quantKV (F := F) R o3 o2 o4 oT h3 h2 h4 hT p3 pT) :=
  (Keeps.ld .k _ _).bind fun _ => (Keeps.st .kc rfl _ _).bind fun _ => (Keeps.st .ksb rfl _ _).bind fun _ =>
  (Keeps.st .ks rfl _ _).bind fun _ => (Keeps.ld .v _ _).bind fun _ => (Keeps.st .vc rfl _ _).bind fun _ =>
  (Keeps.st .vsb rfl _ _).bind fun _ => (Keeps.st .vs rfl _ _).bind fun _ =>
  (Keeps.st .vt rfl _ _).bind fun _ => Keeps.pure _

variable (R) in
theorem normalise_keeps : KeepsIn (normalise (F := F) R) :=
  (Keeps.ld .vs _ _).bind fun _ => (Keeps.ld .vsb _ _).bind fun _ => (Keeps.st .vsb rfl _ _).bind fun _ => Keeps.pure _

variable (R) in
theorem quantHead_keeps (o3 : Fin 3 → ℕ) (h3) (p3) : KeepsIn (quantHead (F := F) R o3 h3 p3) :=
  (Keeps.ld .x _ _).bind fun _ => (Keeps.st .qc rfl _ _).bind fun _ => Keeps.pure _

variable (R) in
theorem quantQ_keeps (lc : F .f32) (o3 : Fin 8 → Fin 3 → ℕ) (o4 : Fin 4 → ℕ) (oR : Fin 4 → Fin 3 → ℕ) (h3) (h4) (hR) (p3) :
    KeepsIn (quantQ R lc o3 o4 oR h3 h4 hR p3) :=
  (quantHead_keeps R _ _ _).bind fun _ => (quantHead_keeps R _ _ _).bind fun _ => (quantHead_keeps R _ _ _).bind fun _ =>
  (quantHead_keeps R _ _ _).bind fun _ => (quantHead_keeps R _ _ _).bind fun _ => (quantHead_keeps R _ _ _).bind fun _ =>
  (quantHead_keeps R _ _ _).bind fun _ => (quantHead_keeps R _ _ _).bind fun _ => (Keeps.st .qs rfl _ _).bind fun _ =>
  (Keeps.st .qrow rfl _ _).bind fun _ => (Keeps.st .qrow rfl _ _).bind fun _ =>
  (Keeps.st .qrow rfl _ _).bind fun _ => (Keeps.st .qrow rfl _ _).bind fun _ => Keeps.pure _

variable (R) in
theorem scores128_keeps (q : FVec F S256x128 .fp8e4m3) (lo : ℕ) (h) : KeepsSet (scores128 R q lo h) :=
  (Keeps.ld .kc _ _).bind fun _ => Keeps.st .s rfl _ _

variable (R) in
theorem scores256_keeps (q : FVec F S256x128 .fp8e4m3) (lo : ℕ) (h) : KeepsSet (scores256 R q lo h) :=
  (Keeps.ld .kc _ _).bind fun _ => Keeps.st .s rfl _ _

variable (R) in
theorem quantChunk_keeps (n : ℕ) (hc : n < 16) (fv : Vec F S1x256 .f32) : KeepsSet (quantChunk R n hc fv) :=
  (Keeps.ld .w _ _).bind fun _ => Keeps.st .wc rfl _ _

variable (R) in
theorem softChunk_keeps (e2 : F .f32) (d : Bool) (n : ℕ) (hc : n < 16) (qr : FVec F S1x256 .f32) (fv : Vec F S1x256 .f32) :
    KeepsSet (softChunk R e2 d n hc qr fv) :=
  (quantChunk_keeps R _ _ _).bind fun _ => (Keeps.ld .ksb _ _).bind fun _ => (Keeps.ld .vsb _ _).bind fun _ =>
  (Keeps.ld .s _ _).bind fun _ => (Keeps.st .w rfl _ _).bind fun _ => Keeps.pure _

variable (R) in
theorem chunks_keeps (e2 : F .f32) (i : ℕ) (q : FVec F S256x128 .fp8e4m3) (qr : FVec F S1x256 .f32) (fv : Vec F S1x256 .f32) :
    ∀ (m n : ℕ) (h : n + 1 + m ≤ 16) (l p w : FVec F S8x256 .f32), KeepsSet (chunks R e2 i q qr fv m n h l p w)
  | 0, _, _, _, _, _ => Keeps.pure _
  | m + 1, n, h, l, p, w => (softChunk_keeps R _ _ _ _ _ _).bind fun _ =>
    (Keeps.cond (scores256_keeps R _ _ _) (Keeps.pure _)).bind fun _ => chunks_keeps e2 i q qr fv m (n + 1) _ _ _ _

variable (R) in
theorem restScores_keeps (i : ℕ) (hi : i < 16) (q : FVec F S256x128 .fp8e4m3) : KeepsSet (restScores R i hi q) := by
  unfold restScores
  split
  · exact scores256_keeps R _ _ _
  · split
    · exact scores128_keeps R _ _ _
    · exact Keeps.pure _

variable (R) in
theorem pv_keeps (n : ℕ) (hn : n ≤ 16) (hn0 : 0 < n) (ofv : Vec F S1x256 .f32) (o0 o1 : Fin 3 → ℕ) (h0) (h1) (p0) (p1) :
    KeepsSet (pv R n hn hn0 ofv o0 o1 h0 h1 p0 p1) :=
  (Keeps.ld .vt _ _).bind fun _ => (Keeps.ld .wc _ _).bind fun _ => (Keeps.st .o rfl _ _).bind fun _ =>
  Keeps.st .o rfl _ _

variable (R) in
theorem finish_keeps (un : F .f32) (a : Acc F) : KeepsSet (finish R un a) :=
  (Keeps.st .f rfl _ _).bind fun _ => (Keeps.st .of rfl _ _).bind fun _ => Keeps.pure _

variable (R) in
theorem step_keeps (e2 un : F .f32) (i : ℕ) (hi : i < 16) (oR : Fin 3 → ℕ) (oQ oO : Fin 2 → Fin 3 → ℕ) (hR) (hQ) (hO) (pO) :
    KeepsSet (step R e2 un i hi oR oQ oO hR hQ hO pO) :=
  (Keeps.ld .qrow _ _).bind fun _ => (Keeps.ld .f _ _).bind fun _ => (Keeps.ld .of _ _).bind fun _ =>
  (Keeps.ld .qc _ _).bind fun _ => (Keeps.ld .qc _ _).bind fun _ => (softChunk_keeps R _ _ _ _ _ _).bind fun _ =>
  (chunks_keeps R _ _ _ _ _ _ _ _ _ _ _).bind fun _ => (restScores_keeps R _ _ _).bind fun _ =>
  (pv_keeps R _ _ _ _ _ _ _ _ _ _).bind fun _ => finish_keeps R _ _

variable (R) in
theorem prologue_keeps : KeepsSet (prologue (F := F) R) :=
  (Keeps.ld .qc _ _).bind fun _ => (Keeps.ld .qc _ _).bind fun _ => (scores128_keeps R _ _ _).bind fun _ =>
  (Keeps.st .f rfl _ _).bind fun _ => Keeps.st .of rfl _ _

variable (R) in
theorem outer_keeps {lp : Fin 16 → Prog (TpuEff nD τ sig (Elt F) Λ .tc) Unit} (hl : ∀ i, KeepsSet (lp i)) :
    ∀ (m n : ℕ) (h : n + m ≤ 16), KeepsSet (outer R lp m n h)
  | 0, _, _ => Keeps.pure _
  | m + 1, n, h => (Keeps.st .w rfl _ _).bind fun _ => (hl _).bind fun _ => outer_keeps hl m (n + 1) _

variable (R) in
theorem quantChunks_keeps (fv : Vec F S1x256 .f32) : ∀ (m n : ℕ) (h : n + m ≤ 16), KeepsSet (quantChunks R fv m n h)
  | 0, _, _ => Keeps.pure _
  | m + 1, n, h => (quantChunk_keeps R _ _ _).bind fun _ => quantChunks_keeps fv m (n + 1) _

variable (R) in
theorem epilogue_keeps : KeepsSet (epilogue (F := F) R) :=
  (Keeps.ld .f _ _).bind fun _ => (quantChunks_keeps R _ _ _ _).bind fun _ => (Keeps.ld .of _ _).bind fun _ =>
  pv_keeps R _ _ _ _ _ _ _ _ _ _

theorem body_keeps {kvLoop : Prog (TpuEff nD τ sig (Elt F) Λ .tc) Unit}
    {qLoop : F .f32 → FVec F S2048x128 .f32 → Prog (TpuEff nD τ sig (Elt F) Λ .tc) Unit}
    {lp : F .f32 → Fin 16 → Prog (TpuEff nD τ sig (Elt F) Λ .tc) Unit}
    (hkv : KeepsIn kvLoop) (hq : ∀ a b, KeepsIn (qLoop a b)) (hl : ∀ un i, KeepsSet (lp un i)) : KeepsIn (body R kvLoop qLoop lp) :=
  hkv.bind fun _ => (normalise_keeps R).bind fun _ => (hq _ _).bind fun _ => (prologue_keeps R).inputs.bind fun _ =>
  (outer_keeps R (hl _) _ _ _).inputs.bind fun _ => (epilogue_keeps R).inputs.bind fun _ => Keeps.pure _

end Attn
-- ==== Proof.K.Run.lean ====
module

public import proofs.«01_k».proof.Proof.K.Eq
public import proofs.«01_k».proof.Proof.Keeps
public import proofs.«01_k».proof.Proof.Gen.Kernel.Frame

/-!
# One grid point, run by the pipeline

The pipeline's staging buffers and the scratch buffers are the program's nineteen buffers.
-/

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The buffers of point `t`. -/
@[reducible] def pointRefs (t : Fin cfg0.N) : Attn.Refs sig :=
  refs (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

theorem bodyAt_eq (t : Fin cfg0.N) : bodyAt0 (F := F) t = point (pointRefs t) := body_eq _ _ _ _ _ _ _ _ _ _ _ _ _ _ _ _ _ _ _ _ _ _ _ _ _ _ _ _ _ _ _ _ _ _ _ _ _ _ _

/-- What a grid point's program does, of the contents of its buffers. -/
abbrev PointDoes (c : Dev nD) (t : Fin cfg0.N) {α : Type} (p : Prog (TpuEff nD τ sig (Elt F) Λ₀ .tc) α) (σ : Attn.State F)
    (Q : α → Attn.State F → Prop) : Prop :=
  Attn.Does (Ix := Unit) (Name := ℕ) (U := UR sig nD τ) (Lvl := ℕ) defs₀ Variants.none c Set.univ (pointRefs t) p σ Q

/-- The buffers of a point one by one, the scratch buffers whole. -/
theorem Own_point (c : Dev nD) (t : Fin cfg0.N) (σ : Attn.State F) : (Attn.Own c (pointRefs t) σ : sProp 𝕄) = iprop(owns (c : Thread nD τ) (st0_0 t) fullShare (σ .x) ∗ owns (c : Thread nD τ) (st0_1 t) fullShare (σ .k) ∗ owns (c : Thread nD τ) (st0_2 t) fullShare (σ .v) ∗ owns (c : Thread nD τ) (st0_3 t) fullShare (σ .o) ∗ owns (c : Thread nD τ) (st0_4 t) fullShare (σ .qc) ∗ owns (c : Thread nD τ) (st0_5 t) fullShare (σ .qs) ∗ owns (c : Thread nD τ) (st0_6 t) fullShare (σ .kc) ∗ owns (c : Thread nD τ) (st0_7 t) fullShare (σ .ks) ∗ owns (c : Thread nD τ) (st0_8 t) fullShare (σ .vc) ∗ owns (c : Thread nD τ) (st0_9 t) fullShare (σ .vs) ∗ (((c : Thread nD τ).loc cc0_scratch0) ↦{fullShare} (σ .vt)) ∗ (((c : Thread nD τ).loc cc0_scratch1) ↦{fullShare} (σ .ksb)) ∗ (((c : Thread nD τ).loc cc0_scratch2) ↦{fullShare} (σ .vsb)) ∗ (((c : Thread nD τ).loc cc0_scratch3) ↦{fullShare} (σ .s)) ∗ (((c : Thread nD τ).loc cc0_scratch4) ↦{fullShare} (σ .w)) ∗ (((c : Thread nD τ).loc cc0_scratch5) ↦{fullShare} (σ .wc)) ∗ (((c : Thread nD τ).loc cc0_scratch6) ↦{fullShare} (σ .qrow)) ∗ (((c : Thread nD τ).loc cc0_scratch7) ↦{fullShare} (σ .f)) ∗ (((c : Thread nD τ).loc cc0_scratch8) ↦{fullShare} (σ .of))) := by
  rw [Attn.Own_eq, ← owns_whole (c : Thread nD τ) cc0_scratch0 fullShare (σ .vt), ← owns_whole (c : Thread nD τ) cc0_scratch1 fullShare (σ .ksb), ← owns_whole (c : Thread nD τ) cc0_scratch2 fullShare (σ .vsb), ← owns_whole (c : Thread nD τ) cc0_scratch3 fullShare (σ .s), ← owns_whole (c : Thread nD τ) cc0_scratch4 fullShare (σ .w), ← owns_whole (c : Thread nD τ) cc0_scratch5 fullShare (σ .wc), ← owns_whole (c : Thread nD τ) cc0_scratch6 fullShare (σ .qrow), ← owns_whole (c : Thread nD τ) cc0_scratch7 fullShare (σ .f), ← owns_whole (c : Thread nD τ) cc0_scratch8 fullShare (σ .of)]
  rfl

/-- A grid point as the pipeline runs it, from what its program does to the buffers' contents. -/
theorem point_run (c : Dev nD) (t : Fin cfg0.N) (Post : Attn.State F → Attn.State F → Prop)
    (h : ∀ σ, PointDoes c t (point (pointRefs t)) σ (fun _ σ' => Post σ σ'))
    (X0 : Attn.S1x2048x1024.Idx → Elt F .bf16) (X1 X2 : Attn.S1x2048x128.Idx → Elt F .bf16) :
    iprop(Pipeline.ΦA spec0 c ∗ owns (c : Thread nD τ) (st0_0 t) fullShare X0 ∗ owns (c : Thread nD τ) (st0_1 t) fullShare X1 ∗ owns (c : Thread nD τ) (st0_2 t) fullShare X2 ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X))
      ⊢ wp frame (wpE (defs₀ (F := F)) Variants.none (c : Thread nD τ) none) Set.univ (bodyAt0 (F := F) t) (fun _ => (iprop(∃ σ σ', ⌜(σ .x = X0 ∧ σ .k = X1 ∧ σ .v = X2) ∧ Post σ σ'⌝
        ∗ Pipeline.ΦA spec0 c ∗ owns (c : Thread nD τ) (st0_0 t) fullShare (σ' .x) ∗ owns (c : Thread nD τ) (st0_1 t) fullShare (σ' .k) ∗ owns (c : Thread nD τ) (st0_2 t) fullShare (σ' .v) ∗ owns (c : Thread nD τ) (st0_3 t) fullShare (σ' .o) ∗ owns (c : Thread nD τ) (st0_4 t) fullShare (σ' .qc) ∗ owns (c : Thread nD τ) (st0_5 t) fullShare (σ' .qs) ∗ owns (c : Thread nD τ) (st0_6 t) fullShare (σ' .kc) ∗ owns (c : Thread nD τ) (st0_7 t) fullShare (σ' .ks) ∗ owns (c : Thread nD τ) (st0_8 t) fullShare (σ' .vc) ∗ owns (c : Thread nD τ) (st0_9 t) fullShare (σ' .vs)) : sProp 𝕄)) := by
  rw [bodyAt_eq]
  unfold Pipeline.ΦA
  rw [scopedRest0_eq]
  iintro ⟨⟨HS, Hr⟩, H0, H1, H2, ⟨%X3, H3⟩, ⟨%X4, H4⟩, ⟨%X5, H5⟩, ⟨%X6, H6⟩, ⟨%X7, H7⟩, ⟨%X8, H8⟩, ⟨%X9, H9⟩⟩
  icases HS with ⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩
  let σ : Attn.State F := fun b => match b with
    | .x => X0 | .k => X1 | .v => X2 | .o => X3 | .qc => X4 | .qs => X5 | .kc => X6 | .ks => X7 | .vc => X8 | .vs => X9
    | .vt => g0 | .ksb => g1 | .vsb => g2 | .s => g3 | .w => g4 | .wc => g5 | .qrow => g6 | .f => g7 | .of => g8
  have hp := h σ
  unfold PointDoes Attn.Does at hp
  simp only [Own_point] at hp
  iapply (wp_wand_r frame (wpE (defs₀ (F := F)) Variants.none (c : Thread nD τ) none) Set.univ (p := point (pointRefs t))
    (Q := fun _ => iprop(∃ σ', ⌜Post σ σ'⌝ ∗ owns (c : Thread nD τ) (st0_0 t) fullShare (σ' .x) ∗ owns (c : Thread nD τ) (st0_1 t) fullShare (σ' .k) ∗ owns (c : Thread nD τ) (st0_2 t) fullShare (σ' .v) ∗ owns (c : Thread nD τ) (st0_3 t) fullShare (σ' .o) ∗ owns (c : Thread nD τ) (st0_4 t) fullShare (σ' .qc) ∗ owns (c : Thread nD τ) (st0_5 t) fullShare (σ' .qs) ∗ owns (c : Thread nD τ) (st0_6 t) fullShare (σ' .kc) ∗ owns (c : Thread nD τ) (st0_7 t) fullShare (σ' .ks) ∗ owns (c : Thread nD τ) (st0_8 t) fullShare (σ' .vc) ∗ owns (c : Thread nD τ) (st0_9 t) fullShare (σ' .vs) ∗ (((c : Thread nD τ).loc cc0_scratch0) ↦{fullShare} (σ' .vt)) ∗ (((c : Thread nD τ).loc cc0_scratch1) ↦{fullShare} (σ' .ksb)) ∗ (((c : Thread nD τ).loc cc0_scratch2) ↦{fullShare} (σ' .vsb)) ∗ (((c : Thread nD τ).loc cc0_scratch3) ↦{fullShare} (σ' .s)) ∗ (((c : Thread nD τ).loc cc0_scratch4) ↦{fullShare} (σ' .w)) ∗ (((c : Thread nD τ).loc cc0_scratch5) ↦{fullShare} (σ' .wc)) ∗ (((c : Thread nD τ).loc cc0_scratch6) ↦{fullShare} (σ' .qrow)) ∗ (((c : Thread nD τ).loc cc0_scratch7) ↦{fullShare} (σ' .f)) ∗ (((c : Thread nD τ).loc cc0_scratch8) ↦{fullShare} (σ' .of)))))
  isplitl [H0 H1 H2 H3 H4 H5 H6 H7 H8 H9 S0 S1 S2 S3 S4 S5 S6 S7 S8]
  · iapply hp
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    iexact S8
  · iintro %_ ⟨%σ', %hσ, H0, H1, H2, H3, H4, H5, H6, H7, H8, H9, S0, S1, S2, S3, S4, S5, S6, S7, S8⟩
    iexists σ
    iexists σ'
    isplitr
    · ipureintro; exact ⟨⟨rfl, rfl, rfl⟩, hσ⟩
    isplitl [Hr S0 S1 S2 S3 S4 S5 S6 S7 S8]
    · isplitr [Hr]
      · isplitl [S0]
        · iexists _; iexact S0
        isplitl [S1]
        · iexists _; iexact S1
        isplitl [S2]
        · iexists _; iexact S2
        isplitl [S3]
        · iexists _; iexact S3
        isplitl [S4]
        · iexists _; iexact S4
        isplitl [S5]
        · iexists _; iexact S5
        isplitl [S6]
        · iexists _; iexact S6
        isplitl [S7]
        · iexists _; iexact S7
        iexists _; iexact S8
      · iexact Hr
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9

/-- The body table's row at point `t`'s slots is the body. -/
theorem defs₀_row (t : Fin cfg0.N) : defs₀ (F := F) .tc cfg0.body (cfg0.bodyArgs t (cfg0.slots t)) = bodyAt0 (F := F) t := by
  unfold defs₀; rw [Defs.onTc_tc]

end Cert.Kernel
-- ==== Proof.K.Frame.lean ====
module

public import proofs.«01_k».proof.Proof.K.Run

/-!
# The frame: the kernel runs, leaves its arguments alone and ends with every semaphore at zero
-/

@[expose] public section

set_option maxRecDepth 16384

noncomputable section

namespace Cert.Kernel

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- From any contents a grid point runs to its end and leaves the inputs as they are. -/
theorem point_keeps (c : Dev nD) (t : Fin cfg0.N) :
    Attn.Keeps Unit ℕ (UR sig nD τ) ℕ Attn.inputs (defs₀ (F := F)) Variants.none c Set.univ (pointRefs t) (point (pointRefs t)) := by
  refine Attn.body_keeps (Attn.Keeps.loop _ _ fun t => Attn.quantKV_keeps _ _ _ _ _ _ _ _ _ _ _)
    (fun _ _ => Attn.Keeps.loop _ _ fun t => Attn.quantQ_keeps _ _ _ _ _ _ _ _ _) (fun un i => ?_)
  fin_cases i <;> exact Attn.Keeps.loop _ _ fun t => Attn.step_keeps _ _ _ _ _ _ _ _ _ _ _ _

variable (m : (ℓ : Loc nD τ sig) → Buf (Elt F) ℓ) (ρ : Dev nD → PrngReg)

/-- The proof data of the one pipeline on core `c`: the inputs stay at their blocks, what is left in the results is
not named. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
    | ⟨7, _⟩ => Dat.unnamed (cfg := cfg0) 7 t
    | ⟨8, _⟩ => Dat.unnamed (cfg := cfg0) 8 t
    | ⟨9, _⟩ => Dat.unnamed (cfg := cfg0) 9 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d

/-- The windows whose contents are not followed: the results. -/
def forgot (w : Fin cfg0.W) : Bool := !decide (w.val < 3)

/-- The pipeline's obligation for the body, at every point. -/
theorem fbody (c : Dev nD) : BodyObligationLoose (fdats m 0 c) (defs₀ (F := F)) Variants.none () Set.univ forgot := fun t => by
  rw [bigSep_W0, bigSep_W0, defs₀_row]
  show iprop((fdats m 0 c).Φ t.castSucc ∗ (fdats m 0 c).owesAt () t.castSucc
      ∗ (∃ d, owns (c : Thread nD τ) (st0_0 t) fullShare ((fdats m 0 c).before 0 t d))
∗ (∃ d, owns (c : Thread nD τ) (st0_1 t) fullShare ((fdats m 0 c).before 1 t d))
∗ (∃ d, owns (c : Thread nD τ) (st0_2 t) fullShare ((fdats m 0 c).before 2 t d))
      ∗ (∃ X, owns (c : Thread nD τ) (st0_3 t) fullShare X)
∗ (∃ X, owns (c : Thread nD τ) (st0_4 t) fullShare X)
∗ (∃ X, owns (c : Thread nD τ) (st0_5 t) fullShare X)
∗ (∃ X, owns (c : Thread nD τ) (st0_6 t) fullShare X)
∗ (∃ X, owns (c : Thread nD τ) (st0_7 t) fullShare X)
∗ (∃ X, owns (c : Thread nD τ) (st0_8 t) fullShare X)
∗ (∃ X, owns (c : Thread nD τ) (st0_9 t) fullShare X))
    ⊢ wp frame (wpE (defs₀ (F := F)) Variants.none (c : Thread nD τ) none) Set.univ (bodyAt0 (F := F) t) (fun _ =>
      (iprop((fdats m 0 c).Φ t.succ ∗ (fdats m 0 c).owesAt () t.succ
      ∗ owns (c : Thread nD τ) (st0_0 t) fullShare ((fdats m 0 c).after 0 t)
∗ owns (c : Thread nD τ) (st0_1 t) fullShare ((fdats m 0 c).after 1 t)
∗ owns (c : Thread nD τ) (st0_2 t) fullShare ((fdats m 0 c).after 2 t)
      ∗ (∃ X, owns (c : Thread nD τ) (st0_3 t) fullShare X)
∗ (∃ X, owns (c : Thread nD τ) (st0_4 t) fullShare X)
∗ (∃ X, owns (c : Thread nD τ) (st0_5 t) fullShare X)
∗ (∃ X, owns (c : Thread nD τ) (st0_6 t) fullShare X)
∗ (∃ X, owns (c : Thread nD τ) (st0_7 t) fullShare X)
∗ (∃ X, owns (c : Thread nD τ) (st0_8 t) fullShare X)
∗ (∃ X, owns (c : Thread nD τ) (st0_9 t) fullShare X)) : sProp 𝕄))
  simp only [fbefore_0, fbefore_1, fbefore_2, fafter_0, fafter_1, fafter_2]
  rw [show (fdats m 0 c).Φ t.castSucc = Pipeline.ΦA spec0 c from rfl, show (fdats m 0 c).Φ t.succ = Pipeline.ΦA spec0 c from rfl,
    show (fdats m 0 c).owesAt () t.succ = (fdats m 0 c).owesAt () t.castSucc from rfl]
  iintro ⟨HΦ, Ho, ⟨%d0, H0⟩, ⟨%d1, H1⟩, ⟨%d2, H2⟩, H3, H4, H5, H6, H7, H8, H9⟩
  iapply (wp_wand_r frame (wpE (defs₀ (F := F)) Variants.none (c : Thread nD τ) none) Set.univ)
  isplitl [HΦ H0 H1 H2 H3 H4 H5 H6 H7 H8 H9]
  · iapply (point_run c t _ (point_keeps c t) (iblk m c 0 t) (iblk m c 1 t) (iblk m c 2 t))
    isplitl [HΦ]
    · iexact HΦ
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9
  · iintro %_ ⟨%σ, %σ', %hσ, HΦ, H0, H1, H2, H3, H4, H5, H6, H7, H8, H9⟩
    obtain ⟨⟨h0, h1, h2⟩, hk⟩ := hσ
    have k0 := hk .x rfl
    have k1 := hk .k rfl
    have k2 := hk .v rfl
    rw [← h0, ← h1, ← h2, ← k0, ← k1, ← k2]
    isplitl [HΦ]
    · iexact HΦ
    isplitl [Ho]
    · iexact Ho
    isplitl [H0]
    · iexact H0
    isplitl [H1]
    · iexact H1
    isplitl [H2]
    · iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    iexists _; iexact H9

set_option backward.isDefEq.respectTransparency.types false in
/-- From any memory with zero counters the kernel runs to an end, its three argument arrays unchanged and every
semaphore counter zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (fdats m) (0 : Fin 1) launch0 defs₀ Variants.none forgot m ρ main
    (hbody := fbody m) (hshare := fun c => (fdats m 0 c).share_full fun _ => rfl)
    (howed := fun _ _ => rfl) (V := V m) (hmain := hmain m Variants.none) (hA := fA_eq m) (hΦ := fun _ _ => rfl)
    (Q' := _) (hQ' := fun r h => ⟨fun c => ⟨(h.1.arr_in c 0 rfl).trans (fA_eq m c 0), (h.1.arr_in c 1 rfl).trans (fA_eq m c 1),
      (h.1.arr_in c 2 rfl).trans (fA_eq m c 2)⟩, h.2⟩)

end Cert.Kernel
-- ==== Proof.KI.Point.lean ====
module

public import proofs.«01_k».proof.Proof.Gen.KernelIdeal.Skeleton
public import proofs.«01_k».proof.Proof.Ops

/-!
# The program of one grid point, with the printed buffers, offsets and constants
-/

@[expose] public section

set_option maxRecDepth 65536
set_option maxHeartbeats 4000000

noncomputable section

namespace Cert.KernelIdeal

open Cert.KernelIdeal.Gen
open Idealize.ShloMosaic Idealize.SL.Sem

variable {F : FTy → Type} [FloatOps F] [Named F]

/-- The printed buffers, by name. -/
def refs (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) : Attn.Refs sig :=
  ⟨arg2, arg3, arg4, arg5, harg5, arg6, harg6, arg7, arg8, harg8, arg9, arg10, harg10, arg11, arg12, harg12, arg13, arg14, arg15, arg16, arg17, harg17, arg18, arg19, arg20⟩

/-- The eight heads' offsets in the block of queries `t`. -/
def offX (t : Fin k0_t2_loop.trips) (j : Fin 8) : Fin 3 → ℕ :=
  ![k0_off5 t, k0_off6 t, k0_off7 t, k0_off8 t, k0_off9 t, k0_off10 t, k0_off11 t, k0_off12 t] j

theorem offX_inb (t : Fin k0_t2_loop.trips) : ∀ j, ∀ a, offX t j a + Attn.S1x128x128.size a ≤ Attn.S1x2048x1024.size a := by
  decide +kernel +revert

theorem offX_packed (t : Fin k0_t2_loop.trips) : ∀ j,
    (Rect.unit (s := Attn.S1x2048x1024) (offX t j) Attn.S1x128x128.size (offX_inb t j)).PackedRows (EltTy.packing .fp8e4m3) := by
  decide +kernel +revert

/-- One block of keys and values. -/
def bodyKV (R : Attn.Refs sig) (t : Fin k0_t1_loop.trips) : Prog (TpuEff nD τ sig (Elt F) Λ₀ .tc) Unit :=
  Attn.quantKV R (k0_off1 t) (k0_off2 t) (k0_off3 t) (k0_off4 t) (k0_off1_inb t) (k0_off2_inb t) (k0_off3_inb t) (k0_off4_inb t)
    (k0_off1_packedfp8e4m3 t) (k0_off4_packedfp8e4m3 t)

/-- One block of queries. -/
def bodyQ (R : Attn.Refs sig) (t : Fin k0_t2_loop.trips) : Prog (TpuEff nD τ sig (Elt F) Λ₀ .tc) Unit :=
  Attn.quantQ R (Named.named κ "logit_scale" (φ := .f32) 0x3AE7B46A#32) (offX t) (k0_off13 t) (fun j => k0_off14 t (BitVec.ofNat 32 j.val))
    (offX_inb t) (k0_off13_inb t) (k0_off14_inb t) (offX_packed t)

/-- One step of the block of queries 0. -/
def body3 (R : Attn.Refs sig) (un : F .f32) (t : Fin k0_t3_loop.trips) : Prog (TpuEff nD τ sig (Elt F) Λ₀ .tc) Unit :=
  Attn.step R (Named.named κ "exp2_scale" (φ := .f32) 0x429044FE#32) un 0 (by decide) (k0_off15 t) (fun j => k0_off16 t (BitVec.ofNat 32 j.val))
    (fun j => k0_off17 t (BitVec.ofNat 32 j.val)) (k0_off15_inb t) (k0_off16_inb t) (k0_off17_inb t) (k0_off17_packedbf16 t)

/-- One step of the block of queries 1. -/
def body4 (R : Attn.Refs sig) (un : F .f32) (t : Fin k0_t4_loop.trips) : Prog (TpuEff nD τ sig (Elt F) Λ₀ .tc) Unit :=
  Attn.step R (Named.named κ "exp2_scale" (φ := .f32) 0x429044FE#32) un 1 (by decide) (k0_off18 t) (fun j => k0_off19 t (BitVec.ofNat 32 j.val))
    (fun j => k0_off20 t (BitVec.ofNat 32 j.val)) (k0_off18_inb t) (k0_off19_inb t) (k0_off20_inb t) (k0_off20_packedbf16 t)

/-- One step of the block of queries 2. -/
def body5 (R : Attn.Refs sig) (un : F .f32) (t : Fin k0_t5_loop.trips) : Prog (TpuEff nD τ sig (Elt F) Λ₀ .tc) Unit :=
  Attn.step R (Named.named κ "exp2_scale" (φ := .f32) 0x429044FE#32) un 2 (by decide) (k0_off21 t) (fun j => k0_off22 t (BitVec.ofNat 32 j.val))
    (fun j => k0_off23 t (BitVec.ofNat 32 j.val)) (k0_off21_inb t) (k0_off22_inb t) (k0_off23_inb t) (k0_off23_packedbf16 t)

/-- One step of the block of queries 3. -/
def body6 (R : Attn.Refs sig) (un : F .f32) (t : Fin k0_t6_loop.trips) : Prog (TpuEff nD τ sig (Elt F) Λ₀ .tc) Unit :=
  Attn.step R (Named.named κ "exp2_scale" (φ := .f32) 0x429044FE#32) un 3 (by decide) (k0_off24 t) (fun j => k0_off25 t (BitVec.ofNat 32 j.val))
    (fun j => k0_off26 t (BitVec.ofNat 32 j.val)) (k0_off24_inb t) (k0_off25_inb t) (k0_off26_inb t) (k0_off26_packedbf16 t)

/-- One step of the block of queries 4. -/
def body7 (R : Attn.Refs sig) (un : F .f32) (t : Fin k0_t7_loop.trips) : Prog (TpuEff nD τ sig (Elt F) Λ₀ .tc) Unit :=
  Attn.step R (Named.named κ "exp2_scale" (φ := .f32) 0x429044FE#32) un 4 (by decide) (k0_off27 t) (fun j => k0_off28 t (BitVec.ofNat 32 j.val))
    (fun j => k0_off29 t (BitVec.ofNat 32 j.val)) (k0_off27_inb t) (k0_off28_inb t) (k0_off29_inb t) (k0_off29_packedbf16 t)

/-- One step of the block of queries 5. -/
def body8 (R : Attn.Refs sig) (un : F .f32) (t : Fin k0_t8_loop.trips) : Prog (TpuEff nD τ sig (Elt F) Λ₀ .tc) Unit :=
  Attn.step R (Named.named κ "exp2_scale" (φ := .f32) 0x429044FE#32) un 5 (by decide) (k0_off30 t) (fun j => k0_off31 t (BitVec.ofNat 32 j.val))
    (fun j => k0_off32 t (BitVec.ofNat 32 j.val)) (k0_off30_inb t) (k0_off31_inb t) (k0_off32_inb t) (k0_off32_packedbf16 t)

/-- One step of the block of queries 6. -/
def body9 (R : Attn.Refs sig) (un : F .f32) (t : Fin k0_t9_loop.trips) : Prog (TpuEff nD τ sig (Elt F) Λ₀ .tc) Unit :=
  Attn.step R (Named.named κ "exp2_scale" (φ := .f32) 0x429044FE#32) un 6 (by decide) (k0_off33 t) (fun j => k0_off34 t (BitVec.ofNat 32 j.val))
    (fun j => k0_off35 t (BitVec.ofNat 32 j.val)) (k0_off33_inb t) (k0_off34_inb t) (k0_off35_inb t) (k0_off35_packedbf16 t)

/-- One step of the block of queries 7. -/
def body10 (R : Attn.Refs sig) (un : F .f32) (t : Fin k0_t10_loop.trips) : Prog (TpuEff nD τ sig (Elt F) Λ₀ .tc) Unit :=
  Attn.step R (Named.named κ "exp2_scale" (φ := .f32) 0x429044FE#32) un 7 (by decide) (k0_off36 t) (fun j => k0_off37 t (BitVec.ofNat 32 j.val))
    (fun j => k0_off38 t (BitVec.ofNat 32 j.val)) (k0_off36_inb t) (k0_off37_inb t) (k0_off38_inb t) (k0_off38_packedbf16 t)

/-- One step of the block of queries 8. -/
def body11 (R : Attn.Refs sig) (un : F .f32) (t : Fin k0_t11_loop.trips) : Prog (TpuEff nD τ sig (Elt F) Λ₀ .tc) Unit :=
  Attn.step R (Named.named κ "exp2_scale" (φ := .f32) 0x429044FE#32) un 8 (by decide) (k0_off39 t) (fun j => k0_off40 t (BitVec.ofNat 32 j.val))
    (fun j => k0_off41 t (BitVec.ofNat 32 j.val)) (k0_off39_inb t) (k0_off40_inb t) (k0_off41_inb t) (k0_off41_packedbf16 t)

/-- One step of the block of queries 9. -/
def body12 (R : Attn.Refs sig) (un : F .f32) (t : Fin k0_t12_loop.trips) : Prog (TpuEff nD τ sig (Elt F) Λ₀ .tc) Unit :=
  Attn.step R (Named.named κ "exp2_scale" (φ := .f32) 0x429044FE#32) un 9 (by decide) (k0_off42 t) (fun j => k0_off43 t (BitVec.ofNat 32 j.val))
    (fun j => k0_off44 t (BitVec.ofNat 32 j.val)) (k0_off42_inb t) (k0_off43_inb t) (k0_off44_inb t) (k0_off44_packedbf16 t)

/-- One step of the block of queries 10. -/
def body13 (R : Attn.Refs sig) (un : F .f32) (t : Fin k0_t13_loop.trips) : Prog (TpuEff nD τ sig (Elt F) Λ₀ .tc) Unit :=
  Attn.step R (Named.named κ "exp2_scale" (φ := .f32) 0x429044FE#32) un 10 (by decide) (k0_off45 t) (fun j => k0_off46 t (BitVec.ofNat 32 j.val))
    (fun j => k0_off47 t (BitVec.ofNat 32 j.val)) (k0_off45_inb t) (k0_off46_inb t) (k0_off47_inb t) (k0_off47_packedbf16 t)

/-- One step of the block of queries 11. -/
def body14 (R : Attn.Refs sig) (un : F .f32) (t : Fin k0_t14_loop.trips) : Prog (TpuEff nD τ sig (Elt F) Λ₀ .tc) Unit :=
  Attn.step R (Named.named κ "exp2_scale" (φ := .f32) 0x429044FE#32) un 11 (by decide) (k0_off48 t) (fun j => k0_off49 t (BitVec.ofNat 32 j.val))
    (fun j => k0_off50 t (BitVec.ofNat 32 j.val)) (k0_off48_inb t) (k0_off49_inb t) (k0_off50_inb t) (k0_off50_packedbf16 t)

/-- One step of the block of queries 12. -/
def body15 (R : Attn.Refs sig) (un : F .f32) (t : Fin k0_t15_loop.trips) : Prog (TpuEff nD τ sig (Elt F) Λ₀ .tc) Unit :=
  Attn.step R (Named.named κ "exp2_scale" (φ := .f32) 0x429044FE#32) un 12 (by decide) (k0_off51 t) (fun j => k0_off52 t (BitVec.ofNat 32 j.val))
    (fun j => k0_off53 t (BitVec.ofNat 32 j.val)) (k0_off51_inb t) (k0_off52_inb t) (k0_off53_inb t) (k0_off53_packedbf16 t)

/-- One step of the block of queries 13. -/
def body16 (R : Attn.Refs sig) (un : F .f32) (t : Fin k0_t16_loop.trips) : Prog (TpuEff nD τ sig (Elt F) Λ₀ .tc) Unit :=
  Attn.step R (Named.named κ "exp2_scale" (φ := .f32) 0x429044FE#32) un 13 (by decide) (k0_off54 t) (fun j => k0_off55 t (BitVec.ofNat 32 j.val))
    (fun j => k0_off56 t (BitVec.ofNat 32 j.val)) (k0_off54_inb t) (k0_off55_inb t) (k0_off56_inb t) (k0_off56_packedbf16 t)

/-- One step of the block of queries 14. -/
def body17 (R : Attn.Refs sig) (un : F .f32) (t : Fin k0_t17_loop.trips) : Prog (TpuEff nD τ sig (Elt F) Λ₀ .tc) Unit :=
  Attn.step R (Named.named κ "exp2_scale" (φ := .f32) 0x429044FE#32) un 14 (by decide) (k0_off57 t) (fun j => k0_off58 t (BitVec.ofNat 32 j.val))
    (fun j => k0_off59 t (BitVec.ofNat 32 j.val)) (k0_off57_inb t) (k0_off58_inb t) (k0_off59_inb t) (k0_off59_packedbf16 t)

/-- One step of the block of queries 15. -/
def body18 (R : Attn.Refs sig) (un : F .f32) (t : Fin k0_t18_loop.trips) : Prog (TpuEff nD τ sig (Elt F) Λ₀ .tc) Unit :=
  Attn.step R (Named.named κ "exp2_scale" (φ := .f32) 0x429044FE#32) un 15 (by decide) (k0_off60 t) (fun j => k0_off61 t (BitVec.ofNat 32 j.val))
    (fun j => k0_off62 t (BitVec.ofNat 32 j.val)) (k0_off60_inb t) (k0_off61_inb t) (k0_off62_inb t) (k0_off62_packedbf16 t)

/-- The steps of every block of queries. -/
def loops (R : Attn.Refs sig) (un : F .f32) : Fin 16 → Prog (TpuEff nD τ sig (Elt F) Λ₀ .tc) Unit :=
  ![Scf.Loop.for k0_t3_loop k0_t3_ok ⟨⟩ fun t _ => body3 R un t,
    Scf.Loop.for k0_t4_loop k0_t4_ok ⟨⟩ fun t _ => body4 R un t,
    Scf.Loop.for k0_t5_loop k0_t5_ok ⟨⟩ fun t _ => body5 R un t,
    Scf.Loop.for k0_t6_loop k0_t6_ok ⟨⟩ fun t _ => body6 R un t,
    Scf.Loop.for k0_t7_loop k0_t7_ok ⟨⟩ fun t _ => body7 R un t,
    Scf.Loop.for k0_t8_loop k0_t8_ok ⟨⟩ fun t _ => body8 R un t,
    Scf.Loop.for k0_t9_loop k0_t9_ok ⟨⟩ fun t _ => body9 R un t,
    Scf.Loop.for k0_t10_loop k0_t10_ok ⟨⟩ fun t _ => body10 R un t,
    Scf.Loop.for k0_t11_loop k0_t11_ok ⟨⟩ fun t _ => body11 R un t,
    Scf.Loop.for k0_t12_loop k0_t12_ok ⟨⟩ fun t _ => body12 R un t,
    Scf.Loop.for k0_t13_loop k0_t13_ok ⟨⟩ fun t _ => body13 R un t,
    Scf.Loop.for k0_t14_loop k0_t14_ok ⟨⟩ fun t _ => body14 R un t,
    Scf.Loop.for k0_t15_loop k0_t15_ok ⟨⟩ fun t _ => body15 R un t,
    Scf.Loop.for k0_t16_loop k0_t16_ok ⟨⟩ fun t _ => body16 R un t,
    Scf.Loop.for k0_t17_loop k0_t17_ok ⟨⟩ fun t _ => body17 R un t,
    Scf.Loop.for k0_t18_loop k0_t18_ok ⟨⟩ fun t _ => body18 R un t]

/-- The program of one grid point. -/
def point (R : Attn.Refs sig) : Prog (TpuEff nD τ sig (Elt F) Λ₀ .tc) Unit :=
  Attn.body R (Scf.Loop.for k0_t1_loop k0_t1_ok ⟨⟩ fun t _ => bodyKV R t)
    (fun _ _ => Scf.Loop.for k0_t2_loop k0_t2_ok ⟨⟩ fun t _ => bodyQ R t) (loops R)

end Cert.KernelIdeal
-- ==== Proof.KI.Outside.lean ====
module

public import proofs.«01_k».proof.Proof.KI.Point

/-!
# The printed body outside its loops

By unfolding; and the two loops that quantise.
-/

@[expose] public section

set_option maxRecDepth 65536
set_option maxHeartbeats 4000000

noncomputable section

namespace Cert.KernelIdeal

open Cert.KernelIdeal.Gen
open Idealize.ShloMosaic Idealize.SL.Sem

variable {F : FTy → Type} [FloatOps F] [Named F]

theorem bodyKV_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (t : Fin k0_t1_loop.trips) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 t ⟨⟩ = bodyKV (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t := rfl

theorem bodyQ_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (v6 : F .f32) (v79 : FVec F S2048x128 .f32) (t : Fin k0_t2_loop.trips) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79 t ⟨⟩ = bodyQ (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t := rfl

/-- The body, with its loops as printed. -/
theorem outside_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) :
    cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 =
      Attn.body (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20))
        (fun v6 v79 => Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79))
        (fun un => ![Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t4_loop k0_t4_ok ⟨⟩ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t5_loop k0_t5_ok ⟨⟩ (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t6_loop k0_t6_ok ⟨⟩ (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t7_loop k0_t7_ok ⟨⟩ (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t8_loop k0_t8_ok ⟨⟩ (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t9_loop k0_t9_ok ⟨⟩ (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t10_loop k0_t10_ok ⟨⟩ (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (broadcast S128x256 (Scalar.ofBits .f32 0x00000000#32))),
    Scf.Loop.for k0_t11_loop k0_t11_ok ⟨⟩ (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t12_loop k0_t12_ok ⟨⟩ (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t13_loop k0_t13_ok ⟨⟩ (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t14_loop k0_t14_ok ⟨⟩ (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t15_loop k0_t15_ok ⟨⟩ (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un 0#32),
    Scf.Loop.for k0_t16_loop k0_t16_ok ⟨⟩ (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (Scalar.ofBits .f32 0x00000000#32)),
    Scf.Loop.for k0_t17_loop k0_t17_ok ⟨⟩ (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (Scalar.ofBits .f32 0x00000000#32)),
    Scf.Loop.for k0_t18_loop k0_t18_ok ⟨⟩ (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un (Scalar.ofBits .f32 0x00000000#32))]) := by
  rw [cc0_attn_eq_skeleton]
  unfold cc0_attn_skel
  simp only [k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton]
  simp only [k0_part247_skel, k0_part248_skel, k0_part249_skel, k0_part250_skel, k0_part251_skel, k0_part252_skel, k0_part253_skel, k0_part254_skel, k0_part255_skel, k0_part256_skel, k0_part257_skel, k0_part258_skel, bind_assoc, pure_bind]
  simp only [Attn.body, Attn.outer, bind_assoc, pure_bind]
  rfl

end Cert.KernelIdeal
-- ==== Proof.KI.Body0.lean ====
module

public import proofs.«01_k».proof.Proof.KI.Point

/-!
# The printed steps of some blocks of queries, by unfolding
-/

@[expose] public section

set_option maxRecDepth 65536
set_option maxHeartbeats 4000000

noncomputable section

namespace Cert.KernelIdeal

open Cert.KernelIdeal.Gen
open Idealize.ShloMosaic Idealize.SL.Sem

variable {F : FTy → Type} [FloatOps F] [Named F]

theorem body18_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : F .f32) (t : Fin k0_t18_loop.trips) :
    k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body18 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.KernelIdeal
-- ==== Proof.KI.Body1.lean ====
module

public import proofs.«01_k».proof.Proof.KI.Point

/-!
# The printed steps of some blocks of queries, by unfolding
-/

@[expose] public section

set_option maxRecDepth 65536
set_option maxHeartbeats 4000000

noncomputable section

namespace Cert.KernelIdeal

open Cert.KernelIdeal.Gen
open Idealize.ShloMosaic Idealize.SL.Sem

variable {F : FTy → Type} [FloatOps F] [Named F]

theorem body17_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : F .f32) (t : Fin k0_t17_loop.trips) :
    k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body17 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.KernelIdeal
-- ==== Proof.KI.Body2.lean ====
module

public import proofs.«01_k».proof.Proof.KI.Point

/-!
# The printed steps of some blocks of queries, by unfolding
-/

@[expose] public section

set_option maxRecDepth 65536
set_option maxHeartbeats 4000000

noncomputable section

namespace Cert.KernelIdeal

open Cert.KernelIdeal.Gen
open Idealize.ShloMosaic Idealize.SL.Sem

variable {F : FTy → Type} [FloatOps F] [Named F]

theorem body16_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : F .f32) (t : Fin k0_t16_loop.trips) :
    k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body16 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body15_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t15_loop.trips) :
    k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body15 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.KernelIdeal
-- ==== Proof.KI.Body3.lean ====
module

public import proofs.«01_k».proof.Proof.KI.Point

/-!
# The printed steps of some blocks of queries, by unfolding
-/

@[expose] public section

set_option maxRecDepth 65536
set_option maxHeartbeats 4000000

noncomputable section

namespace Cert.KernelIdeal

open Cert.KernelIdeal.Gen
open Idealize.ShloMosaic Idealize.SL.Sem

variable {F : FTy → Type} [FloatOps F] [Named F]

theorem body3_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t3_loop.trips) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body3 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body4_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t4_loop.trips) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body4 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body5_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t5_loop.trips) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body5 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body6_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t6_loop.trips) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body6 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body7_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t7_loop.trips) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body7 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body8_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t8_loop.trips) :
    k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body8 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body9_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t9_loop.trips) :
    k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body9 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body10_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : FVec F S128x256 .f32) (t : Fin k0_t10_loop.trips) :
    k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body10 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body11_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t11_loop.trips) :
    k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body11 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body12_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t12_loop.trips) :
    k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body12 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body13_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t13_loop.trips) :
    k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body13 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

theorem body14_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) (un : F .f32) (v106 : BitVec 32) (t : Fin k0_t14_loop.trips) :
    k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un v106 t ⟨⟩ = body14 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t := rfl

end Cert.KernelIdeal
-- ==== Proof.KI.Eq.lean ====
module

public import proofs.«01_k».proof.Proof.KI.Outside
public import proofs.«01_k».proof.Proof.KI.Body0
public import proofs.«01_k».proof.Proof.KI.Body1
public import proofs.«01_k».proof.Proof.KI.Body2
public import proofs.«01_k».proof.Proof.KI.Body3

/-!
# The printed body is the program of one grid point

Every loop is replaced by its program.
-/

@[expose] public section

set_option maxRecDepth 65536
set_option maxHeartbeats 4000000

noncomputable section

namespace Cert.KernelIdeal

open Cert.KernelIdeal.Gen
open Idealize.ShloMosaic Idealize.SL.Sem

variable {F : FTy → Type} [FloatOps F] [Named F]

/-- The printed body is the program of one grid point. -/
theorem body_eq (i : grid0.Coords) (arg2 : Memref sig .tc .vmem S1x2048x1024 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x1024 .bf16) (harg5 : arg5.IsWhole) (arg6 : Memref sig .tc .vmem S1x2048x1024 .fp8e4m3) (harg6 : arg6.IsWhole) (arg7 : Memref sig .tc .vmem S1x1x8x2048 .f32) (harg7 : arg7.IsWhole) (arg8 : Memref sig .tc .vmem S1x2048x128 .fp8e4m3) (harg8 : arg8.IsWhole) (arg9 : Memref sig .tc .vmem S1x1x1x2048 .f32) (harg9 : arg9.IsWhole) (arg10 : Memref sig .tc .vmem S1x2048x128 .fp8e4m3) (harg10 : arg10.IsWhole) (arg11 : Memref sig .tc .vmem S1x1x1x2048 .f32) (harg11 : arg11.IsWhole) (arg12 : Memref sig .tc .vmem S128x2048 .fp8e4m3) (harg12 : arg12.IsWhole) (arg13 : Memref sig .tc .vmem S2048x128 .f32) (harg13 : arg13.IsWhole) (arg14 : Memref sig .tc .vmem S2048x128 .f32) (harg14 : arg14.IsWhole) (arg15 : Memref sig .tc .vmem S2048x256 .f32) (harg15 : arg15.IsWhole) (arg16 : Memref sig .tc .vmem S2048x256 .f32) (harg16 : arg16.IsWhole) (arg17 : Memref sig .tc .vmem S2048x256 .fp8e4m3) (harg17 : arg17.IsWhole) (arg18 : Memref sig .tc .vmem S64x1x256 .f32) (harg18 : arg18.IsWhole) (arg19 : Memref sig .tc .vmem S1x256 .f32) (harg19 : arg19.IsWhole) (arg20 : Memref sig .tc .vmem S1x256 .f32) (harg20 : arg20.IsWhole) : cc0_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = point (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  have e1 : k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = fun t _ => bodyKV (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t :=
    funext fun t => funext fun _ => bodyKV_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 t
  have e2 : ∀ v6 v79, k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79 = fun t _ => bodyQ (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) t :=
    fun v6 v79 => funext fun t => funext fun _ => bodyQ_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v79 t
  rw [outside_eq]
  unfold point
  refine congr (congr (congrArg (Attn.body (F := F) (Λ := Λ₀) (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)) (congrArg (Scf.Loop.for k0_t1_loop k0_t1_ok PUnit.unit) e1))
    (funext fun v6 => funext fun v79 => congrArg (Scf.Loop.for k0_t2_loop k0_t2_ok PUnit.unit) (e2 v6 v79))) (funext fun un => ?_)
  unfold loops
  rw [show (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body3 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body3_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body4 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body4_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body5 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body5_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body6 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body6_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body7 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body7_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body8 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body8_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body9 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body9_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body10 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body10_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body11 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body11_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body12 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body12_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body13 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body13_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t14_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body14 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body14_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t15_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body15 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body15_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t16_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body16 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body16_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body17 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body17_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]
  rw [show (k0_t18_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _) = fun t _ => body18 (refs arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) un t from funext fun t => funext fun _ => body18_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 un _ t]

end Cert.KernelIdeal
-- ==== Proof.KI.Run.lean ====
module

public import proofs.«01_k».proof.Proof.KI.Eq
public import proofs.«01_k».proof.Proof.Keeps
public import proofs.«01_k».proof.Proof.Gen.KernelIdeal.Frame

/-!
# One grid point, run by the pipeline

The pipeline's staging buffers and the scratch buffers are the program's nineteen buffers.
-/

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The buffers of point `t`. -/
@[reducible] def pointRefs (t : Fin cfg0.N) : Attn.Refs sig :=
  refs (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

theorem bodyAt_eq (t : Fin cfg0.N) : bodyAt0 (F := F) t = point (pointRefs t) := body_eq _ _ _ _ _ _ _ _ _ _ _ _ _ _ _ _ _ _ _ _ _ _ _ _ _ _ _ _ _ _ _ _ _ _ _ _ _ _ _

/-- What a grid point's program does, of the contents of its buffers. -/
abbrev PointDoes (c : Dev nD) (t : Fin cfg0.N) {α : Type} (p : Prog (TpuEff nD τ sig (Elt F) Λ₀ .tc) α) (σ : Attn.State F)
    (Q : α → Attn.State F → Prop) : Prop :=
  Attn.Does (Ix := Unit) (Name := ℕ) (U := UR sig nD τ) (Lvl := ℕ) defs₀ Variants.none c Set.univ (pointRefs t) p σ Q

/-- The buffers of a point one by one, the scratch buffers whole. -/
theorem Own_point (c : Dev nD) (t : Fin cfg0.N) (σ : Attn.State F) : (Attn.Own c (pointRefs t) σ : sProp 𝕄) = iprop(owns (c : Thread nD τ) (st0_0 t) fullShare (σ .x) ∗ owns (c : Thread nD τ) (st0_1 t) fullShare (σ .k) ∗ owns (c : Thread nD τ) (st0_2 t) fullShare (σ .v) ∗ owns (c : Thread nD τ) (st0_3 t) fullShare (σ .o) ∗ owns (c : Thread nD τ) (st0_4 t) fullShare (σ .qc) ∗ owns (c : Thread nD τ) (st0_5 t) fullShare (σ .qs) ∗ owns (c : Thread nD τ) (st0_6 t) fullShare (σ .kc) ∗ owns (c : Thread nD τ) (st0_7 t) fullShare (σ .ks) ∗ owns (c : Thread nD τ) (st0_8 t) fullShare (σ .vc) ∗ owns (c : Thread nD τ) (st0_9 t) fullShare (σ .vs) ∗ (((c : Thread nD τ).loc cc0_scratch0) ↦{fullShare} (σ .vt)) ∗ (((c : Thread nD τ).loc cc0_scratch1) ↦{fullShare} (σ .ksb)) ∗ (((c : Thread nD τ).loc cc0_scratch2) ↦{fullShare} (σ .vsb)) ∗ (((c : Thread nD τ).loc cc0_scratch3) ↦{fullShare} (σ .s)) ∗ (((c : Thread nD τ).loc cc0_scratch4) ↦{fullShare} (σ .w)) ∗ (((c : Thread nD τ).loc cc0_scratch5) ↦{fullShare} (σ .wc)) ∗ (((c : Thread nD τ).loc cc0_scratch6) ↦{fullShare} (σ .qrow)) ∗ (((c : Thread nD τ).loc cc0_scratch7) ↦{fullShare} (σ .f)) ∗ (((c : Thread nD τ).loc cc0_scratch8) ↦{fullShare} (σ .of))) := by
  rw [Attn.Own_eq, ← owns_whole (c : Thread nD τ) cc0_scratch0 fullShare (σ .vt), ← owns_whole (c : Thread nD τ) cc0_scratch1 fullShare (σ .ksb), ← owns_whole (c : Thread nD τ) cc0_scratch2 fullShare (σ .vsb), ← owns_whole (c : Thread nD τ) cc0_scratch3 fullShare (σ .s), ← owns_whole (c : Thread nD τ) cc0_scratch4 fullShare (σ .w), ← owns_whole (c : Thread nD τ) cc0_scratch5 fullShare (σ .wc), ← owns_whole (c : Thread nD τ) cc0_scratch6 fullShare (σ .qrow), ← owns_whole (c : Thread nD τ) cc0_scratch7 fullShare (σ .f), ← owns_whole (c : Thread nD τ) cc0_scratch8 fullShare (σ .of)]
  rfl

/-- A grid point as the pipeline runs it, from what its program does to the buffers' contents. -/
theorem point_run (c : Dev nD) (t : Fin cfg0.N) (Post : Attn.State F → Attn.State F → Prop)
    (h : ∀ σ, PointDoes c t (point (pointRefs t)) σ (fun _ σ' => Post σ σ'))
    (X0 : Attn.S1x2048x1024.Idx → Elt F .bf16) (X1 X2 : Attn.S1x2048x128.Idx → Elt F .bf16) :
    iprop(Pipeline.ΦA spec0 c ∗ owns (c : Thread nD τ) (st0_0 t) fullShare X0 ∗ owns (c : Thread nD τ) (st0_1 t) fullShare X1 ∗ owns (c : Thread nD τ) (st0_2 t) fullShare X2 ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X) ∗ (∃ X, owns (c : Thread nD τ) (st0_8 t) fullShare X) ∗ (∃ X, owns (c : Thread nD τ) (st0_9 t) fullShare X))
      ⊢ wp frame (wpE (defs₀ (F := F)) Variants.none (c : Thread nD τ) none) Set.univ (bodyAt0 (F := F) t) (fun _ => (iprop(∃ σ σ', ⌜(σ .x = X0 ∧ σ .k = X1 ∧ σ .v = X2) ∧ Post σ σ'⌝
        ∗ Pipeline.ΦA spec0 c ∗ owns (c : Thread nD τ) (st0_0 t) fullShare (σ' .x) ∗ owns (c : Thread nD τ) (st0_1 t) fullShare (σ' .k) ∗ owns (c : Thread nD τ) (st0_2 t) fullShare (σ' .v) ∗ owns (c : Thread nD τ) (st0_3 t) fullShare (σ' .o) ∗ owns (c : Thread nD τ) (st0_4 t) fullShare (σ' .qc) ∗ owns (c : Thread nD τ) (st0_5 t) fullShare (σ' .qs) ∗ owns (c : Thread nD τ) (st0_6 t) fullShare (σ' .kc) ∗ owns (c : Thread nD τ) (st0_7 t) fullShare (σ' .ks) ∗ owns (c : Thread nD τ) (st0_8 t) fullShare (σ' .vc) ∗ owns (c : Thread nD τ) (st0_9 t) fullShare (σ' .vs)) : sProp 𝕄)) := by
  rw [bodyAt_eq]
  unfold Pipeline.ΦA
  rw [scopedRest0_eq]
  iintro ⟨⟨HS, Hr⟩, H0, H1, H2, ⟨%X3, H3⟩, ⟨%X4, H4⟩, ⟨%X5, H5⟩, ⟨%X6, H6⟩, ⟨%X7, H7⟩, ⟨%X8, H8⟩, ⟨%X9, H9⟩⟩
  icases HS with ⟨⟨%g0, S0⟩, ⟨%g1, S1⟩, ⟨%g2, S2⟩, ⟨%g3, S3⟩, ⟨%g4, S4⟩, ⟨%g5, S5⟩, ⟨%g6, S6⟩, ⟨%g7, S7⟩, ⟨%g8, S8⟩⟩
  let σ : Attn.State F := fun b => match b with
    | .x => X0 | .k => X1 | .v => X2 | .o => X3 | .qc => X4 | .qs => X5 | .kc => X6 | .ks => X7 | .vc => X8 | .vs => X9
    | .vt => g0 | .ksb => g1 | .vsb => g2 | .s => g3 | .w => g4 | .wc => g5 | .qrow => g6 | .f => g7 | .of => g8
  have hp := h σ
  unfold PointDoes Attn.Does at hp
  simp only [Own_point] at hp
  iapply (wp_wand_r frame (wpE (defs₀ (F := F)) Variants.none (c : Thread nD τ) none) Set.univ (p := point (pointRefs t))
    (Q := fun _ => iprop(∃ σ', ⌜Post σ σ'⌝ ∗ owns (c : Thread nD τ) (st0_0 t) fullShare (σ' .x) ∗ owns (c : Thread nD τ) (st0_1 t) fullShare (σ' .k) ∗ owns (c : Thread nD τ) (st0_2 t) fullShare (σ' .v) ∗ owns (c : Thread nD τ) (st0_3 t) fullShare (σ' .o) ∗ owns (c : Thread nD τ) (st0_4 t) fullShare (σ' .qc) ∗ owns (c : Thread nD τ) (st0_5 t) fullShare (σ' .qs) ∗ owns (c : Thread nD τ) (st0_6 t) fullShare (σ' .kc) ∗ owns (c : Thread nD τ) (st0_7 t) fullShare (σ' .ks) ∗ owns (c : Thread nD τ) (st0_8 t) fullShare (σ' .vc) ∗ owns (c : Thread nD τ) (st0_9 t) fullShare (σ' .vs) ∗ (((c : Thread nD τ).loc cc0_scratch0) ↦{fullShare} (σ' .vt)) ∗ (((c : Thread nD τ).loc cc0_scratch1) ↦{fullShare} (σ' .ksb)) ∗ (((c : Thread nD τ).loc cc0_scratch2) ↦{fullShare} (σ' .vsb)) ∗ (((c : Thread nD τ).loc cc0_scratch3) ↦{fullShare} (σ' .s)) ∗ (((c : Thread nD τ).loc cc0_scratch4) ↦{fullShare} (σ' .w)) ∗ (((c : Thread nD τ).loc cc0_scratch5) ↦{fullShare} (σ' .wc)) ∗ (((c : Thread nD τ).loc cc0_scratch6) ↦{fullShare} (σ' .qrow)) ∗ (((c : Thread nD τ).loc cc0_scratch7) ↦{fullShare} (σ' .f)) ∗ (((c : Thread nD τ).loc cc0_scratch8) ↦{fullShare} (σ' .of)))))
  isplitl [H0 H1 H2 H3 H4 H5 H6 H7 H8 H9 S0 S1 S2 S3 S4 S5 S6 S7 S8]
  · iapply hp
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    iexact S8
  · iintro %_ ⟨%σ', %hσ, H0, H1, H2, H3, H4, H5, H6, H7, H8, H9, S0, S1, S2, S3, S4, S5, S6, S7, S8⟩
    iexists σ
    iexists σ'
    isplitr
    · ipureintro; exact ⟨⟨rfl, rfl, rfl⟩, hσ⟩
    isplitl [Hr S0 S1 S2 S3 S4 S5 S6 S7 S8]
    · isplitr [Hr]
      · isplitl [S0]
        · iexists _; iexact S0
        isplitl [S1]
        · iexists _; iexact S1
        isplitl [S2]
        · iexists _; iexact S2
        isplitl [S3]
        · iexists _; iexact S3
        isplitl [S4]
        · iexists _; iexact S4
        isplitl [S5]
        · iexists _; iexact S5
        isplitl [S6]
        · iexists _; iexact S6
        isplitl [S7]
        · iexists _; iexact S7
        iexists _; iexact S8
      · iexact Hr
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9

/-- The body table's row at point `t`'s slots is the body. -/
theorem defs₀_row (t : Fin cfg0.N) : defs₀ (F := F) .tc cfg0.body (cfg0.bodyArgs t (cfg0.slots t)) = bodyAt0 (F := F) t := by
  unfold defs₀; rw [Defs.onTc_tc]

end Cert.KernelIdeal
-- ==== Proof.KI.Frame.lean ====
module

public import proofs.«01_k».proof.Proof.KI.Run

/-!
# The frame: the kernel runs, leaves its arguments alone and ends with every semaphore at zero
-/

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

/-- From any contents a grid point runs to its end and leaves the inputs as they are. -/
theorem point_keeps (c : Dev nD) (t : Fin cfg0.N) :
    Attn.Keeps Unit ℕ (UR sig nD τ) ℕ Attn.inputs (defs₀ (F := F)) Variants.none c Set.univ (pointRefs t) (point (pointRefs t)) := by
  refine Attn.body_keeps (Attn.Keeps.loop _ _ fun t => Attn.quantKV_keeps _ _ _ _ _ _ _ _ _ _ _)
    (fun _ _ => Attn.Keeps.loop _ _ fun t => Attn.quantQ_keeps _ _ _ _ _ _ _ _ _) (fun un i => ?_)
  fin_cases i <;> exact Attn.Keeps.loop _ _ fun t => Attn.step_keeps _ _ _ _ _ _ _ _ _ _ _ _

variable (m : (ℓ : Loc nD τ sig) → Buf (Elt F) ℓ) (ρ : Dev nD → PrngReg)

/-- The proof data of the one pipeline on core `c`: the inputs stay at their blocks, what is left in the results is
not named. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
    | ⟨4, _⟩ => Dat.unnamed (cfg := cfg0) 4 t
    | ⟨5, _⟩ => Dat.unnamed (cfg := cfg0) 5 t
    | ⟨6, _⟩ => Dat.unnamed (cfg := cfg0) 6 t
    | ⟨7, _⟩ => Dat.unnamed (cfg := cfg0) 7 t
    | ⟨8, _⟩ => Dat.unnamed (cfg := cfg0) 8 t
    | ⟨9, _⟩ => Dat.unnamed (cfg := cfg0) 9 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fafter_0 (c : Dev nD) (t : Fin cfg0.N) : (fdats m 0 c).after 0 t = iblk m c 0 t := by dsimp only [fdats]
theorem fafter_1 (c : Dev nD) (t : Fin cfg0.N) : (fdats m 0 c).after 1 t = iblk m c 1 t := by dsimp only [fdats]
theorem fafter_2 (c : Dev nD) (t : Fin cfg0.N) : (fdats m 0 c).after 2 t = iblk m c 2 t := by dsimp only [fdats]

theorem fbefore_0 (c : Dev nD) (t : Fin cfg0.N) (d) : (fdats m 0 c).before 0 t d = iblk m c 0 t :=
  before0_0_of m (fdats m 0 c) (fA_eq m c 0) (fafter_0 m c) t d
theorem fbefore_1 (c : Dev nD) (t : Fin cfg0.N) (d) : (fdats m 0 c).before 1 t d = iblk m c 1 t :=
  before0_1_of m (fdats m 0 c) (fA_eq m c 1) (fafter_1 m c) t d
theorem fbefore_2 (c : Dev nD) (t : Fin cfg0.N) (d) : (fdats m 0 c).before 2 t d = iblk m c 2 t :=
  before0_2_of m (fdats m 0 c) (fA_eq m c 2) (fafter_2 m c) t d

/-- The windows whose contents are not followed: the results. -/
def forgot (w : Fin cfg0.W) : Bool := !decide (w.val < 3)

/-- The pipeline's obligation for the body, at every point. -/
theorem fbody (c : Dev nD) : BodyObligationLoose (fdats m 0 c) (defs₀ (F := F)) Variants.none () Set.univ forgot := fun t => by
  rw [bigSep_W0, bigSep_W0, defs₀_row]
  show iprop((fdats m 0 c).Φ t.castSucc ∗ (fdats m 0 c).owesAt () t.castSucc
      ∗ (∃ d, owns (c : Thread nD τ) (st0_0 t) fullShare ((fdats m 0 c).before 0 t d))
∗ (∃ d, owns (c : Thread nD τ) (st0_1 t) fullShare ((fdats m 0 c).before 1 t d))
∗ (∃ d, owns (c : Thread nD τ) (st0_2 t) fullShare ((fdats m 0 c).before 2 t d))
      ∗ (∃ X, owns (c : Thread nD τ) (st0_3 t) fullShare X)
∗ (∃ X, owns (c : Thread nD τ) (st0_4 t) fullShare X)
∗ (∃ X, owns (c : Thread nD τ) (st0_5 t) fullShare X)
∗ (∃ X, owns (c : Thread nD τ) (st0_6 t) fullShare X)
∗ (∃ X, owns (c : Thread nD τ) (st0_7 t) fullShare X)
∗ (∃ X, owns (c : Thread nD τ) (st0_8 t) fullShare X)
∗ (∃ X, owns (c : Thread nD τ) (st0_9 t) fullShare X))
    ⊢ wp frame (wpE (defs₀ (F := F)) Variants.none (c : Thread nD τ) none) Set.univ (bodyAt0 (F := F) t) (fun _ =>
      (iprop((fdats m 0 c).Φ t.succ ∗ (fdats m 0 c).owesAt () t.succ
      ∗ owns (c : Thread nD τ) (st0_0 t) fullShare ((fdats m 0 c).after 0 t)
∗ owns (c : Thread nD τ) (st0_1 t) fullShare ((fdats m 0 c).after 1 t)
∗ owns (c : Thread nD τ) (st0_2 t) fullShare ((fdats m 0 c).after 2 t)
      ∗ (∃ X, owns (c : Thread nD τ) (st0_3 t) fullShare X)
∗ (∃ X, owns (c : Thread nD τ) (st0_4 t) fullShare X)
∗ (∃ X, owns (c : Thread nD τ) (st0_5 t) fullShare X)
∗ (∃ X, owns (c : Thread nD τ) (st0_6 t) fullShare X)
∗ (∃ X, owns (c : Thread nD τ) (st0_7 t) fullShare X)
∗ (∃ X, owns (c : Thread nD τ) (st0_8 t) fullShare X)
∗ (∃ X, owns (c : Thread nD τ) (st0_9 t) fullShare X)) : sProp 𝕄))
  simp only [fbefore_0, fbefore_1, fbefore_2, fafter_0, fafter_1, fafter_2]
  rw [show (fdats m 0 c).Φ t.castSucc = Pipeline.ΦA spec0 c from rfl, show (fdats m 0 c).Φ t.succ = Pipeline.ΦA spec0 c from rfl,
    show (fdats m 0 c).owesAt () t.succ = (fdats m 0 c).owesAt () t.castSucc from rfl]
  iintro ⟨HΦ, Ho, ⟨%d0, H0⟩, ⟨%d1, H1⟩, ⟨%d2, H2⟩, H3, H4, H5, H6, H7, H8, H9⟩
  iapply (wp_wand_r frame (wpE (defs₀ (F := F)) Variants.none (c : Thread nD τ) none) Set.univ)
  isplitl [HΦ H0 H1 H2 H3 H4 H5 H6 H7 H8 H9]
  · iapply (point_run c t _ (point_keeps c t) (iblk m c 0 t) (iblk m c 1 t) (iblk m c 2 t))
    isplitl [HΦ]
    · iexact HΦ
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9
  · iintro %_ ⟨%σ, %σ', %hσ, HΦ, H0, H1, H2, H3, H4, H5, H6, H7, H8, H9⟩
    obtain ⟨⟨h0, h1, h2⟩, hk⟩ := hσ
    have k0 := hk .x rfl
    have k1 := hk .k rfl
    have k2 := hk .v rfl
    rw [← h0, ← h1, ← h2, ← k0, ← k1, ← k2]
    isplitl [HΦ]
    · iexact HΦ
    isplitl [Ho]
    · iexact Ho
    isplitl [H0]
    · iexact H0
    isplitl [H1]
    · iexact H1
    isplitl [H2]
    · iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    iexists _; iexact H9

set_option backward.isDefEq.respectTransparency.types false in
/-- From any memory with zero counters the kernel runs to an end, its three argument arrays unchanged and every
semaphore counter zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget cfgs (fdats m) (0 : Fin 1) launch0 defs₀ Variants.none forgot m ρ main
    (hbody := fbody m) (hshare := fun c => (fdats m 0 c).share_full fun _ => rfl)
    (howed := fun _ _ => rfl) (V := V m) (hmain := hmain m Variants.none) (hA := fA_eq m) (hΦ := fun _ _ => rfl)
    (Q' := _) (hQ' := fun r h => ⟨fun c => ⟨(h.1.arr_in c 0 rfl).trans (fA_eq m c 0), (h.1.arr_in c 1 rfl).trans (fA_eq m c 1),
      (h.1.arr_in c 2 rfl).trans (fA_eq m c 2)⟩, h.2⟩)

end Cert.KernelIdeal
-- ==== Proof.Scale.lean ====
module

public import proofs.«01_k».proof.Proof.Ops
public import Idealize.ShloMosaic.PureOps.Ideal.Laws
public import Idealize.ShloMosaic.Lib.IdealHost

/-!
# The power-of-two scale over the extended reals

The kernel finds the exponent field of `z` one bit at a time.  For a real `z` below `2¹²⁶` the scale it makes is a
power of two `2ᵉ` with `z < 2ᵉ`, and `2ᵉ⁻¹ ≤ z` when `z` is at least the least normal number.
-/

@[expose] public section

noncomputable section

namespace Attn

open Idealize.ShloMosaic Idealize.SL.Sem

/-- One bit of the search, at one element. -/
def eStep (z : EReal) (e bit : BitVec 32) : BitVec 32 :=
  e + (if Ideal.ofBits .f32 (e + bit) ≤ z then bit else 0#32)

/-- The exponent field found, at one element. -/
def eField (z : EReal) : BitVec 32 :=
  eStep z (eStep z (eStep z (eStep z (eStep z (eStep z (eStep z (eStep z 0#32
    1073741824#32) 536870912#32) 268435456#32) 134217728#32) 67108864#32) 33554432#32) 16777216#32) 8388608#32

/-- The scale, at one element. -/
def sc (z : EReal) : EReal := Ideal.ofBits .f32 (if eField z = 0#32 then 1065353216#32 else eField z + 8388608#32)

/-- The reciprocal of the scale, at one element. -/
def iv (z : EReal) : EReal := Ideal.ofBits .f32 (if eField z = 0#32 then 1065353216#32 else 2122317824#32 - eField z)

theorem ofBool_eq_one (b : Bool) : (BitVec.ofBool b = 1#1) ↔ b = true := by cases b <;> decide

theorem expBit_apply {S : Shape} (z : FVec Ideal S .f32) (e : IVec S 32) (bit : BitVec 32) (i : S.Idx) :
    expBit z e bit i = eStep (z i) (e i) bit := by
  show e i + (if BitVec.ofBool (decide (Ideal.ofBits .f32 (e i + bit) ≤ z i)) = 1#1 then bit else 0#32) = _
  unfold eStep
  simp only [ofBool_eq_one, decide_eq_true_eq]

theorem expField_apply {S : Shape} (z : FVec Ideal S .f32) (i : S.Idx) : expField z i = eField (z i) := by
  unfold expField eField
  simp only [expBit_apply]
  rfl

theorem scaleOf_apply {S : Shape} (z : FVec Ideal S .f32) (i : S.Idx) : scaleOf z i = sc (z i) := by
  show Ideal.ofBits .f32 (if BitVec.ofBool (expField z i == 0#32) = 1#1 then 1065353216#32 else expField z i + 8388608#32) = _
  rw [expField_apply]; unfold sc
  simp only [ofBool_eq_one, beq_iff_eq]

theorem invOf_apply {S : Shape} (z : FVec Ideal S .f32) (i : S.Idx) : invOf z i = iv (z i) := by
  show Ideal.ofBits .f32 (if BitVec.ofBool (expField z i == 0#32) = 1#1 then 1065353216#32 else 2122317824#32 - expField z i) = _
  rw [expField_apply]; unfold iv
  simp only [ofBool_eq_one, beq_iff_eq]

theorem toNat_field {k : ℕ} (hk : k ≤ 255) : (BitVec.ofNat 32 (k * 8388608)).toNat = k * 8388608 := by
  rw [BitVec.toNat_ofNat]; omega

/-- The float whose exponent field is `k` and whose other bits are zero is a power of two. -/
theorem ofBits_field {k : ℕ} (h1 : 1 ≤ k) (h2 : k ≤ 254) :
    Ideal.ofBits .f32 (BitVec.ofNat 32 (k * 8388608)) = (((2 : ℝ) ^ ((k : ℤ) - 127) : ℝ) : EReal) := by
  have e1 : ((BitVec.ofNat 32 (k * 8388608)).extractLsb' (8 + 23) 1 == 1#1) = false := by
    rw [beq_eq_false_iff_ne]
    intro h
    have := congrArg BitVec.toNat h
    rw [BitVec.extractLsb'_toNat, toNat_field (by omega), Nat.shiftRight_eq_div_pow] at this
    norm_num at this
    omega
  have e2 : ((BitVec.ofNat 32 (k * 8388608)).extractLsb' 23 8).toNat = k := by
    rw [BitVec.extractLsb'_toNat, toNat_field (by omega), Nat.shiftRight_eq_div_pow]
    omega
  have e3 : ((BitVec.ofNat 32 (k * 8388608)).extractLsb' 0 23).toNat = 0 := by
    rw [BitVec.extractLsb'_toNat, toNat_field (by omega), Nat.shiftRight_eq_div_pow]
    omega
  show Ideal.ieee 8 23 _ = _
  unfold Ideal.ieee
  simp only [e1, e2, e3]
  rw [if_neg (by omega), if_neg (by omega)]
  congr 1
  have : ((k : ℤ) - (2 ^ (8 - 1) - 1) - ((23 : ℕ) : ℤ)) = ((k : ℤ) - 127) - 23 := by norm_num
  rw [this, zpow_sub₀ (two_ne_zero)]
  norm_num
  ring

theorem ofBits_field_top : Ideal.ofBits .f32 (BitVec.ofNat 32 (255 * 8388608)) = ⊤ := by
  have e1 : ((BitVec.ofNat 32 (255 * 8388608)).extractLsb' (8 + 23) 1 == 1#1) = false := by decide
  have e2 : ((BitVec.ofNat 32 (255 * 8388608)).extractLsb' 23 8).toNat = 255 := by decide
  have e3 : ((BitVec.ofNat 32 (255 * 8388608)).extractLsb' 0 23).toNat = 0 := by decide
  show Ideal.ieee 8 23 (BitVec.ofNat 32 (255 * 8388608)) = ⊤
  unfold Ideal.ieee
  simp only [e1, e2, e3]
  simp

/-- The exponent field lies between `j` and `j + m`. -/
def Search (k m : ℕ) (e : BitVec 32) : Prop := ∃ j, e = BitVec.ofNat 32 (j * 8388608) ∧ j ≤ k ∧ k < j + m ∧ j + m ≤ 256

/-- The test of one bit decides on which side of `t` the exponent field lies. -/
theorem le_iff_field {z : ℝ} {k : ℕ} (hk : k ≤ 254) (hlo : k = 0 ∨ (2 : ℝ) ^ ((k : ℤ) - 127) ≤ z) (hhi : z < (2 : ℝ) ^ ((k : ℤ) - 126))
    {t : ℕ} (h1 : 1 ≤ t) (h2 : t ≤ 255) : Ideal.ofBits .f32 (BitVec.ofNat 32 (t * 8388608)) ≤ (z : EReal) ↔ t ≤ k := by
  rcases Nat.lt_or_ge t 255 with h | h
  · rw [ofBits_field h1 (by omega), EReal.coe_le_coe_iff]
    constructor
    · intro hle
      by_contra hc
      have : (2 : ℝ) ^ ((k : ℤ) - 126) ≤ (2 : ℝ) ^ ((t : ℤ) - 127) := zpow_le_zpow_right₀ (by norm_num) (by omega)
      linarith
    · intro htk
      rcases hlo with h0 | hlo
      · omega
      · exact (zpow_le_zpow_right₀ (by norm_num) (by omega)).trans hlo
  · obtain rfl : t = 255 := by omega
    rw [ofBits_field_top]
    constructor
    · intro hc
      exact absurd (top_le_iff.mp hc) (EReal.coe_ne_top z)
    · omega

theorem Search.step {z : ℝ} {k : ℕ} (hk : k ≤ 254) (hlo : k = 0 ∨ (2 : ℝ) ^ ((k : ℤ) - 127) ≤ z) (hhi : z < (2 : ℝ) ^ ((k : ℤ) - 126))
    {m : ℕ} (hm : 1 ≤ m) {e : BitVec 32} (h : Search k (m + m) e) : Search k m (eStep z e (BitVec.ofNat 32 (m * 8388608))) := by
  obtain ⟨j, rfl, hj, hk', hm'⟩ := h
  unfold eStep
  rw [← BitVec.ofNat_add, ← Nat.add_mul]
  by_cases h : j + m ≤ k
  · rw [if_pos ((le_iff_field hk hlo hhi (by omega) (by omega)).mpr h)]
    exact ⟨j + m, by rw [← BitVec.ofNat_add, ← Nat.add_mul], h, by omega, by omega⟩
  · rw [if_neg (fun hc => h ((le_iff_field hk hlo hhi (by omega) (by omega)).mp hc))]
    exact ⟨j, by simp, hj, by omega, by omega⟩

theorem eField_eq {z : ℝ} {k : ℕ} (hk : k ≤ 254) (hlo : k = 0 ∨ (2 : ℝ) ^ ((k : ℤ) - 127) ≤ z) (hhi : z < (2 : ℝ) ^ ((k : ℤ) - 126)) :
    eField z = BitVec.ofNat 32 (k * 8388608) := by
  have h0 : Search k (128 + 128) 0#32 := ⟨0, rfl, by omega, by omega, by omega⟩
  have h1 := Search.step hk hlo hhi (m := 128) (by decide) h0
  have h2 := Search.step hk hlo hhi (m := 64) (by decide) h1
  have h3 := Search.step hk hlo hhi (m := 32) (by decide) h2
  have h4 := Search.step hk hlo hhi (m := 16) (by decide) h3
  have h5 := Search.step hk hlo hhi (m := 8) (by decide) h4
  have h6 := Search.step hk hlo hhi (m := 4) (by decide) h5
  have h7 := Search.step hk hlo hhi (m := 2) (by decide) h6
  obtain ⟨j, hj, h8, h9, _⟩ := Search.step hk hlo hhi (m := 1) (by decide) h7
  obtain rfl : j = k := by omega
  exact hj

/-- The floor of the logarithm to base two. -/
def lg (z : ℝ) : ℤ := ⌊Real.log z / Real.log 2⌋

theorem log_two_pos : 0 < Real.log 2 := Real.log_pos (by norm_num)

theorem zpow_lg_le {z : ℝ} (h : 0 < z) : (2 : ℝ) ^ lg z ≤ z := by
  have hl := Int.floor_le (Real.log z / Real.log 2)
  rw [le_div_iff₀ log_two_pos] at hl
  rw [← Real.log_le_log_iff (by positivity) h, Real.log_zpow]
  exact hl

theorem lt_zpow_lg {z : ℝ} (h : 0 < z) : z < (2 : ℝ) ^ (lg z + 1) := by
  have hl := Int.lt_floor_add_one (Real.log z / Real.log 2)
  rw [div_lt_iff₀ log_two_pos] at hl
  rw [← Real.log_lt_log_iff h (by positivity), Real.log_zpow]
  push_cast
  exact hl

/-- There is an exponent field for every non-negative `z`. -/
theorem exists_field {z : ℝ} (h0 : 0 ≤ z) (h : z < (2 : ℝ) ^ (126 : ℤ)) :
    ∃ k : ℕ, k ≤ 252 ∧ (k = 0 ∨ (2 : ℝ) ^ ((k : ℤ) - 127) ≤ z) ∧ z < (2 : ℝ) ^ ((k : ℤ) - 126) ∧ ((2 : ℝ) ^ (-126 : ℤ) ≤ z → k ≠ 0) := by
  by_cases hz : z < (2 : ℝ) ^ (-126 : ℤ)
  · exact ⟨0, by omega, .inl rfl, by simpa using hz, fun hc => absurd hc (not_le.mpr hz)⟩
  · rw [not_lt] at hz
    have hp : 0 < z := lt_of_lt_of_le (by positivity) hz
    have hlo := zpow_lg_le hp
    have hhi := lt_zpow_lg hp
    have a1 : -126 ≤ lg z := by
      by_contra hc
      have : (2 : ℝ) ^ (lg z + 1) ≤ (2 : ℝ) ^ (-126 : ℤ) := zpow_le_zpow_right₀ (by norm_num) (by omega)
      linarith
    have a2 : lg z < 126 := by
      by_contra hc
      have : (2 : ℝ) ^ (126 : ℤ) ≤ (2 : ℝ) ^ (lg z) := zpow_le_zpow_right₀ (by norm_num) (by omega)
      linarith
    refine ⟨(lg z + 127).toNat, by omega, .inr ?_, ?_, fun _ => by omega⟩
    · rw [Int.toNat_of_nonneg (by omega)]
      simpa using hlo
    · rw [Int.toNat_of_nonneg (by omega)]
      have : lg z + 127 - 126 = lg z + 1 := by ring
      rw [this]; exact hhi

/-- The scale of `z` and its reciprocal are powers of two, and the scale is above `z`. -/
theorem scale_spec {z : ℝ} (h0 : 0 ≤ z) (h : z < (2 : ℝ) ^ (126 : ℤ)) :
    ∃ e : ℤ, sc z = (((2 : ℝ) ^ e : ℝ) : EReal) ∧ iv z = (((2 : ℝ) ^ (-e) : ℝ) : EReal) ∧ z < (2 : ℝ) ^ e ∧ -125 ≤ e ∧ e ≤ 126
      ∧ ((2 : ℝ) ^ (-126 : ℤ) ≤ z → (2 : ℝ) ^ (e - 1) ≤ z) ∧ (z < (2 : ℝ) ^ (-126 : ℤ) → e = 0) := by
  obtain ⟨k, hk, hlo, hhi, hne⟩ := exists_field h0 h
  have he := eField_eq (by omega) hlo hhi
  have one : Ideal.ofBits .f32 1065353216#32 = (((2 : ℝ) ^ (0 : ℤ) : ℝ) : EReal) := by
    have := ofBits_field (k := 127) (by decide) (by decide)
    simpa using this
  rcases Nat.eq_zero_or_pos k with rfl | hk0
  · have : eField z = 0#32 := by rw [he]
    refine ⟨0, ?_, ?_, ?_, by omega, by omega, fun hc => absurd rfl (hne hc), fun _ => rfl⟩
    · unfold sc; rw [if_pos this, one]
    · unfold iv; rw [if_pos this, one]; simp
    · refine hhi.trans_le ?_
      exact zpow_le_zpow_right₀ (by norm_num) (by omega)
  · have hn : eField z ≠ 0#32 := by
      rw [he]; intro hc
      have := congrArg BitVec.toNat hc
      rw [toNat_field (by omega)] at this
      simp at this; omega
    refine ⟨(k : ℤ) - 126, ?_, ?_, hhi, by omega, by omega, fun _ => ?_, fun hc => ?_⟩
    · unfold sc
      rw [if_neg hn, he]
      have : BitVec.ofNat 32 (k * 8388608) + 8388608#32 = BitVec.ofNat 32 ((k + 1) * 8388608) := by
        rw [Nat.add_mul, BitVec.ofNat_add]
      rw [this, ofBits_field (by omega) (by omega)]
      congr 2; push_cast; ring
    · unfold iv
      rw [if_neg hn, he]
      have : 2122317824#32 - BitVec.ofNat 32 (k * 8388608) = BitVec.ofNat 32 ((253 - k) * 8388608) := by
        apply BitVec.eq_of_toNat_eq
        rw [BitVec.toNat_sub, toNat_field (by omega), toNat_field (by omega)]
        show (2 ^ 32 - k * 8388608 + 2122317824) % 2 ^ 32 = _
        omega
      rw [this, ofBits_field (by omega) (by omega)]
      congr 2; push_cast [Nat.cast_sub (show k ≤ 253 by omega)]; ring
    · rcases hlo with h | h
      · omega
      · have : (k : ℤ) - 126 - 1 = (k : ℤ) - 127 := by ring
        rw [this]; exact h
    · rcases hlo with h | h
      · omega
      · have : (2 : ℝ) ^ (-126 : ℤ) ≤ (2 : ℝ) ^ ((k : ℤ) - 127) := zpow_le_zpow_right₀ (by norm_num) (by omega)
        linarith

end Attn
-- ==== Proof.Acc.lean ====
module

public import proofs.«01_k».proof.Proof.Runs
public import proofs.«01_k».proof.Proof.Scale
public import Idealize.ShloMosaic.Lib.ValueIdx
public import Idealize.ShloMosaic.Lib.ValueLayout
public import Idealize.ShloMosaic.Lib.ValueLayoutCasts
public import Idealize.ShloMosaic.Lib.Pipeline.Value

/-!
# Buffers read at natural numbers

A buffer's entry at row `r` and column `c`, zero outside; what a window and a store do to it.
-/

@[expose] public section

noncomputable section

namespace Attn

open Idealize.ShloMosaic Idealize.ShloMosaic.ValueIdx Idealize.SL.Sem

/-- The entry of a matrix. -/
def g2 {R C : ℕ} (X : (⟨2, ![R, C]⟩ : Shape).Idx → EReal) (r c : ℕ) : EReal :=
  if h : r < R ∧ c < C then X (ix2 ⟨r, h.1⟩ ⟨c, h.2⟩) else 0

/-- The entry of a matrix with one axis of size one before it. -/
def g3 {R C : ℕ} (X : (⟨3, ![1, R, C]⟩ : Shape).Idx → EReal) (r c : ℕ) : EReal :=
  if h : r < R ∧ c < C then X (ix3 0 ⟨r, h.1⟩ ⟨c, h.2⟩) else 0

/-- The entry of a matrix with two axes of size one before it. -/
def g4 {R C : ℕ} (X : (⟨4, ![1, 1, R, C]⟩ : Shape).Idx → EReal) (r c : ℕ) : EReal :=
  if h : r < R ∧ c < C then X (ix4 0 0 ⟨r, h.1⟩ ⟨c, h.2⟩) else 0

/-- The entry of a matrix with an axis of size one in its middle. -/
def gm {R C : ℕ} (X : (⟨3, ![R, 1, C]⟩ : Shape).Idx → EReal) (r c : ℕ) : EReal :=
  if h : r < R ∧ c < C then X (ix3 ⟨r, h.1⟩ 0 ⟨c, h.2⟩) else 0

theorem g2_mk {R C : ℕ} (X : (⟨2, ![R, C]⟩ : Shape).Idx → EReal) {r c : ℕ} (hr : r < R) (hc : c < C) :
    g2 X r c = X (ix2 ⟨r, hr⟩ ⟨c, hc⟩) := dif_pos ⟨hr, hc⟩

theorem g3_mk {R C : ℕ} (X : (⟨3, ![1, R, C]⟩ : Shape).Idx → EReal) {r c : ℕ} (hr : r < R) (hc : c < C) :
    g3 X r c = X (ix3 0 ⟨r, hr⟩ ⟨c, hc⟩) := dif_pos ⟨hr, hc⟩

theorem g4_mk {R C : ℕ} (X : (⟨4, ![1, 1, R, C]⟩ : Shape).Idx → EReal) {r c : ℕ} (hr : r < R) (hc : c < C) :
    g4 X r c = X (ix4 0 0 ⟨r, hr⟩ ⟨c, hc⟩) := dif_pos ⟨hr, hc⟩

theorem gm_mk {R C : ℕ} (X : (⟨3, ![R, 1, C]⟩ : Shape).Idx → EReal) {r c : ℕ} (hr : r < R) (hc : c < C) :
    gm X r c = X (ix3 ⟨r, hr⟩ 0 ⟨c, hc⟩) := dif_pos ⟨hr, hc⟩

theorem g2_window {R C n m a b : ℕ} (X : (⟨2, ![R, C]⟩ : Shape).Idx → EReal)
    (h : ∀ x, (![a, b] : Fin 2 → ℕ) x + (![n, m] : Fin 2 → ℕ) x ≤ (⟨2, ![R, C]⟩ : Shape).size x) {r c : ℕ} (hr : r < n) (hc : c < m) :
    g2 (R := n) (C := m) (VecWindow.window X ![a, b] ![n, m] h) r c = g2 X (a + r) (b + c) := by
  have h0 : a + n ≤ R := h 0
  have h1 : b + m ≤ C := h 1
  rw [g2_mk _ hr hc, g2_mk _ (by omega : a + r < R) (by omega : b + c < C)]
  refine congrArg X (funext fun x => Fin.ext ?_)
  match x with
  | ⟨0, _⟩ => exact congrArg (a + ·) (Nat.one_mul r)
  | ⟨1, _⟩ => exact congrArg (b + ·) (Nat.one_mul c)

theorem g3_window {R C n m a b : ℕ} (X : (⟨3, ![1, R, C]⟩ : Shape).Idx → EReal)
    (h : ∀ x, (![0, a, b] : Fin 3 → ℕ) x + (![1, n, m] : Fin 3 → ℕ) x ≤ (⟨3, ![1, R, C]⟩ : Shape).size x) {r c : ℕ} (hr : r < n) (hc : c < m) :
    g3 (R := n) (C := m) (VecWindow.window X ![0, a, b] ![1, n, m] h) r c = g3 X (a + r) (b + c) := by
  have h0 : a + n ≤ R := h 1
  have h1 : b + m ≤ C := h 2
  rw [g3_mk _ hr hc, g3_mk _ (by omega : a + r < R) (by omega : b + c < C)]
  refine congrArg X (funext fun x => Fin.ext ?_)
  match x with
  | ⟨0, _⟩ => rfl
  | ⟨1, _⟩ => exact congrArg (a + ·) (Nat.one_mul r)
  | ⟨2, _⟩ => exact congrArg (b + ·) (Nat.one_mul c)

theorem gm_window {R C m a b : ℕ} (X : (⟨3, ![R, 1, C]⟩ : Shape).Idx → EReal)
    (h : ∀ x, (![a, 0, b] : Fin 3 → ℕ) x + (![1, 1, m] : Fin 3 → ℕ) x ≤ (⟨3, ![R, 1, C]⟩ : Shape).size x) {c : ℕ} (hc : c < m) :
    g3 (R := 1) (C := m) (VecWindow.window X ![a, 0, b] ![1, 1, m] h) 0 c = gm X a (b + c) := by
  have h0 : a + 1 ≤ R := h 0
  have h1 : b + m ≤ C := h 2
  rw [g3_mk _ (by omega) hc, gm_mk _ (by omega : a < R) (by omega : b + c < C)]
  refine congrArg X (funext fun x => Fin.ext ?_)
  match x with
  | ⟨0, _⟩ => rfl
  | ⟨1, _⟩ => rfl
  | ⟨2, _⟩ => exact congrArg (b + ·) (Nat.one_mul c)

theorem g2_put {R C n m a b : ℕ} (X : (⟨2, ![R, C]⟩ : Shape).Idx → EReal) (w : (⟨2, ![n, m]⟩ : Shape).Idx → EReal) (ha : a + n ≤ R) (hb : b + m ≤ C)
    (r c : ℕ) : g2 (VecWindow.put X ![a, b] ![n, m] w) r c
      = if a ≤ r ∧ r < a + n ∧ b ≤ c ∧ c < b + m then g2 w (r - a) (c - b) else g2 X r c := by
  by_cases hin : a ≤ r ∧ r < a + n ∧ b ≤ c ∧ c < b + m
  · rw [if_pos hin, g2_mk _ (by omega : r < R) (by omega : c < C), g2_mk w (by omega : r - a < n) (by omega : c - b < m)]
    unfold VecWindow.put
    rw [dif_pos (fun x => by
      match x with
      | ⟨0, _⟩ => exact ⟨hin.1, hin.2.1⟩
      | ⟨1, _⟩ => exact ⟨hin.2.2.1, hin.2.2.2⟩)]
    refine congrArg w (funext fun x => Fin.ext ?_)
    match x with
    | ⟨0, _⟩ => rfl
    | ⟨1, _⟩ => rfl
  · rw [if_neg hin]
    unfold g2
    split
    · unfold VecWindow.put
      exact dif_neg fun hx => hin ⟨(hx 0).1, (hx 0).2, (hx 1).1, (hx 1).2⟩
    · rfl

theorem g3_put {R C n m a b : ℕ} (X : (⟨3, ![1, R, C]⟩ : Shape).Idx → EReal) (w : (⟨3, ![1, n, m]⟩ : Shape).Idx → EReal) (ha : a + n ≤ R) (hb : b + m ≤ C)
    (r c : ℕ) : g3 (VecWindow.put X ![0, a, b] ![1, n, m] w) r c
      = if a ≤ r ∧ r < a + n ∧ b ≤ c ∧ c < b + m then g3 w (r - a) (c - b) else g3 X r c := by
  by_cases hin : a ≤ r ∧ r < a + n ∧ b ≤ c ∧ c < b + m
  · rw [if_pos hin, g3_mk _ (by omega : r < R) (by omega : c < C), g3_mk w (by omega : r - a < n) (by omega : c - b < m)]
    unfold VecWindow.put
    rw [dif_pos (fun x => by
      match x with
      | ⟨0, _⟩ => exact ⟨Nat.zero_le _, Nat.one_pos⟩
      | ⟨1, _⟩ => exact ⟨hin.1, hin.2.1⟩
      | ⟨2, _⟩ => exact ⟨hin.2.2.1, hin.2.2.2⟩)]
    refine congrArg w (funext fun x => Fin.ext ?_)
    match x with
    | ⟨0, _⟩ => rfl
    | ⟨1, _⟩ => rfl
    | ⟨2, _⟩ => rfl
  · rw [if_neg hin]
    unfold g3
    split
    · unfold VecWindow.put
      exact dif_neg fun hx => hin ⟨(hx 1).1, (hx 1).2, (hx 2).1, (hx 2).2⟩
    · rfl

theorem g4_put {R C n m a b : ℕ} (X : (⟨4, ![1, 1, R, C]⟩ : Shape).Idx → EReal) (w : (⟨4, ![1, 1, n, m]⟩ : Shape).Idx → EReal) (ha : a + n ≤ R) (hb : b + m ≤ C)
    (r c : ℕ) : g4 (VecWindow.put X ![0, 0, a, b] ![1, 1, n, m] w) r c
      = if a ≤ r ∧ r < a + n ∧ b ≤ c ∧ c < b + m then g4 w (r - a) (c - b) else g4 X r c := by
  by_cases hin : a ≤ r ∧ r < a + n ∧ b ≤ c ∧ c < b + m
  · rw [if_pos hin, g4_mk _ (by omega : r < R) (by omega : c < C), g4_mk w (by omega : r - a < n) (by omega : c - b < m)]
    unfold VecWindow.put
    rw [dif_pos (fun x => by
      match x with
      | ⟨0, _⟩ => exact ⟨Nat.zero_le _, Nat.one_pos⟩
      | ⟨1, _⟩ => exact ⟨Nat.zero_le _, Nat.one_pos⟩
      | ⟨2, _⟩ => exact ⟨hin.1, hin.2.1⟩
      | ⟨3, _⟩ => exact ⟨hin.2.2.1, hin.2.2.2⟩)]
    refine congrArg w (funext fun x => Fin.ext ?_)
    match x with
    | ⟨0, _⟩ => rfl
    | ⟨1, _⟩ => rfl
    | ⟨2, _⟩ => rfl
    | ⟨3, _⟩ => rfl
  · rw [if_neg hin]
    unfold g4
    split
    · unfold VecWindow.put
      exact dif_neg fun hx => hin ⟨(hx 2).1, (hx 2).2, (hx 3).1, (hx 3).2⟩
    · rfl

theorem gm_put {R C a : ℕ} (X : (⟨3, ![R, 1, C]⟩ : Shape).Idx → EReal) (w : (⟨3, ![1, 1, C]⟩ : Shape).Idx → EReal) (ha : a + 1 ≤ R)
    (r c : ℕ) : gm (VecWindow.put X ![a, 0, 0] ![1, 1, C] w) r c = if r = a then g3 w 0 c else gm X r c := by
  by_cases hc : c < C
  · by_cases hin : r = a
    · rw [if_pos hin, gm_mk _ (by omega : r < R) hc, g3_mk w (by omega : 0 < 1) hc]
      unfold VecWindow.put
      rw [dif_pos (fun x => by
        match x with
        | ⟨0, _⟩ => exact ⟨by show a ≤ r; omega, by show r < a + 1; omega⟩
        | ⟨1, _⟩ => exact ⟨Nat.zero_le _, Nat.one_pos⟩
        | ⟨2, _⟩ => exact ⟨Nat.zero_le _, by show c < 0 + C; omega⟩)]
      refine congrArg w (funext fun x => Fin.ext ?_)
      match x with
      | ⟨0, _⟩ => show r - a = 0; omega
      | ⟨1, _⟩ => rfl
      | ⟨2, _⟩ => rfl
    · rw [if_neg hin]
      unfold gm
      split
      · unfold VecWindow.put
        refine dif_neg fun hx => hin ?_
        have h1 : a ≤ r := (hx 0).1
        have h2 : r < a + 1 := (hx 0).2
        omega
      · rfl
  · unfold gm g3
    rw [dif_neg (by omega), dif_neg (by omega), dif_neg (by omega)]
    simp

/-- A store of the whole matrix. -/
theorem g2_put_all {R C : ℕ} (X w : (⟨2, ![R, C]⟩ : Shape).Idx → EReal) (r c : ℕ) :
    g2 (VecWindow.put X ![0, 0] ![R, C] w) r c = g2 w r c := by
  rw [g2_put X w (by omega) (by omega)]
  split
  · rfl
  · unfold g2; rw [dif_neg (by omega), dif_neg (by omega)]

theorem g2_cast {R C : ℕ} (X : (⟨2, ![R, C]⟩ : Shape).Idx → EReal) (h) (r c : ℕ) : g2 (shapeCast ⟨2, ![R, C]⟩ X h) r c = g2 X r c := by
  rw [shapeCast_self]

/-- Drop the unit axis. -/
theorem g2_of3 {R C : ℕ} (X : (⟨3, ![1, R, C]⟩ : Shape).Idx → EReal) (h) (r c : ℕ) :
    g2 (shapeCast ⟨2, ![R, C]⟩ X h) r c = g3 X r c := by
  unfold g2 g3
  split
  · exact shapeCast_1ab_ab_apply X h _ _
  · rfl

theorem g3_of2 {R C : ℕ} (X : (⟨2, ![R, C]⟩ : Shape).Idx → EReal) (h) (r c : ℕ) :
    g3 (shapeCast ⟨3, ![1, R, C]⟩ X h) r c = g2 X r c := by
  unfold g2 g3
  split
  · exact shapeCast_ab_1ab_apply X h _ _ _
  · rfl

theorem g4_of2 {R C : ℕ} (X : (⟨2, ![R, C]⟩ : Shape).Idx → EReal) (h) (r c : ℕ) :
    g4 (shapeCast ⟨4, ![1, 1, R, C]⟩ X h) r c = g2 X r c := by
  unfold g2 g4
  split
  · refine shapeCast_apply X h _ _ ?_
    rw [Shape.rowMajor_val_two, Shape.rowMajor_val_four]
    show r * C + c = ((0 * 1 + 0) * R + r) * C + c
    simp
  · rfl

theorem g2_transpose {R C : ℕ} (X : (⟨2, ![R, C]⟩ : Shape).Idx → EReal) (h) (r c : ℕ) :
    g2 (transpose ⟨2, ![C, R]⟩ [1, 0] X h) r c = g2 X c r := by
  unfold g2
  by_cases hc : c < R ∧ r < C
  · rw [dif_pos hc, dif_pos ⟨hc.2, hc.1⟩]; exact transpose_ix2_apply X h _ _
  · rw [dif_neg hc, dif_neg (fun h => hc ⟨h.2, h.1⟩)]

theorem g2_slice {R C n m a b : ℕ} (X : (⟨2, ![R, C]⟩ : Shape).Idx → EReal) (h) {r c : ℕ} (hr : r < n) (hc : c < m) (ha : a + n ≤ R) (hb : b + m ≤ C) :
    g2 (extractStridedSlice ⟨2, ![n, m]⟩ ![a, b] X h) r c = g2 X (a + r) (b + c) := by
  rw [g2_mk _ hr hc, g2_mk _ (by omega : a + r < R) (by omega : b + c < C)]
  refine extractStridedSlice_apply _ _ _ _ _ fun x => ?_
  match x with
  | ⟨0, _⟩ => rfl
  | ⟨1, _⟩ => rfl

theorem g2_rows {R C : ℕ} (X : (⟨2, ![1, C]⟩ : Shape).Idx → EReal) (h) {r c : ℕ} (hr : r < R) (hc : c < C) :
    g2 (broadcastTo ⟨2, ![R, C]⟩ X h) r c = g2 X 0 c := by
  rw [g2_mk _ hr hc, g2_mk _ (by omega) hc]
  exact broadcastTo_1b_ab_apply X h _ _

/-- Two matrices side by side. -/
theorem g2_beside {R C D : ℕ} (X : (⟨2, ![R, C]⟩ : Shape).Idx → EReal) (Y : (⟨2, ![R, C]⟩ : Shape).Idx → EReal)
    (h : Shape.Concatenates [⟨2, ![R, C]⟩, ⟨2, ![R, C]⟩] ⟨2, ![R, D]⟩ 1) {r c : ℕ} (hr : r < R) (hc : c < D) (hD : D = C + C) :
    g2 (concatenate (⟨2, ![R, D]⟩ : Shape) 1 [⟨⟨2, ![R, C]⟩, X⟩, ⟨⟨2, ![R, C]⟩, Y⟩] h) r c = if c < C then g2 X r c else g2 Y r (c - C) := by
  rw [g2_mk _ hr hc]
  split
  · rename_i h1
    rw [g2_mk _ hr h1]
    refine concatenate_pair_apply_left 1 X Y h _ rfl _ fun b => ?_
    match b with
    | ⟨0, _⟩ => rfl
    | ⟨1, _⟩ => rfl
  · rename_i h1
    rw [g2_mk _ hr (by omega : c - C < C)]
    refine concatenate_pair_apply_right 1 X Y h _ rfl rfl _ (fun b hb => ?_) ?_
    · match b, hb with
      | ⟨0, _⟩, _ => rfl
      | ⟨1, _⟩, hb => exact absurd rfl hb
    · show c - C + C = c; omega

/-- One matrix above another. -/
theorem g2_above {R C D : ℕ} (X : (⟨2, ![R, C]⟩ : Shape).Idx → EReal) (Y : (⟨2, ![R, C]⟩ : Shape).Idx → EReal)
    (h : Shape.Concatenates [⟨2, ![R, C]⟩, ⟨2, ![R, C]⟩] ⟨2, ![D, C]⟩ 0) {r c : ℕ} (hr : r < D) (hc : c < C) (hD : D = R + R) :
    g2 (concatenate (⟨2, ![D, C]⟩ : Shape) 0 [⟨⟨2, ![R, C]⟩, X⟩, ⟨⟨2, ![R, C]⟩, Y⟩] h) r c = if r < R then g2 X r c else g2 Y (r - R) c := by
  rw [g2_mk _ hr hc]
  split
  · rename_i h1
    rw [g2_mk _ h1 hc]
    refine concatenate_pair_apply_left 0 X Y h _ rfl _ fun b => ?_
    match b with
    | ⟨0, _⟩ => rfl
    | ⟨1, _⟩ => rfl
  · rename_i h1
    rw [g2_mk _ (by omega : r - R < R) hc]
    refine concatenate_pair_apply_right 0 X Y h _ rfl rfl _ (fun b hb => ?_) ?_
    · match b, hb with
      | ⟨0, _⟩, hb => exact absurd rfl hb
      | ⟨1, _⟩, _ => rfl
    · show r - R + R = r; omega

end Attn
-- ==== Proof.Blocks.lean ====
module

public import proofs.«01_k».proof.Proof.Acc

/-!
# What the blocks of the quantiser compute, over the extended reals
-/

@[expose] public section

noncomputable section

namespace Attn

open Idealize.ShloMosaic Idealize.ShloMosaic.ValueIdx Idealize.SL.Sem

/-- The kernel's 1/448. -/
def c448 : EReal := Ideal.ofBits .f32 0x3B124925#32

/-- The largest magnitude of a row of 128, over 448. -/
def zOf (u : ℕ → EReal) : EReal := ((Finset.range 128).sup fun d => max (u d) (-(u d))) * c448

/-- Clip to the range of the narrow type. -/
def cl (x : EReal) : EReal := min (Ideal.ofBits .f32 0x43E00000#32) (max (Ideal.ofBits .f32 0xC3E00000#32) x)

/-- The code of an element of a row. -/
def code (u : ℕ → EReal) (d : ℕ) : EReal := cl (u d * iv (zOf u))

/-- The scale of a row. -/
def scl (u : ℕ → EReal) : EReal := sc (zOf u)

theorem zOf_congr {u v : ℕ → EReal} (h : ∀ d < 128, u d = v d) : zOf u = zOf v := by
  unfold zOf
  rw [Finset.sup_congr rfl fun d hd => by rw [h d (Finset.mem_range.mp hd)]]

theorem scl_congr {u v : ℕ → EReal} (h : ∀ d < 128, u d = v d) : scl u = scl v := by
  unfold scl; rw [zOf_congr h]

theorem code_congr {u v : ℕ → EReal} (h : ∀ d < 128, u d = v d) {d : ℕ} (hd : d < 128) : code u d = code v d := by
  unfold code; rw [zOf_congr h, h d hd]

theorem neg_inf : Ideal.ofBits .f32 0xFF800000#32 = ⊥ := by
  show Ideal.ieee 8 23 (0xFF800000#32) = ⊥
  have e1 : ((0xFF800000#32).extractLsb' (8 + 23) 1 == 1#1) = true := by decide
  have e2 : ((0xFF800000#32).extractLsb' 23 8).toNat = 255 := by decide
  have e3 : ((0xFF800000#32).extractLsb' 0 23).toNat = 0 := by decide
  unfold Ideal.ieee
  simp only [e1, e2, e3]
  simp

/-- A maximum over an axis, as a supremum of naturals below its size. -/
theorem fold_max_eq {n : ℕ} (f : Fin n → EReal) (g : ℕ → EReal) (h : ∀ k : Fin n, f k = g k) :
    (Finset.univ : Finset (Fin n)).fold max (Ideal.ofBits .f32 0xFF800000#32) f = (Finset.range n).sup g := by
  rw [neg_inf]
  show (Finset.univ : Finset (Fin n)).sup f = _
  refine le_antisymm (Finset.sup_le fun k _ => ?_) (Finset.sup_le fun k hk => ?_)
  · rw [h k]; exact Finset.le_sup (f := g) (Finset.mem_range.mpr k.isLt)
  · have := Finset.le_sup (f := f) (Finset.mem_univ (⟨k, Finset.mem_range.mp hk⟩ : Fin n))
    rw [h] at this; exact this

theorem sum_eq {n : ℕ} (f : Fin n → EReal) (g : ℕ → EReal) (h : ∀ k : Fin n, f k = g k) :
    ∑ k, f k = ∑ k ∈ Finset.range n, g k := by
  rw [← Fin.sum_univ_eq_sum_range]; exact Finset.sum_congr rfl fun k _ => h k

theorem rowMax_g2 (b : Vec Ideal S1x128x128 .bf16) {r c : ℕ} (hr : r < 128) (hc : c < 128) :
    g2 (rowMax b) r c = zOf (g3 b r) := by
  rw [g2_mk _ hr hc]
  have e : broadcastTo S128x128 (shapeCast S128x1 (shapeCast S128x1
      (multiReduction (F := Ideal) .maximumf [1] S128 (absf (blockOf b)) 0xFF800000#32 (by decide) (.inl rfl) rfl)
      (by decide)) (by decide)) (by decide) (ix2 ⟨r, hr⟩ ⟨c, hc⟩) = (Finset.range 128).sup fun d => max (g3 b r d) (-(g3 b r d)) := by
    rw [broadcastTo_apply _ _ _ (ix2 ⟨r, hr⟩ 0) (fun x => by
      match x with
      | ⟨0, _⟩ => rfl
      | ⟨1, _⟩ => rfl), shapeCast_self]
    refine (shapeCast_a_a1_apply _ _ ⟨r, hr⟩ 0).trans ?_
    refine (Ideal.multiReduction_maximumf_single (s := S128x128) (t := S128) (a := (1 : Fin 2)) _ _ _ _ _ _).trans ?_
    refine fold_max_eq _ _ fun k => ?_
    have hk : k.val < 128 := k.isLt
    rw [← g2_of3 (h := by decide), g2_mk _ hr hk]
    show max (blockOf b _) (-(blockOf b _)) = _
    have : (Shape.Reduces.lift (a := (1 : Fin 2)) (s := S128x128) (t := S128) (by decide) (ix1 ⟨r, hr⟩) k) = ix2 ⟨r, hr⟩ ⟨k, hk⟩ := by
      funext x; match x with
      | ⟨0, _⟩ => rfl
      | ⟨1, _⟩ => rfl
    erw [this]
    rfl
  show broadcastTo S128x128 _ _ _ * c448 = _
  erw [e]
  rfl

theorem blockScale_g2 (b : Vec Ideal S1x128x128 .bf16) {r c : ℕ} (hr : r < 128) (hc : c < 128) :
    g2 (blockScale b) r c = scl (g3 b r) := by
  rw [g2_mk _ hr hc]
  show scaleOf (rowMax b) _ = _
  rw [scaleOf_apply, ← g2_mk (rowMax b) hr hc, rowMax_g2 b hr hc]; rfl

theorem blockClip_g2 (b : Vec Ideal S1x128x128 .bf16) {r c : ℕ} (hr : r < 128) (hc : c < 128) :
    g2 (blockClip b) r c = code (g3 b r) c := by
  rw [g2_mk _ hr hc]
  show cl (blockOf b _ * invOf (rowMax b) _) = _
  rw [invOf_apply, ← g2_mk (rowMax b) hr hc, rowMax_g2 b hr hc]
  unfold code
  congr 2
  rw [← g2_of3 (h := by decide), g2_mk _ hr hc]; rfl

theorem blockCodes_g3 (b : Vec Ideal S1x128x128 .bf16) {r c : ℕ} (hr : r < 128) (hc : c < 128) :
    g3 (R := 128) (C := 128) (blockCodes (F := Ideal) b) r c = code (g3 b r) c :=
  (g3_of2 _ _ r c).trans (blockClip_g2 b hr hc)

theorem scaleRow_g2 (b : Vec Ideal S1x128x128 .bf16) {r : ℕ} (hr : r < 128) :
    g2 (scaleRow b) 0 r = scl (g3 b r) := by
  unfold scaleRow
  refine (g2_slice (R := 128) (C := 128) (n := 1) (m := 128) (a := 0) (b := 0) _ _ (by omega) hr (by omega) (by omega)).trans ?_
  refine (g2_transpose _ _ _ _).trans ?_
  rw [Nat.zero_add]
  exact blockScale_g2 b hr (by omega)

end Attn
-- ==== Proof.PhaseKV.lean ====
module

public import proofs.«01_k».proof.Proof.Blocks

/-!
# The keys and values quantised, over the extended reals
-/

@[expose] public section

set_option maxRecDepth 16384

noncomputable section

namespace Attn

open Idealize.ShloMosaic Idealize.ShloMosaic.ValueIdx Idealize.ShloMosaic.TcCoe Idealize.SL Idealize.SL.RA Idealize.SL.Sem

section Rules

variable {nD : ℕ} {τ : Topo} {sig : RefSig} {Λ : Labels} {F : FTy → Type} [FloatOps F]
variable {Ix : Type} [DecidableEq Ix] {Name : Type} [DecidableEq Name] {U : Type} [URA U] {Lvl : Type} [Preorder Lvl]
variable {defs : Defs nD τ sig (Elt F) Λ} {𝒱 : Variants} {c : Dev nD} {E : Set Name} {R : Refs sig} {α β : Type}

local notation "Does'" => Does (Ix := Ix) (Name := Name) (U := U) (Lvl := Lvl) defs 𝒱 c E

/-- A load, then the rest. -/
theorem Does.ld_then (b : B) {off n : Fin b.shape.rank → ℕ} (h : ∀ a, off a + n a ≤ b.shape.size a)
    (hp : 0 < (Rect.unit off n h).shape.numel) {k : _ → Prog (TpuEff nD τ sig (Elt F) Λ .tc) β} {σ : State F} {Q : β → State F → Prop}
    (hk : Does' R (k (VecWindow.window (σ b) off n h)) σ Q) : Does' R (Attn.ld (R.buf b) off n h hp >>= k) σ Q :=
  Does.bind (Does.ld b h hp (Q := fun a σ' => a = VecWindow.window (σ b) off n h ∧ σ' = σ) ⟨rfl, rfl⟩)
    (by rintro _ _ ⟨rfl, rfl⟩; exact hk)

/-- A store, then the rest. -/
theorem Does.st_then (b : B) {off n : Fin b.shape.rank → ℕ} (h : ∀ a, off a + n a ≤ b.shape.size a)
    {w : (Rect.unit off n h).shape.Idx → Elt F b.elt} (hs : ((R.buf b).access (Rect.unit off n h)).Stores Finset.univ)
    {k : PUnit → Prog (TpuEff nD τ sig (Elt F) Λ .tc) β} {σ : State F} {Q : β → State F → Prop}
    (hk : Does' R (k ⟨⟩) (σ.set b (VecWindow.put (σ b) off n w)) Q) : Does' R (Attn.st (R.buf b) off n h w hs >>= k) σ Q :=
  Does.bind (Does.st b h hs (Q := fun _ σ' => σ' = σ.set b (VecWindow.put (σ b) off n w)) rfl)
    (by rintro _ _ rfl; exact hk)

end Rules

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

/-- The keys and values are quantised in their first `n` rows. -/
structure KV (K V : ℕ → ℕ → EReal) (n : ℕ) (σ : State Ideal) : Prop where
  kc : ∀ r < n, ∀ d < 128, g3 (σ .kc) r d = code (K r) d
  ksb : ∀ r < n, ∀ d < 128, g2 (σ .ksb) r d = scl (K r)
  ks : ∀ r < n, g4 (σ .ks) 0 r = scl (K r)
  vc : ∀ r < n, ∀ d < 128, g3 (σ .vc) r d = code (V r) d
  vsb : ∀ r < n, ∀ d < 128, g2 (σ .vsb) r d = scl (V r)
  vs : ∀ r < n, g4 (σ .vs) 0 r = scl (V r)
  vt : ∀ r < n, ∀ d < 128, g2 (σ .vt) d r = code (V r) d

/-- A block of rows, put into a matrix whose earlier rows are done. -/
theorem put3_rows {R C a : ℕ} {X : (⟨3, ![1, R, C]⟩ : Shape).Idx → EReal} {w : (⟨3, ![1, 128, C]⟩ : Shape).Idx → EReal} (ha : a + 128 ≤ R)
    {S : ℕ → ℕ → EReal} (hX : ∀ r < a, ∀ d < C, g3 X r d = S r d) (hw : ∀ r < 128, ∀ d < C, g3 w r d = S (a + r) d) :
    ∀ r < a + 128, ∀ d < C, g3 (VecWindow.put X ![0, a, 0] ![1, 128, C] w) r d = S r d := by
  intro r hr d hd
  rw [g3_put X w ha (by omega)]
  split
  · rw [hw _ (by omega) _ (by omega), Nat.sub_zero]; congr 1; omega
  · exact hX r (by omega) d hd

theorem put2_rows {R C a : ℕ} {X : (⟨2, ![R, C]⟩ : Shape).Idx → EReal} {w : (⟨2, ![128, C]⟩ : Shape).Idx → EReal} (ha : a + 128 ≤ R)
    {S : ℕ → ℕ → EReal} (hX : ∀ r < a, ∀ d < C, g2 X r d = S r d) (hw : ∀ r < 128, ∀ d < C, g2 w r d = S (a + r) d) :
    ∀ r < a + 128, ∀ d < C, g2 (VecWindow.put X ![a, 0] ![128, C] w) r d = S r d := by
  intro r hr d hd
  rw [g2_put X w ha (by omega)]
  split
  · rw [hw _ (by omega) _ (by omega), Nat.sub_zero]; congr 1; omega
  · exact hX r (by omega) d hd

theorem put2_cols {R C a : ℕ} {X : (⟨2, ![R, C]⟩ : Shape).Idx → EReal} {w : (⟨2, ![R, 128]⟩ : Shape).Idx → EReal} (ha : a + 128 ≤ C)
    {S : ℕ → ℕ → EReal} (hX : ∀ r < a, ∀ d < R, g2 X d r = S r d) (hw : ∀ r < 128, ∀ d < R, g2 w d r = S (a + r) d) :
    ∀ r < a + 128, ∀ d < R, g2 (VecWindow.put X ![0, a] ![R, 128] w) d r = S r d := by
  intro r hr d hd
  rw [g2_put X w (by omega) ha]
  split
  · rw [hw _ (by omega) _ (by omega), Nat.sub_zero]; congr 1; omega
  · exact hX r (by omega) d hd

theorem put4_row {C a : ℕ} {X : (⟨4, ![1, 1, 1, C]⟩ : Shape).Idx → EReal} {w : (⟨4, ![1, 1, 1, 128]⟩ : Shape).Idx → EReal} (ha : a + 128 ≤ C)
    {S : ℕ → EReal} (hX : ∀ r < a, g4 X 0 r = S r) (hw : ∀ r < 128, g4 w 0 r = S (a + r)) :
    ∀ r < a + 128, g4 (VecWindow.put X ![0, 0, 0, a] ![1, 1, 1, 128] w) 0 r = S r := by
  intro r hr
  rw [g4_put X w (by omega) ha]
  split
  · rw [hw _ (by omega)]; congr 1; omega
  · exact hX r (by omega)

/-- One block of 128 rows more. -/
theorem quantKV_run (n : ℕ) (hn : n < 16) {o3 : Fin 3 → ℕ} {o2 : Fin 2 → ℕ} {o4 : Fin 4 → ℕ} {oT : Fin 2 → ℕ} (h3) (h2) (h4) (hT) (p3) (pT)
    (e3 : o3 = ![0, 128 * n, 0]) (e2 : o2 = ![128 * n, 0]) (e4 : o4 = ![0, 0, 0, 128 * n]) (eT : oT = ![0, 128 * n])
    {K V : ℕ → ℕ → EReal} {σ : State Ideal} (hK : ∀ r d, g3 (σ .k) r d = K r d) (hV : ∀ r d, g3 (σ .v) r d = V r d) (h : KV K V (128 * n) σ) :
    Does' R (quantKV (F := Ideal) R o3 o2 o4 oT h3 h2 h4 hT p3 pT) σ
      (fun _ σ' => KV K V (128 * n + 128) σ' ∧ σ' .x = σ .x ∧ σ' .k = σ .k ∧ σ' .v = σ .v) := by
  subst e3 e2 e4 eT
  have wk : ∀ r < 128, ∀ d < 128, g3 (R := 128) (C := 128) (VecWindow.window (σ .k) ![0, 128 * n, 0] ![1, 128, 128] h3) r d = K (128 * n + r) d :=
    fun r hr d hd => (g3_window (R := 2048) (C := 128) (σ .k) h3 hr hd).trans (by rw [hK, Nat.zero_add])
  have wv : ∀ r < 128, ∀ d < 128, g3 (R := 128) (C := 128) (VecWindow.window (σ .v) ![0, 128 * n, 0] ![1, 128, 128] h3) r d = V (128 * n + r) d :=
    fun r hr d hd => (g3_window (R := 2048) (C := 128) (σ .v) h3 hr hd).trans (by rw [hV, Nat.zero_add])
  have hn' : 128 * n + 128 ≤ 2048 := by omega
  unfold quantKV
  refine Does.ld_then .k _ _ ?_
  refine Does.st_then .kc _ _ ?_
  refine Does.st_then .ksb _ _ ?_
  refine Does.st_then .ks _ _ ?_
  refine Does.ld_then .v _ _ ?_
  refine Does.st_then .vc _ _ ?_
  refine Does.st_then .vsb _ _ ?_
  refine Does.st_then .vs _ _ ?_
  refine Does.st_then .vt _ _ ?_
  refine Does.pure ?_
  simp only [State.set_same, State.set_ne, ne_eq, reduceCtorEq, not_false_eq_true]
  refine ⟨⟨?_, ?_, ?_, ?_, ?_, ?_, ?_⟩, trivial, trivial, trivial⟩ <;>
    simp only [State.set_same, State.set_ne, ne_eq, reduceCtorEq, not_false_eq_true]
  · exact put3_rows hn' (S := fun r d => code (K r) d) h.kc
      fun r hr d hd => (blockCodes_g3 _ hr hd).trans (code_congr (wk r hr) hd)
  · exact put2_rows hn' (S := fun r d => scl (K r)) h.ksb
      fun r hr d hd => (g2_cast _ _ _ _).trans ((blockScale_g2 _ hr hd).trans (scl_congr (wk r hr)))
  · exact put4_row hn' (S := fun r => scl (K r)) h.ks
      fun r hr => (g4_of2 _ _ _ _).trans ((scaleRow_g2 _ hr).trans (scl_congr (wk r hr)))
  · exact put3_rows hn' (S := fun r d => code (V r) d) h.vc
      fun r hr d hd => (blockCodes_g3 _ hr hd).trans (code_congr (wv r hr) hd)
  · exact put2_rows hn' (S := fun r d => scl (V r)) h.vsb
      fun r hr d hd => (g2_cast _ _ _ _).trans ((blockScale_g2 _ hr hd).trans (scl_congr (wv r hr)))
  · exact put4_row hn' (S := fun r => scl (V r)) h.vs
      fun r hr => (g4_of2 _ _ _ _).trans ((scaleRow_g2 _ hr).trans (scl_congr (wv r hr)))
  · exact put2_cols hn' (S := fun r d => code (V r) d) h.vt
      fun r hr d hd => (g2_cast _ _ _ _).trans ((g2_transpose _ _ _ _).trans ((blockClip_g2 _ hr hd).trans (code_congr (wv r hr) hd)))

/-- `2⁻ᵉ` of the exponent of a number. -/
def nrm (z : EReal) : EReal := Ideal.ofBits .f32 (2130706432#32 - eField z)

/-- The factor the normalised scales are scaled up by. -/
def up48 : EReal := Ideal.ofBits .f32 0x57800000#32

theorem vmaxOf_eq (vs : Vec Ideal S1x1x1x2048 .f32) : vmaxOf vs = (Finset.range 2048).sup fun r => g4 (R := 1) (C := 2048) vs 0 r := by
  have e : ∀ k : Fin 2048, shapeCast S1x1x2048 (shapeCast S1x2048 vs (by decide)) (by decide) (ix3 0 0 k) = vs (ix4 0 0 0 k) := fun k => by
    refine (shapeCast_apply _ _ _ (ix2 0 k) ?_).trans (shapeCast_apply _ _ _ (ix4 0 0 0 k) ?_)
    · rw [Shape.rowMajor_val_two, Shape.rowMajor_val_three]; rfl
    · rw [Shape.rowMajor_val_two, Shape.rowMajor_val_four]; rfl
  unfold vmaxOf extractAt
  refine (shapeCast_apply _ _ _ (ix1 0) (by rw [Shape.rowMajor_val_one, Shape.rowMajor_val_three]; rfl)).trans ?_
  refine (multiReduction_maximumf_eq_fold _ _ _ _ _ _).trans ?_
  show Finset.fold max (Ideal.ofBits .f32 0xFF800000#32) _ _ = _
  rw [neg_inf]
  show Finset.sup _ _ = _
  refine le_antisymm (Finset.sup_le fun i _ => ?_) (Finset.sup_le fun k hk => ?_)
  · have hi : i = ix3 0 0 (i 2) := by
      funext x; match x with
      | ⟨0, _⟩ => exact Subsingleton.elim (α := Fin 1) _ _
      | ⟨1, _⟩ => exact Subsingleton.elim (α := Fin 1) _ _
      | ⟨2, _⟩ => rfl
    rw [hi]
    have hlt : (i 2 : ℕ) < 2048 := (i 2).isLt
    refine (le_of_eq (e (i 2))).trans ?_
    have := Finset.le_sup (f := fun r => g4 (R := 1) (C := 2048) vs 0 r) (Finset.mem_range.mpr hlt)
    refine (le_of_eq ?_).trans this
    exact (g4_mk _ (by omega) hlt).symm
  · have hk' := Finset.mem_range.mp hk
    rw [g4_mk _ (by omega) hk']
    refine (le_of_eq (e ⟨k, hk'⟩).symm).trans ?_
    refine Finset.le_sup (f := shapeCast S1x1x2048 (shapeCast S1x2048 vs (by decide)) (by decide)) (Finset.mem_filter.mpr ⟨Finset.mem_univ _, ?_⟩)
    funext x; match x with
    | ⟨0, _⟩ => exact Subsingleton.elim (α := Fin 1) _ _

theorem normRow_g2 (z : EReal) {d : ℕ} (hd : d < 128) : g2 (normRow (F := Ideal) z) 0 d = nrm z := by
  unfold normRow
  refine (g2_slice (R := 8) (C := 128) (n := 1) (m := 128) (a := 0) (b := 0) _ _ (by omega) hd (by omega) (by omega)).trans ?_
  refine (g2_mk (R := 8) (C := 128) _ (by omega) (by omega)).trans ?_
  exact congrArg (fun e => Ideal.ofBits .f32 (2130706432#32 - e))
    (expField_apply (broadcast S8x128 z : FVec Ideal S8x128 .f32) (ix2 ⟨0 + 0, by omega⟩ ⟨0 + d, by omega⟩))

theorem normVs_g2 (z : EReal) (vsb : Vec Ideal S2048x128 .f32) {r d : ℕ} (hr : r < 2048) (hd : d < 128) :
    g2 (normVs (F := Ideal) z vsb) r d = g2 (R := 2048) (C := 128) vsb r d * nrm z * up48 := by
  refine (g2_mk (R := 2048) (C := 128) _ hr hd).trans ?_
  refine (mulf_apply _ _ _).trans (congrArg₂ (· * ·) ((mulf_apply _ _ _).trans (congrArg₂ (· * ·) ?_ ?_)) rfl)
  · exact (g2_mk (R := 2048) (C := 128) _ hr hd).symm
  · exact (g2_mk (R := 2048) (C := 128) _ hr hd).symm.trans ((g2_rows _ _ hr hd).trans (normRow_g2 z hd))

/-- The largest scale of the values. -/
def vmx (V : ℕ → ℕ → EReal) : EReal := (Finset.range 2048).sup fun r => scl (V r)

/-- A row's scale, normalised by the largest. -/
def nvs (V : ℕ → ℕ → EReal) (r : ℕ) : EReal := scl (V r) * nrm (vmx V) * up48

/-- The keys and values as the attention reads them. -/
structure KVN (K V : ℕ → ℕ → EReal) (σ : State Ideal) : Prop where
  kc : ∀ r < 2048, ∀ d < 128, g3 (σ .kc) r d = code (K r) d
  ksb : ∀ r < 2048, ∀ d < 128, g2 (σ .ksb) r d = scl (K r)
  ks : ∀ r < 2048, g4 (σ .ks) 0 r = scl (K r)
  vc : ∀ r < 2048, ∀ d < 128, g3 (σ .vc) r d = code (V r) d
  vsb : ∀ r < 2048, ∀ d < 128, g2 (σ .vsb) r d = nvs V r
  vs : ∀ r < 2048, g4 (σ .vs) 0 r = scl (V r)
  vt : ∀ r < 2048, ∀ d < 128, g2 (σ .vt) d r = code (V r) d

theorem normalise_run {K V : ℕ → ℕ → EReal} {σ : State Ideal} (h : KV K V 2048 σ) :
    Does' R (normalise (F := Ideal) R) σ (fun v σ' => v.1 = vmx V ∧ KVN K V σ' ∧ σ' .x = σ .x ∧ σ' .k = σ .k ∧ σ' .v = σ .v) := by
  have hm : vmaxOf (F := Ideal) (VecWindow.window (σ .vs) ![0, 0, 0, 0] S1x1x1x2048.size (by decide)) = vmx V := by
    rw [vmaxOf_eq]
    refine Finset.sup_congr rfl fun r hr => ?_
    have hr' := Finset.mem_range.mp hr
    refine Eq.trans ?_ (h.vs r hr')
    rw [g4_mk _ (by omega) hr', g4_mk _ (by omega) hr']
    refine congrArg (σ .vs) (funext fun x => Fin.ext ?_)
    match x with
    | ⟨0, _⟩ => rfl
    | ⟨1, _⟩ => rfl
    | ⟨2, _⟩ => rfl
    | ⟨3, _⟩ => show 0 + 1 * r = r; omega
  unfold normalise
  refine Does.ld_then .vs _ _ ?_
  refine Does.ld_then .vsb _ _ ?_
  refine Does.st_then .vsb _ _ ?_
  refine Does.pure ?_
  simp only [State.set_ne, ne_eq, reduceCtorEq, not_false_eq_true]
  refine ⟨hm, ⟨?_, ?_, ?_, ?_, ?_, ?_, ?_⟩, trivial, trivial, trivial⟩ <;>
    simp only [State.set_same, State.set_ne, ne_eq, reduceCtorEq, not_false_eq_true]
  · exact h.kc
  · exact h.ksb
  · exact h.ks
  · exact h.vc
  · intro r hr d hd
    refine (g2_put_all _ _ _ _).trans ((g2_cast _ _ _ _).trans ((normVs_g2 _ _ hr hd).trans ?_))
    unfold nvs
    refine congrArg₂ (· * ·) (congrArg₂ (· * ·) (Eq.trans ?_ (h.vsb r hr d hd)) (congrArg nrm hm)) rfl
    exact (g2_window (R := 2048) (C := 128) (n := 2048) (m := 128) (a := 0) (b := 0) (σ .vsb) (by decide) hr hd).trans (by rw [Nat.zero_add, Nat.zero_add])
  · exact h.vs
  · exact h.vt

end Attn
-- ==== Proof.PhaseQ.lean ====
module

public import proofs.«01_k».proof.Proof.PhaseKV

/-!
# The queries quantised, over the extended reals
-/

@[expose] public section

set_option maxRecDepth 16384

noncomputable section

namespace Attn

open Idealize.ShloMosaic Idealize.ShloMosaic.ValueIdx Idealize.ShloMosaic.TcCoe Idealize.SL Idealize.SL.RA Idealize.SL.Sem

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

/-- Row `r` of head `h`. -/
def xrow (X : ℕ → ℕ → EReal) (r h : ℕ) : ℕ → EReal := fun d => X r (128 * h + d)

/-- The codes of the first `n` blocks of rows are done, and of the next block `j` heads. -/
def QC (X : ℕ → ℕ → EReal) (n j : ℕ) (σ : State Ideal) : Prop :=
  ∀ r < 2048, ∀ e < 1024, (r < 128 * n ∨ (r < 128 * n + 128 ∧ e < 128 * j)) → g3 (σ .qc) r e = code (xrow X r (e / 128)) (e % 128)

theorem quantHead_run (n j : ℕ) (hn : n < 16) (hj : j < 8) {o3 : Fin 3 → ℕ} (h3) (p3) (e3 : o3 = ![0, 128 * n, 128 * j])
    {X : ℕ → ℕ → EReal} {σ : State Ideal} (hX : ∀ r d, g3 (σ .x) r d = X r d) (h : QC X n j σ) :
    Does' R (quantHead (F := Ideal) R o3 h3 p3) σ
      (fun a σ' => (∀ r < 128, g2 a 0 r = scl (xrow X (128 * n + r) j)) ∧ QC X n (j + 1) σ' ∧ ∀ b, b ≠ .qc → σ' b = σ b) := by
  subst e3
  have w : ∀ r < 128, ∀ d < 128, g3 (R := 128) (C := 128) (VecWindow.window (σ .x) ![0, 128 * n, 128 * j] ![1, 128, 128] h3) r d
      = xrow X (128 * n + r) j d :=
    fun r hr d hd => (g3_window (R := 2048) (C := 1024) (σ .x) h3 hr hd).trans (by rw [hX]; rfl)
  unfold quantHead
  refine Does.ld_then .x _ _ ?_
  refine Does.st_then .qc _ _ ?_
  refine Does.pure ?_
  refine ⟨fun r hr => (scaleRow_g2 _ hr).trans (scl_congr (w r hr)), ?_, fun b hb => State.set_ne _ hb _⟩
  intro r hr e he hd
  rw [State.set_same]
  refine (g3_put (R := 2048) (C := 1024) (n := 128) (m := 128) _ _ (by omega) (by omega) r e).trans ?_
  split
  · refine (blockCodes_g3 _ (by omega) (by omega)).trans ?_
    refine (code_congr (w _ (by omega)) (by omega)).trans ?_
    rw [show 128 * n + (r - 128 * n) = r by omega, show e / 128 = j by omega, show e % 128 = e - 128 * j by omega]
  · exact h r hr e he (by omega)

theorem logitRow_g3 (lc : EReal) (a b : FVec Ideal S1x128 .f32) {d : ℕ} (hd : d < 256) :
    g3 (R := 1) (C := 256) (logitRow (F := Ideal) lc a b) 0 d = (if d < 128 then g2 a 0 d else g2 b 0 (d - 128)) * lc := by
  unfold logitRow
  refine (g3_of2 (R := 1) (C := 256) _ _ _ _).trans ?_
  refine (g2_mk (R := 1) (C := 256) _ (by omega) hd).trans ?_
  refine (mulf_apply _ _ _).trans (congrArg₂ (· * ·) ?_ rfl)
  exact (g2_mk (R := 1) (C := 256) _ (by omega) hd).symm.trans (g2_beside a b _ (by omega) hd rfl)

theorem heads_g2 (a : Fin 8 → FVec Ideal S1x128 .f32) {j r : ℕ} (hj : j < 8) (hr : r < 128) :
    g2 (concatenate S8x128 0 [⟨S1x128, a 0⟩, ⟨S1x128, a 1⟩, ⟨S1x128, a 2⟩, ⟨S1x128, a 3⟩, ⟨S1x128, a 4⟩, ⟨S1x128, a 5⟩,
      ⟨S1x128, a 6⟩, ⟨S1x128, a 7⟩] catHeads) j r = g2 (a ⟨j, hj⟩) 0 r := by
  rw [g2_mk _ hj hr, g2_mk _ (by omega) hr]
  exact concatenate_ofFn_unit_apply (t := S8x128) (s₁ := S1x128) 0 (N := 8) a catHeads rfl rfl _ ⟨j, hj⟩ rfl _ (fun b hb => by
    match b, hb with
    | ⟨0, _⟩, hb => exact absurd rfl hb
    | ⟨1, _⟩, _ => rfl)

/-- One row of logit scales stored, after the `a` rows before it. -/
theorem logitRow_then {β : Type} {a : ℕ} (ha : a < 64) {o : Fin 3 → ℕ} (ho) (eo : o = ![a, 0, 0]) (hs) {G : ℕ → ℕ → EReal} {v : FVec Ideal S1x1x256 .f32}
    {k : PUnit → Prog (TpuEff nD τ sig (Elt Ideal) Λ .tc) β} {σ : State Ideal} {Q : β → State Ideal → Prop}
    (hv : ∀ d < 256, g3 (R := 1) (C := 256) v 0 d = G a d) (hσ : ∀ t < a, ∀ d < 256, gm (σ .qrow) t d = G t d)
    (hk : ∀ σ' : State Ideal, (∀ t < a + 1, ∀ d < 256, gm (σ' .qrow) t d = G t d) → (∀ b, b ≠ .qrow → σ' b = σ b) → Does' R (k ⟨⟩) σ' Q) :
    Does' R (Attn.st R.qrow o S1x1x256.size ho v hs >>= k) σ Q := by
  subst eo
  refine Does.st_then .qrow _ _ (hk _ ?_ fun b hb => State.set_ne _ hb _)
  intro t ht d hd
  rw [State.set_same]
  refine (gm_put (R := 64) (C := 256) _ _ (by omega) t d).trans ?_
  split
  · rename_i e
    exact (hv d hd).trans (by rw [e])
  · exact hσ t (by omega) d hd

/-- One block of query scales stored, after the `a` columns before it. -/
theorem scales_then {β : Type} {a : ℕ} (ha : a + 128 ≤ 2048) (ho) (hs) {G : ℕ → ℕ → EReal} {v : FVec Ideal S1x1x8x128 .f32}
    {k : PUnit → Prog (TpuEff nD τ sig (Elt Ideal) Λ .tc) β} {σ : State Ideal} {Q : β → State Ideal → Prop}
    (hv : ∀ j < 8, ∀ d < 128, g4 (R := 8) (C := 128) v j d = G j (a + d)) (hσ : ∀ j < 8, ∀ d < a, g4 (σ .qs) j d = G j d)
    (hk : ∀ σ' : State Ideal, (∀ j < 8, ∀ d < a + 128, g4 (σ' .qs) j d = G j d) → (∀ b, b ≠ .qs → σ' b = σ b) → Does' R (k ⟨⟩) σ' Q) :
    Does' R (Attn.st R.qs ![0, 0, 0, a] S1x1x8x128.size ho v hs >>= k) σ Q := by
  refine Does.st_then .qs _ _ (hk _ ?_ fun b hb => State.set_ne _ hb _)
  intro j hj d hd
  rw [State.set_same]
  refine (g4_put (R := 8) (C := 2048) (n := 8) (m := 128) (a := 0) (b := a) _ _ (by omega) (by omega) j d).trans ?_
  split
  · exact (hv (j - 0) (by omega) _ (by omega)).trans (by rw [Nat.sub_zero, show a + (d - a) = d by omega])
  · exact hσ j hj d (by omega)

/-- The first `n` blocks of queries are quantised. -/
structure QQ (X : ℕ → ℕ → EReal) (lc : EReal) (n : ℕ) (σ : State Ideal) : Prop where
  qc : QC X n 0 σ
  qs : ∀ h < 8, ∀ r < 128 * n, g4 (σ .qs) h r = scl (xrow X r h)
  qrow : ∀ t < 4 * n, ∀ j < 256, gm (σ .qrow) t j = scl (xrow X (128 * (t / 4) + j % 128) (2 * (t % 4) + j / 128)) * lc

theorem quantQ_run (n : ℕ) (hn : n < 16) (lc : EReal) {o3 : Fin 8 → Fin 3 → ℕ} {o4 : Fin 4 → ℕ} {oR : Fin 4 → Fin 3 → ℕ} (h3) (h4) (hR) (p3)
    (e3 : ∀ j, o3 j = ![0, 128 * n, 128 * j.val]) (e4 : o4 = ![0, 0, 0, 128 * n]) (eR : ∀ j, oR j = ![4 * n + j.val, 0, 0])
    {X : ℕ → ℕ → EReal} {σ : State Ideal} (hX : ∀ r d, g3 (σ .x) r d = X r d) (h : QQ X lc n σ) :
    Does' R (quantQ (F := Ideal) R lc o3 o4 oR h3 h4 hR p3) σ
      (fun _ σ' => QQ X lc (n + 1) σ' ∧ ∀ b, b ≠ .qc → b ≠ .qs → b ≠ .qrow → σ' b = σ b) := by
  obtain rfl : o3 = fun j => ![0, 128 * n, 128 * j.val] := funext e3
  obtain rfl : oR = fun j => ![4 * n + j.val, 0, 0] := funext eR
  subst e4
  unfold quantQ
  refine Does.bind (quantHead_run R n 0 hn (by omega) _ _ rfl hX h.qc) ?_
  rintro a0 σ0 ⟨s0, c0, k0⟩
  refine Does.bind (quantHead_run R n 1 hn (by omega) _ _ rfl (by rw [k0 .x (by decide)]; exact hX) c0) ?_
  rintro a1 σ1 ⟨s1, c1, k1⟩
  replace k1 := fun b hb => (k1 b hb).trans (k0 b hb)
  refine Does.bind (quantHead_run R n 2 hn (by omega) _ _ rfl (by rw [k1 .x (by decide)]; exact hX) c1) ?_
  rintro a2 σ2 ⟨s2, c2, k2⟩
  replace k2 := fun b hb => (k2 b hb).trans (k1 b hb)
  refine Does.bind (quantHead_run R n 3 hn (by omega) _ _ rfl (by rw [k2 .x (by decide)]; exact hX) c2) ?_
  rintro a3 σ3 ⟨s3, c3, k3⟩
  replace k3 := fun b hb => (k3 b hb).trans (k2 b hb)
  refine Does.bind (quantHead_run R n 4 hn (by omega) _ _ rfl (by rw [k3 .x (by decide)]; exact hX) c3) ?_
  rintro a4 σ4 ⟨s4, c4, k4⟩
  replace k4 := fun b hb => (k4 b hb).trans (k3 b hb)
  refine Does.bind (quantHead_run R n 5 hn (by omega) _ _ rfl (by rw [k4 .x (by decide)]; exact hX) c4) ?_
  rintro a5 σ5 ⟨s5, c5, k5⟩
  replace k5 := fun b hb => (k5 b hb).trans (k4 b hb)
  refine Does.bind (quantHead_run R n 6 hn (by omega) _ _ rfl (by rw [k5 .x (by decide)]; exact hX) c5) ?_
  rintro a6 σ6 ⟨s6, c6, k6⟩
  replace k6 := fun b hb => (k6 b hb).trans (k5 b hb)
  refine Does.bind (quantHead_run R n 7 hn (by omega) _ _ rfl (by rw [k6 .x (by decide)]; exact hX) c6) ?_
  rintro a7 σ7 ⟨s7, c7, k7⟩
  replace k7 := fun b hb => (k7 b hb).trans (k6 b hb)
  have hs : ∀ j (hj : j < 8), ∀ r < 128, g2 ((![a0, a1, a2, a3, a4, a5, a6, a7] : Fin 8 → FVec Ideal S1x128 .f32) ⟨j, hj⟩) 0 r = scl (xrow X (128 * n + r) j) := by
    intro j hj
    match j, hj with
    | 0, _ => exact s0
    | 1, _ => exact s1
    | 2, _ => exact s2
    | 3, _ => exact s3
    | 4, _ => exact s4
    | 5, _ => exact s5
    | 6, _ => exact s6
    | 7, _ => exact s7
  have hrow : ∀ (g : ℕ) (hg : g < 4), ∀ d < 256, g3 (R := 1) (C := 256) (logitRow (F := Ideal) lc
      ((![a0, a1, a2, a3, a4, a5, a6, a7] : Fin 8 → FVec Ideal S1x128 .f32) ⟨2 * g, by omega⟩)
      ((![a0, a1, a2, a3, a4, a5, a6, a7] : Fin 8 → FVec Ideal S1x128 .f32) ⟨2 * g + 1, by omega⟩)) 0 d
      = scl (xrow X (128 * n + d % 128) (2 * g + d / 128)) * lc := by
    intro g hg d hd
    rw [logitRow_g3 _ _ _ hd]
    congr 1
    split
    · rw [hs _ _ _ (by omega), show d % 128 = d by omega, show d / 128 = 0 by omega, Nat.add_zero]
    · rw [hs _ _ _ (by omega), show d % 128 = d - 128 by omega, show d / 128 = 1 by omega]
  generalize hv : (![a0, a1, a2, a3, a4, a5, a6, a7] : Fin 8 → FVec Ideal S1x128 .f32) = v at hs hrow
  obtain rfl : v 0 = a0 := by rw [← hv]; rfl
  obtain rfl : v 1 = a1 := by rw [← hv]; rfl
  obtain rfl : v 2 = a2 := by rw [← hv]; rfl
  obtain rfl : v 3 = a3 := by rw [← hv]; rfl
  obtain rfl : v 4 = a4 := by rw [← hv]; rfl
  obtain rfl : v 5 = a5 := by rw [← hv]; rfl
  obtain rfl : v 6 = a6 := by rw [← hv]; rfl
  obtain rfl : v 7 = a7 := by rw [← hv]; rfl
  clear hv s0 s1 s2 s3 s4 s5 s6 s7 c0 c1 c2 c3 c4 c5 c6 k0 k1 k2 k3 k4 k5 k6
  have row : ∀ (g : ℕ) (hg : g < 4), ∀ d < 256, scl (xrow X (128 * n + d % 128) (2 * g + d / 128)) * lc
      = scl (xrow X (128 * ((4 * n + g) / 4) + d % 128) (2 * ((4 * n + g) % 4) + d / 128)) * lc := fun g hg d _ => by
    rw [show (4 * n + g) / 4 = n by omega, show (4 * n + g) % 4 = g by omega]
  refine scales_then R (a := 128 * n) (G := fun h r => scl (xrow X r h)) (by omega) _ _ ?_ (by rw [k7 .qs (by decide)]; exact h.qs) ?_
  · intro j hj r hr
    refine (g4_of2 (R := 8) (C := 128) _ _ _ _).trans ?_
    exact (heads_g2 v hj hr).trans (hs _ _ _ hr)
  intro σa qa ka
  refine logitRow_then R (a := 4 * n + 0) (G := fun t j => scl (xrow X (128 * (t / 4) + j % 128) (2 * (t % 4) + j / 128)) * lc) (by omega) _ rfl _
    (fun d hd => (hrow 0 (by omega) d hd).trans (row 0 (by omega) d hd)) (by rw [ka .qrow (by decide), k7 .qrow (by decide)]; exact h.qrow) ?_
  intro σb qb kb
  refine logitRow_then R (a := 4 * n + 1) (G := fun t j => scl (xrow X (128 * (t / 4) + j % 128) (2 * (t % 4) + j / 128)) * lc) (by omega) _ rfl _
    (fun d hd => (hrow 1 (by omega) d hd).trans (row 1 (by omega) d hd)) qb ?_
  intro σc qc kc
  refine logitRow_then R (a := 4 * n + 2) (G := fun t j => scl (xrow X (128 * (t / 4) + j % 128) (2 * (t % 4) + j / 128)) * lc) (by omega) _ rfl _
    (fun d hd => (hrow 2 (by omega) d hd).trans (row 2 (by omega) d hd)) qc ?_
  intro σd qd kd
  refine logitRow_then R (a := 4 * n + 3) (G := fun t j => scl (xrow X (128 * (t / 4) + j % 128) (2 * (t % 4) + j / 128)) * lc) (by omega) _ rfl _
    (fun d hd => (hrow 3 (by omega) d hd).trans (row 3 (by omega) d hd)) qd ?_
  intro σe qe ke
  have keep : ∀ b, b ≠ .qrow → σe b = σa b := fun b hb => by rw [ke b hb, kd b hb, kc b hb, kb b hb]
  refine Does.pure ⟨⟨?_, ?_, fun t ht => qe t (by omega)⟩, ?_⟩
  · intro r hr e he hd
    rw [keep .qc (by decide), ka .qc (by decide)]
    exact c7 r hr e he (by omega)
  · rw [keep .qs (by decide)]
    exact qa
  · intro b h1 h2 h3
    rw [keep b h3, ka b h2, k7 b h1]

end Attn
-- ==== Proof.Att.lean ====
module

public import proofs.«01_k».proof.Proof.PhaseQ

/-!
# The attention's numbers, and the blocks that compute them
-/

@[expose] public section

set_option maxRecDepth 16384

noncomputable section

namespace Attn

open Idealize.ShloMosaic Idealize.ShloMosaic.ValueIdx Idealize.SL.Sem

/-- The query row of column `j` in step `t`. -/
def qx (X : ℕ → ℕ → EReal) (t j : ℕ) : ℕ → EReal := xrow X (128 * (t / 4) + j % 128) (2 * (t % 4) + j / 128)

/-- The score of key row `n` and column `j` in step `t`. -/
def SC (X K : ℕ → ℕ → EReal) (t n j : ℕ) : EReal := ∑ d ∈ Finset.range 128, code (K n) d * code (qx X t j) d

/-- The probability, before it is divided by the sum. -/
def PR (X K : ℕ → ℕ → EReal) (lc e2 : EReal) (t n j : ℕ) : EReal :=
  if n ≤ 128 * (t / 4) + j % 128 then Ideal.exp2 (Ideal.tanh (SC X K t n j * (scl (qx X t j) * lc) * scl (K n)) * e2) else 0

/-- The weight: the probability times the normalised scale of the value. -/
def WT (X K V : ℕ → ℕ → EReal) (lc e2 : EReal) (t n j : ℕ) : EReal := PR X K lc e2 t n j * nvs V n

theorem probs_g2 (e2 : EReal) (qr : FVec Ideal S1x256 .f32) (kb : Vec Ideal S128x128 .f32) (sc : Vec Ideal S128x256 .f32) {r j : ℕ}
    (hr : r < 128) (hj : j < 256) : g2 (R := 128) (C := 256) (probs (F := Ideal) e2 qr kb sc) r j
      = Ideal.exp2 (Ideal.tanh (g2 (R := 128) (C := 256) sc r j * g2 (R := 1) (C := 256) qr 0 j * g2 (R := 128) (C := 128) kb r (j % 128)) * e2) := by
  have h1 : g2 (R := 128) (C := 256) (broadcastTo S128x256 qr (by decide)) r j = g2 (R := 1) (C := 256) qr 0 j := g2_rows _ _ hr hj
  have h2 : g2 (R := 128) (C := 256) (cat2 (F := Ideal) kb) r j = g2 (R := 128) (C := 128) kb r (j % 128) := by
    refine (g2_beside (R := 128) (C := 128) (D := 256) kb kb _ hr hj rfl).trans ?_
    split
    · rw [show j % 128 = j by omega]
    · rw [show j % 128 = j - 128 by omega]
  rw [← h1, ← h2, g2_mk _ hr hj, g2_mk _ hr hj, g2_mk _ hr hj, g2_mk _ hr hj]
  rfl

theorem cat2_g2 (kb : Vec Ideal S128x128 .f32) {r j : ℕ} (hr : r < 128) (hj : j < 256) :
    g2 (R := 128) (C := 256) (cat2 (F := Ideal) kb) r j = g2 (R := 128) (C := 128) kb r (j % 128) := by
  refine (g2_beside (R := 128) (C := 128) (D := 256) kb kb _ hr hj rfl).trans ?_
  split
  · rw [show j % 128 = j by omega]
  · rw [show j % 128 = j - 128 by omega]

theorem and_127 : ∀ j : Fin 256, BitVec.ofNat 32 j.val &&& 127#32 = BitVec.ofNat 32 (j.val % 128) := by decide +kernel

theorem sle_small : ∀ r q : Fin 128, (BitVec.ofNat 32 r.val).sle (BitVec.ofNat 32 q.val) = decide (r.val ≤ q.val) := by decide +kernel

theorem causal_g2 (p : FVec Ideal S128x256 .f32) {r j : ℕ} (hr : r < 128) (hj : j < 256) :
    g2 (R := 128) (C := 256) (causal (F := Ideal) p) r j = if r ≤ j % 128 then g2 (R := 128) (C := 256) p r j else 0 := by
  rw [g2_mk _ hr hj, g2_mk _ hr hj]
  show (if BitVec.ofBool ((BitVec.ofNat 32 (0 * 128 + r)).sle (BitVec.ofNat 32 (0 * 256 + j) &&& 127#32)) = 1#1 then p _ else Ideal.ofBits .f32 0x00000000#32) = _
  rw [Nat.zero_mul, Nat.zero_add, Nat.zero_add, and_127 ⟨j, hj⟩, sle_small ⟨r, hr⟩ ⟨j % 128, by omega⟩]
  simp only [ofBool_eq_one, decide_eq_true_eq]
  have : Ideal.ofBits .f32 0x00000000#32 = 0 := by
    have h1 : ((0x00000000#32).extractLsb' (8 + 23) 1 == 1#1) = false := by decide
    have h2 : ((0x00000000#32).extractLsb' 23 8).toNat = 0 := by decide
    have h3 : ((0x00000000#32).extractLsb' 0 23).toNat = 0 := by decide
    show Ideal.ieee 8 23 0x00000000#32 = 0
    unfold Ideal.ieee
    simp only [h1, h2, h3]
    norm_num
  rw [this]

theorem cast3 (p : FVec Ideal S128x256 .f32) (k : Fin 16) (r : Fin 8) (j : Fin 256) :
    shapeCast S16x8x256 p (by decide) (ix3 k r j) = g2 (R := 128) (C := 256) p (8 * k.val + r.val) j := by
  rw [g2_mk _ (by omega) j.isLt]
  refine shapeCast_apply _ _ _ _ ?_
  rw [Shape.rowMajor_val_two, Shape.rowMajor_val_three]
  show (8 * k.val + r.val) * 256 + j.val = (k.val * 8 + r.val) * 256 + j.val
  omega

theorem lift3 (r : Fin 8) (j : Fin 256) (k : Fin 16) :
    (Shape.Reduces.lift (a := (0 : Fin 3)) (s := S16x8x256) (t := S8x256) (by decide) (ix2 r j) k) = ix3 k r j := by
  funext x; match x with
  | ⟨0, _⟩ => rfl
  | ⟨1, _⟩ => rfl
  | ⟨2, _⟩ => rfl

theorem colAdd_g2 (p : FVec Ideal S128x256 .f32) {r j : ℕ} (hr : r < 8) (hj : j < 256) :
    g2 (R := 8) (C := 256) (multiReduction (F := Ideal) .add [0] S8x256 (shapeCast S16x8x256 p (by decide)) 0x00000000#32 (by decide) (.inl rfl) rfl) r j
      = ∑ a ∈ Finset.range 16, g2 (R := 128) (C := 256) p (8 * a + r) j := by
  rw [g2_mk _ hr hj]
  refine (Ideal.multiReduction_add_single (s := S16x8x256) (t := S8x256) (a := (0 : Fin 3)) _ _ _ _ _ _).trans ?_
  refine sum_eq _ _ fun k => ?_
  exact (congrArg _ (lift3 ⟨r, hr⟩ ⟨j, hj⟩ k)).trans (cast3 p k ⟨r, hr⟩ ⟨j, hj⟩)

theorem colMax_g2 (p : FVec Ideal S128x256 .f32) {r j : ℕ} (hr : r < 8) (hj : j < 256) :
    g2 (R := 8) (C := 256) (multiReduction (F := Ideal) .maximumf [0] S8x256 (shapeCast S16x8x256 p (by decide)) 0xFF800000#32 (by decide) (.inl rfl) rfl) r j
      = (Finset.range 16).sup fun a => g2 (R := 128) (C := 256) p (8 * a + r) j := by
  rw [g2_mk _ hr hj]
  refine (Ideal.multiReduction_maximumf_single (s := S16x8x256) (t := S8x256) (a := (0 : Fin 3)) _ _ _ _ _ _).trans ?_
  refine fold_max_eq _ _ fun k => ?_
  exact (congrArg _ (lift3 ⟨r, hr⟩ ⟨j, hj⟩ k)).trans (cast3 p k ⟨r, hr⟩ ⟨j, hj⟩)

theorem lift2 (j : Fin 256) (k : Fin 8) :
    (Shape.Reduces.lift (a := (0 : Fin 2)) (s := S8x256) (t := S256) (by decide) (ix1 j) k) = ix2 k j := by
  funext x; match x with
  | ⟨0, _⟩ => rfl
  | ⟨1, _⟩ => rfl

theorem row_g2 (p : FVec Ideal S256 .f32) {j : ℕ} (hj : j < 256) :
    g2 (R := 1) (C := 256) (shapeCast S1x256 p (by decide)) 0 j = p (ix1 ⟨j, hj⟩) := by
  rw [g2_mk _ (by omega) hj]
  refine shapeCast_apply _ _ _ _ ?_
  rw [Shape.rowMajor_val_two, Shape.rowMajor_val_one]
  show j = 0 * 256 + j
  omega

theorem colSum_g2 (a : FVec Ideal S8x256 .f32) {j : ℕ} (hj : j < 256) :
    g2 (R := 1) (C := 256) (colSum (F := Ideal) a) 0 j = ∑ r ∈ Finset.range 8, g2 (R := 8) (C := 256) a r j := by
  refine (row_g2 _ hj).trans ?_
  refine (Ideal.multiReduction_add_single (s := S8x256) (t := S256) (a := (0 : Fin 2)) _ _ _ _ _ _).trans ?_
  refine sum_eq _ _ fun k => ?_
  exact (congrArg _ (lift2 ⟨j, hj⟩ k)).trans (g2_mk a k.isLt hj).symm

theorem colMax1_g2 (a : FVec Ideal S8x256 .f32) {j : ℕ} (hj : j < 256) :
    g2 (R := 1) (C := 256) (colMax (F := Ideal) a) 0 j = (Finset.range 8).sup fun r => g2 (R := 8) (C := 256) a r j := by
  refine (row_g2 _ hj).trans ?_
  refine (Ideal.multiReduction_maximumf_single (s := S8x256) (t := S256) (a := (0 : Fin 2)) _ _ _ _ _ _).trans ?_
  refine fold_max_eq _ _ fun k => ?_
  exact (congrArg _ (lift2 ⟨j, hj⟩ k)).trans (g2_mk a k.isLt hj).symm

theorem sum_cols (f : ℕ → EReal) (m : ℕ) :
    ∑ r ∈ Finset.range 8, ∑ a ∈ Finset.range m, f (8 * a + r) = ∑ n ∈ Finset.range (8 * m), f n := by
  induction m with
  | zero => simp
  | succ m ih =>
    rw [show 8 * (m + 1) = 8 * m + 8 by omega, Finset.sum_range_add, ← ih, ← Finset.sum_add_distrib]
    exact Finset.sum_congr rfl fun r _ => Finset.sum_range_succ _ _

theorem sup_cols (f : ℕ → EReal) (m : ℕ) :
    ((Finset.range 8).sup fun r => (Finset.range m).sup fun a => f (8 * a + r)) = (Finset.range (8 * m)).sup f := by
  refine le_antisymm (Finset.sup_le fun r hr => Finset.sup_le fun a ha => ?_) (Finset.sup_le fun n hn => ?_)
  · have := Finset.mem_range.mp hr
    have := Finset.mem_range.mp ha
    exact Finset.le_sup (f := f) (Finset.mem_range.mpr (by omega))
  · have hn := Finset.mem_range.mp hn
    have e : f n = f (8 * (n / 8) + n % 8) := by congr 1; omega
    rw [e]
    refine le_trans ?_ (Finset.le_sup (f := fun r => (Finset.range m).sup fun a => f (8 * a + r)) (Finset.mem_range.mpr (by omega : n % 8 < 8)))
    exact Finset.le_sup (f := fun a => f (8 * a + n % 8)) (Finset.mem_range.mpr (by omega : n / 8 < m))

theorem range_sup_add (f : ℕ → EReal) (n m : ℕ) :
    (Finset.range (n + m)).sup f = max ((Finset.range n).sup f) ((Finset.range m).sup fun a => f (n + a)) := by
  refine le_antisymm (Finset.sup_le fun k hk => ?_) (max_le (Finset.sup_le fun k hk => ?_) (Finset.sup_le fun k hk => ?_))
  · have hk := Finset.mem_range.mp hk
    rcases Nat.lt_or_ge k n with h | h
    · exact le_max_of_le_left (Finset.le_sup (Finset.mem_range.mpr h))
    · refine le_max_of_le_right ?_
      have := Finset.le_sup (f := fun a => f (n + a)) (Finset.mem_range.mpr (by omega : k - n < m))
      simpa [Nat.add_sub_cancel' h] using this
  · have hk := Finset.mem_range.mp hk
    exact Finset.le_sup (Finset.mem_range.mpr (by omega))
  · have hk := Finset.mem_range.mp hk
    exact Finset.le_sup (f := f) (Finset.mem_range.mpr (by omega))

end Attn
-- ==== Proof.PhaseS.lean ====
module

public import proofs.«01_k».proof.Proof.Att
public import Idealize.ShloMosaic.Lib.MatmulPlain

/-!
# One chunk of the attention
-/

@[expose] public section

set_option maxRecDepth 16384

noncomputable section

namespace Attn

open Idealize.ShloMosaic Idealize.ShloMosaic.ValueIdx Idealize.ShloMosaic.TcCoe Idealize.SL Idealize.SL.RA Idealize.SL.Sem

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

/-- A block of whole rows stored. -/
theorem put2_at {R C n a : ℕ} (X : (⟨2, ![R, C]⟩ : Shape).Idx → EReal) (w : (⟨2, ![n, C]⟩ : Shape).Idx → EReal) (ha : a + n ≤ R) (r : ℕ) {j : ℕ} (hj : j < C) :
    g2 (VecWindow.put X ![a, 0] ![n, C] w) r j = if a ≤ r ∧ r < a + n then g2 w (r - a) j else g2 X r j := by
  rw [g2_put X w ha (by omega)]
  simp only [Nat.sub_zero, Nat.zero_le, Nat.zero_add, hj, and_true]

theorem zero_bits : Ideal.ofBits .f32 0x00000000#32 = 0 := by
  have h1 : ((0x00000000#32).extractLsb' (8 + 23) 1 == 1#1) = false := by decide
  have h2 : ((0x00000000#32).extractLsb' 23 8).toNat = 0 := by decide
  have h3 : ((0x00000000#32).extractLsb' 0 23).toNat = 0 := by decide
  show Ideal.ieee 8 23 0x00000000#32 = 0
  unfold Ideal.ieee
  simp only [h1, h2, h3]
  norm_num

theorem scores_g2 {n : ℕ} (kb : FVec Ideal ⟨2, ![n, 128]⟩ .fp8e4m3) (q : FVec Ideal S256x128 .fp8e4m3) {r j : ℕ} (hr : r < n) (hj : j < 256) :
    g2 (R := n) (C := 256) (matmul (F := Ideal) (DotDims.transposedRhs n 128 256) none kb q (constant ⟨2, ![n, 256]⟩ .f32 0x00000000#32)) r j
      = ∑ d ∈ Finset.range 128, g2 (R := n) (C := 128) kb r d * g2 (R := 256) (C := 128) q j d := by
  rw [g2_mk _ hr hj]
  refine (Ideal.matmul_transposedRhs_apply none kb q _ ⟨r, hr⟩ ⟨j, hj⟩).trans ?_
  show Ideal.ofBits .f32 0x00000000#32 + _ = _
  rw [zero_bits, zero_add]
  refine sum_eq _ _ fun d => ?_
  rw [g2_mk _ hr d.isLt, g2_mk _ hj d.isLt]

/-- What a store of scores leaves. -/
def Scored (Q K : ℕ → ℕ → EReal) (lo n : ℕ) (σ σ' : State Ideal) : Prop :=
  (∀ r < 2048, ∀ j < 256, g2 (σ' .s) r j = if lo ≤ r ∧ r < lo + n then ∑ d ∈ Finset.range 128, code (K r) d * Q j d else g2 (σ .s) r j)
    ∧ ∀ b, b ≠ .s → σ' b = σ b

theorem scores128_run (q : FVec Ideal S256x128 .fp8e4m3) (lo : ℕ) (h : lo + 128 ≤ 2048) {Q K : ℕ → ℕ → EReal} {σ : State Ideal}
    (hq : ∀ j < 256, ∀ d < 128, g2 (R := 256) (C := 128) q j d = Q j d) (hk : ∀ r < 2048, ∀ d < 128, g3 (σ .kc) r d = code (K r) d) :
    Does' R (scores128 (F := Ideal) R q lo h) σ (fun _ => Scored Q K lo 128 σ) := by
  unfold scores128
  refine Does.ld_then .kc _ _ ?_
  refine Does.st .s _ _ ?_
  refine ⟨fun r hr j hj => ?_, fun b hb => State.set_ne _ hb _⟩
  rw [State.set_same]
  refine (put2_at (R := 2048) (C := 256) (n := 128) _ _ h r hj).trans ?_
  split
  · refine (g2_cast _ _ _ _).trans ((scores_g2 _ _ (by omega) hj).trans (Finset.sum_congr rfl fun d hd => ?_))
    have hd := Finset.mem_range.mp hd
    refine congrArg₂ (· * ·) ?_ (hq j hj d hd)
    refine (g2_of3 _ _ _ _).trans ((g3_window (R := 2048) (C := 128) (n := 128) (m := 128) (a := lo) (b := 0) (σ .kc) _ (by omega) hd).trans ?_)
    rw [Nat.zero_add, show lo + (r - lo) = r by omega, hk r hr d hd]
  · rfl

theorem scores256_run (q : FVec Ideal S256x128 .fp8e4m3) (lo : ℕ) (h : lo + 256 ≤ 2048) {Q K : ℕ → ℕ → EReal} {σ : State Ideal}
    (hq : ∀ j < 256, ∀ d < 128, g2 (R := 256) (C := 128) q j d = Q j d) (hk : ∀ r < 2048, ∀ d < 128, g3 (σ .kc) r d = code (K r) d) :
    Does' R (scores256 (F := Ideal) R q lo h) σ (fun _ => Scored Q K lo 256 σ) := by
  unfold scores256
  refine Does.ld_then .kc _ _ ?_
  refine Does.st .s _ _ ?_
  refine ⟨fun r hr j hj => ?_, fun b hb => State.set_ne _ hb _⟩
  rw [State.set_same]
  refine (put2_at (R := 2048) (C := 256) (n := 256) _ _ h r hj).trans ?_
  split
  · refine (g2_cast _ _ _ _).trans ((scores_g2 _ _ (by omega) hj).trans (Finset.sum_congr rfl fun d hd => ?_))
    have hd := Finset.mem_range.mp hd
    refine congrArg₂ (· * ·) ?_ (hq j hj d hd)
    refine (g2_of3 _ _ _ _).trans ((g3_window (R := 2048) (C := 128) (n := 256) (m := 128) (a := lo) (b := 0) (σ .kc) _ (by omega) hd).trans ?_)
    rw [Nat.zero_add, show lo + (r - lo) = r by omega, hk r hr d hd]
  · rfl

theorem quantChunk_run (k : ℕ) (hk : k < 16) (fv : Vec Ideal S1x256 .f32) {σ : State Ideal} :
    Does' R (quantChunk (F := Ideal) R k hk fv) σ (fun _ σ' =>
      (∀ r < 2048, ∀ j < 256, g2 (σ' .wc) r j = if 128 * k ≤ r ∧ r < 128 * k + 128 then cl (g2 (σ .w) r j * g2 (R := 1) (C := 256) fv 0 j) else g2 (σ .wc) r j)
        ∧ ∀ b, b ≠ .wc → σ' b = σ b) := by
  unfold quantChunk
  refine Does.ld_then .w _ _ ?_
  refine Does.st .wc _ _ ?_
  refine ⟨fun r hr j hj => ?_, fun b hb => State.set_ne _ hb _⟩
  rw [State.set_same]
  refine (put2_at (R := 2048) (C := 256) (n := 128) _ _ (by omega) r hj).trans ?_
  split
  · refine (g2_cast _ _ _ _).trans ?_
    have e1 : g2 (R := 128) (C := 256) (broadcastTo S128x256 (fv : FVec Ideal S1x256 .f32) (by decide)) (r - 128 * k) j = g2 (R := 1) (C := 256) fv 0 j :=
      g2_rows _ _ (by omega) hj
    have e2 := g2_window (R := 2048) (C := 256) (n := 128) (m := 256) (a := 128 * k) (b := 0) (σ .w) (inb2 (chunk_le hk) (by decide)) (by omega : r - 128 * k < 128) hj
    rw [Nat.zero_add, show 128 * k + (r - 128 * k) = r by omega] at e2
    rw [← e1, ← e2, g2_mk _ (by omega) hj, g2_mk _ (by omega) hj, g2_mk _ (by omega) hj]
    rfl
  · rfl

/-- What one chunk leaves: the last weights rounded, the new ones in their place. -/
def Softened (X K V : ℕ → ℕ → EReal) (lc e2 : EReal) (t k : ℕ) (fv : Vec Ideal S1x256 .f32) (σ σ' : State Ideal) : Prop :=
  (∀ r < 2048, ∀ j < 256, g2 (σ' .wc) r j = if 128 * k ≤ r ∧ r < 128 * k + 128 then cl (g2 (σ .w) r j * g2 (R := 1) (C := 256) fv 0 j) else g2 (σ .wc) r j)
    ∧ (∀ r < 2048, ∀ j < 256, g2 (σ' .w) r j = if 128 * k ≤ r ∧ r < 128 * k + 128 then WT X K V lc e2 t r j else g2 (σ .w) r j)
    ∧ ∀ b, b ≠ .wc → b ≠ .w → σ' b = σ b

/-- The statistics of one chunk. -/
def Counted (X K V : ℕ → ℕ → EReal) (lc e2 : EReal) (t k : ℕ) (a : Acc Ideal) : Prop :=
  ∀ r < 8, ∀ j < 256,
    g2 (R := 8) (C := 256) a.1 r j = ∑ n ∈ Finset.range 16, PR X K lc e2 t (8 * (16 * k + n) + r) j
    ∧ g2 (R := 8) (C := 256) a.2.1 r j = ((Finset.range 16).sup fun n => PR X K lc e2 t (8 * (16 * k + n) + r) j)
    ∧ g2 (R := 8) (C := 256) a.2.2 r j = (Finset.range 16).sup fun n => WT X K V lc e2 t (8 * (16 * k + n) + r) j

theorem softChunk_run (lc e2 : EReal) (t k : ℕ) (hk : k < 16) (hkt : k ≤ t / 4) (qr : FVec Ideal S1x256 .f32) (fv : Vec Ideal S1x256 .f32)
    {X K V : ℕ → ℕ → EReal} {σ : State Ideal}
    (hqr : ∀ j < 256, g2 (R := 1) (C := 256) qr 0 j = scl (qx X t j) * lc)
    (hksb : ∀ r < 2048, ∀ d < 128, g2 (σ .ksb) r d = scl (K r)) (hvsb : ∀ r < 2048, ∀ d < 128, g2 (σ .vsb) r d = nvs V r)
    (hs : ∀ r, 128 * k ≤ r → r < 128 * k + 128 → ∀ j < 256, g2 (σ .s) r j = SC X K t r j) :
    Does' R (softChunk (F := Ideal) R e2 (Nat.beq k (t / 4)) k hk qr fv) σ (fun a σ' => Counted X K V lc e2 t k a ∧ Softened X K V lc e2 t k fv σ σ') := by
  unfold softChunk
  refine Does.bind (quantChunk_run R k hk fv) ?_
  rintro _ σ1 ⟨h1, k1⟩
  refine Does.ld_then .ksb _ _ ?_
  refine Does.ld_then .vsb _ _ ?_
  refine Does.ld_then .s _ _ ?_
  rw [k1 .ksb (by decide), k1 .vsb (by decide), k1 .s (by decide)]
  have wk : ∀ r < 128, ∀ d < 128, g2 (R := 128) (C := 128) (VecWindow.window (σ .ksb) ![128 * k, 0] ![128, 128] (inb2 (chunk_le hk) (by decide))) r d = scl (K (128 * k + r)) :=
    fun r hr d hd => (g2_window (R := 2048) (C := 128) (σ .ksb) _ hr hd).trans (hksb _ (by omega) _ (by omega))
  have wv : ∀ r < 128, ∀ d < 128, g2 (R := 128) (C := 128) (VecWindow.window (σ .vsb) ![128 * k, 0] ![128, 128] (inb2 (chunk_le hk) (by decide))) r d = nvs V (128 * k + r) :=
    fun r hr d hd => (g2_window (R := 2048) (C := 128) (σ .vsb) _ hr hd).trans (hvsb _ (by omega) _ (by omega))
  have ws : ∀ r < 128, ∀ j < 256, g2 (R := 128) (C := 256) (VecWindow.window (σ .s) ![128 * k, 0] ![128, 256] (inb2 (chunk_le hk) (by decide))) r j = SC X K t (128 * k + r) j :=
    fun r hr j hj => (g2_window (R := 2048) (C := 256) (σ .s) _ hr hj).trans ((hs _ (by omega) (by omega) _ (by omega)).trans (by rw [Nat.zero_add]))
  generalize hkb : VecWindow.window (σ .ksb) ![128 * k, 0] ![128, 128] (inb2 (chunk_le hk) (by decide)) = kb at wk
  generalize hvb : VecWindow.window (σ .vsb) ![128 * k, 0] ![128, 128] (inb2 (chunk_le hk) (by decide)) = vb at wv
  generalize hsb : VecWindow.window (σ .s) ![128 * k, 0] ![128, 256] (inb2 (chunk_le hk) (by decide)) = sb at ws
  have hp : ∀ r < 128, ∀ j < 256, g2 (R := 128) (C := 256) (cond (Nat.beq k (t / 4)) (causal (F := Ideal) (probs e2 qr kb sb)) (probs e2 qr kb sb)) r j
      = PR X K lc e2 t (128 * k + r) j := by
    intro r hr j hj
    have e := probs_g2 e2 qr kb sb hr hj
    rw [ws r hr j hj, hqr j hj, wk r hr _ (by omega)] at e
    unfold PR
    cases hb : Nat.beq k (t / 4)
    · rw [if_pos (by have := Nat.ne_of_beq_eq_false hb; omega)]
      exact e
    · refine (causal_g2 _ hr hj).trans ?_
      have := Nat.eq_of_beq_eq_true hb
      simp only [show (r ≤ j % 128) = (128 * k + r ≤ 128 * (t / 4) + j % 128) from propext (by omega)]
      rw [e]
  generalize cond (Nat.beq k (t / 4)) (causal (F := Ideal) (probs e2 qr kb sb)) (probs e2 qr kb sb) = p at hp
  have hw : ∀ r < 128, ∀ j < 256, g2 (R := 128) (C := 256) (mulf p (cat2 (F := Ideal) vb)) r j = WT X K V lc e2 t (128 * k + r) j := by
    intro r hr j hj
    have e1 := hp r hr j hj
    have e2 := (cat2_g2 vb hr hj).trans (wv r hr _ (by omega))
    rw [g2_mk _ hr hj] at e1 e2
    rw [g2_mk _ hr hj]
    exact congrArg₂ (· * ·) e1 e2
  refine Does.st_then .w _ _ ?_
  refine Does.pure ⟨?_, ?_, ?_, ?_⟩
  · intro r hr j hj
    have c1 := colAdd_g2 p hr hj
    have c2 := colMax_g2 p hr hj
    have c3 := colMax_g2 (mulf p (cat2 (F := Ideal) vb)) hr hj
    rw [Finset.sum_congr rfl fun n hn => (hp (8 * n + r) (by have := Finset.mem_range.mp hn; omega) j hj).trans
      (by rw [show 128 * k + (8 * n + r) = 8 * (16 * k + n) + r by omega])] at c1
    rw [Finset.sup_congr rfl fun n hn => (hp (8 * n + r) (by have := Finset.mem_range.mp hn; omega) j hj).trans
      (by rw [show 128 * k + (8 * n + r) = 8 * (16 * k + n) + r by omega])] at c2
    rw [Finset.sup_congr rfl fun n hn => (hw (8 * n + r) (by have := Finset.mem_range.mp hn; omega) j hj).trans
      (by rw [show 128 * k + (8 * n + r) = 8 * (16 * k + n) + r by omega])] at c3
    unfold stats
    dsimp only
    exact ⟨c1, c2, c3⟩
  · intro r hr j hj
    rw [State.set_ne _ (by decide)]
    exact h1 r hr j hj
  · intro r hr j hj
    rw [State.set_same, k1 .w (by decide)]
    refine (put2_at (R := 2048) (C := 256) (n := 128) _ _ (by omega) r hj).trans ?_
    split
    · refine (g2_cast _ _ _ _).trans ((hw _ (by omega) _ hj).trans ?_)
      rw [show 128 * k + (r - 128 * k) = r by omega]
    · rfl
  · intro b hb1 hb2
    rw [State.set_ne _ hb2, k1 b hb1]

end Attn
-- ==== Proof.PhaseC.lean ====
module

public import proofs.«01_k».proof.Proof.PhaseS

/-!
# The chunks of one step
-/

@[expose] public section

set_option maxRecDepth 16384

noncomputable section

namespace Attn

open Idealize.ShloMosaic Idealize.ShloMosaic.ValueIdx Idealize.ShloMosaic.TcCoe Idealize.SL Idealize.SL.RA Idealize.SL.Sem

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

/-- The statistics of the first `m` groups of eight rows. -/
def Stats (X K V : ℕ → ℕ → EReal) (lc e2 : EReal) (t m : ℕ) (l p w : FVec Ideal S8x256 .f32) : Prop :=
  ∀ r < 8, ∀ j < 256,
    g2 (R := 8) (C := 256) l r j = ∑ n ∈ Finset.range m, PR X K lc e2 t (8 * n + r) j
    ∧ g2 (R := 8) (C := 256) p r j = ((Finset.range m).sup fun n => PR X K lc e2 t (8 * n + r) j)
    ∧ g2 (R := 8) (C := 256) w r j = ((Finset.range m).sup fun n => WT X K V lc e2 t (8 * n + r) j)

theorem Stats.add {X K V : ℕ → ℕ → EReal} {lc e2 : EReal} {t k : ℕ} {l p w : FVec Ideal S8x256 .f32} {a : Acc Ideal}
    (h : Stats X K V lc e2 t (16 * k) l p w) (ha : Counted X K V lc e2 t k a) :
    Stats X K V lc e2 t (16 * (k + 1)) (addf l a.1) (maximumf p a.2.1) (maximumf w a.2.2) := by
  intro r hr j hj
  obtain ⟨h1, h2, h3⟩ := h r hr j hj
  obtain ⟨a1, a2, a3⟩ := ha r hr j hj
  rw [show 16 * (k + 1) = 16 * k + 16 by omega, Finset.sum_range_add, range_sup_add, range_sup_add, ← h1, ← a1, ← h2, ← a2, ← h3, ← a3]
  refine ⟨?_, ?_, ?_⟩ <;> rw [g2_mk _ hr hj, g2_mk _ hr hj, g2_mk _ hr hj] <;> rfl

/-- Where a step stands after chunk `k`. -/
structure Chunked (X K V : ℕ → ℕ → EReal) (lc e2 : EReal) (t tn : ℕ) (fv : Vec Ideal S1x256 .f32) (σ0 : State Ideal) (k : ℕ) (σ : State Ideal) : Prop where
  wc : ∀ r < 128 * (k + 1), ∀ j < 256, g2 (σ .wc) r j = cl (g2 (σ0 .w) r j * g2 (R := 1) (C := 256) fv 0 j)
  w : ∀ r < 2048, ∀ j < 256, g2 (σ .w) r j = if r < 128 * (k + 1) then WT X K V lc e2 t r j else g2 (σ0 .w) r j
  s : ∀ r, 128 * (k + 1) ≤ r → r < 128 * (t / 4 + 1) → ∀ j < 256, g2 (σ .s) r j = SC X K t r j
  sn : ∀ r < 256 * ((k + 1) / 2), ∀ j < 256, g2 (σ .s) r j = SC X K tn r j
  keep : ∀ b, b ≠ B.wc → b ≠ .w → b ≠ .s → σ b = σ0 b

section

variable {X K V : ℕ → ℕ → EReal} {lc e2 : EReal} {t tn : ℕ} {fv : Vec Ideal S1x256 .f32} {σ0 : State Ideal}
  {q : FVec Ideal S256x128 .fp8e4m3} {qr : FVec Ideal S1x256 .f32}

/-- After a store of scores that leaves the chunks still to come. -/
theorem Chunked.scored {k lo n : ℕ} {σ σ' : State Ideal} (h : ∀ r < 128 * (k + 1), ∀ j < 256, g2 (σ .wc) r j = cl (g2 (σ0 .w) r j * g2 (R := 1) (C := 256) fv 0 j))
    (hw : ∀ r < 2048, ∀ j < 256, g2 (σ .w) r j = if r < 128 * (k + 1) then WT X K V lc e2 t r j else g2 (σ0 .w) r j)
    (hs : ∀ r, 128 * (k + 1) ≤ r → r < 128 * (t / 4 + 1) → ∀ j < 256, g2 (σ .s) r j = SC X K t r j)
    (hsn : ∀ r < lo, ∀ j < 256, g2 (σ .s) r j = SC X K tn r j)
    (hk : ∀ b, b ≠ B.wc → b ≠ .w → b ≠ .s → σ b = σ0 b) (ht : t / 4 < 16) (hb : lo + n ≤ 2048)
    (h1 : lo + n ≤ 128 * (k + 1)) (h2 : 256 * ((k + 1) / 2) ≤ lo + n) (hS : Scored (fun j d => code (qx X tn j) d) K lo n σ σ') :
    Chunked X K V lc e2 t tn fv σ0 k σ' := by
  obtain ⟨s1, s2⟩ := hS
  refine ⟨?_, ?_, ?_, ?_, ?_⟩
  · rw [s2 .wc (by decide)]; exact h
  · rw [s2 .w (by decide)]; exact hw
  · intro r a b j hj
    rw [s1 r (by omega) j hj, if_neg (by omega)]
    exact hs r a b j hj
  · intro r hr j hj
    rw [s1 r (by omega) j hj]
    split
    · rfl
    · exact hsn r (by omega) j hj
  · intro b b1 b2 b3
    rw [s2 b b3]; exact hk b b1 b2 b3

theorem chunks_run (ht : t / 4 < 16) (hqr : ∀ j < 256, g2 (R := 1) (C := 256) qr 0 j = scl (qx X t j) * lc)
    (hq : ∀ j < 256, ∀ d < 128, g2 (R := 256) (C := 128) q j d = code (qx X tn j) d)
    (hkc : ∀ r < 2048, ∀ d < 128, g3 (σ0 .kc) r d = code (K r) d)
    (hksb : ∀ r < 2048, ∀ d < 128, g2 (σ0 .ksb) r d = scl (K r)) (hvsb : ∀ r < 2048, ∀ d < 128, g2 (σ0 .vsb) r d = nvs V r) :
    ∀ (m k : ℕ) (hm : k + 1 + m ≤ 16) (_ : k + m = t / 4) (l p w : FVec Ideal S8x256 .f32) (σ : State Ideal),
      Stats X K V lc e2 t (16 * (k + 1)) l p w → Chunked X K V lc e2 t tn fv σ0 k σ →
      Does' R (chunks (F := Ideal) R e2 (t / 4) q qr fv m k hm l p w) σ
        (fun a σ' => Stats X K V lc e2 t (16 * (t / 4 + 1)) a.1 a.2.1 a.2.2 ∧ Chunked X K V lc e2 t tn fv σ0 (t / 4) σ') := by
  intro m
  induction m with
  | zero =>
    intro k hm hkm l p w σ hS hC
    obtain rfl : k = t / 4 := by omega
    exact Does.pure ⟨hS, hC⟩
  | succ m ih =>
    intro k hm hkm l p w σ hS hC
    unfold chunks
    refine Does.bind (softChunk_run (X := X) (K := K) (V := V) R lc e2 t (k + 1) (by omega) (by omega) qr fv hqr (by rw [hC.keep .ksb (by decide) (by decide) (by decide)]; exact hksb)
      (by rw [hC.keep .vsb (by decide) (by decide) (by decide)]; exact hvsb) (fun r a b j hj => hC.s r (by omega) (by omega) j hj)) ?_
    rintro a σ1 ⟨ha, a1, a2, a3⟩
    have b1 : ∀ r < 128 * (k + 1 + 1), ∀ j < 256, g2 (σ1 .wc) r j = cl (g2 (σ0 .w) r j * g2 (R := 1) (C := 256) fv 0 j) := by
      intro r hr j hj
      rw [a1 r (by omega) j hj]
      split
      · rw [hC.w r (by omega) j hj, if_neg (by omega)]
      · exact hC.wc r (by omega) j hj
    have b2 : ∀ r < 2048, ∀ j < 256, g2 (σ1 .w) r j = if r < 128 * (k + 1 + 1) then WT X K V lc e2 t r j else g2 (σ0 .w) r j := by
      intro r hr j hj
      rw [a2 r (by omega) j hj]
      split
      · rw [if_pos (by omega)]
      · rw [hC.w r (by omega) j hj]
        by_cases h : r < 128 * (k + 1)
        · rw [if_pos h, if_pos (by omega)]
        · rw [if_neg h, if_neg (by omega)]
    have b3 : ∀ r, 128 * (k + 1 + 1) ≤ r → r < 128 * (t / 4 + 1) → ∀ j < 256, g2 (σ1 .s) r j = SC X K t r j := by
      rw [a3 .s (by decide) (by decide)]
      exact fun r x y j hj => hC.s r (by omega) y j hj
    have b4 : ∀ r < 256 * ((k + 1) / 2), ∀ j < 256, g2 (σ1 .s) r j = SC X K tn r j := by
      rw [a3 .s (by decide) (by decide)]
      exact hC.sn
    have b5 : ∀ b, b ≠ B.wc → b ≠ .w → b ≠ .s → σ1 b = σ0 b := fun b x y z => (a3 b x y).trans (hC.keep b x y z)
    have key : Does' R (cond (Nat.beq ((k + 1) % 2) 1) (scores256 (F := Ideal) R q (128 * k) (by omega)) (Pure.pure ⟨⟩)) σ1
        (fun _ σ' => Chunked X K V lc e2 t tn fv σ0 (k + 1) σ') := by
      cases hb : Nat.beq ((k + 1) % 2) 1
      · have := Nat.ne_of_beq_eq_false hb
        refine Does.pure ⟨b1, b2, b3, fun r hr => b4 r (by omega), b5⟩
      · have := Nat.eq_of_beq_eq_true hb
        refine (scores256_run R q (128 * k) (by omega) (Q := fun j d => code (qx X tn j) d) hq
          (by rw [b5 .kc (by decide) (by decide) (by decide)]; exact hkc)).mono fun _ σ' h => ?_
        exact Chunked.scored b1 b2 b3 (fun r hr => b4 r (by omega)) b5 ht (by omega) (by omega) (by omega) h
    refine Does.bind key ?_
    rintro _ σ2 h2
    exact ih (k + 1) (by omega) (by omega) _ _ _ σ2 (hS.add ha) h2

theorem restScores_run (hi : t / 4 < 16) {σ : State Ideal} (hq : ∀ j < 256, ∀ d < 128, g2 (R := 256) (C := 128) q j d = code (qx X tn j) d)
    (hkc : ∀ r < 2048, ∀ d < 128, g3 (σ0 .kc) r d = code (K r) d) (h : Chunked X K V lc e2 t tn fv σ0 (t / 4) σ) :
    Does' R (restScores (F := Ideal) R (t / 4) hi q) σ (fun _ σ' =>
      (∀ r < 128 * (t / 4 + 2), r < 2048 → ∀ j < 256, g2 (σ' .s) r j = SC X K tn r j) ∧ ∀ b, b ≠ .s → σ' b = σ b) := by
  have hk : ∀ r < 2048, ∀ d < 128, g3 (σ .kc) r d = code (K r) d := by
    rw [h.keep .kc (by decide) (by decide) (by decide)]; exact hkc
  unfold restScores
  split
  · refine (scores256_run R q _ _ (Q := fun j d => code (qx X tn j) d) hq hk).mono ?_
    rintro _ σ' ⟨s1, s2⟩
    refine ⟨fun r hr hr' j hj => ?_, s2⟩
    rw [s1 r hr' j hj]
    split
    · rfl
    · exact h.sn r (by omega) j hj
  · split
    · refine (scores128_run R q _ _ (Q := fun j d => code (qx X tn j) d) hq hk).mono ?_
      rintro _ σ' ⟨s1, s2⟩
      refine ⟨fun r hr hr' j hj => ?_, s2⟩
      rw [s1 r hr' j hj]
      split
      · rfl
      · exact h.sn r (by omega) j hj
    · exact Does.pure ⟨fun r hr hr' j hj => h.sn r (by omega) j hj, fun _ _ => rfl⟩

end

end Attn
-- ==== Proof.PhaseP.lean ====
module

public import proofs.«01_k».proof.Proof.PhaseC

/-!
# The weighted sum of the step before, and the factors for the step after
-/

@[expose] public section

set_option maxRecDepth 16384

noncomputable section

namespace Attn

open Idealize.ShloMosaic Idealize.ShloMosaic.ValueIdx Idealize.ShloMosaic.TcCoe Idealize.SL Idealize.SL.RA Idealize.SL.Sem

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

theorem values_g2 {n : ℕ} (vb : FVec Ideal ⟨2, ![128, n]⟩ .fp8e4m3) (wb : FVec Ideal ⟨2, ![n, 256]⟩ .fp8e4m3) {d j : ℕ} (hd : d < 128) (hj : j < 256) :
    g2 (R := 128) (C := 256) (matmul (F := Ideal) (DotDims.plain 128 n 256) none vb wb (constant S128x256 .f32 0x00000000#32)) d j
      = ∑ k ∈ Finset.range n, g2 (R := 128) (C := n) vb d k * g2 (R := n) (C := 256) wb k j := by
  rw [g2_mk _ hd hj]
  refine (Ideal.matmul_plain_apply none vb wb _ ⟨d, hd⟩ ⟨j, hj⟩).trans ?_
  show Ideal.ofBits .f32 0x00000000#32 + _ = _
  rw [zero_bits, zero_add]
  refine sum_eq _ _ fun k => ?_
  rw [g2_mk _ hd k.isLt, g2_mk _ k.isLt hj]

/-- What the store of one weighted sum leaves. -/
def Summed (n a h : ℕ) (ofv : Vec Ideal S1x256 .f32) (σ σ' : State Ideal) : Prop :=
  (∀ d < 128, ∀ j < 256, g3 (σ' .o) (128 * a + j % 128) (128 * (h + j / 128) + d)
      = (∑ k ∈ Finset.range (128 * n), g2 (σ .vt) d k * g2 (σ .wc) k j) * g2 (R := 1) (C := 256) ofv 0 j)
    ∧ (∀ r e, (r < 128 * a ∨ 128 * a + 128 ≤ r ∨ e < 128 * h ∨ 128 * h + 256 ≤ e) → g3 (σ' .o) r e = g3 (σ .o) r e)
    ∧ ∀ b, b ≠ .o → σ' b = σ b

/-- One weighted sum, rescaled. -/
def block (n : ℕ) (vb : FVec Ideal ⟨2, ![128, n]⟩ .fp8e4m3) (wb : FVec Ideal ⟨2, ![n, 256]⟩ .fp8e4m3) (ofv : FVec Ideal S1x256 .f32) : FVec Ideal S128x256 .bf16 :=
  truncf (F := Ideal) .bf16 (mulf (matmul (F := Ideal) (DotDims.plain 128 n 256) none vb wb (constant S128x256 .f32 0x00000000#32))
    (broadcastTo S128x256 ofv (by decide))) (by decide)

theorem block_g2 {n : ℕ} (vb : FVec Ideal ⟨2, ![128, n]⟩ .fp8e4m3) (wb : FVec Ideal ⟨2, ![n, 256]⟩ .fp8e4m3) (ofv : FVec Ideal S1x256 .f32) {d j : ℕ} (hd : d < 128) (hj : j < 256) :
    g2 (R := 128) (C := 256) (block n vb wb ofv) d j = (∑ k ∈ Finset.range n, g2 (R := 128) (C := n) vb d k * g2 (R := n) (C := 256) wb k j) * g2 (R := 1) (C := 256) ofv 0 j := by
  have v1 := values_g2 vb wb hd hj
  have v2 : g2 (R := 128) (C := 256) (broadcastTo S128x256 ofv (by decide)) d j = g2 (R := 1) (C := 256) ofv 0 j := g2_rows _ _ hd hj
  rw [← v1, ← v2, g2_mk _ hd hj, g2_mk _ hd hj, g2_mk _ hd hj]
  unfold block
  exact mulf_apply _ _ _

theorem half_g3 (A : FVec Ideal S128x256 .bf16) (o : ℕ) (ho : o + 128 ≤ 256) (h) {r d : ℕ} (hr : r < 128) (hd : d < 128) :
    g3 (R := 128) (C := 128) (shapeCast S1x128x128 (transpose S128x128 [1, 0]
      (extractStridedSlice S128x128 ![0, o] A h) (by decide)) (by decide)) r d = g2 (R := 128) (C := 256) A d (o + r) := by
  refine (g3_of2 (R := 128) (C := 128) _ _ _ _).trans ((g2_transpose (R := 128) (C := 128) _ _ _ _).trans ?_)
  refine (g2_slice (R := 128) (C := 256) (n := 128) (m := 128) (a := 0) (b := o) _ _ hd hr (by omega) (by omega)).trans ?_
  rw [Nat.zero_add]

/-- Two heads' columns stored side by side. -/
theorem put_heads (O : (⟨3, ![1, 2048, 1024]⟩ : Shape).Idx → EReal) (w0 w1 : (⟨3, ![1, 128, 128]⟩ : Shape).Idx → EReal) (G : ℕ → ℕ → EReal) {a h : ℕ} (ha : a < 16) (hh : h + 1 < 8)
    (h0 : ∀ r < 128, ∀ d < 128, g3 w0 r d = G d (0 + r)) (h1 : ∀ r < 128, ∀ d < 128, g3 w1 r d = G d (128 + r)) :
    (∀ d < 128, ∀ j < 256, g3 (VecWindow.put (VecWindow.put O ![0, 128 * a, 128 * h] ![1, 128, 128] w0) ![0, 128 * a, 128 * (h + 1)] ![1, 128, 128] w1)
        (128 * a + j % 128) (128 * (h + j / 128) + d) = G d j)
    ∧ ∀ r e, (r < 128 * a ∨ 128 * a + 128 ≤ r ∨ e < 128 * h ∨ 128 * h + 256 ≤ e) →
        g3 (VecWindow.put (VecWindow.put O ![0, 128 * a, 128 * h] ![1, 128, 128] w0) ![0, 128 * a, 128 * (h + 1)] ![1, 128, 128] w1) r e = g3 O r e := by
  refine ⟨fun d hd j hj => ?_, fun r e hre => ?_⟩
  · rw [g3_put _ _ (by omega) (by omega)]
    split
    · rw [h1 _ (by omega) _ (by omega)]
      congr 1 <;> omega
    · rw [g3_put _ _ (by omega) (by omega), if_pos (by omega), h0 _ (by omega) _ (by omega)]
      congr 1 <;> omega
  · rw [g3_put _ _ (by omega) (by omega), if_neg (by omega), g3_put _ _ (by omega) (by omega), if_neg (by omega)]

theorem pv_run (n a h : ℕ) (hn : n ≤ 16) (hn0 : 0 < n) (ha : a < 16) (hh : h + 1 < 8) (ofv : Vec Ideal S1x256 .f32) {o0 o1 : Fin 3 → ℕ} (h0) (h1) (p0) (p1)
    (e0 : o0 = ![0, 128 * a, 128 * h]) (e1 : o1 = ![0, 128 * a, 128 * (h + 1)]) {σ : State Ideal} :
    Does' R (pv (F := Ideal) R n hn hn0 ofv o0 o1 h0 h1 p0 p1) σ (fun _ => Summed n a h ofv σ) := by
  subst e0 e1
  unfold pv
  refine Does.ld_then .vt _ _ ?_
  refine Does.ld_then .wc _ _ ?_
  have hb : ∀ d < 128, ∀ j < 256, g2 (R := 128) (C := 256) (block (128 * n) (VecWindow.window (σ .vt) ![0, 0] ![128, 128 * n] (inb2c (Nat.le_refl _) (by omega)))
      (VecWindow.window (σ .wc) ![0, 0] ![128 * n, 256] (inb2 (by omega) (Nat.le_refl _))) ofv) d j
      = (∑ k ∈ Finset.range (128 * n), g2 (σ .vt) d k * g2 (σ .wc) k j) * g2 (R := 1) (C := 256) ofv 0 j := by
    intro d hd j hj
    refine (block_g2 _ _ _ hd hj).trans (congrArg (· * _) (Finset.sum_congr rfl fun k hk => congrArg₂ (· * ·) ?_ ?_))
    · exact (g2_window (R := 128) (C := 2048) (σ .vt) _ hd (Finset.mem_range.mp hk)).trans (by rw [Nat.zero_add, Nat.zero_add])
    · exact (g2_window (R := 2048) (C := 256) (σ .wc) _ (Finset.mem_range.mp hk) hj).trans (by rw [Nat.zero_add, Nat.zero_add])
  refine Does.st_then .o _ _ ?_
  refine Does.st .o _ _ ?_
  rw [State.set_same]
  obtain ⟨r1, r2⟩ := put_heads (σ .o) _ _ (fun d j => (∑ k ∈ Finset.range (128 * n), g2 (σ .vt) d k * g2 (σ .wc) k j) * g2 (R := 1) (C := 256) ofv 0 j) ha hh (fun r hr d hd => (half_g3 _ 0 (by omega) (by decide) hr hd).trans (hb d hd _ (by omega)))
    (fun r hr d hd => (half_g3 _ 128 (by omega) (by decide) hr hd).trans (hb d hd _ (by omega)))
  refine ⟨fun d hd j hj => ?_, fun r e hre => ?_, fun b hb => by rw [State.set_ne _ hb, State.set_ne _ hb]⟩
  · rw [State.set_same]
    exact r1 d hd j hj
  · rw [State.set_same]
    exact r2 r e hre

end Attn
-- ==== Proof.PhaseF.lean ====
module

public import proofs.«01_k».proof.Proof.PhaseP

/-!
# The factors for the step after
-/

@[expose] public section

set_option maxRecDepth 16384

noncomputable section

namespace Attn

open Idealize.ShloMosaic Idealize.ShloMosaic.ValueIdx Idealize.ShloMosaic.TcCoe Idealize.SL Idealize.SL.RA Idealize.SL.Sem

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

theorem mul_g2 {r c : ℕ} (A B : FVec Ideal ⟨2, ![r, c]⟩ .f32) {i j : ℕ} (hi : i < r) (hj : j < c) : g2 (mulf A B) i j = g2 A i j * g2 B i j := by
  rw [g2_mk _ hi hj, g2_mk _ hi hj, g2_mk _ hi hj]; exact mulf_apply _ _ _

theorem div_g2 {r c : ℕ} (A B : FVec Ideal ⟨2, ![r, c]⟩ .f32) {i j : ℕ} (hi : i < r) (hj : j < c) : g2 (divf A B) i j = Ideal.div (g2 A i j) (g2 B i j) := by
  rw [g2_mk _ hi hj, g2_mk _ hi hj, g2_mk _ hi hj]; rfl

theorem inv_g2 {r c : ℕ} (A : FVec Ideal ⟨2, ![r, c]⟩ .f32) {i j : ℕ} (hi : i < r) (hj : j < c) : g2 (invOf A) i j = iv (g2 A i j) := by
  rw [g2_mk _ hi hj, g2_mk _ hi hj]; exact invOf_apply _ _

theorem scale_g2 {r c : ℕ} (A : FVec Ideal ⟨2, ![r, c]⟩ .f32) {i j : ℕ} (hi : i < r) (hj : j < c) : g2 (scaleOf A) i j = sc (g2 A i j) := by
  rw [g2_mk _ hi hj, g2_mk _ hi hj]; exact scaleOf_apply _ _

theorem splat_g2 {r c : ℕ} (x : EReal) {i j : ℕ} (hi : i < r) (hj : j < c) : g2 (R := r) (C := c) (broadcast (⟨2, ![r, c]⟩ : Shape) x) i j = x := by
  rw [g2_mk _ hi hj]; rfl

/-- The largest probability of a column, the largest weight, and the sum of the probabilities. -/
def PM (X K : ℕ → ℕ → EReal) (lc e2 : EReal) (t j : ℕ) : EReal := (Finset.range (128 * (t / 4 + 1))).sup fun n => PR X K lc e2 t n j
def WM (X K V : ℕ → ℕ → EReal) (lc e2 : EReal) (t j : ℕ) : EReal := (Finset.range (128 * (t / 4 + 1))).sup fun n => WT X K V lc e2 t n j
def LS (X K : ℕ → ℕ → EReal) (lc e2 : EReal) (t j : ℕ) : EReal := ∑ n ∈ Finset.range (128 * (t / 4 + 1)), PR X K lc e2 t n j

/-- One over the largest probability. -/
def RP (X K : ℕ → ℕ → EReal) (lc e2 : EReal) (t j : ℕ) : EReal := Ideal.div (Ideal.ofBits .f32 0x3F800000#32) (PM X K lc e2 t j)

/-- The largest normalised weight over 448. -/
def ZW (X K V : ℕ → ℕ → EReal) (lc e2 : EReal) (t j : ℕ) : EReal := WM X K V lc e2 t j * RP X K lc e2 t j * c448

/-- The factor of the weights before they are rounded, and that of the sums. -/
def FF (X K V : ℕ → ℕ → EReal) (lc e2 : EReal) (t j : ℕ) : EReal := iv (ZW X K V lc e2 t j) * RP X K lc e2 t j
def OFF (X K V : ℕ → ℕ → EReal) (lc e2 un : EReal) (t j : ℕ) : EReal :=
  sc (ZW X K V lc e2 t j) * Ideal.div (PM X K lc e2 t j) (LS X K lc e2 t j) * un

theorem finish_run {X K V : ℕ → ℕ → EReal} {lc e2 : EReal} (un : EReal) {t : ℕ} (a : Acc Ideal) (ha : Stats X K V lc e2 t (16 * (t / 4 + 1)) a.1 a.2.1 a.2.2) {σ : State Ideal} :
    Does' R (finish (F := Ideal) R un a) σ (fun _ σ' =>
      (∀ j < 256, g2 (σ' .f) 0 j = FF X K V lc e2 t j) ∧ (∀ j < 256, g2 (σ' .of) 0 j = OFF X K V lc e2 un t j)
        ∧ ∀ b, b ≠ .f → b ≠ .of → σ' b = σ b) := by
  have l1 : ∀ j < 256, g2 (R := 1) (C := 256) (colSum (F := Ideal) a.1) 0 j = LS X K lc e2 t j := fun j hj => by
    refine (colSum_g2 a.1 hj).trans ((Finset.sum_congr rfl fun r hr => (ha r (Finset.mem_range.mp hr) j hj).1).trans ?_)
    rw [sum_cols (fun n => PR X K lc e2 t n j)]
    unfold LS; rw [show 8 * (16 * (t / 4 + 1)) = 128 * (t / 4 + 1) by omega]
  have l2 : ∀ j < 256, g2 (R := 1) (C := 256) (colMax (F := Ideal) a.2.1) 0 j = PM X K lc e2 t j := fun j hj => by
    refine (colMax1_g2 a.2.1 hj).trans ((Finset.sup_congr rfl fun r hr => (ha r (Finset.mem_range.mp hr) j hj).2.1).trans ?_)
    rw [sup_cols (fun n => PR X K lc e2 t n j)]
    unfold PM; rw [show 8 * (16 * (t / 4 + 1)) = 128 * (t / 4 + 1) by omega]
  have l3 : ∀ j < 256, g2 (R := 1) (C := 256) (colMax (F := Ideal) a.2.2) 0 j = WM X K V lc e2 t j := fun j hj => by
    refine (colMax1_g2 a.2.2 hj).trans ((Finset.sup_congr rfl fun r hr => (ha r (Finset.mem_range.mp hr) j hj).2.2).trans ?_)
    rw [sup_cols (fun n => WT X K V lc e2 t n j)]
    unfold WM; rw [show 8 * (16 * (t / 4 + 1)) = 128 * (t / 4 + 1) by omega]
  have l4 : ∀ j < 256, g2 (R := 1) (C := 256) (recipMax (F := Ideal) a) 0 j = RP X K lc e2 t j := fun j hj => by
    unfold recipMax RP
    refine (div_g2 _ _ (by omega) hj).trans (congrArg₂ Ideal.div (splat_g2 _ (by omega) hj) (l2 j hj))
  have l5 : ∀ j < 256, g2 (R := 1) (C := 256) (weightMax (F := Ideal) a) 0 j = ZW X K V lc e2 t j := fun j hj => by
    unfold weightMax ZW
    exact (mul_g2 _ _ (by omega) hj).trans (congrArg₂ (· * ·) ((mul_g2 _ _ (by omega) hj).trans (congrArg₂ (· * ·) (l3 j hj) (l4 j hj))) (splat_g2 _ (by omega) hj))
  have l6 : ∀ j < 256, g2 (R := 1) (C := 256) (nextF (F := Ideal) a) 0 j = FF X K V lc e2 t j := fun j hj => by
    unfold nextF FF
    exact (mul_g2 _ _ (by omega) hj).trans (congrArg₂ (· * ·) ((inv_g2 _ (by omega) hj).trans (congrArg iv (l5 j hj))) (l4 j hj))
  have l7 : ∀ j < 256, g2 (R := 1) (C := 256) (nextOf (F := Ideal) un a) 0 j = OFF X K V lc e2 un t j := fun j hj => by
    unfold nextOf OFF
    exact (mul_g2 _ _ (by omega) hj).trans (congrArg₂ (· * ·) ((mul_g2 _ _ (by omega) hj).trans (congrArg₂ (· * ·)
      ((scale_g2 _ (by omega) hj).trans (congrArg sc (l5 j hj))) ((div_g2 _ _ (by omega) hj).trans (congrArg₂ Ideal.div (l2 j hj) (l1 j hj))))) (splat_g2 _ (by omega) hj))
  clear l1 l2 l3 l4 l5
  unfold finish
  generalize nextF (F := Ideal) a = fa at l6 ⊢
  generalize nextOf (F := Ideal) un a = ofa at l7 ⊢
  refine Does.st_then .f _ _ ?_
  refine Does.st_then .of _ _ ?_
  refine Does.pure ⟨fun j hj => ?_, fun j hj => ?_, fun b b1 b2 => by rw [State.set_ne _ b2, State.set_ne _ b1]⟩
  · rw [State.set_ne _ (by decide), State.set_same]
    exact (g2_put_all (R := 1) (C := 256) _ _ _ _).trans ((g2_cast _ _ _ _).trans (l6 j hj))
  · rw [State.set_same]
    exact (g2_put_all (R := 1) (C := 256) _ _ _ _).trans ((g2_cast _ _ _ _).trans (l7 j hj))

end Attn
-- ==== Proof.PhaseT.lean ====
module

public import proofs.«01_k».proof.Proof.PhaseF
public import proofs.«01_k».proof.Proof.Keeps

/-!
# One step of the attention
-/

@[expose] public section

set_option maxRecDepth 16384

noncomputable section

namespace Attn

open Idealize.ShloMosaic Idealize.ShloMosaic.ValueIdx Idealize.ShloMosaic.TcCoe Idealize.SL Idealize.SL.RA Idealize.SL.Sem

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

/-- The attention output of step `t`: row `j`, coordinate `d`. -/
def OUT (X K V : ℕ → ℕ → EReal) (lc e2 un : EReal) (t d j : ℕ) : EReal :=
  (∑ n ∈ Finset.range 2048, code (V n) d * cl (WT X K V lc e2 t n j * FF X K V lc e2 t j)) * OFF X K V lc e2 un t j

theorem WT_out {X K V : ℕ → ℕ → EReal} {lc e2 : EReal} {t n j : ℕ} (h : 128 * (t / 4 + 1) ≤ n) : WT X K V lc e2 t n j = 0 := by
  unfold WT PR
  rw [if_neg (by omega), zero_mul]

theorem top_bits : Ideal.ofBits .f32 0x43E00000#32 = ((448 : ℝ) : EReal) := by
  show Ideal.ieee 8 23 (0x43E00000#32) = _
  have h1 : ((0x43E00000#32).extractLsb' (8 + 23) 1 == 1#1) = false := by decide
  have h2 : ((0x43E00000#32).extractLsb' 23 8).toNat = 135 := by decide
  have h3 : ((0x43E00000#32).extractLsb' 0 23).toNat = 6291456 := by decide
  unfold Ideal.ieee
  simp only [h1, h2, h3]
  norm_num

theorem bot_bits : Ideal.ofBits .f32 0xC3E00000#32 = ((-448 : ℝ) : EReal) := by
  show Ideal.ieee 8 23 (0xC3E00000#32) = _
  have h1 : ((0xC3E00000#32).extractLsb' (8 + 23) 1 == 1#1) = true := by decide
  have h2 : ((0xC3E00000#32).extractLsb' 23 8).toNat = 135 := by decide
  have h3 : ((0xC3E00000#32).extractLsb' 0 23).toNat = 6291456 := by decide
  unfold Ideal.ieee
  simp only [h1, h2, h3]
  norm_num

theorem cl_of_abs {x : ℝ} (h1 : -448 ≤ x) (h2 : x ≤ 448) : cl (x : EReal) = (x : EReal) := by
  unfold cl
  rw [top_bits, bot_bits, max_eq_right (by exact_mod_cast h1), min_eq_right (by exact_mod_cast h2)]

theorem cl_zero : cl 0 = 0 := by
  have := cl_of_abs (x := 0) (by norm_num) (by norm_num)
  exact_mod_cast this

theorem sum_extend {f : ℕ → EReal} {m : ℕ} (hm : m ≤ 2048) (h : ∀ n, m ≤ n → n < 2048 → f n = 0) : ∑ n ∈ Finset.range m, f n = ∑ n ∈ Finset.range 2048, f n :=
  Finset.sum_subset (Finset.range_subset_range.mpr hm) fun n hn hm => h n (by simpa using hm) (Finset.mem_range.mp hn)

/-- Before step `t`, with the weights of the step before in the first `m` rows. -/
structure At (σi : State Ideal) (X K V : ℕ → ℕ → EReal) (lc e2 un : EReal) (t m : ℕ) (σ : State Ideal) : Prop where
  kc : ∀ r < 2048, ∀ d < 128, g3 (σ .kc) r d = code (K r) d
  ksb : ∀ r < 2048, ∀ d < 128, g2 (σ .ksb) r d = scl (K r)
  vsb : ∀ r < 2048, ∀ d < 128, g2 (σ .vsb) r d = nvs V r
  vt : ∀ r < 2048, ∀ d < 128, g2 (σ .vt) d r = code (V r) d
  qc : QC X 16 0 σ
  qrow : ∀ t < 64, ∀ j < 256, gm (σ .qrow) t j = scl (qx X t j) * lc
  s : ∀ r < 128 * (min t 63 / 4 + 1), ∀ j < 256, g2 (σ .s) r j = SC X K (min t 63) r j
  w : ∀ p, t = p + 1 → ∀ r < 128 * m, ∀ j < 256, g2 (σ .w) r j = WT X K V lc e2 p r j
  f : ∀ p, t = p + 1 → ∀ j < 256, g2 (σ .f) 0 j = FF X K V lc e2 p j
  of : ∀ p, t = p + 1 → ∀ j < 256, g2 (σ .of) 0 j = OFF X K V lc e2 un p j
  o : ∀ p, p + 1 < t → ∀ d < 128, ∀ j < 256, g3 (σ .o) (128 * (p / 4) + j % 128) (128 * (2 * (p % 4) + j / 128) + d) = OUT X K V lc e2 un p d j
  keep : ∀ b, settled b = true → σ b = σi b

theorem catQ_g2 (q0 q1 : Vec Ideal S1x128x128 .fp8e4m3) {X : ℕ → ℕ → EReal} {t : ℕ}
    (h0 : ∀ r < 128, ∀ d < 128, g3 (R := 128) (C := 128) q0 r d = code (xrow X (128 * (t / 4) + r) (2 * (t % 4))) d)
    (h1 : ∀ r < 128, ∀ d < 128, g3 (R := 128) (C := 128) q1 r d = code (xrow X (128 * (t / 4) + r) (2 * (t % 4) + 1)) d) {j d : ℕ} (hj : j < 256) (hd : d < 128) :
    g2 (R := 256) (C := 128) (catQ (F := Ideal) q0 q1) j d = code (qx X t j) d := by
  unfold catQ qx
  refine (g2_above (R := 128) (C := 128) (D := 256) _ _ _ hj hd rfl).trans ?_
  split
  · refine (g2_of3 _ _ _ _).trans ((h0 _ (by omega) d hd).trans ?_)
    rw [show j % 128 = j by omega, show j / 128 = 0 by omega, Nat.add_zero]
  · refine (g2_of3 _ _ _ _).trans ((h1 _ (by omega) d hd).trans ?_)
    rw [show j % 128 = j - 128 by omega, show j / 128 = 1 by omega]

theorem qblock {X : ℕ → ℕ → EReal} {σ : State Ideal} (h : QC X 16 0 σ) {a e : ℕ} (ha : a < 16) (he : e < 8) (hin) {r d : ℕ} (hr : r < 128) (hd : d < 128) :
    g3 (R := 128) (C := 128) (VecWindow.window (σ .qc) ![0, 128 * a, 128 * e] ![1, 128, 128] hin) r d = code (xrow X (128 * a + r) e) d := by
  refine (g3_window (R := 2048) (C := 1024) (σ .qc) _ hr hd).trans ((h _ (by omega) _ (by omega) (by omega)).trans ?_)
  rw [show (128 * e + d) / 128 = e by omega, show (128 * e + d) % 128 = d by omega]

theorem step_run {σi : State Ideal} {X K V : ℕ → ℕ → EReal} {lc e2 : EReal} (un : EReal) (t : ℕ) (ht : t < 64) (hi : t / 4 < 16) {oR : Fin 3 → ℕ} {oQ oO : Fin 2 → Fin 3 → ℕ} (hR) (hQ) (hO) (pO)
    (eR : oR = ![t, 0, 0]) (eQ : ∀ j, oQ j = ![0, 128 * (min (t + 1) 63 / 4), 128 * (2 * (min (t + 1) 63 % 4) + j.val)])
    (eO : ∀ j, oO j = ![0, 128 * ((t - 1) / 4), 128 * (2 * ((t - 1) % 4) + j.val)]) {σ : State Ideal}
    (h : At σi X K V lc e2 un t (t / 4 + 1) σ) :
    Does' R (step (F := Ideal) R e2 un (t / 4) hi oR oQ oO hR hQ hO pO) σ (fun _ => At σi X K V lc e2 un (t + 1) (t / 4 + 1)) := by
  obtain rfl : oQ = fun j => ![0, 128 * (min (t + 1) 63 / 4), 128 * (2 * (min (t + 1) 63 % 4) + j.val)] := funext eQ
  obtain rfl : oO = fun j => ![0, 128 * ((t - 1) / 4), 128 * (2 * ((t - 1) % 4) + j.val)] := funext eO
  subst eR
  have htn : min (t + 1) 63 < 64 := by omega
  unfold step
  refine Does.ld_then .qrow _ _ ?_
  refine Does.ld_then .f _ _ ?_
  refine Does.ld_then .of _ _ ?_
  refine Does.ld_then .qc _ _ ?_
  refine Does.ld_then .qc _ _ ?_
  have hqr : ∀ j < 256, g2 (R := 1) (C := 256) (shapeCast S1x256 (VecWindow.window (σ .qrow) ![t, 0, 0] ![1, 1, 256] hR) (show S1x1x256.ShapeCasts S1x256 by decide)) 0 j = scl (qx X t j) * lc := by
    intro j hj
    refine (g2_of3 (R := 1) (C := 256) _ _ _ _).trans ((gm_window (R := 64) (C := 256) (σ .qrow) _ hj).trans ?_)
    rw [Nat.zero_add]
    exact h.qrow t ht j hj
  have hf : ∀ j < 256, g2 (R := 1) (C := 256) (VecWindow.window (σ .f) ![0, 0] ![1, 256] (by decide)) 0 j = g2 (σ .f) 0 j := fun j hj =>
    (g2_window (R := 1) (C := 256) (σ .f) _ (by omega) hj).trans (by rw [Nat.zero_add, Nat.zero_add])
  have hof : ∀ j < 256, g2 (R := 1) (C := 256) (VecWindow.window (σ .of) ![0, 0] ![1, 256] (by decide)) 0 j = g2 (σ .of) 0 j := fun j hj =>
    (g2_window (R := 1) (C := 256) (σ .of) _ (by omega) hj).trans (by rw [Nat.zero_add, Nat.zero_add])
  have hq : ∀ j < 256, ∀ d < 128, g2 (R := 256) (C := 128) (catQ (F := Ideal)
      (VecWindow.window (σ .qc) ![0, 128 * (min (t + 1) 63 / 4), 128 * (2 * (min (t + 1) 63 % 4) + (0 : Fin 2).val)] ![1, 128, 128] (hQ 0))
      (VecWindow.window (σ .qc) ![0, 128 * (min (t + 1) 63 / 4), 128 * (2 * (min (t + 1) 63 % 4) + (1 : Fin 2).val)] ![1, 128, 128] (hQ 1))) j d
      = code (qx X (min (t + 1) 63) j) d := by
    intro j hj d hd
    exact catQ_g2 _ _ (fun r hr d hd => qblock h.qc (by omega) (by omega) _ hr hd) (fun r hr d hd => qblock h.qc (by omega) (by omega) _ hr hd) hj hd
  generalize shapeCast S1x256 (VecWindow.window (σ .qrow) ![t, 0, 0] ![1, 1, 256] hR) (show S1x1x256.ShapeCasts S1x256 by decide) = qr at hqr ⊢
  generalize VecWindow.window (σ .f) ![0, 0] ![1, 256] (by decide) = fv at hf ⊢
  generalize VecWindow.window (σ .of) ![0, 0] ![1, 256] (by decide) = ofv at hof ⊢
  generalize catQ (F := Ideal)
      (VecWindow.window (σ .qc) ![0, 128 * (min (t + 1) 63 / 4), 128 * (2 * (min (t + 1) 63 % 4) + (0 : Fin 2).val)] ![1, 128, 128] (hQ 0))
      (VecWindow.window (σ .qc) ![0, 128 * (min (t + 1) 63 / 4), 128 * (2 * (min (t + 1) 63 % 4) + (1 : Fin 2).val)] ![1, 128, 128] (hQ 1)) = q at hq ⊢
  have hs := h.s
  rw [show min t 63 = t by omega] at hs
  refine Does.bind (softChunk_run (X := X) (K := K) (V := V) R lc e2 t 0 (by omega) (by omega) qr fv hqr h.ksb h.vsb (fun r _ b j hj => hs r (by omega) j hj)) ?_
  rintro a0 σ1 ⟨c1, a1, a2, a3⟩
  have S1 : Stats X K V lc e2 t (16 * (0 + 1)) a0.1 a0.2.1 a0.2.2 := by
    intro r hr j hj
    have := c1 r hr j hj
    simp only [Nat.mul_zero, Nat.zero_add] at this
    exact this
  have C1 : Chunked X K V lc e2 t (min (t + 1) 63) fv σ 0 σ1 := by
    refine ⟨fun r hr j hj => ?_, fun r hr j hj => ?_, ?_, fun r hr => absurd hr (by omega), fun b b1 b2 _ => a3 b b1 b2⟩
    · rw [a1 r (by omega) j hj, if_pos (by omega)]
    · rw [a2 r (by omega) j hj]
      simp only [Nat.mul_zero, Nat.zero_le, true_and, Nat.zero_add, Nat.mul_one]
    · rw [a3 .s (by decide) (by decide)]
      exact fun r _ b j hj => hs r b j hj
  refine Does.bind (chunks_run R hi hqr hq h.kc h.ksb h.vsb (t / 4) 0 (by omega) (by omega) _ _ _ σ1 S1 C1) ?_
  rintro a σ2 ⟨S2, C2⟩
  refine Does.bind (restScores_run R hi hq h.kc C2) ?_
  rintro _ σ3 ⟨s3, k3⟩
  refine Does.bind (pv_run R (t / 4 + 1) ((t - 1) / 4) (2 * ((t - 1) % 4)) hi (by omega) (by omega) (by omega) ofv _ _ _ _ rfl rfl) ?_
  rintro _ σ4 ⟨o4, p4, k4⟩
  refine (finish_run R un a S2).mono ?_
  rintro _ σ5 ⟨f5, g5, k5⟩
  have keep : ∀ b, b ≠ B.wc → b ≠ .w → b ≠ .s → b ≠ .o → b ≠ .f → b ≠ .of → σ5 b = σ b := fun b b1 b2 b3 b4 b5 b6 => by
    rw [k5 b b5 b6, k4 b b4, k3 b b3, C2.keep b b1 b2 b3]
  have e : ∀ b, b ≠ B.s → b ≠ .o → b ≠ .f → b ≠ .of → σ5 b = σ2 b := fun b b3 b4 b5 b6 => by
    rw [k5 b b5 b6, k4 b b4, k3 b b3]
  have kept : ∀ b, settled b = true → σ5 b = σi b := fun b hb => by
    have ne : ∀ b', settled b' = false → b ≠ b' := fun b' h' e => by rw [e, h'] at hb; exact Bool.false_ne_true hb
    exact (keep b (ne _ rfl) (ne _ rfl) (ne _ rfl) (ne _ rfl) (ne _ rfl) (ne _ rfl)).trans (h.keep b hb)
  refine ⟨?_, ?_, ?_, ?_, ?_, ?_, ?_, ?_, ?_, ?_, ?_, kept⟩
  · rw [keep .kc (by decide) (by decide) (by decide) (by decide) (by decide) (by decide)]; exact h.kc
  · rw [keep .ksb (by decide) (by decide) (by decide) (by decide) (by decide) (by decide)]; exact h.ksb
  · rw [keep .vsb (by decide) (by decide) (by decide) (by decide) (by decide) (by decide)]; exact h.vsb
  · rw [keep .vt (by decide) (by decide) (by decide) (by decide) (by decide) (by decide)]; exact h.vt
  · unfold QC; rw [keep .qc (by decide) (by decide) (by decide) (by decide) (by decide) (by decide)]; exact h.qc
  · rw [keep .qrow (by decide) (by decide) (by decide) (by decide) (by decide) (by decide)]; exact h.qrow
  · rw [k5 .s (by decide) (by decide), k4 .s (by decide)]
    exact fun r hr j hj => s3 r (by omega) (by omega) j hj
  · intro p hp r hr j hj
    obtain rfl : p = t := by omega
    rw [e .w (by decide) (by decide) (by decide) (by decide), C2.w r (by omega) j hj, if_pos hr]
  · intro p hp j hj
    obtain rfl : p = t := by omega
    exact f5 j hj
  · intro p hp j hj
    obtain rfl : p = t := by omega
    exact g5 j hj
  · intro p hp d hd j hj
    rw [k5 .o (by decide) (by decide)]
    by_cases hpt : p + 1 = t
    · obtain rfl : t - 1 = p := by omega
      rw [o4 d hd j hj, hof j hj, h.of (t - 1) (by omega) j hj]
      unfold OUT
      refine congrArg (· * _) ?_
      rw [← sum_extend (m := 128 * (t / 4 + 1)) (by omega) (fun n hn _ => by rw [WT_out (by omega), zero_mul, cl_zero, mul_zero])]
      refine Finset.sum_congr rfl fun n hn => ?_
      have hn := Finset.mem_range.mp hn
      rw [k3 .vt (by decide), k3 .wc (by decide), C2.keep .vt (by decide) (by decide) (by decide), h.vt n (by omega) d hd, C2.wc n hn j hj,
        h.w (t - 1) (by omega) n hn j hj, hf j hj, h.f (t - 1) (by omega) j hj]
    · rw [p4 _ _ (by omega), k3 .o (by decide), C2.keep .o (by decide) (by decide) (by decide)]
      exact h.o p (by omega) d hd j hj

end Attn
-- ==== Proof.PhaseL.lean ====
module

public import proofs.«01_k».proof.Proof.PhaseT

/-!
# The steps in order
-/

@[expose] public section

set_option maxRecDepth 16384

noncomputable section

namespace Attn

open Idealize.ShloMosaic Idealize.ShloMosaic.ValueIdx Idealize.ShloMosaic.TcCoe Idealize.SL Idealize.SL.RA Idealize.SL.Sem

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt Ideal) Λ} {𝒱 : Variants} {c : Dev nD} {E : Set Name} (R : Refs sig)

local notation "Does'" => Does (Ix := Ix) (Name := Name) (U := U) (Lvl := Lvl) defs 𝒱 c E

/-- The four steps of one block of queries. -/
theorem steps_run {σi : State Ideal} {X K V : ℕ → ℕ → EReal} {lc e2 : EReal} (un : EReal) (i : ℕ) (hi : i < 16) (l : Scf.Loop 32) (hok : l.OK) (h4 : l.trips = 4)
    {oR : Fin l.trips → Fin 3 → ℕ} {oQ oO : Fin l.trips → Fin 2 → Fin 3 → ℕ}
    (hR : ∀ k, ∀ a, oR k a + S1x1x256.size a ≤ S64x1x256.size a)
    (hQ : ∀ k, ∀ j, ∀ a, oQ k j a + S1x128x128.size a ≤ S1x2048x1024.size a)
    (hO : ∀ k, ∀ j, ∀ a, oO k j a + S1x128x128.size a ≤ S1x2048x1024.size a)
    (pO : ∀ k, ∀ j, (Rect.unit (s := S1x2048x1024) (oO k j) S1x128x128.size (hO k j)).PackedRows (EltTy.packing .bf16))
    (eR : ∀ k, oR k = ![4 * i + k.val, 0, 0])
    (eQ : ∀ k j, oQ k j = ![0, 128 * (min (4 * i + k.val + 1) 63 / 4), 128 * (2 * (min (4 * i + k.val + 1) 63 % 4) + j.val)])
    (eO : ∀ k j, oO k j = ![0, 128 * ((4 * i + k.val - 1) / 4), 128 * (2 * ((4 * i + k.val - 1) % 4) + j.val)]) {σ : State Ideal}
    (h : At σi X K V lc e2 un (4 * i) (i + 1) σ) :
    Does' R (Scf.Loop.for l hok ⟨⟩ fun k _ => step (F := Ideal) R e2 un i hi (oR k) (oQ k) (oO k) (hR k) (hQ k) (hO k) (pO k)) σ
      (fun _ => At σi X K V lc e2 un (4 * (i + 1)) (i + 1)) := by
  refine Does.loop _ _ (fun k => At σi X K V lc e2 un (4 * i + k) (i + 1)) h (fun k σ' h' => ?_) fun σ' h' => ?_
  · have hk : k.val < 4 := by have := k.isLt; omega
    have key : ∀ (n : ℕ) (hn : n < 16), n = (4 * i + k.val) / 4 → At σi X K V lc e2 un (4 * i + k.val) (n + 1) σ' →
        Does' R (step (F := Ideal) R e2 un n hn (oR k) (oQ k) (oO k) (hR k) (hQ k) (hO k) (pO k)) σ' (fun _ => At σi X K V lc e2 un (4 * i + k.val + 1) (n + 1)) := by
      rintro n hn rfl h'
      exact step_run R un (4 * i + k.val) (by omega) hn _ _ _ _ (eR k) (eQ k) (eO k) h'
    exact key i hi (by omega) h'
  · rw [h4] at h'
    exact h'

theorem prologue_run {X K V : ℕ → ℕ → EReal} {lc : EReal} (e2 un : EReal) {σ : State Ideal} (hq : QQ X lc 16 σ) (hkv : KVN K V σ) :
    Does' R (prologue (F := Ideal) R) σ (fun _ => At σ X K V lc e2 un 0 0) := by
  unfold prologue
  refine Does.ld_then .qc _ _ ?_
  refine Does.ld_then .qc _ _ ?_
  refine Does.bind (scores128_run R _ 0 (by decide) (Q := fun j d => code (qx X 0 j) d)
    (fun j hj d hd => catQ_g2 (t := 0) _ _ (fun r hr d hd => qblock hq.qc (a := 0) (e := 0) (by omega) (by omega) (by decide) hr hd)
      (fun r hr d hd => qblock hq.qc (a := 0) (e := 1) (by omega) (by omega) (by decide) hr hd) hj hd) hkv.kc) ?_
  rintro _ σ1 ⟨s1, k1⟩
  refine Does.st_then .f _ _ ?_
  refine Does.st .of _ _ ?_
  have keep : ∀ (w : (Rect.unit (s := S1x256) ![0, 0] S1x256.size (by decide)).shape.Idx → EReal) (w' : (Rect.unit (s := S1x256) ![0, 0] S1x256.size (by decide)).shape.Idx → EReal) b, b ≠ B.f → b ≠ .of →
      ((σ1.set .f (VecWindow.put (σ1 .f) ![0, 0] S1x256.size w)).set .of (VecWindow.put ((σ1.set .f (VecWindow.put (σ1 .f) ![0, 0] S1x256.size w)) .of) ![0, 0] S1x256.size w')) b = σ1 b :=
    fun w w' b h1 h2 => by rw [State.set_ne _ h2, State.set_ne _ h1]
  have kept : ∀ (w : (Rect.unit (s := S1x256) ![0, 0] S1x256.size (by decide)).shape.Idx → EReal) (w' : (Rect.unit (s := S1x256) ![0, 0] S1x256.size (by decide)).shape.Idx → EReal) b, settled b = true →
      ((σ1.set .f (VecWindow.put (σ1 .f) ![0, 0] S1x256.size w)).set .of (VecWindow.put ((σ1.set .f (VecWindow.put (σ1 .f) ![0, 0] S1x256.size w)) .of) ![0, 0] S1x256.size w')) b = σ b := fun w w' b hb => by
    have ne : ∀ b', settled b' = false → b ≠ b' := fun b' h' e => by rw [e, h'] at hb; exact Bool.false_ne_true hb
    exact (keep w w' b (ne _ rfl) (ne _ rfl)).trans (k1 b (ne _ rfl))
  refine ⟨?_, ?_, ?_, ?_, ?_, ?_, ?_, fun p hp => absurd hp (by omega), fun p hp => absurd hp (by omega), fun p hp => absurd hp (by omega),
    fun p hp => absurd hp (by omega), kept _ _⟩
  · rw [keep _ _ .kc (by decide) (by decide), k1 .kc (by decide)]; exact hkv.kc
  · rw [keep _ _ .ksb (by decide) (by decide), k1 .ksb (by decide)]; exact hkv.ksb
  · rw [keep _ _ .vsb (by decide) (by decide), k1 .vsb (by decide)]; exact hkv.vsb
  · rw [keep _ _ .vt (by decide) (by decide), k1 .vt (by decide)]; exact hkv.vt
  · unfold QC; rw [keep _ _ .qc (by decide) (by decide), k1 .qc (by decide)]; exact hq.qc
  · rw [keep _ _ .qrow (by decide) (by decide), k1 .qrow (by decide)]; exact hq.qrow
  · rw [keep _ _ .s (by decide) (by decide)]
    intro r hr j hj
    rw [s1 r (by omega) j hj, if_pos (by omega)]
    rfl

theorem zeroChunk_run {σi : State Ideal} {X K V : ℕ → ℕ → EReal} {lc e2 un : EReal} (i : ℕ) (hi : i < 16) {σ : State Ideal} (h : At σi X K V lc e2 un (4 * i) i σ) :
    Does' R (zeroChunk (F := Ideal) R i hi) σ (fun _ => At σi X K V lc e2 un (4 * i) (i + 1)) := by
  unfold zeroChunk
  refine Does.st .w _ _ ?_
  refine ⟨?_, ?_, ?_, ?_, ?_, ?_, ?_, ?_, ?_, ?_, ?_, fun b hb => ?_⟩
  · rw [State.set_ne _ (by decide)]; exact h.kc
  · rw [State.set_ne _ (by decide)]; exact h.ksb
  · rw [State.set_ne _ (by decide)]; exact h.vsb
  · rw [State.set_ne _ (by decide)]; exact h.vt
  · unfold QC; rw [State.set_ne _ (by decide)]; exact h.qc
  · rw [State.set_ne _ (by decide)]; exact h.qrow
  · rw [State.set_ne _ (by decide)]; exact h.s
  · intro p hp r hr j hj
    rw [State.set_same]
    refine (put2_at (R := 2048) (C := 256) (n := 128) _ _ (by omega) r hj).trans ?_
    split
    · refine (g2_cast _ _ _ _).trans ((splat_g2 (r := 128) (c := 256) _ (by omega) hj).trans ?_)
      rw [WT_out (by omega)]
      exact zero_bits
    · exact h.w p hp r (by omega) j hj
  · rw [State.set_ne _ (by decide)]; exact h.f
  · rw [State.set_ne _ (by decide)]; exact h.of
  · rw [State.set_ne _ (by decide)]; exact h.o
  · rw [State.set_ne _ (fun e => by subst e; exact Bool.false_ne_true hb)]; exact h.keep b hb

theorem outer_run {σi : State Ideal} {X K V : ℕ → ℕ → EReal} {lc e2 un : EReal} (lp : Fin 16 → Prog (TpuEff nD τ sig (Elt Ideal) Λ .tc) Unit)
    (hl : ∀ (i : Fin 16) (σ : State Ideal), At σi X K V lc e2 un (4 * i.val) (i.val + 1) σ → Does' R (lp i) σ (fun _ => At σi X K V lc e2 un (4 * (i.val + 1)) (i.val + 1))) :
    ∀ (m k : ℕ) (h : k + m ≤ 16) (_ : k + m = 16) (σ : State Ideal), At σi X K V lc e2 un (4 * k) k σ →
      Does' R (outer (F := Ideal) R lp m k h) σ (fun _ => At σi X K V lc e2 un 64 16) := by
  intro m
  induction m with
  | zero =>
    intro k _ hk σ h
    obtain rfl : k = 16 := by omega
    exact Does.pure h
  | succ m ih =>
    intro k _ hk σ h
    unfold outer
    refine Does.bind (zeroChunk_run R k (by omega) h) fun _ σ1 h1 => ?_
    refine Does.bind (hl ⟨k, by omega⟩ σ1 h1) fun _ σ2 h2 => ?_
    exact ih (k + 1) (by omega) (by omega) σ2 h2

theorem quantChunks_run (fv : Vec Ideal S1x256 .f32) {σ0 : State Ideal} :
    ∀ (m k : ℕ) (h : k + m ≤ 16) (σ : State Ideal),
      (∀ r < 128 * k, ∀ j < 256, g2 (σ .wc) r j = cl (g2 (σ0 .w) r j * g2 (R := 1) (C := 256) fv 0 j)) → (∀ b, b ≠ B.wc → σ b = σ0 b) →
      Does' R (quantChunks (F := Ideal) R fv m k h) σ (fun _ σ' =>
        (∀ r < 128 * (k + m), ∀ j < 256, g2 (σ' .wc) r j = cl (g2 (σ0 .w) r j * g2 (R := 1) (C := 256) fv 0 j)) ∧ ∀ b, b ≠ B.wc → σ' b = σ0 b) := by
  intro m
  induction m with
  | zero => exact fun k _ σ h hb => Does.pure ⟨h, hb⟩
  | succ m ih =>
    intro k hk σ h hb
    unfold quantChunks
    refine Does.bind (quantChunk_run R k (by omega) fv) ?_
    rintro _ σ1 ⟨a1, k1⟩
    have := ih (k + 1) (by omega) σ1 (fun r hr j hj => ?_) (fun b hb' => (k1 b hb').trans (hb b hb'))
    · exact this.mono fun _ _ h' => ⟨fun r hr => h'.1 r (by omega), h'.2⟩
    · rw [a1 r (by omega) j hj]
      split
      · rw [hb .w (by decide)]
      · exact h r (by omega) j hj

theorem epilogue_run {σi : State Ideal} {X K V : ℕ → ℕ → EReal} {lc e2 un : EReal} {σ : State Ideal} (h : At σi X K V lc e2 un 64 16 σ) :
    Does' R (epilogue (F := Ideal) R) σ (fun _ σ' => (∀ p < 64, ∀ d < 128, ∀ j < 256,
      g3 (σ' .o) (128 * (p / 4) + j % 128) (128 * (2 * (p % 4) + j / 128) + d) = OUT X K V lc e2 un p d j)
      ∧ ∀ b, settled b = true → σ' b = σi b) := by
  unfold epilogue
  refine Does.ld_then .f _ _ ?_
  have hf : ∀ j < 256, g2 (R := 1) (C := 256) (VecWindow.window (σ .f) ![0, 0] ![1, 256] (by decide)) 0 j = g2 (σ .f) 0 j := fun j hj =>
    (g2_window (R := 1) (C := 256) (σ .f) _ (by omega) hj).trans (by rw [Nat.zero_add, Nat.zero_add])
  generalize VecWindow.window (σ .f) ![0, 0] ![1, 256] (by decide) = fv at hf ⊢
  refine Does.bind (quantChunks_run R fv (σ0 := σ) 16 0 _ σ (fun r hr => absurd hr (by omega)) fun _ _ => rfl) ?_
  rintro _ σ1 ⟨w1, k1⟩
  refine Does.ld_then .of _ _ ?_
  rw [k1 .of (by decide)]
  have hof : ∀ j < 256, g2 (R := 1) (C := 256) (VecWindow.window (σ .of) ![0, 0] ![1, 256] (by decide)) 0 j = g2 (σ .of) 0 j := fun j hj =>
    (g2_window (R := 1) (C := 256) (σ .of) _ (by omega) hj).trans (by rw [Nat.zero_add, Nat.zero_add])
  generalize VecWindow.window (σ .of) ![0, 0] ![1, 256] (by decide) = ofv at hof ⊢
  refine (pv_run R 16 15 6 (by omega) (by omega) (by omega) (by omega) ofv _ _ _ _ rfl rfl).mono ?_
  rintro _ σ2 ⟨o2, p2, k2⟩
  refine ⟨?_, fun b hb => ?_⟩
  swap
  · have ne : ∀ b', settled b' = false → b ≠ b' := fun b' h' e => by rw [e, h'] at hb; exact Bool.false_ne_true hb
    exact ((k2 b (ne _ rfl)).trans (k1 b (ne _ rfl))).trans (h.keep b hb)
  intro p hp d hd j hj
  by_cases hpt : p = 63
  · subst hpt
    refine (o2 d hd j hj).trans ?_
    rw [hof j hj, h.of 63 rfl j hj]
    unfold OUT
    refine congrArg (· * _) (Finset.sum_congr rfl fun n hn => ?_)
    have hn := Finset.mem_range.mp hn
    rw [k1 .vt (by decide), h.vt n (by omega) d hd, w1 n (by omega) j hj, h.w 63 rfl n (by omega) j hj, hf j hj, h.f 63 rfl j hj]
  · rw [p2 _ _ (by omega), k1 .o (by decide)]
    exact h.o p (by omega) d hd j hj

end Attn
-- ==== Proof.KI.Quant.lean ====
module

public import proofs.«01_k».proof.Proof.KI.Frame
public import proofs.«01_k».proof.Proof.PhaseL

/-!
# What one grid point leaves in the quantised results
-/

@[expose] public section

set_option maxRecDepth 16384

noncomputable section

namespace Cert.KernelIdeal

open Cert.KernelIdeal.Gen
open Idealize.ShloMosaic Idealize.ShloMosaic.TcCoe Idealize.SL Idealize.SL.Sem Attn

theorem k0_off1_eq : ∀ t, k0_off1 t = ![0, 128 * t.val, 0] := by decide +kernel
theorem k0_off2_eq : ∀ t, k0_off2 t = ![128 * t.val, 0] := by decide +kernel
theorem k0_off3_eq : ∀ t, k0_off3 t = ![0, 0, 0, 128 * t.val] := by decide +kernel
theorem k0_off4_eq : ∀ t, k0_off4 t = ![0, 128 * t.val] := by decide +kernel
theorem offX_eq : ∀ t j, offX t j = ![0, 128 * t.val, 128 * j.val] := by decide +kernel
theorem k0_off13_eq : ∀ t, k0_off13 t = ![0, 0, 0, 128 * t.val] := by decide +kernel
theorem k0_off14_eq : ∀ t (j : Fin 4), k0_off14 t (BitVec.ofNat 32 j.val) = ![4 * t.val + j.val, 0, 0] := by decide +kernel

/-- The constant the scales of the queries are multiplied by. -/
def logitScale : EReal := Named.named κ "logit_scale" (φ := .f32) (F := Ideal) 0x3AE7B46A#32

variable {c : Dev nD} {u : Fin cfg0.N}

theorem kvLoop_run {K V : ℕ → ℕ → EReal} {σ : State Ideal} (hK : ∀ r d, g3 (σ .k) r d = K r d) (hV : ∀ r d, g3 (σ .v) r d = V r d) :
    PointDoes c u (Scf.Loop.for k0_t1_loop k0_t1_ok ⟨⟩ fun t _ => bodyKV (F := Ideal) (pointRefs u) t) σ
      (fun _ σ' => KV K V 2048 σ' ∧ σ' .x = σ .x ∧ σ' .k = σ .k ∧ σ' .v = σ .v) := by
  refine Does.loop _ _ (fun (n : ℕ) (σ' : State Ideal) => KV K V (128 * n) σ' ∧ σ' .x = σ .x ∧ σ' .k = σ .k ∧ σ' .v = σ .v) ?_ ?_ fun σ' h => h
  · exact ⟨⟨fun r hr => absurd hr (by omega), fun r hr => absurd hr (by omega), fun r hr => absurd hr (by omega), fun r hr => absurd hr (by omega),
      fun r hr => absurd hr (by omega), fun r hr => absurd hr (by omega), fun r hr => absurd hr (by omega)⟩, rfl, rfl, rfl⟩
  · rintro n σ' ⟨h, hx, hk, hv⟩
    refine (quantKV_run (pointRefs u) n.val n.isLt _ _ _ _ _ _ (k0_off1_eq n) (k0_off2_eq n) (k0_off3_eq n) (k0_off4_eq n)
      (by rw [hk]; exact hK) (by rw [hv]; exact hV) h).mono ?_
    rintro _ σ'' ⟨h', hx', hk', hv'⟩
    exact ⟨h', hx'.trans hx, hk'.trans hk, hv'.trans hv⟩

theorem qLoop_run {X : ℕ → ℕ → EReal} {σ : State Ideal} (hX : ∀ r d, g3 (σ .x) r d = X r d) :
    PointDoes c u (Scf.Loop.for k0_t2_loop k0_t2_ok ⟨⟩ fun t _ => bodyQ (F := Ideal) (pointRefs u) t) σ
      (fun _ σ' => QQ X logitScale 16 σ' ∧ ∀ b, b ≠ B.qc → b ≠ B.qs → b ≠ B.qrow → σ' b = σ b) := by
  refine Does.loop _ _ (fun (n : ℕ) (σ' : State Ideal) => QQ X logitScale n σ' ∧ ∀ b, b ≠ B.qc → b ≠ B.qs → b ≠ B.qrow → σ' b = σ b) ?_ ?_ fun σ' h => h
  · exact ⟨⟨fun r hr e he h => absurd h (by omega), fun _ _ r hr => absurd hr (by omega), fun r hr => absurd hr (by omega)⟩, fun _ _ _ _ => rfl⟩
  · rintro n σ' ⟨h, hk⟩
    refine (quantQ_run (pointRefs u) n.val n.isLt logitScale _ _ _ _ (offX_eq n) (k0_off13_eq n) (k0_off14_eq n)
      (by rw [hk .x (by decide) (by decide) (by decide)]; exact hX) h).mono ?_
    rintro _ σ'' ⟨h', hk'⟩
    exact ⟨h', fun b h1 h2 h3 => (hk' b h1 h2 h3).trans (hk b h1 h2 h3)⟩

/-- The quantised rows, as a point leaves them. -/
structure Quantised (X K V : ℕ → ℕ → EReal) (σ : State Ideal) : Prop where
  q : QQ X logitScale 16 σ
  kv : KVN K V σ

theorem _root_.Attn.KVN.congr {K V : ℕ → ℕ → EReal} {σ σ' : State Ideal} (h : KVN K V σ) (e : ∀ b, b ≠ B.qc → b ≠ B.qs → b ≠ B.qrow → settled b = true → σ' b = σ b) :
    KVN K V σ' := by
  refine ⟨?_, ?_, ?_, ?_, ?_, ?_, ?_⟩
  · rw [e .kc (by decide) (by decide) (by decide) rfl]; exact h.kc
  · rw [e .ksb (by decide) (by decide) (by decide) rfl]; exact h.ksb
  · rw [e .ks (by decide) (by decide) (by decide) rfl]; exact h.ks
  · rw [e .vc (by decide) (by decide) (by decide) rfl]; exact h.vc
  · rw [e .vsb (by decide) (by decide) (by decide) rfl]; exact h.vsb
  · rw [e .vs (by decide) (by decide) (by decide) rfl]; exact h.vs
  · rw [e .vt (by decide) (by decide) (by decide) rfl]; exact h.vt

theorem Quantised.congr {X K V : ℕ → ℕ → EReal} {σ σ' : State Ideal} (h : Quantised X K V σ) (e : ∀ b, settled b = true → σ' b = σ b) :
    Quantised X K V σ' := by
  refine ⟨⟨?_, ?_, ?_⟩, h.kv.congr fun b _ _ _ => e b⟩
  · unfold QC; rw [e .qc rfl]; exact h.q.qc
  · rw [e .qs rfl]; exact h.q.qs
  · rw [e .qrow rfl]; exact h.q.qrow

/-- The constant the capped scores are multiplied by. -/
def expScale : EReal := Named.named κ "exp2_scale" (φ := .f32) (F := Ideal) 0x429044FE#32

/-- Each of the sixteen loops takes its four steps. -/
theorem loops_run {X K V : ℕ → ℕ → EReal} (un : EReal) {σi : State Ideal} (i : Fin 16) (σ : State Ideal)
    (h : At σi X K V logitScale expScale un (4 * i.val) (i.val + 1) σ) :
    PointDoes c u (loops (F := Ideal) (pointRefs u) un i) σ (fun _ => At σi X K V logitScale expScale un (4 * (i.val + 1)) (i.val + 1)) := by
  fin_cases i <;> exact steps_run (pointRefs u) un _ _ _ _ (by decide +kernel) _ _ _ _ (by decide +kernel) (by decide +kernel) (by decide +kernel) h

theorem unnorm_eq (v : EReal) : unnormOf (F := Ideal) v = v * Ideal.ofBits .f32 0x27800000#32 := rfl

/-- What a point leaves: the inputs as they are, the quantised rows, and the attention of every row. -/
theorem point_quant {X K V : ℕ → ℕ → EReal} {σ : State Ideal} (hX : ∀ r d, g3 (σ .x) r d = X r d)
    (hK : ∀ r d, g3 (σ .k) r d = K r d) (hV : ∀ r d, g3 (σ .v) r d = V r d) :
    PointDoes c u (point (F := Ideal) (pointRefs u)) σ
      (fun _ σ' => Quantised X K V σ' ∧ σ' .x = σ .x ∧ σ' .k = σ .k ∧ σ' .v = σ .v
        ∧ ∀ p < 64, ∀ d < 128, ∀ j < 256, g3 (σ' .o) (128 * (p / 4) + j % 128) (128 * (2 * (p % 4) + j / 128) + d)
          = OUT X K V logitScale expScale (vmx V * Ideal.ofBits .f32 0x27800000#32) p d j) := by
  unfold point Attn.body
  refine Does.bind (kvLoop_run hK hV) ?_
  rintro _ σ1 ⟨h1, x1, k1, v1⟩
  refine Does.bind (normalise_run _ h1) ?_
  rintro z σ2 ⟨hz, h2, x2, k2, v2⟩
  refine Does.bind (qLoop_run (by rw [x2, x1]; exact hX)) ?_
  rintro _ σ3 ⟨h3, e3⟩
  have q3 : KVN K V σ3 := h2.congr fun b a1 a2 a3 _ => e3 b a1 a2 a3
  have hun : unnormOf (F := Ideal) z.1 = vmx V * Ideal.ofBits .f32 0x27800000#32 :=
    (unnorm_eq _).trans (congrArg (· * Ideal.ofBits .f32 0x27800000#32) hz)
  rw [hun]
  clear hun hz
  generalize vmx V * Ideal.ofBits .f32 0x27800000#32 = un
  refine Does.bind (prologue_run (pointRefs u) expScale un h3 q3) fun _ σ4 h4 => ?_
  refine Does.bind (outer_run (pointRefs u) _ (fun i σ h => loops_run _ i σ h) 16 0 (by decide) rfl σ4 h4) fun _ σ5 h5 => ?_
  refine Does.bind (epilogue_run (pointRefs u) h5) ?_
  rintro _ σ6 ⟨o6, e6⟩
  refine Does.pure ⟨Quantised.congr ⟨h3, q3⟩ e6, ?_, ?_, ?_, o6⟩
  · rw [e6 .x rfl, e3 .x (by decide) (by decide) (by decide), x2, x1]
  · rw [e6 .k rfl, e3 .k (by decide) (by decide) (by decide), k2, k1]
  · rw [e6 .v rfl, e3 .v (by decide) (by decide) (by decide), v2, v1]

end Cert.KernelIdeal
-- ==== Proof.Whole.lean ====
module

public import proofs.«01_k».proof.Proof.PhaseQ

/-!
# The quantised arrays as functions of the whole argument arrays

Every row of 128 numbers gets one power of two as its scale; the codes and the scales of an argument are stated here
for the argument as a whole, so that a grid point's blocks are blocks of them.
-/

@[expose] public section

noncomputable section

namespace Attn

open Idealize.ShloMosaic Idealize.ShloMosaic.ValueIdx Idealize.SL.Sem

/-- The entry of an array of rank three, zero outside. -/
def a3 {B R C : ℕ} (X : (⟨3, ![B, R, C]⟩ : Shape).Idx → EReal) (b r c : ℕ) : EReal :=
  if h : b < B ∧ r < R ∧ c < C then X (ix3 ⟨b, h.1⟩ ⟨r, h.2.1⟩ ⟨c, h.2.2⟩) else 0

theorem a3_mk {B R C : ℕ} (X : (⟨3, ![B, R, C]⟩ : Shape).Idx → EReal) {b r c : ℕ} (hb : b < B) (hr : r < R) (hc : c < C) :
    a3 X b r c = X (ix3 ⟨b, hb⟩ ⟨r, hr⟩ ⟨c, hc⟩) := dif_pos ⟨hb, hr, hc⟩

/-- Row `r` of head `n` of batch element `b`. -/
def headRow {B R C : ℕ} (X : (⟨3, ![B, R, C]⟩ : Shape).Idx → EReal) (b r n d : ℕ) : EReal := a3 X b r (128 * n + d)

/-- The codes of an array, each row of 128 divided by its scale. -/
def codes {B R C : ℕ} (X : (⟨3, ![B, R, C]⟩ : Shape).Idx → EReal) (i : (⟨3, ![B, R, C]⟩ : Shape).Idx) : EReal :=
  code (headRow X (i 0).val (i 1).val ((i 2).val / 128)) ((i 2).val % 128)

/-- The scales of an array with `g` heads to each key head. -/
def scales {B R C : ℕ} (g : ℕ) (X : (⟨3, ![B, R, C]⟩ : Shape).Idx → EReal) (i : (⟨4, ![B, 2, g, R]⟩ : Shape).Idx) : EReal :=
  scl (headRow X (i 0).val (i 3).val (g * (i 1).val + (i 2).val))

theorem ext_g3 {R C : ℕ} {X Y : (⟨3, ![1, R, C]⟩ : Shape).Idx → EReal} (h : ∀ r < R, ∀ c < C, g3 X r c = g3 Y r c) : X = Y := by
  funext i
  have h1 : (i 1).val < R := (i 1).isLt
  have h2 : (i 2).val < C := (i 2).isLt
  have e := (g3_mk X h1 h2).symm.trans ((h _ h1 _ h2).trans (g3_mk Y h1 h2))
  have hi : ix3 (0 : Fin 1) (⟨(i 1).val, (i 1).isLt⟩ : Fin R) (⟨(i 2).val, (i 2).isLt⟩ : Fin C) = i := by
    funext a; fin_cases a
    · exact (Subsingleton.elim (α := Fin 1) _ _)
    · rfl
    · rfl
  exact (congrArg X hi).symm.trans (e.trans (congrArg Y hi))

theorem ext_g4 {R C : ℕ} {X Y : (⟨4, ![1, 1, R, C]⟩ : Shape).Idx → EReal} (h : ∀ r < R, ∀ c < C, g4 X r c = g4 Y r c) : X = Y := by
  funext i
  have h1 : (i 2).val < R := (i 2).isLt
  have h2 : (i 3).val < C := (i 3).isLt
  have e := (g4_mk X h1 h2).symm.trans ((h _ h1 _ h2).trans (g4_mk Y h1 h2))
  have hi : ix4 (0 : Fin 1) (0 : Fin 1) (⟨(i 2).val, (i 2).isLt⟩ : Fin R) (⟨(i 3).val, (i 3).isLt⟩ : Fin C) = i := by
    funext a; fin_cases a
    · exact (Subsingleton.elim (α := Fin 1) _ _)
    · exact (Subsingleton.elim (α := Fin 1) _ _)
    · rfl
    · rfl
  exact (congrArg X hi).symm.trans (e.trans (congrArg Y hi))

/-- A block of the codes of a wide array: the columns of eight heads. -/
theorem codes_block {B R C : ℕ} (X : (⟨3, ![B, R, C]⟩ : Shape).Idx → EReal) (b : Fin B) (r : Fin R) (c : Fin C) (n : ℕ) (e : ℕ)
    (he : c.val = 128 * n + e) {U : ℕ → EReal} (hU : ∀ d < 128, U d = a3 X b.val r.val (128 * (n + e / 128) + d)) :
    codes X (ix3 b r c) = code U (e % 128) := by
  refine Eq.trans ?_ (code_congr hU (Nat.mod_lt _ (by norm_num))).symm
  show code (headRow X b.val r.val (c.val / 128)) (c.val % 128) = _
  rw [show c.val / 128 = n + e / 128 by omega, show c.val % 128 = e % 128 by omega]
  rfl

theorem scales_block {B R C g : ℕ} (X : (⟨3, ![B, R, C]⟩ : Shape).Idx → EReal) (b : Fin B) (h : Fin 2) (j : Fin g) (r : Fin R)
    {U : ℕ → EReal} (hU : ∀ d < 128, U d = a3 X b.val r.val (128 * (g * h.val + j.val) + d)) :
    scales g X (ix4 b h j r) = scl U := (scl_congr hU).symm

end Attn
-- ==== Proof.RefScale.lean ====
module

public import proofs.«01_k».proof.Proof.Whole

/-!
# The scale by a logarithm

The reference takes a row's scale as two to the power of a rounded-down logarithm plus one. For a row of zeros, and for
one whose largest magnitude is in range, that is the scale the kernel finds bit by bit.
-/

@[expose] public section

noncomputable section

namespace Attn

open Idealize.ShloMosaic

/-- The largest magnitude of a row. -/
def amx (u : ℕ → EReal) : EReal := (Finset.range 128).sup fun d => max (u d) (-(u d))

/-- A row of zeros, or one whose largest magnitude is in range. -/
def Tame (u : ℕ → EReal) : Prop :=
  amx u = 0 ∨ (Ideal.ofBits .f32 0x05000000#32 ≤ amx u ∧ amx u ≤ Ideal.ofBits .f32 0x7F7F0000#32)

/-- The reference's exponent of a largest magnitude. -/
def refE (a : EReal) : EReal :=
  if Ideal.cmp .oeq a (Ideal.ofBits .f32 0x00000000#32) = 1#1 then Ideal.ofBits .f32 0x00000000#32
  else Ideal.liftRound Int.floor (Ideal.div (Ideal.log (a * c448)) (Ideal.log (Ideal.ofBits .f32 0x40000000#32))) + Ideal.ofBits .f32 0x3F800000#32

theorem bits_finite {b : BitVec 32} (e m : ℕ) (v : ℝ) (h1 : (b.extractLsb' (8 + 23) 1 == 1#1) = false) (h2 : (b.extractLsb' 23 8).toNat = e)
    (h3 : (b.extractLsb' 0 23).toNat = m) (he : e ≠ 255) (he0 : e ≠ 0)
    (hv : ((2 ^ 23 + m : ℕ) : ℝ) * (2 : ℝ) ^ ((e : ℤ) - 150) = v) : Ideal.ofBits .f32 b = (v : EReal) := by
  show Ideal.ieee 8 23 _ = _
  unfold Ideal.ieee
  simp only [h1, h2, h3]
  rw [if_neg (by omega), if_neg (by omega), ← hv]
  congr 1
  have : ((e : ℤ) - (2 ^ (8 - 1) - 1) - ((23 : ℕ) : ℤ)) = (e : ℤ) - 150 := by norm_num; ring
  rw [this]
  push_cast
  simp

theorem bits_zero : Ideal.ofBits .f32 0x00000000#32 = 0 := by
  have h1 : ((0x00000000#32).extractLsb' (8 + 23) 1 == 1#1) = false := by decide
  have h2 : ((0x00000000#32).extractLsb' 23 8).toNat = 0 := by decide
  have h3 : ((0x00000000#32).extractLsb' 0 23).toNat = 0 := by decide
  show Ideal.ieee 8 23 0x00000000#32 = 0
  unfold Ideal.ieee
  simp only [h1, h2, h3]
  norm_num

theorem bits_one : Ideal.ofBits .f32 0x3F800000#32 = ((1 : ℝ) : EReal) :=
  bits_finite 127 0 1 (by decide) (by decide) (by decide) (by decide) (by decide) (by norm_num)

theorem bits_two : Ideal.ofBits .f32 0x40000000#32 = ((2 : ℝ) : EReal) :=
  bits_finite 128 0 2 (by decide) (by decide) (by decide) (by decide) (by decide) (by norm_num)

/-- The float nearest 1/448 from above. -/
def r448 : ℝ := 9586981 * (2 : ℝ) ^ (-32 : ℤ)

theorem c448_eq : c448 = (r448 : EReal) :=
  bits_finite 118 1198373 r448 (by decide) (by decide) (by decide) (by decide) (by decide) (by unfold r448; norm_num)

theorem bits_low : Ideal.ofBits .f32 0x05000000#32 = (((2 : ℝ) ^ (-117 : ℤ) : ℝ) : EReal) :=
  bits_finite 10 0 _ (by decide) (by decide) (by decide) (by decide) (by decide) (by norm_num)

theorem bits_top : Ideal.ofBits .f32 0x7F7F0000#32 = ((16711680 * (2 : ℝ) ^ (104 : ℤ) : ℝ) : EReal) :=
  bits_finite 254 8323072 _ (by decide) (by decide) (by decide) (by decide) (by decide) (by norm_num)

theorem zOf_eq (u : ℕ → EReal) : zOf u = amx u * c448 := rfl

/-- The exponent of a tame row: its scale, the scale's reciprocal, and the bounds they keep. -/
theorem tame_spec {u : ℕ → EReal} (h : Tame u) : ∃ (r : ℝ) (e : ℤ), amx u = (r : EReal) ∧ 0 ≤ r ∧ scl u = (((2 : ℝ) ^ e : ℝ) : EReal)
    ∧ iv (zOf u) = (((2 : ℝ) ^ (-e) : ℝ) : EReal) ∧ refE (amx u) = (((e : ℤ) : ℝ) : EReal) ∧ r * r448 < (2 : ℝ) ^ e ∧ -125 ≤ e ∧ e ≤ 126 := by
  have hc : 0 < r448 := by unfold r448; positivity
  rcases h with h | ⟨h1, h2⟩
  · have hz : zOf u = ((0 : ℝ) : EReal) := by rw [zOf_eq, h, zero_mul]; rfl
    obtain ⟨e, e1, e2, e3, e4, e5, -, e6⟩ := scale_spec (z := 0) le_rfl (by positivity)
    have he : e = 0 := e6 (by positivity)
    subst he
    refine ⟨0, 0, h, le_rfl, ?_, ?_, ?_, by simp, by norm_num, by norm_num⟩
    · unfold scl; rw [hz]; exact e1
    · rw [hz]; exact e2
    · unfold refE
      rw [h, bits_zero, if_pos (by simp [Ideal.cmp])]
      simp
  · rw [bits_low] at h1
    rw [bits_top] at h2
    obtain ⟨r, hr⟩ : ∃ r : ℝ, amx u = (r : EReal) := by
      refine ⟨(amx u).toReal, (EReal.coe_toReal ?_ ?_).symm⟩
      · intro h; rw [h] at h2; exact absurd h2 (not_le.mpr (EReal.coe_lt_top _))
      · intro h; rw [h] at h1; exact absurd h1 (by simp)
    rw [hr, EReal.coe_le_coe_iff] at h1 h2
    have hr0 : 0 < r := lt_of_lt_of_le (by positivity) h1
    have hz : zOf u = ((r * r448 : ℝ) : EReal) := by rw [zOf_eq, hr, c448_eq, ← EReal.coe_mul]
    have hz0 : 0 < r * r448 := mul_pos hr0 hc
    have hlt : r * r448 < (2 : ℝ) ^ (126 : ℤ) := by
      refine lt_of_le_of_lt (mul_le_mul_of_nonneg_right h2 hc.le) ?_
      unfold r448; norm_num
    have hge : (2 : ℝ) ^ (-126 : ℤ) ≤ r * r448 := by
      refine le_trans ?_ (mul_le_mul_of_nonneg_right h1 hc.le)
      unfold r448; norm_num
    obtain ⟨e, e1, e2, e3, e4, e5, e6, -⟩ := scale_spec hz0.le hlt
    have e6 := e6 hge
    have hl : e = lg (r * r448) + 1 := by
      have a := (zpow_lt_zpow_iff_right₀ (by norm_num : (1 : ℝ) < 2)).mp (lt_of_le_of_lt (zpow_lg_le hz0) e3)
      have b := (zpow_lt_zpow_iff_right₀ (by norm_num : (1 : ℝ) < 2)).mp (lt_of_le_of_lt e6 (lt_zpow_lg hz0))
      omega
    refine ⟨r, e, hr, hr0.le, ?_, ?_, ?_, e3, e4, e5⟩
    · unfold scl; rw [hz]; exact e1
    · rw [hz]; exact e2
    · have hne : amx u ≠ 0 := by rw [hr]; exact_mod_cast hr0.ne'
      unfold refE
      rw [bits_zero, if_neg (by simp [Ideal.cmp, hne]), hr, c448_eq, ← EReal.coe_mul, bits_two, bits_one]
      have l1 : Ideal.log ((r * r448 : ℝ) : EReal) = ((Real.log (r * r448) : ℝ) : EReal) := by
        show (if r * r448 ≤ 0 then _ else _) = _
        rw [if_neg (not_le.mpr hz0)]
      have l2 : Ideal.log ((2 : ℝ) : EReal) = ((Real.log 2 : ℝ) : EReal) := by
        show (if (2 : ℝ) ≤ 0 then _ else _) = _
        rw [if_neg (by norm_num)]
      have l3 : Ideal.div ((Real.log (r * r448) : ℝ) : EReal) ((Real.log 2 : ℝ) : EReal) = ((Real.log (r * r448) / Real.log 2 : ℝ) : EReal) := by
        unfold Ideal.div
        rw [if_neg (by exact_mod_cast log_two_pos.ne'), ← EReal.coe_inv, ← EReal.coe_mul, div_eq_mul_inv]
      rw [l1, l2, l3]
      show (((⌊Real.log (r * r448) / Real.log 2⌋ : ℤ) : ℝ) : EReal) + ((1 : ℝ) : EReal) = _
      rw [← EReal.coe_add, hl]
      congr 1
      unfold lg
      push_cast
      rfl

theorem pow_ref {u : ℕ → EReal} (h : Tame u) :
    Ideal.pow (Ideal.ofBits .f32 0x40000000#32) (refE (amx u)) = scl u
    ∧ Ideal.pow (Ideal.ofBits .f32 0x40000000#32) (-(refE (amx u))) = iv (zOf u) := by
  obtain ⟨r, e, -, -, h1, h2, h3, -⟩ := tame_spec h
  rw [h1, h2, h3, bits_two]
  constructor
  · show ((Real.rpow 2 (e : ℝ) : ℝ) : EReal) = _
    exact congrArg _ (Real.rpow_intCast 2 e)
  · rw [← EReal.coe_neg]
    show ((Real.rpow 2 (-(e : ℝ)) : ℝ) : EReal) = _
    rw [← Int.cast_neg]
    exact congrArg _ (Real.rpow_intCast 2 (-e))

end Attn
-- ==== Proof.Core.lean ====
module

public import proofs.«01_k».proof.Proof.PhaseT
public import proofs.«01_k».proof.Proof.RefScale

/-!
# The attention of tame rows, over the real numbers

Every scale is a power of two and every clip leaves its argument as it is, so the scales cancel. What remains is a
weighted mean of the codes of the values.
-/

@[expose] public section

set_option maxRecDepth 16384

noncomputable section

namespace Attn

open Idealize.ShloMosaic

/-- A code and a scale as real numbers. -/
def cr (u : ℕ → EReal) (d : ℕ) : ℝ := (code u d).toReal
def sr (u : ℕ → EReal) : ℝ := (scl u).toReal

/-- The unnormalised probability of a key row `K` for a query row `Q`: the score of the codes, scaled, capped softly
at 50, exponentiated. -/
def prr (Q K : ℕ → EReal) : ℝ :=
  Real.exp (50 * Real.tanh ((∑ d ∈ Finset.range 128, cr K d * cr Q d) * (sr Q * ((Real.sqrt 128)⁻¹ * 50⁻¹)) * sr K))

/-- The attention of query row `r`: the mean of the values at the rows up to `r`, weighted by the probabilities. -/
def attn (Q : ℕ → EReal) (K V : ℕ → ℕ → EReal) (r d : ℕ) : EReal :=
  (((∑ n ∈ Finset.range (r + 1), cr (V n) d * (prr Q (K n) * sr (V n))) / ∑ n ∈ Finset.range (r + 1), prr Q (K n) : ℝ) : EReal)

theorem prr_pos (Q K : ℕ → EReal) : 0 < prr Q K := Real.exp_pos _

theorem code_real (u : ℕ → EReal) (d : ℕ) : code u d = (cr u d : EReal) := by
  refine (EReal.coe_toReal ?_ ?_).symm
  · unfold code cl
    rw [top_bits]
    exact ne_top_of_le_ne_top (EReal.coe_ne_top 448) (min_le_left _ _)
  · unfold code cl
    rw [top_bits, bot_bits]
    exact ne_bot_of_le_ne_bot (EReal.coe_ne_bot (-448)) (le_min (by exact_mod_cast (by norm_num : (-448 : ℝ) ≤ 448)) (le_max_left _ _))

theorem scl_real {u : ℕ → EReal} (h : Tame u) : scl u = (sr u : EReal) ∧ ∃ e : ℤ, sr u = (2 : ℝ) ^ e ∧ -125 ≤ e ∧ e ≤ 126 := by
  obtain ⟨r, e, -, -, h1, -, -, -, h2, h3⟩ := tame_spec h
  have : sr u = (2 : ℝ) ^ e := by unfold sr; rw [h1, EReal.toReal_coe]
  exact ⟨by rw [this, h1], e, this, h2, h3⟩

theorem coe_sum (f : ℕ → ℝ) (N : ℕ) : ∑ n ∈ Finset.range N, (f n : EReal) = ((∑ n ∈ Finset.range N, f n : ℝ) : EReal) := by
  induction N with
  | zero => rfl
  | succ N ih => rw [Finset.sum_range_succ, Finset.sum_range_succ, ih, EReal.coe_add]

theorem sup_real (f : ℕ → ℝ) {N : ℕ} (hN : 0 < N) :
    ∃ m : ℝ, ((Finset.range N).sup fun n => (f n : EReal)) = (m : EReal) ∧ (∃ k < N, m = f k) ∧ ∀ n < N, f n ≤ m := by
  obtain ⟨k, hk, e⟩ := Finset.exists_mem_eq_sup (Finset.range N) ⟨0, Finset.mem_range.mpr hN⟩ fun n => (f n : EReal)
  refine ⟨f k, e, ⟨k, Finset.mem_range.mp hk, rfl⟩, fun n hn => ?_⟩
  have : (f n : EReal) ≤ (Finset.range N).sup fun n => (f n : EReal) := Finset.le_sup (f := fun n => (f n : EReal)) (Finset.mem_range.mpr hn)
  rw [e] at this
  exact_mod_cast this

theorem div_real {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem r448_pos : 0 < r448 := by unfold r448; positivity

theorem r448_le : 1 ≤ 448 * r448 := by unfold r448; norm_num

/-- A weight below the bound of its scale is not clipped. -/
theorem cl_small {x s : ℝ} (h0 : 0 ≤ x) (hs : 0 < s) (h : x * r448 < s) : cl ((x * s⁻¹ : ℝ) : EReal) = ((x * s⁻¹ : ℝ) : EReal) := by
  have h1 : 0 ≤ x * s⁻¹ := mul_nonneg h0 (inv_nonneg.mpr hs.le)
  refine cl_of_abs (by linarith) ?_
  have h2 : x * s⁻¹ * r448 < 1 := by
    rw [mul_right_comm, ← div_eq_mul_inv, div_lt_one hs]; exact h
  have := r448_le
  have := r448_pos
  nlinarith

/-- The kernel's quotient: the scales and the norming factors cancel. -/
theorem core {P z cv : ℕ → ℝ} {c un : ℝ} {N : ℕ} (hN : 0 < N) (hP : ∀ n, 0 ≤ P n) (hpos : 0 < P 0)
    (hout : ∀ n, N ≤ n → P n = 0) (hc : c * un = 1) (hz : ∀ n < N, 0 ≤ z n * c) (hz' : ∀ n < N, z n * c ≤ (2 : ℝ) ^ 48)
    {pm wm ls zw : EReal} (epm : pm = (Finset.range N).sup fun n => (P n : EReal))
    (ewm : wm = (Finset.range N).sup fun n => ((P n * (z n * c) : ℝ) : EReal)) (els : ls = ∑ n ∈ Finset.range N, (P n : EReal))
    (ezw : zw = wm * Ideal.div ((1 : ℝ) : EReal) pm * c448) :
    (∑ n ∈ Finset.range 2048, (cv n : EReal) * cl (((P n * (z n * c) : ℝ) : EReal) * (iv zw * Ideal.div ((1 : ℝ) : EReal) pm)))
        * (sc zw * Ideal.div pm ls * (un : EReal))
      = (((∑ n ∈ Finset.range 2048, cv n * (P n * z n)) / ∑ n ∈ Finset.range N, P n : ℝ) : EReal) := by
  obtain ⟨m, em, -, hm⟩ := sup_real P hN
  obtain ⟨w, ew, ⟨kw, hkw, ekw⟩, hw⟩ := sup_real (fun n => P n * (z n * c)) hN
  have hm0 : 0 < m := lt_of_lt_of_le hpos (hm 0 hN)
  have hw0 : 0 ≤ w := by rw [ekw]; exact mul_nonneg (hP _) (hz _ hkw)
  have hl : 0 < ∑ n ∈ Finset.range N, P n :=
    lt_of_lt_of_le hpos (Finset.single_le_sum (fun n _ => hP n) (Finset.mem_range.mpr hN))
  generalize hL : ∑ n ∈ Finset.range N, P n = l at hl ⊢
  have els' : ls = (l : EReal) := by rw [els, coe_sum, hL]
  have hdiv : Ideal.div ((1 : ℝ) : EReal) pm = ((m⁻¹ : ℝ) : EReal) := by rw [epm, em, div_real hm0.ne', one_div]
  have hzw : zw = ((w * m⁻¹ * r448 : ℝ) : EReal) := by
    rw [ezw, ewm, ew, hdiv, c448_eq, ← EReal.coe_mul, ← EReal.coe_mul]
  have hq : w * m⁻¹ ≤ (2 : ℝ) ^ 48 := by
    rw [← div_eq_mul_inv, div_le_iff₀ hm0, ekw, mul_comm ((2 : ℝ) ^ 48)]
    exact mul_le_mul (hm _ hkw) (hz' _ hkw) (hz _ hkw) hm0.le
  have hq0 : 0 ≤ w * m⁻¹ := mul_nonneg hw0 (inv_nonneg.mpr hm0.le)
  obtain ⟨e, e1, e2, e3, -⟩ := scale_spec (z := w * m⁻¹ * r448) (mul_nonneg hq0 r448_pos.le) (by
    refine lt_of_le_of_lt (mul_le_mul_of_nonneg_right hq r448_pos.le) ?_
    unfold r448; norm_num)
  have hs : 0 < (2 : ℝ) ^ e := by positivity
  rw [hdiv, hzw, e1, e2, els', epm, em, div_real hl.ne', zpow_neg]
  have hcl : ∀ n, cl (((P n * (z n * c) : ℝ) : EReal) * (((((2 : ℝ) ^ e)⁻¹ : ℝ) : EReal) * ((m⁻¹ : ℝ) : EReal)))
      = ((P n * (z n * c) * m⁻¹ * ((2 : ℝ) ^ e)⁻¹ : ℝ) : EReal) := by
    intro n
    rw [← EReal.coe_mul, ← EReal.coe_mul, show P n * (z n * c) * ((((2 : ℝ) ^ e)⁻¹) * m⁻¹) = P n * (z n * c) * m⁻¹ * ((2 : ℝ) ^ e)⁻¹ by ring]
    rcases Nat.lt_or_ge n N with h | h
    · refine cl_small (mul_nonneg (mul_nonneg (hP n) (hz n h)) (inv_nonneg.mpr hm0.le)) hs (lt_of_le_of_lt ?_ e3)
      exact mul_le_mul_of_nonneg_right (mul_le_mul_of_nonneg_right (hw n h) (inv_nonneg.mpr hm0.le)) r448_pos.le
    · rw [hout n h]
      simp only [zero_mul]
      exact_mod_cast cl_zero
  rw [Finset.sum_congr rfl fun n _ => by rw [hcl n, ← EReal.coe_mul], coe_sum, ← EReal.coe_mul, ← EReal.coe_mul, ← EReal.coe_mul]
  congr 1
  have : ∑ n ∈ Finset.range 2048, cv n * (P n * (z n * c) * m⁻¹ * ((2 : ℝ) ^ e)⁻¹)
      = (∑ n ∈ Finset.range 2048, cv n * (P n * z n)) * (c * m⁻¹ * ((2 : ℝ) ^ e)⁻¹) := by
    rw [Finset.sum_mul]; exact Finset.sum_congr rfl fun n _ => by ring
  rw [this]
  have hs' := hs.ne'
  have hm' := hm0.ne'
  generalize (2 : ℝ) ^ e = s at hs'
  generalize ∑ n ∈ Finset.range 2048, cv n * (P n * z n) = T
  calc T * (c * m⁻¹ * s⁻¹) * (s * (m / l) * un) = T / l * (c * un) * (m⁻¹ * m) * (s⁻¹ * s) := by ring
    _ = T / l := by rw [hc, inv_mul_cancel₀ hm', inv_mul_cancel₀ hs']; ring

/-- The largest scale of the values is undone by the factor made from it. -/
theorem norm_spec {V : ℕ → ℕ → EReal} (hV : ∀ r < 2048, Tame (V r)) :
    ∃ c un : ℝ, 0 < c ∧ c * un = 1 ∧ vmx V * Ideal.ofBits .f32 0x27800000#32 = (un : EReal)
      ∧ ∀ r < 2048, nvs V r = ((sr (V r) * c : ℝ) : EReal) ∧ sr (V r) * c ≤ (2 : ℝ) ^ 48 := by
  obtain ⟨m, em, ⟨k, hk, ek⟩, hm⟩ := sup_real (fun r => sr (V r)) (N := 2048) (by norm_num)
  have ev : vmx V = (m : EReal) := by
    unfold vmx
    rw [← em]
    refine Finset.sup_congr rfl fun r hr => ?_
    exact (scl_real (hV r (Finset.mem_range.mp hr))).1
  obtain ⟨-, e, he, h1, h2⟩ := scl_real (hV k hk)
  have hme : m = (2 : ℝ) ^ e := ek.trans he
  have u1 : up48 = (((2 : ℝ) ^ (48 : ℤ) : ℝ) : EReal) := by
    refine (ofBits_field (k := 175) (by norm_num) (by norm_num)).trans ?_
    norm_num
  have u2 : Ideal.ofBits .f32 0x27800000#32 = (((2 : ℝ) ^ (-48 : ℤ) : ℝ) : EReal) := by
    refine (ofBits_field (k := 79) (by norm_num) (by norm_num)).trans ?_
    norm_num
  obtain ⟨n, hn⟩ : ∃ n : ℕ, (n : ℤ) = e + 127 := ⟨(e + 127).toNat, Int.toNat_of_nonneg (by omega)⟩
  have hf : eField (m : EReal) = BitVec.ofNat 32 (n * 8388608) := by
    refine eField_eq (by omega) (.inr ?_) ?_
    · rw [hme, hn]; exact zpow_le_zpow_right₀ (by norm_num) (by omega)
    · rw [hme, hn]; exact zpow_lt_zpow_right₀ (by norm_num) (by omega)
  have hnr : nrm (vmx V) = (((2 : ℝ) ^ (-e) : ℝ) : EReal) := by
    unfold nrm
    rw [ev, hf]
    have : 2130706432#32 - BitVec.ofNat 32 (n * 8388608) = BitVec.ofNat 32 ((254 - n) * 8388608) := by
      apply BitVec.eq_of_toNat_eq
      rw [BitVec.toNat_sub, toNat_field (by omega), toNat_field (by omega)]
      show (2 ^ 32 - n * 8388608 + 2130706432) % 2 ^ 32 = _
      omega
    rw [this, ofBits_field (by omega) (by omega)]
    refine congrArg (fun i : ℤ => (((2 : ℝ) ^ i : ℝ) : EReal)) ?_
    omega
  have hp : 0 < (2 : ℝ) ^ e := by positivity
  refine ⟨(2 : ℝ) ^ (-e) * (2 : ℝ) ^ (48 : ℤ), (2 : ℝ) ^ e * (2 : ℝ) ^ (-48 : ℤ), by positivity, ?_, ?_, fun r hr => ⟨?_, ?_⟩⟩
  · rw [zpow_neg, zpow_neg]
    field_simp
  · rw [ev, u2, hme, ← EReal.coe_mul]
  · unfold nvs
    rw [(scl_real (hV r hr)).1, hnr, u1, ← EReal.coe_mul, ← EReal.coe_mul, mul_assoc]
  · have := hm r hr
    rw [hme] at this
    calc sr (V r) * ((2 : ℝ) ^ (-e) * (2 : ℝ) ^ (48 : ℤ)) ≤ (2 : ℝ) ^ e * ((2 : ℝ) ^ (-e) * (2 : ℝ) ^ (48 : ℤ)) :=
          mul_le_mul_of_nonneg_right this (by positivity)
      _ = (2 : ℝ) ^ 48 := by rw [zpow_neg]; field_simp

/-- Two to the power of the scaled cap is the exponential of the cap. -/
theorem exp2_cap (x : ℝ) : Ideal.exp2 (Ideal.tanh (x : EReal) * ((50 * (Real.log 2)⁻¹ : ℝ) : EReal)) = ((Real.exp (50 * Real.tanh x) : ℝ) : EReal) := by
  show Ideal.exp2 (((Real.tanh x : ℝ) : EReal) * _) = _
  rw [← EReal.coe_mul]
  show ((Real.rpow 2 _ : ℝ) : EReal) = _
  congr 1
  refine (Real.rpow_def_of_pos (by norm_num) _).trans (congrArg Real.exp ?_)
  have := log_two_pos.ne'
  field_simp

/-- What a step of the kernel computes. -/
theorem OUT_eq {X K V : ℕ → ℕ → EReal} {lc e2 : EReal} (hlc : lc = (((Real.sqrt 128)⁻¹ * 50⁻¹ : ℝ) : EReal))
    (he2 : e2 = ((50 * (Real.log 2)⁻¹ : ℝ) : EReal)) {t d j : ℕ} (ht : t < 64) (hQ : Tame (qx X t j))
    (hK : ∀ r < 2048, Tame (K r)) (hV : ∀ r < 2048, Tame (V r)) :
    OUT X K V lc e2 (vmx V * Ideal.ofBits .f32 0x27800000#32) t d j = attn (qx X t j) K V (128 * (t / 4) + j % 128) d := by
  obtain ⟨c, un, hc0, hc, hun, hn⟩ := norm_spec hV
  have hrow : 128 * (t / 4) + j % 128 + 1 ≤ 128 * (t / 4 + 1) := by omega
  generalize hR : 128 * (t / 4) + j % 128 = R at hrow
  let P : ℕ → ℝ := fun n => if n ≤ R then prr (qx X t j) (K n) else 0
  have hPR : ∀ n < 2048, PR X K lc e2 t n j = (P n : EReal) := by
    intro n hn
    unfold PR
    rw [hR]
    show _ = (((if n ≤ R then prr (qx X t j) (K n) else 0) : ℝ) : EReal)
    split
    · have hs : SC X K t n j = ((∑ d ∈ Finset.range 128, cr (K n) d * cr (qx X t j) d : ℝ) : EReal) := by
        unfold SC
        rw [← coe_sum]
        exact Finset.sum_congr rfl fun d _ => by rw [code_real, code_real, EReal.coe_mul]
      rw [hs, (scl_real hQ).1, (scl_real (hK n hn)).1, hlc, he2, ← EReal.coe_mul, ← EReal.coe_mul, ← EReal.coe_mul]
      exact exp2_cap _
    · rfl
  have hWT : ∀ n < 2048, WT X K V lc e2 t n j = ((P n * (sr (V n) * c) : ℝ) : EReal) := by
    intro n hn'
    unfold WT
    rw [hPR n hn', (hn n hn').1, ← EReal.coe_mul]
  have hP0 : ∀ n, 0 ≤ P n := fun n => by
    show 0 ≤ (if n ≤ R then prr (qx X t j) (K n) else 0)
    split
    · exact (prr_pos _ _).le
    · exact le_rfl
  have hin : ∀ n ≤ R, P n = prr (qx X t j) (K n) := fun n h => if_pos h
  have hout : ∀ n, ¬ n ≤ R → P n = 0 := fun n h => if_neg h
  have hsr : ∀ n < 2048, 0 ≤ sr (V n) := fun n hn => by
    obtain ⟨-, e, he, -⟩ := scl_real (hV n hn); rw [he]; positivity
  clear_value P
  have key := core (P := P) (z := fun n => sr (V n)) (cv := fun n => cr (V n) d) (c := c) (un := un) (N := 128 * (t / 4 + 1)) (by omega) hP0
    (by rw [hin 0 (Nat.zero_le _)]; exact prr_pos _ _) (fun n hn => hout n (by omega)) hc
    (fun n hn => mul_nonneg (hsr n (by omega)) hc0.le) (fun n hn' => (hn n (by omega)).2) (pm := PM X K lc e2 t j) (wm := WM X K V lc e2 t j)
    (ls := LS X K lc e2 t j) (zw := ZW X K V lc e2 t j)
    (Finset.sup_congr rfl fun n hn => hPR n (by have := Finset.mem_range.mp hn; omega))
    (Finset.sup_congr rfl fun n hn => hWT n (by have := Finset.mem_range.mp hn; omega))
    (Finset.sum_congr rfl fun n hn => hPR n (by have := Finset.mem_range.mp hn; omega))
    (by unfold ZW RP; rw [bits_one])
  have hlim : ∀ (f : ℕ → ℝ) (N : ℕ), R + 1 ≤ N → (∀ n, ¬ n ≤ R → f n = 0) → ∑ n ∈ Finset.range N, f n = ∑ n ∈ Finset.range (R + 1), f n :=
    fun f N hN hf => (Finset.sum_subset (Finset.range_subset_range.mpr hN) fun n _ h => hf n (by simpa [Nat.lt_succ_iff] using h)).symm
  unfold OUT OFF FF RP attn
  rw [hun, bits_one]
  refine Eq.trans (congrArg (· * _) (Finset.sum_congr rfl fun n hn' => ?_)) (key.trans ?_)
  · rw [code_real, hWT n (Finset.mem_range.mp hn')]
  · rw [hlim _ 2048 (by omega) (fun n h => by rw [hout n h]; ring), hlim _ (128 * (t / 4 + 1)) hrow hout]
    congr 2
    · exact Finset.sum_congr rfl fun n hn' => by rw [hin n (by have := Finset.mem_range.mp hn'; omega)]
    · exact Finset.sum_congr rfl fun n hn' => by rw [hin n (by have := Finset.mem_range.mp hn'; omega)]

theorem Tame.congr {u v : ℕ → EReal} (h : Tame u) (e : ∀ d < 128, u d = v d) : Tame v := by
  have : amx v = amx u := Finset.sup_congr rfl fun d hd => by rw [e d (Finset.mem_range.mp hd)]
  unfold Tame
  rw [this]
  exact h

theorem cr_congr {u v : ℕ → EReal} (e : ∀ d < 128, u d = v d) {d : ℕ} (hd : d < 128) : cr u d = cr v d :=
  congrArg EReal.toReal (code_congr e hd)

theorem sr_congr {u v : ℕ → EReal} (e : ∀ d < 128, u d = v d) : sr u = sr v := congrArg EReal.toReal (scl_congr e)

theorem prr_congr {Q Q' K K' : ℕ → EReal} (hQ : ∀ d < 128, Q d = Q' d) (hK : ∀ d < 128, K d = K' d) : prr Q K = prr Q' K' := by
  unfold prr
  rw [sr_congr hQ, sr_congr hK, Finset.sum_congr rfl fun d hd => by rw [cr_congr hQ (Finset.mem_range.mp hd), cr_congr hK (Finset.mem_range.mp hd)]]

theorem attn_congr {Q Q' : ℕ → EReal} {K K' V V' : ℕ → ℕ → EReal} {r d : ℕ} (hd : d < 128) (hQ : ∀ e < 128, Q e = Q' e)
    (hK : ∀ n ≤ r, ∀ e < 128, K n e = K' n e) (hV : ∀ n ≤ r, ∀ e < 128, V n e = V' n e) : attn Q K V r d = attn Q' K' V' r d := by
  unfold attn
  have hn : ∀ n ∈ Finset.range (r + 1), n ≤ r := fun n h => by have := Finset.mem_range.mp h; omega
  rw [Finset.sum_congr rfl fun n h => by rw [cr_congr (hV n (hn n h)) hd, sr_congr (hV n (hn n h)), prr_congr hQ (hK n (hn n h))],
    Finset.sum_congr (g := fun n => prr Q' (K' n)) rfl fun n h => prr_congr hQ (hK n (hn n h))]

/-- The attention of whole arrays: sixteen heads of queries, eight to each head of keys and values. -/
def attend (X : (⟨3, ![8, 2048, 2048]⟩ : Shape).Idx → EReal) (K V : (⟨3, ![8, 2048, 256]⟩ : Shape).Idx → EReal)
    (i : (⟨3, ![8, 2048, 2048]⟩ : Shape).Idx) : EReal :=
  attn (headRow X (i 0).val (i 1).val ((i 2).val / 128)) (fun n => headRow K (i 0).val n ((i 2).val / 1024))
    (fun n => headRow V (i 0).val n ((i 2).val / 1024)) (i 1).val ((i 2).val % 128)

end Attn
-- ==== Proof.RefRows.lean ====
module

public import proofs.«01_k».proof.Proof.RefScale
public import Idealize.ShloMosaic.Lib.KernelVsHost
public import Idealize.ShloMosaic.Lib.ReduceAll

/-!
# Rows of heads, as the reference takes them

The reference splits the last axis into heads of 128 and works on arrays of rank four. Here its terms are read at an
index, for any number of heads.
-/

@[expose] public section

noncomputable section

namespace Attn

open Idealize.ShloMosaic Idealize.ShloMosaic.ValueIdx

variable {n C : ℕ}

theorem split_apply {α : Type} (hC : C = n * 128) (x : (⟨3, ![8, 2048, C]⟩ : Shape).Idx → α)
    (h : (⟨3, ![8, 2048, C]⟩ : Shape).ShapeCasts ⟨4, ![8, 2048, n, 128]⟩) (b : Fin 8) (r : Fin 2048) (k : Fin n) (d : Fin 128) :
    shapeCast ⟨4, ![8, 2048, n, 128]⟩ x h (ValueIdx.ix4 b r k d) = x (ix3 b r ⟨128 * k.val + d.val, by have := k.isLt; omega⟩) :=
  shapeCast_apply x h _ _ (by
    rw [Shape.rowMajor_val_four, Shape.rowMajor_val_three]
    show (b.val * 2048 + r.val) * C + (128 * k.val + d.val) = ((b.val * 2048 + r.val) * n + k.val) * 128 + d.val
    subst hC; ring)

theorem join_apply {α : Type} (hC : C = n * 128) (x : (⟨4, ![8, 2048, n, 128]⟩ : Shape).Idx → α)
    (h : (⟨4, ![8, 2048, n, 128]⟩ : Shape).ShapeCasts ⟨3, ![8, 2048, C]⟩) (b : Fin 8) (r : Fin 2048) (c : Fin C) :
    shapeCast ⟨3, ![8, 2048, C]⟩ x h (ix3 b r c)
      = x (ValueIdx.ix4 b r ⟨c.val / 128, by have := c.isLt; omega⟩ ⟨c.val % 128, Nat.mod_lt _ (by norm_num)⟩) :=
  shapeCast_apply x h _ _ (by
    rw [Shape.rowMajor_val_four, Shape.rowMajor_val_three]
    show ((b.val * 2048 + r.val) * n + c.val / 128) * 128 + c.val % 128 = (b.val * 2048 + r.val) * C + c.val
    have := Nat.div_add_mod c.val 128
    subst hC
    calc ((b.val * 2048 + r.val) * n + c.val / 128) * 128 + c.val % 128
        = (b.val * 2048 + r.val) * (n * 128) + (128 * (c.val / 128) + c.val % 128) := by ring
      _ = _ := by rw [this])

/-- An array split into heads, read along a row. -/
theorem split_row (hC : C = n * 128) (x : (⟨3, ![8, 2048, C]⟩ : Shape).Idx → EReal)
    (h : (⟨3, ![8, 2048, C]⟩ : Shape).ShapeCasts ⟨4, ![8, 2048, n, 128]⟩) (b : Fin 8) (r : Fin 2048) (k : Fin n) (d : Fin 128) :
    shapeCast ⟨4, ![8, 2048, n, 128]⟩ x h (ValueIdx.ix4 b r k d) = headRow x b.val r.val k.val d.val :=
  (split_apply hC x h b r k d).trans (a3_mk x b.isLt r.isLt (by have := k.isLt; have := d.isLt; omega)).symm

/-- The largest magnitude of a row. -/
theorem amax_apply {u : Shape} (Y : FVec Ideal ⟨4, ![8, 2048, n, 128]⟩ .f32)
    (h : (⟨4, ![8, 2048, n, 128]⟩ : Shape).ReducesTo [3] ⟨3, ![8, 2048, n]⟩) (hu : 0 < u.numel)
    (h' : (⟨4, ![8, 2048, n, 128]⟩ : Shape).Reduces [3] ⟨3, ![8, 2048, n]⟩) (b : Fin 8) (r : Fin 2048) (k : Fin n) {w : ℕ → EReal}
    (hw : ∀ d : Fin 128, Y (ValueIdx.ix4 b r k d) = w d.val) :
    Host.reduce FloatOps.maximumf (Host.absf Y) (constant u .f32 0xFF800000#32) h hu (ix3 b r k) = amx w := by
  rw [hostReduce_maximumf_eq_multiReduction (Host.absf Y) 0xFF800000#32 h hu h' (.inl rfl) rfl]
  refine (Ideal.multiReduction_maximumf_single (s := ⟨4, ![8, 2048, n, 128]⟩) (t := ⟨3, ![8, 2048, n]⟩) (a := (3 : Fin 4)) _ _ _ _ _ _).trans ?_
  refine fold_max_eq _ _ fun d => ?_
  have : h'.lift (ix3 b r k) d = ValueIdx.ix4 b r k d := by
    funext x; match x with
    | ⟨0, _⟩ => rfl
    | ⟨1, _⟩ => rfl
    | ⟨2, _⟩ => rfl
    | ⟨3, _⟩ => rfl
  show max (Y (h'.lift (ix3 b r k) d)) (-(Y (h'.lift (ix3 b r k) d))) = _
  rw [this]
  have e := hw d
  erw [e]

/-- The largest magnitudes, with a last axis of size one. -/
theorem amaxCol_apply {u : Shape} (Y : FVec Ideal ⟨4, ![8, 2048, n, 128]⟩ .f32)
    (h : (⟨4, ![8, 2048, n, 128]⟩ : Shape).ReducesTo [3] ⟨3, ![8, 2048, n]⟩) (hu : 0 < u.numel)
    (h' : (⟨4, ![8, 2048, n, 128]⟩ : Shape).Reduces [3] ⟨3, ![8, 2048, n]⟩)
    (hb : (⟨3, ![8, 2048, n]⟩ : Shape).BroadcastsInDim ⟨4, ![8, 2048, n, 1]⟩ ![0, 1, 2]) (hn : n ≠ 1)
    (b : Fin 8) (r : Fin 2048) (k : Fin n) (z : Fin 1) {w : ℕ → EReal} (hw : ∀ d : Fin 128, Y (ValueIdx.ix4 b r k d) = w d.val) :
    broadcastInDim ⟨4, ![8, 2048, n, 1]⟩ ![0, 1, 2] hb
      (Host.reduce FloatOps.maximumf (Host.absf Y) (constant u .f32 0xFF800000#32) h hu) (ValueIdx.ix4 b r k z) = amx w :=
  (broadcastInDim_apply _ hb _ _ (ix3 b r k) (fun a => by
    match a with
    | ⟨0, _⟩ => rfl
    | ⟨1, _⟩ => rfl
    | ⟨2, _⟩ => show k.val = if n = 1 then 0 else k.val; rw [if_neg hn])).trans (amax_apply Y h hu h' b r k hw)

/-- A number at every index. -/
abbrev fill (s : Shape) (hb : (⟨0, ![]⟩ : Shape).BroadcastsInDim s (![] : Fin 0 → Fin s.rank)) (c : FVec Ideal ⟨0, ![]⟩ .f32) : FVec Ideal s .f32 :=
  broadcastInDim s ![] hb c

/-- The reference's exponents, of the largest magnitudes. -/
abbrev expo (s : Shape) (hb : (⟨0, ![]⟩ : Shape).BroadcastsInDim s (![] : Fin 0 → Fin s.rank)) (A : FVec Ideal s .f32) : FVec Ideal s .f32 :=
  select (cmpf .oeq A (fill s hb (constant ⟨0, ![]⟩ .f32 0x00000000#32))) (fill s hb (id (constant ⟨0, ![]⟩ .f32 0x00000000#32)))
    (addf (Host.floor (Host.divf (Host.log (mulf A (fill s hb (constant ⟨0, ![]⟩ .f32 0x3B124925#32))))
      (fill s hb (Host.log (constant ⟨0, ![]⟩ .f32 0x40000000#32))))) (fill s hb (constant ⟨0, ![]⟩ .f32 0x3F800000#32)))

theorem expo_apply (s : Shape) (hb) (A : FVec Ideal s .f32) (i : s.Idx) : expo s hb A i = refE (A i) := rfl

/-- Two to an array of exponents. -/
abbrev pow2 (s : Shape) (hb : (⟨0, ![]⟩ : Shape).BroadcastsInDim s (![] : Fin 0 → Fin s.rank)) (E : FVec Ideal s .f32) : FVec Ideal s .f32 :=
  Host.powf (fill s hb (constant ⟨0, ![]⟩ .f32 0x40000000#32)) E

theorem pow2_apply (s : Shape) (hb) (E : FVec Ideal s .f32) (i : s.Idx) :
    pow2 s hb E i = Ideal.pow (Ideal.ofBits .f32 0x40000000#32) (E i) := rfl

/-- The reference's codes. -/
abbrev clipped (hc : (⟨0, ![]⟩ : Shape).BroadcastsInDim ⟨4, ![8, 2048, n, 128]⟩ (![] : Fin 0 → Fin 4))
    (hs : (⟨0, ![]⟩ : Shape).BroadcastsInDim ⟨4, ![8, 2048, n, 1]⟩ (![] : Fin 0 → Fin 4))
    (hb : (⟨4, ![8, 2048, n, 1]⟩ : Shape).BroadcastsInDim ⟨4, ![8, 2048, n, 128]⟩ ![0, 1, 2, 3])
    (Y : FVec Ideal ⟨4, ![8, 2048, n, 128]⟩ .f32) (E : FVec Ideal ⟨4, ![8, 2048, n, 1]⟩ .f32) : FVec Ideal ⟨4, ![8, 2048, n, 128]⟩ .f32 :=
  minimumf (fill _ hc (id (constant ⟨0, ![]⟩ .f32 0x43E00000#32))) (maximumf (fill _ hc (id (constant ⟨0, ![]⟩ .f32 0xC3E00000#32)))
    (mulf Y (broadcastInDim ⟨4, ![8, 2048, n, 128]⟩ ![0, 1, 2, 3] hb (pow2 _ hs (Host.negf E)))))

theorem clipped_apply (hc hs hb) (hn : n ≠ 1) (Y : FVec Ideal ⟨4, ![8, 2048, n, 128]⟩ .f32) (E : FVec Ideal ⟨4, ![8, 2048, n, 1]⟩ .f32)
    (b : Fin 8) (r : Fin 2048) (k : Fin n) (d : Fin 128) :
    clipped hc hs hb Y E (ValueIdx.ix4 b r k d)
      = cl (Y (ValueIdx.ix4 b r k d) * Ideal.pow (Ideal.ofBits .f32 0x40000000#32) (-(E (ValueIdx.ix4 b r k 0)))) := by
  have e : broadcastInDim ⟨4, ![8, 2048, n, 128]⟩ ![0, 1, 2, 3] hb (pow2 _ hs (Host.negf E)) (ValueIdx.ix4 b r k d)
      = Ideal.pow (Ideal.ofBits .f32 0x40000000#32) (-(E (ValueIdx.ix4 b r k 0))) :=
    (broadcastInDim_apply _ hb _ _ (ValueIdx.ix4 b r k 0) (fun a => by
      match a with
      | ⟨0, _⟩ => rfl
      | ⟨1, _⟩ => rfl
      | ⟨2, _⟩ => show k.val = if n = 1 then 0 else k.val; rw [if_neg hn]
      | ⟨3, _⟩ => rfl)).trans rfl
  exact congrArg (fun z => cl (Y (ValueIdx.ix4 b r k d) * z)) e

/-- With the exponents of tame rows, the codes are the kernel's. -/
theorem clipped_code (hc hs hb) (hn : n ≠ 1) (Y : FVec Ideal ⟨4, ![8, 2048, n, 128]⟩ .f32) (E : FVec Ideal ⟨4, ![8, 2048, n, 1]⟩ .f32)
    (b : Fin 8) (r : Fin 2048) (k : Fin n) (d : Fin 128) {w : ℕ → EReal} (hw : Y (ValueIdx.ix4 b r k d) = w d.val)
    (hE : E (ValueIdx.ix4 b r k 0) = refE (amx w)) (ht : Tame w) : clipped hc hs hb Y E (ValueIdx.ix4 b r k d) = code w d.val := by
  rw [clipped_apply hc hs hb hn, hw, hE, (pow_ref ht).2]; rfl

/-- Every row of every head is tame. -/
def AllTame {C : ℕ} (n : ℕ) (x : (⟨3, ![8, 2048, C]⟩ : Shape).Idx → EReal) : Prop :=
  ∀ (b : Fin 8) (r : Fin 2048) (k : Fin n), Tame (headRow x b.val r.val k.val)

end Attn
-- ==== Proof.KI.Value.lean ====
module

public import proofs.«01_k».proof.Proof.KI.Frame
public import proofs.«01_k».proof.Proof.KI.Quant
public import proofs.«01_k».proof.Proof.Core
public import proofs.«01_k».proof.Proof.RefRows
public import Idealize.ShloMosaic.Lib.Pipeline.ValueKit

/-!
# The results of the kernel, as whole arrays

A grid point's blocks are blocks of the attention, the codes and the scales of the whole arguments; the points'
blocks fill the arrays.
-/

@[expose] public section

set_option maxRecDepth 16384

noncomputable section

namespace Cert.KernelIdeal

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Attn (B codes scales g3 g4 a3)

local notation "𝕄" => MT nD τ sig Unit (Elt Ideal) ℕ (UR sig nD τ) ℕ

/-! ## Where a point's blocks lie -/

theorem index_0 : ∀ (t : Fin cfg0.N) (a : Fin 3), win0_0.index t a = (![t.val / 2, 0, t.val % 2] : Fin 3 → ℕ) a := by decide +kernel
theorem index_1 : ∀ (t : Fin cfg0.N) (a : Fin 3), win0_1.index t a = (![t.val / 2, 0, t.val % 2] : Fin 3 → ℕ) a := by decide +kernel
theorem index_2 : ∀ (t : Fin cfg0.N) (a : Fin 3), win0_2.index t a = (![t.val / 2, 0, t.val % 2] : Fin 3 → ℕ) a := by decide +kernel
theorem index_3 : ∀ (t : Fin cfg0.N) (a : Fin 3), win0_3.index t a = (![t.val / 2, 0, t.val % 2] : Fin 3 → ℕ) a := by decide +kernel
theorem index_4 : ∀ (t : Fin cfg0.N) (a : Fin 3), win0_4.index t a = (![t.val / 2, 0, t.val % 2] : Fin 3 → ℕ) a := by decide +kernel
theorem index_5 : ∀ (t : Fin cfg0.N) (a : Fin 4), win0_5.index t a = (![t.val / 2, t.val % 2, 0, 0] : Fin 4 → ℕ) a := by decide +kernel
theorem index_6 : ∀ (t : Fin cfg0.N) (a : Fin 3), win0_6.index t a = (![t.val / 2, 0, t.val % 2] : Fin 3 → ℕ) a := by decide +kernel
theorem index_7 : ∀ (t : Fin cfg0.N) (a : Fin 4), win0_7.index t a = (![t.val / 2, t.val % 2, 0, 0] : Fin 4 → ℕ) a := by decide +kernel
theorem index_8 : ∀ (t : Fin cfg0.N) (a : Fin 3), win0_8.index t a = (![t.val / 2, 0, t.val % 2] : Fin 3 → ℕ) a := by decide +kernel
theorem index_9 : ∀ (t : Fin cfg0.N) (a : Fin 4), win0_9.index t a = (![t.val / 2, t.val % 2, 0, 0] : Fin 4 → ℕ) a := by decide +kernel

theorem t_lt (t : Fin cfg0.N) : t.val < 16 := t.isLt

/-- A block of an array of rank three, read: batch element `t / 2`, the columns of half `t % 2`. -/
theorem read3 {C c : ℕ} (hC : C = 2 * c) (G : (⟨3, ![8, 2048, C]⟩ : Shape).Idx → EReal) (t : Fin cfg0.N)
    (emb : (⟨3, ![1, 2048, c]⟩ : Shape).Idx → (⟨3, ![8, 2048, C]⟩ : Shape).Idx)
    (he : ∀ y (a : Fin 3), (emb y a : ℕ) = (![t.val / 2, 0, t.val % 2] : Fin 3 → ℕ) a * (![1, 2048, c] : Fin 3 → ℕ) a + (y a : ℕ))
    {r e : ℕ} (hr : r < 2048) (hc : e < c) :
    g3 (fun y => G (emb y)) r e = a3 G (t.val / 2) r (c * (t.val % 2) + e) := by
  have ht := t_lt t
  have h2 : t.val % 2 < 2 := Nat.mod_lt _ (by norm_num)
  have hlt : c * (t.val % 2) + e < C := by
    have : c * (t.val % 2) ≤ c * 1 := Nat.mul_le_mul_left _ (by omega)
    omega
  rw [Attn.g3_mk _ hr hc, Attn.a3_mk G (by omega : t.val / 2 < 8) hr hlt]
  refine congrArg G (funext fun a => Fin.ext ?_)
  rw [he]
  fin_cases a
  · show t.val / 2 * 1 + 0 = t.val / 2; omega
  · show 0 * 2048 + r = r; omega
  · show t.val % 2 * c + e = c * (t.val % 2) + e; rw [Nat.mul_comm]

/-- The same of an array of rank four. -/
theorem read4 {g : ℕ} (G : (⟨4, ![8, 2, g, 2048]⟩ : Shape).Idx → EReal) (t : Fin cfg0.N)
    (emb : (⟨4, ![1, 1, g, 2048]⟩ : Shape).Idx → (⟨4, ![8, 2, g, 2048]⟩ : Shape).Idx)
    (he : ∀ y (a : Fin 4), (emb y a : ℕ) = (![t.val / 2, t.val % 2, 0, 0] : Fin 4 → ℕ) a * (![1, 1, g, 2048] : Fin 4 → ℕ) a + (y a : ℕ))
    {j r : ℕ} (hj : j < g) (hr : r < 2048) :
    g4 (fun y => G (emb y)) j r = G (ValueIdx.ix4 ⟨t.val / 2, by have := t_lt t; omega⟩ ⟨t.val % 2, Nat.mod_lt _ (by norm_num)⟩ ⟨j, hj⟩ ⟨r, hr⟩) := by
  rw [Attn.g4_mk _ hj hr]
  refine congrArg G (funext fun a => Fin.ext ?_)
  rw [he]
  fin_cases a
  · show t.val / 2 * 1 + 0 = t.val / 2; omega
  · show t.val % 2 * 1 + 0 = t.val % 2; omega
  · show 0 * g + j = j; omega
  · show 0 * 2048 + r = r; omega

theorem emb_0 (t : Fin cfg0.N) (y) (a : Fin 3) : ((win0_0.rect t).emb y a : ℕ)
    = (![t.val / 2, 0, t.val % 2] : Fin 3 → ℕ) a * (![1, 2048, 1024] : Fin 3 → ℕ) a + (y a : ℕ) :=
  (Window.rect_emb_val win0_0 t y a).trans (by rw [index_0 t a])
theorem emb_1 (t : Fin cfg0.N) (y) (a : Fin 3) : ((win0_1.rect t).emb y a : ℕ)
    = (![t.val / 2, 0, t.val % 2] : Fin 3 → ℕ) a * (![1, 2048, 128] : Fin 3 → ℕ) a + (y a : ℕ) :=
  (Window.rect_emb_val win0_1 t y a).trans (by rw [index_1 t a])
theorem emb_2 (t : Fin cfg0.N) (y) (a : Fin 3) : ((win0_2.rect t).emb y a : ℕ)
    = (![t.val / 2, 0, t.val % 2] : Fin 3 → ℕ) a * (![1, 2048, 128] : Fin 3 → ℕ) a + (y a : ℕ) :=
  (Window.rect_emb_val win0_2 t y a).trans (by rw [index_2 t a])
theorem emb_3 (t : Fin cfg0.N) (y) (a : Fin 3) : ((win0_3.rect t).emb y a : ℕ)
    = (![t.val / 2, 0, t.val % 2] : Fin 3 → ℕ) a * (![1, 2048, 1024] : Fin 3 → ℕ) a + (y a : ℕ) :=
  (Window.rect_emb_val win0_3 t y a).trans (by rw [index_3 t a])
theorem emb_4 (t : Fin cfg0.N) (y) (a : Fin 3) : ((win0_4.rect t).emb y a : ℕ)
    = (![t.val / 2, 0, t.val % 2] : Fin 3 → ℕ) a * (![1, 2048, 1024] : Fin 3 → ℕ) a + (y a : ℕ) :=
  (Window.rect_emb_val win0_4 t y a).trans (by rw [index_4 t a])
theorem emb_5 (t : Fin cfg0.N) (y) (a : Fin 4) : ((win0_5.rect t).emb y a : ℕ)
    = (![t.val / 2, t.val % 2, 0, 0] : Fin 4 → ℕ) a * (![1, 1, 8, 2048] : Fin 4 → ℕ) a + (y a : ℕ) :=
  (Window.rect_emb_val win0_5 t y a).trans (by rw [index_5 t a])
theorem emb_6 (t : Fin cfg0.N) (y) (a : Fin 3) : ((win0_6.rect t).emb y a : ℕ)
    = (![t.val / 2, 0, t.val % 2] : Fin 3 → ℕ) a * (![1, 2048, 128] : Fin 3 → ℕ) a + (y a : ℕ) :=
  (Window.rect_emb_val win0_6 t y a).trans (by rw [index_6 t a])
theorem emb_7 (t : Fin cfg0.N) (y) (a : Fin 4) : ((win0_7.rect t).emb y a : ℕ)
    = (![t.val / 2, t.val % 2, 0, 0] : Fin 4 → ℕ) a * (![1, 1, 1, 2048] : Fin 4 → ℕ) a + (y a : ℕ) :=
  (Window.rect_emb_val win0_7 t y a).trans (by rw [index_7 t a])
theorem emb_8 (t : Fin cfg0.N) (y) (a : Fin 3) : ((win0_8.rect t).emb y a : ℕ)
    = (![t.val / 2, 0, t.val % 2] : Fin 3 → ℕ) a * (![1, 2048, 128] : Fin 3 → ℕ) a + (y a : ℕ) :=
  (Window.rect_emb_val win0_8 t y a).trans (by rw [index_8 t a])
theorem emb_9 (t : Fin cfg0.N) (y) (a : Fin 4) : ((win0_9.rect t).emb y a : ℕ)
    = (![t.val / 2, t.val % 2, 0, 0] : Fin 4 → ℕ) a * (![1, 1, 1, 2048] : Fin 4 → ℕ) a + (y a : ℕ) :=
  (Window.rect_emb_val win0_9 t y a).trans (by rw [index_9 t a])

variable (m : (ℓ : Loc nD τ sig) → Buf (Elt Ideal) ℓ) (ρ : Dev nD → PrngReg) (c : Dev nD)

/-- The three arguments. -/
abbrev argX : (⟨3, ![8, 2048, 2048]⟩ : Shape).Idx → EReal := m ((c : Thread nD τ).loc main_arg0)
abbrev argK : (⟨3, ![8, 2048, 256]⟩ : Shape).Idx → EReal := m ((c : Thread nD τ).loc main_arg1)
abbrev argV : (⟨3, ![8, 2048, 256]⟩ : Shape).Idx → EReal := m ((c : Thread nD τ).loc main_arg2)

/-- The blocks of the arguments at a point. -/
abbrev blkX (t : Fin cfg0.N) : (⟨3, ![1, 2048, 1024]⟩ : Shape).Idx → EReal := iblk m c 0 t
abbrev blkK (t : Fin cfg0.N) : (⟨3, ![1, 2048, 128]⟩ : Shape).Idx → EReal := iblk m c 1 t
abbrev blkV (t : Fin cfg0.N) : (⟨3, ![1, 2048, 128]⟩ : Shape).Idx → EReal := iblk m c 2 t

theorem blkX_g3 (t : Fin cfg0.N) {r d : ℕ} (hr : r < 2048) (hd : d < 1024) :
    g3 (blkX m c t) r d = a3 (argX m c) (t.val / 2) r (1024 * (t.val % 2) + d) :=
  read3 rfl (argX m c) t (fun y => (win0_0.rect t).emb y) (emb_0 t) hr hd
theorem blkK_g3 (t : Fin cfg0.N) {r d : ℕ} (hr : r < 2048) (hd : d < 128) :
    g3 (blkK m c t) r d = a3 (argK m c) (t.val / 2) r (128 * (t.val % 2) + d) :=
  read3 rfl (argK m c) t (fun y => (win0_1.rect t).emb y) (emb_1 t) hr hd
theorem blkV_g3 (t : Fin cfg0.N) {r d : ℕ} (hr : r < 2048) (hd : d < 128) :
    g3 (blkV m c t) r d = a3 (argV m c) (t.val / 2) r (128 * (t.val % 2) + d) :=
  read3 rfl (argV m c) t (fun y => (win0_2.rect t).emb y) (emb_2 t) hr hd

/-! ## A point's results are blocks of the whole results -/

def out3 (t : Fin cfg0.N) : (⟨3, ![1, 2048, 1024]⟩ : Shape).Idx → EReal := fun y => Attn.attend (argX m c) (argK m c) (argV m c) ((win0_3.rect t).emb y)
def out4 (t : Fin cfg0.N) : (⟨3, ![1, 2048, 1024]⟩ : Shape).Idx → EReal := fun y => codes (argX m c) ((win0_4.rect t).emb y)
def out5 (t : Fin cfg0.N) : (⟨4, ![1, 1, 8, 2048]⟩ : Shape).Idx → EReal := fun y => scales 8 (argX m c) ((win0_5.rect t).emb y)
def out6 (t : Fin cfg0.N) : (⟨3, ![1, 2048, 128]⟩ : Shape).Idx → EReal := fun y => codes (argK m c) ((win0_6.rect t).emb y)
def out7 (t : Fin cfg0.N) : (⟨4, ![1, 1, 1, 2048]⟩ : Shape).Idx → EReal := fun y => scales 1 (argK m c) ((win0_7.rect t).emb y)
def out8 (t : Fin cfg0.N) : (⟨3, ![1, 2048, 128]⟩ : Shape).Idx → EReal := fun y => codes (argV m c) ((win0_8.rect t).emb y)
def out9 (t : Fin cfg0.N) : (⟨4, ![1, 1, 1, 2048]⟩ : Shape).Idx → EReal := fun y => scales 1 (argV m c) ((win0_9.rect t).emb y)

/-- A point's codes of a wide array, read off the rows of its block. -/
theorem codes_read {C w : ℕ} (n : ℕ) (hC : C = 2 * w) (hw : w = 128 * n) (G : (⟨3, ![8, 2048, C]⟩ : Shape).Idx → EReal) (t : Fin cfg0.N)
    (emb : (⟨3, ![1, 2048, w]⟩ : Shape).Idx → (⟨3, ![8, 2048, C]⟩ : Shape).Idx)
    (he : ∀ y (a : Fin 3), (emb y a : ℕ) = (![t.val / 2, 0, t.val % 2] : Fin 3 → ℕ) a * (![1, 2048, w] : Fin 3 → ℕ) a + (y a : ℕ))
    {r e : ℕ} (hr : r < 2048) (hc : e < w) {U : ℕ → EReal}
    (hU : ∀ d < 128, U d = a3 G (t.val / 2) r (w * (t.val % 2) + (128 * (e / 128) + d))) :
    g3 (fun y => codes G (emb y)) r e = Attn.code U (e % 128) := by
  have ht := t_lt t
  have h2 : t.val % 2 < 2 := Nat.mod_lt _ (by norm_num)
  have hlt : w * (t.val % 2) + e < C := by
    have : w * (t.val % 2) ≤ w * 1 := Nat.mul_le_mul_left _ (by omega)
    omega
  rw [read3 hC (codes G) t emb he hr hc, Attn.a3_mk (codes G) (by omega : t.val / 2 < 8) hr hlt]
  subst hw
  refine Attn.codes_block G _ _ _ (n * (t.val % 2)) e (by show 128 * n * (t.val % 2) + e = _; rw [Nat.mul_assoc]) fun d hd => ?_
  rw [hU d hd]
  exact congrArg (a3 G (t.val / 2) r) (by rw [Nat.mul_assoc]; omega)

theorem scales_read {C g : ℕ} (G : (⟨3, ![8, 2048, C]⟩ : Shape).Idx → EReal) (t : Fin cfg0.N)
    (emb : (⟨4, ![1, 1, g, 2048]⟩ : Shape).Idx → (⟨4, ![8, 2, g, 2048]⟩ : Shape).Idx)
    (he : ∀ y (a : Fin 4), (emb y a : ℕ) = (![t.val / 2, t.val % 2, 0, 0] : Fin 4 → ℕ) a * (![1, 1, g, 2048] : Fin 4 → ℕ) a + (y a : ℕ))
    {j r : ℕ} (hj : j < g) (hr : r < 2048) {U : ℕ → EReal}
    (hU : ∀ d < 128, U d = a3 G (t.val / 2) r (128 * (g * (t.val % 2) + j) + d)) :
    g4 (fun y => scales g G (emb y)) j r = Attn.scl U :=
  (read4 (scales g G) t emb he hj hr).trans (Attn.scales_block G _ _ _ _ hU)

theorem out4_eq (t : Fin cfg0.N) {Y : (⟨3, ![1, 2048, 1024]⟩ : Shape).Idx → EReal}
    (h : ∀ r < 2048, ∀ e < 1024, g3 Y r e = Attn.code (Attn.xrow (g3 (blkX m c t)) r (e / 128)) (e % 128)) : Y = out4 m c t :=
  Attn.ext_g3 fun r hr e he => (h r hr e he).trans
    (codes_read 8 rfl rfl (argX m c) t (fun y => (win0_4.rect t).emb y) (emb_4 t) hr he fun d hd =>
      blkX_g3 m c t hr (by omega)).symm

theorem out5_eq (t : Fin cfg0.N) {Y : (⟨4, ![1, 1, 8, 2048]⟩ : Shape).Idx → EReal}
    (h : ∀ j < 8, ∀ r < 2048, g4 Y j r = Attn.scl (Attn.xrow (g3 (blkX m c t)) r j)) : Y = out5 m c t :=
  Attn.ext_g4 fun j hj r hr => (h j hj r hr).trans
    (scales_read (argX m c) t (fun y => (win0_5.rect t).emb y) (emb_5 t) hj hr fun d hd =>
      (blkX_g3 m c t hr (by omega)).trans (congrArg (a3 _ _ _) (by omega))).symm

theorem out6_eq (t : Fin cfg0.N) {Y : (⟨3, ![1, 2048, 128]⟩ : Shape).Idx → EReal}
    (h : ∀ r < 2048, ∀ e < 128, g3 Y r e = Attn.code (g3 (blkK m c t) r) e) : Y = out6 m c t :=
  Attn.ext_g3 fun r hr e he => (h r hr e he).trans (((codes_read 1 rfl rfl (argK m c) t (fun y => (win0_6.rect t).emb y) (emb_6 t) hr he
    fun d hd => (blkK_g3 m c t hr hd).trans (congrArg (a3 _ _ _) (by omega))).trans (by rw [Nat.mod_eq_of_lt he])).symm)

theorem out8_eq (t : Fin cfg0.N) {Y : (⟨3, ![1, 2048, 128]⟩ : Shape).Idx → EReal}
    (h : ∀ r < 2048, ∀ e < 128, g3 Y r e = Attn.code (g3 (blkV m c t) r) e) : Y = out8 m c t :=
  Attn.ext_g3 fun r hr e he => (h r hr e he).trans (((codes_read 1 rfl rfl (argV m c) t (fun y => (win0_8.rect t).emb y) (emb_8 t) hr he
    fun d hd => (blkV_g3 m c t hr hd).trans (congrArg (a3 _ _ _) (by omega))).trans (by rw [Nat.mod_eq_of_lt he])).symm)

theorem out7_eq (t : Fin cfg0.N) {Y : (⟨4, ![1, 1, 1, 2048]⟩ : Shape).Idx → EReal}
    (h : ∀ r < 2048, g4 Y 0 r = Attn.scl (g3 (blkK m c t) r)) : Y = out7 m c t :=
  Attn.ext_g4 fun j hj r hr => by
    obtain rfl : j = 0 := by omega
    exact (h r hr).trans (scales_read (argK m c) t (fun y => (win0_7.rect t).emb y) (emb_7 t) hj hr fun d hd =>
      (blkK_g3 m c t hr hd).trans (congrArg (a3 _ _ _) (by omega))).symm

theorem out9_eq (t : Fin cfg0.N) {Y : (⟨4, ![1, 1, 1, 2048]⟩ : Shape).Idx → EReal}
    (h : ∀ r < 2048, g4 Y 0 r = Attn.scl (g3 (blkV m c t) r)) : Y = out9 m c t :=
  Attn.ext_g4 fun j hj r hr => by
    obtain rfl : j = 0 := by omega
    exact (h r hr).trans (scales_read (argV m c) t (fun y => (win0_9.rect t).emb y) (emb_9 t) hj hr fun d hd =>
      (blkV_g3 m c t hr hd).trans (congrArg (a3 _ _ _) (by omega))).symm

/-- Every row of the three arguments is tame. -/
def ArgsTame : Prop := Attn.AllTame 16 (argX m c) ∧ Attn.AllTame 2 (argK m c) ∧ Attn.AllTame 2 (argV m c)

/-- A row of a block of keys or of values. -/
theorem narrow_row {G : (⟨3, ![8, 2048, 256]⟩ : Shape).Idx → EReal} {B : (⟨3, ![1, 2048, 128]⟩ : Shape).Idx → EReal} (t : Fin cfg0.N)
    (h : ∀ {r d : ℕ}, r < 2048 → d < 128 → g3 B r d = a3 G (t.val / 2) r (128 * (t.val % 2) + d)) {n : ℕ} (hn : n < 2048) :
    ∀ d < 128, Attn.headRow G (t.val / 2) n (t.val % 2) d = g3 B n d := fun _ hd => (h hn hd).symm

theorem out3_eq (t : Fin cfg0.N) (ht : ArgsTame m c) {Y : (⟨3, ![1, 2048, 1024]⟩ : Shape).Idx → EReal}
    (h : ∀ p < 64, ∀ d < 128, ∀ j < 256, g3 Y (128 * (p / 4) + j % 128) (128 * (2 * (p % 4) + j / 128) + d)
      = Attn.OUT (g3 (blkX m c t)) (g3 (blkK m c t)) (g3 (blkV m c t)) logitScale expScale
          (Attn.vmx (g3 (blkV m c t)) * Ideal.ofBits .f32 0x27800000#32) p d j) : Y = out3 m c t := by
  have ht16 := t_lt t
  have hK : ∀ n < 2048, ∀ d < 128, Attn.headRow (argK m c) (t.val / 2) n (t.val % 2) d = g3 (blkK m c t) n d :=
    fun n hn => narrow_row t (blkK_g3 m c t) hn
  have hV : ∀ n < 2048, ∀ d < 128, Attn.headRow (argV m c) (t.val / 2) n (t.val % 2) d = g3 (blkV m c t) n d :=
    fun n hn => narrow_row t (blkV_g3 m c t) hn
  refine Attn.ext_g3 fun r hr e he => ?_
  obtain ⟨p, j, d, hp, hj, hd, e1, e2, e3, e4⟩ : ∃ p j d, p < 64 ∧ j < 256 ∧ d < 128 ∧ 128 * (p / 4) + j % 128 = r
      ∧ 128 * (2 * (p % 4) + j / 128) + d = e ∧ 2 * (p % 4) + j / 128 = e / 128 ∧ d = e % 128 :=
    ⟨4 * (r / 128) + e / 256, 128 * (e / 128 % 2) + r % 128, e % 128, by omega, by omega, by omega, by omega, by omega, by omega, rfl⟩
  have hX : ∀ d < 128, Attn.headRow (argX m c) (t.val / 2) r (8 * (t.val % 2) + e / 128) d = Attn.qx (g3 (blkX m c t)) p j d := fun d hd => by
    unfold Attn.qx Attn.xrow
    rw [e1, e3]
    exact ((blkX_g3 m c t hr (by omega)).trans (congrArg (a3 _ _ _) (by omega))).symm
  have key := h p hp d hd j hj
  rw [e1, e2] at key
  refine key.trans ((Attn.OUT_eq rfl rfl hp
    ((ht.1 ⟨t.val / 2, by omega⟩ ⟨r, hr⟩ ⟨8 * (t.val % 2) + e / 128, by omega⟩).congr hX)
    (fun n hn => (ht.2.1 ⟨t.val / 2, by omega⟩ ⟨n, hn⟩ ⟨t.val % 2, by omega⟩).congr (hK n hn))
    (fun n hn => (ht.2.2 ⟨t.val / 2, by omega⟩ ⟨n, hn⟩ ⟨t.val % 2, by omega⟩).congr (hV n hn))).trans ?_)
  refine Eq.trans ?_ (read3 rfl (Attn.attend (argX m c) (argK m c) (argV m c)) t (fun y => (win0_3.rect t).emb y) (emb_3 t) hr he).symm
  have hlt : 1024 * (t.val % 2) + e < 2048 := by omega
  rw [Attn.a3_mk (Attn.attend (argX m c) (argK m c) (argV m c)) (by omega : t.val / 2 < 8) hr hlt, e1, e4]
  show _ = Attn.attn (Attn.headRow (argX m c) (t.val / 2) r ((1024 * (t.val % 2) + e) / 128))
    (fun n => Attn.headRow (argK m c) (t.val / 2) n ((1024 * (t.val % 2) + e) / 1024))
    (fun n => Attn.headRow (argV m c) (t.val / 2) n ((1024 * (t.val % 2) + e) / 1024)) r ((1024 * (t.val % 2) + e) % 128)
  rw [show (1024 * (t.val % 2) + e) / 128 = 8 * (t.val % 2) + e / 128 by omega, show (1024 * (t.val % 2) + e) / 1024 = t.val % 2 by omega,
    show (1024 * (t.val % 2) + e) % 128 = e % 128 by omega]
  exact Attn.attn_congr (by omega) (fun d hd => (hX d hd).symm) (fun n hn d hd => (hK n (by omega) d hd).symm)
    (fun n hn d hd => (hV n (by omega) d hd).symm)

/-- What a point leaves, of what its input blocks hold. -/
structure PointPost (t : Fin cfg0.N) (σ' : Attn.State Ideal) : Prop where
  x : σ' .x = blkX m c t
  k : σ' .k = blkK m c t
  v : σ' .v = blkV m c t
  o : ArgsTame m c → σ' .o = out3 m c t
  qc : σ' .qc = out4 m c t
  qs : σ' .qs = out5 m c t
  kc : σ' .kc = out6 m c t
  ks : σ' .ks = out7 m c t
  vc : σ' .vc = out8 m c t
  vs : σ' .vs = out9 m c t

theorem point_post (t : Fin cfg0.N) (σ : Attn.State Ideal) :
    PointDoes c t (point (F := Ideal) (pointRefs t)) σ (fun _ σ' => σ .x = blkX m c t → σ .k = blkK m c t → σ .v = blkV m c t → PointPost m c t σ') := by
  refine (point_quant (X := g3 (σ .x)) (K := g3 (σ .k)) (V := g3 (σ .v)) (fun _ _ => rfl) (fun _ _ => rfl) (fun _ _ => rfl)).mono ?_
  rintro _ σ' ⟨⟨q, kv⟩, e0, e1, e2, eo⟩ h0 h1 h2
  rw [h0] at q; rw [h1, h2] at kv; rw [h0, h1, h2] at eo
  exact ⟨e0.trans h0, e1.trans h1, e2.trans h2, fun ht => out3_eq m c t ht eo, out4_eq m c t fun r hr e he => q.qc r hr e he (Or.inl hr), out5_eq m c t fun j hj r hr => q.qs j hj r hr,
    out6_eq m c t kv.kc, out7_eq m c t kv.ks, out8_eq m c t kv.vc, out9_eq m c t kv.vs⟩

end Cert.KernelIdeal
-- ==== Proof.KI.Result.lean ====
module

public import proofs.«01_k».proof.Proof.KI.Value

/-!
# The run of the kernel with its results named
-/

@[expose] public section

set_option maxRecDepth 16384

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Attn (codes scales attend)

local notation "𝕄" => MT nD τ sig Unit (Elt Ideal) ℕ (UR sig nD τ) ℕ

variable (m : (ℓ : Loc nD τ sig) → Buf (Elt Ideal) ℓ) (ρ : Dev nD → PrngReg)

/-- The proof data of the pipeline: the inputs stay at their blocks, the codes and scales are left at the blocks of the
whole results. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => out5 m c t
    | ⟨6, _⟩ => out6 m c t
    | ⟨7, _⟩ => out7 m c t
    | ⟨8, _⟩ => out8 m c t
    | ⟨9, _⟩ => out9 m c t
  Φ _ := Pipeline.ΦA spec0 c
  q _ := fullShare
  owed _ := 0

theorem vA_eq (c : Dev nD) (w : Fin cfg0.W) : (vdats m 0 c).A w = V m c (Pipeline.arrRef spec0 w) := by dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = iblk m c 2 t := by dsimp only [vdats]
theorem vafter_3 (c : Dev nD) (t : Fin cfg0.N) : (vdats m 0 c).after 3 t = out3 m c t := by dsimp only [vdats]
theorem vafter_4 (c : Dev nD) (t : Fin cfg0.N) : (vdats m 0 c).after 4 t = out4 m c t := by dsimp only [vdats]
theorem vafter_5 (c : Dev nD) (t : Fin cfg0.N) : (vdats m 0 c).after 5 t = out5 m c t := by dsimp only [vdats]
theorem vafter_6 (c : Dev nD) (t : Fin cfg0.N) : (vdats m 0 c).after 6 t = out6 m c t := by dsimp only [vdats]
theorem vafter_7 (c : Dev nD) (t : Fin cfg0.N) : (vdats m 0 c).after 7 t = out7 m c t := by dsimp only [vdats]
theorem vafter_8 (c : Dev nD) (t : Fin cfg0.N) : (vdats m 0 c).after 8 t = out8 m c t := by dsimp only [vdats]
theorem vafter_9 (c : Dev nD) (t : Fin cfg0.N) : (vdats m 0 c).after 9 t = out9 m c t := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = iblk m c 2 t :=
  before0_2_of m (vdats m 0 c) (vA_eq m c 2) (vafter_2 m c) t d

/-- The contents of every window are followed. -/
def vforgot (_ : Fin cfg0.W) : Bool := false

/-- The pipeline's obligation for the body, at every point. -/
theorem vbody (c : Dev nD) (ht : ArgsTame m c) : BodyObligationLoose (vdats m 0 c) (defs₀ (F := Ideal)) Variants.none () Set.univ vforgot := fun t => by
  rw [bigSep_W0, bigSep_W0, defs₀_row]
  show iprop((vdats m 0 c).Φ t.castSucc ∗ (vdats m 0 c).owesAt () t.castSucc
      ∗ (∃ d, owns (c : Thread nD τ) (st0_0 t) fullShare ((vdats m 0 c).before 0 t d))
∗ (∃ d, owns (c : Thread nD τ) (st0_1 t) fullShare ((vdats m 0 c).before 1 t d))
∗ (∃ d, owns (c : Thread nD τ) (st0_2 t) fullShare ((vdats m 0 c).before 2 t d))
∗ (∃ d, owns (c : Thread nD τ) (st0_3 t) fullShare ((vdats m 0 c).before 3 t d))
∗ (∃ d, owns (c : Thread nD τ) (st0_4 t) fullShare ((vdats m 0 c).before 4 t d))
∗ (∃ d, owns (c : Thread nD τ) (st0_5 t) fullShare ((vdats m 0 c).before 5 t d))
∗ (∃ d, owns (c : Thread nD τ) (st0_6 t) fullShare ((vdats m 0 c).before 6 t d))
∗ (∃ d, owns (c : Thread nD τ) (st0_7 t) fullShare ((vdats m 0 c).before 7 t d))
∗ (∃ d, owns (c : Thread nD τ) (st0_8 t) fullShare ((vdats m 0 c).before 8 t d))
∗ (∃ d, owns (c : Thread nD τ) (st0_9 t) fullShare ((vdats m 0 c).before 9 t d)))
    ⊢ wp frame (wpE (defs₀ (F := Ideal)) Variants.none (c : Thread nD τ) none) Set.univ (bodyAt0 (F := Ideal) t) (fun _ =>
      (iprop((vdats m 0 c).Φ t.succ ∗ (vdats m 0 c).owesAt () t.succ
      ∗ owns (c : Thread nD τ) (st0_0 t) fullShare ((vdats m 0 c).after 0 t)
∗ owns (c : Thread nD τ) (st0_1 t) fullShare ((vdats m 0 c).after 1 t)
∗ owns (c : Thread nD τ) (st0_2 t) fullShare ((vdats m 0 c).after 2 t)
∗ owns (c : Thread nD τ) (st0_3 t) fullShare ((vdats m 0 c).after 3 t)
∗ owns (c : Thread nD τ) (st0_4 t) fullShare ((vdats m 0 c).after 4 t)
∗ owns (c : Thread nD τ) (st0_5 t) fullShare ((vdats m 0 c).after 5 t)
∗ owns (c : Thread nD τ) (st0_6 t) fullShare ((vdats m 0 c).after 6 t)
∗ owns (c : Thread nD τ) (st0_7 t) fullShare ((vdats m 0 c).after 7 t)
∗ owns (c : Thread nD τ) (st0_8 t) fullShare ((vdats m 0 c).after 8 t)
∗ owns (c : Thread nD τ) (st0_9 t) fullShare ((vdats m 0 c).after 9 t)) : sProp 𝕄))
  simp only [vbefore_0, vbefore_1, vbefore_2, vafter_0, vafter_1, vafter_2, vafter_3, vafter_4, vafter_5, vafter_6, vafter_7, vafter_8, vafter_9]
  rw [show (vdats m 0 c).Φ t.castSucc = Pipeline.ΦA spec0 c from rfl, show (vdats m 0 c).Φ t.succ = Pipeline.ΦA spec0 c from rfl,
    show (vdats m 0 c).owesAt () t.succ = (vdats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := Ideal)) Variants.none (c : Thread nD τ) none) Set.univ)
  isplitl [HΦ H0 H1 H2 H3 H4 H5 H6 H7 H8 H9]
  · iapply (point_run c t _ (point_post m c t) (iblk m c 0 t) (iblk m c 1 t) (iblk m c 2 t))
    isplitl [HΦ]
    · iexact HΦ
    isplitl [H0]
    · iexact H0
    isplitl [H1]
    · iexact H1
    isplitl [H2]
    · iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    iexists _; iexact H9
  · iintro %_ ⟨%σ, %σ', %hσ, HΦ, H0, H1, H2, H3, H4, H5, H6, H7, H8, H9⟩
    obtain ⟨⟨h0, h1, h2⟩, hp⟩ := hσ
    have hp := hp h0 h1 h2
    rw [← hp.o ht, ← hp.qc, ← hp.qs, ← hp.kc, ← hp.ks, ← hp.vc, ← hp.vs]
    rw [show iblk m c 0 t = σ' .x from hp.x.symm, show iblk m c 1 t = σ' .k from hp.k.symm, show iblk m c 2 t = σ' .v from hp.v.symm]
    isplitl [HΦ]
    · iexact HΦ
    isplitl [Ho]
    · iexact Ho
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact H9

/-! ## The blocks fill the arrays -/

/-- The point whose blocks hold columns of half `h` of batch element `b`. -/
def ptOf (b h : ℕ) (hb : b < 8) (hh : h < 2) : Fin cfg0.N := ⟨2 * b + h, by show 2 * b + h < 16; omega⟩

theorem mem_3 (t : Fin cfg0.N) (i : S8x2048x2048.Idx) : i ∈ ((cfg0.win 3).blk t).view.set
    ↔ ∀ a, win0_3.index t a * win0_3.size a ≤ i a ∧ (i a : ℕ) < win0_3.index t a * win0_3.size a + win0_3.xsize (grid0.coords t) a := by
  show i ∈ ((View.whole main_v0_0).slice (win0_3.rect t)).set ↔ _
  rw [View.set_slice_whole]
  exact Window.mem_rect_iff win0_3 t i (by rfl)

theorem cover_3 (i : S8x2048x2048.Idx) :
    ∃ t : Fin cfg0.N, (cfg0.win 3).flush t = true ∧ i ∈ ((cfg0.win 3).blk t).view.set := by
  have h0 : (i 0 : ℕ) < 8 := (i 0).isLt
  have h1 : (i 1 : ℕ) < 2048 := (i 1).isLt
  have h2 : (i 2 : ℕ) < 2048 := (i 2).isLt
  refine ⟨ptOf (i 0) ((i 2 : ℕ) / 1024) h0 (by omega), flush0_3 _, ?_⟩
  refine (mem_3 _ i).mpr fun a => ?_
  rw [index_3]
  match a with
  | ⟨0, _⟩ => show (2 * (i 0 : ℕ) + (i 2 : ℕ) / 1024) / 2 * 1 ≤ (i 0 : ℕ) ∧ (i 0 : ℕ) < (2 * (i 0 : ℕ) + (i 2 : ℕ) / 1024) / 2 * 1 + 1; omega
  | ⟨1, _⟩ => show 0 * 2048 ≤ (i 1 : ℕ) ∧ (i 1 : ℕ) < 0 * 2048 + 2048; omega
  | ⟨2, _⟩ => show (2 * (i 0 : ℕ) + (i 2 : ℕ) / 1024) % 2 * 1024 ≤ (i 2 : ℕ) ∧ (i 2 : ℕ) < (2 * (i 0 : ℕ) + (i 2 : ℕ) / 1024) % 2 * 1024 + 1024; omega

theorem mem_4 (t : Fin cfg0.N) (i : S8x2048x2048.Idx) : i ∈ ((cfg0.win 4).blk t).view.set
    ↔ ∀ a, win0_4.index t a * win0_4.size a ≤ i a ∧ (i a : ℕ) < win0_4.index t a * win0_4.size a + win0_4.xsize (grid0.coords t) a := by
  show i ∈ ((View.whole main_v0_1).slice (win0_4.rect t)).set ↔ _
  rw [View.set_slice_whole]
  exact Window.mem_rect_iff win0_4 t i (by rfl)

theorem cover_4 (i : S8x2048x2048.Idx) :
    ∃ t : Fin cfg0.N, (cfg0.win 4).flush t = true ∧ i ∈ ((cfg0.win 4).blk t).view.set := by
  have h0 : (i 0 : ℕ) < 8 := (i 0).isLt
  have h1 : (i 1 : ℕ) < 2048 := (i 1).isLt
  have h2 : (i 2 : ℕ) < 2048 := (i 2).isLt
  refine ⟨ptOf (i 0) ((i 2 : ℕ) / 1024) h0 (by omega), flush0_4 _, ?_⟩
  refine (mem_4 _ i).mpr fun a => ?_
  rw [index_4]
  match a with
  | ⟨0, _⟩ => show (2 * (i 0 : ℕ) + (i 2 : ℕ) / 1024) / 2 * 1 ≤ (i 0 : ℕ) ∧ (i 0 : ℕ) < (2 * (i 0 : ℕ) + (i 2 : ℕ) / 1024) / 2 * 1 + 1; omega
  | ⟨1, _⟩ => show 0 * 2048 ≤ (i 1 : ℕ) ∧ (i 1 : ℕ) < 0 * 2048 + 2048; omega
  | ⟨2, _⟩ => show (2 * (i 0 : ℕ) + (i 2 : ℕ) / 1024) % 2 * 1024 ≤ (i 2 : ℕ) ∧ (i 2 : ℕ) < (2 * (i 0 : ℕ) + (i 2 : ℕ) / 1024) % 2 * 1024 + 1024; omega

theorem mem_6 (t : Fin cfg0.N) (i : S8x2048x256.Idx) : i ∈ ((cfg0.win 6).blk t).view.set
    ↔ ∀ a, win0_6.index t a * win0_6.size a ≤ i a ∧ (i a : ℕ) < win0_6.index t a * win0_6.size a + win0_6.xsize (grid0.coords t) a := by
  show i ∈ ((View.whole main_v0_3).slice (win0_6.rect t)).set ↔ _
  rw [View.set_slice_whole]
  exact Window.mem_rect_iff win0_6 t i (by rfl)

theorem cover_6 (i : S8x2048x256.Idx) :
    ∃ t : Fin cfg0.N, (cfg0.win 6).flush t = true ∧ i ∈ ((cfg0.win 6).blk t).view.set := by
  have h0 : (i 0 : ℕ) < 8 := (i 0).isLt
  have h1 : (i 1 : ℕ) < 2048 := (i 1).isLt
  have h2 : (i 2 : ℕ) < 256 := (i 2).isLt
  refine ⟨ptOf (i 0) ((i 2 : ℕ) / 128) h0 (by omega), flush0_6 _, ?_⟩
  refine (mem_6 _ i).mpr fun a => ?_
  rw [index_6]
  match a with
  | ⟨0, _⟩ => show (2 * (i 0 : ℕ) + (i 2 : ℕ) / 128) / 2 * 1 ≤ (i 0 : ℕ) ∧ (i 0 : ℕ) < (2 * (i 0 : ℕ) + (i 2 : ℕ) / 128) / 2 * 1 + 1; omega
  | ⟨1, _⟩ => show 0 * 2048 ≤ (i 1 : ℕ) ∧ (i 1 : ℕ) < 0 * 2048 + 2048; omega
  | ⟨2, _⟩ => show (2 * (i 0 : ℕ) + (i 2 : ℕ) / 128) % 2 * 128 ≤ (i 2 : ℕ) ∧ (i 2 : ℕ) < (2 * (i 0 : ℕ) + (i 2 : ℕ) / 128) % 2 * 128 + 128; omega

theorem mem_8 (t : Fin cfg0.N) (i : S8x2048x256.Idx) : i ∈ ((cfg0.win 8).blk t).view.set
    ↔ ∀ a, win0_8.index t a * win0_8.size a ≤ i a ∧ (i a : ℕ) < win0_8.index t a * win0_8.size a + win0_8.xsize (grid0.coords t) a := by
  show i ∈ ((View.whole main_v0_5).slice (win0_8.rect t)).set ↔ _
  rw [View.set_slice_whole]
  exact Window.mem_rect_iff win0_8 t i (by rfl)

theorem cover_8 (i : S8x2048x256.Idx) :
    ∃ t : Fin cfg0.N, (cfg0.win 8).flush t = true ∧ i ∈ ((cfg0.win 8).blk t).view.set := by
  have h0 : (i 0 : ℕ) < 8 := (i 0).isLt
  have h1 : (i 1 : ℕ) < 2048 := (i 1).isLt
  have h2 : (i 2 : ℕ) < 256 := (i 2).isLt
  refine ⟨ptOf (i 0) ((i 2 : ℕ) / 128) h0 (by omega), flush0_8 _, ?_⟩
  refine (mem_8 _ i).mpr fun a => ?_
  rw [index_8]
  match a with
  | ⟨0, _⟩ => show (2 * (i 0 : ℕ) + (i 2 : ℕ) / 128) / 2 * 1 ≤ (i 0 : ℕ) ∧ (i 0 : ℕ) < (2 * (i 0 : ℕ) + (i 2 : ℕ) / 128) / 2 * 1 + 1; omega
  | ⟨1, _⟩ => show 0 * 2048 ≤ (i 1 : ℕ) ∧ (i 1 : ℕ) < 0 * 2048 + 2048; omega
  | ⟨2, _⟩ => show (2 * (i 0 : ℕ) + (i 2 : ℕ) / 128) % 2 * 128 ≤ (i 2 : ℕ) ∧ (i 2 : ℕ) < (2 * (i 0 : ℕ) + (i 2 : ℕ) / 128) % 2 * 128 + 128; omega

theorem mem_5 (t : Fin cfg0.N) (i : S8x2x8x2048.Idx) : i ∈ ((cfg0.win 5).blk t).view.set
    ↔ ∀ a, win0_5.index t a * win0_5.size a ≤ i a ∧ (i a : ℕ) < win0_5.index t a * win0_5.size a + win0_5.xsize (grid0.coords t) a := by
  show i ∈ ((View.whole main_v0_2).slice (win0_5.rect t)).set ↔ _
  rw [View.set_slice_whole]
  exact Window.mem_rect_iff win0_5 t i (by rfl)

theorem cover_5 (i : S8x2x8x2048.Idx) :
    ∃ t : Fin cfg0.N, (cfg0.win 5).flush t = true ∧ i ∈ ((cfg0.win 5).blk t).view.set := by
  have h0 : (i 0 : ℕ) < 8 := (i 0).isLt
  have h1 : (i 1 : ℕ) < 2 := (i 1).isLt
  have h2 : (i 2 : ℕ) < 8 := (i 2).isLt
  have h3 : (i 3 : ℕ) < 2048 := (i 3).isLt
  refine ⟨ptOf (i 0) (i 1) h0 h1, flush0_5 _, ?_⟩
  refine (mem_5 _ i).mpr fun a => ?_
  rw [index_5]
  match a with
  | ⟨0, _⟩ => show (2 * (i 0 : ℕ) + (i 1 : ℕ)) / 2 * 1 ≤ (i 0 : ℕ) ∧ (i 0 : ℕ) < (2 * (i 0 : ℕ) + (i 1 : ℕ)) / 2 * 1 + 1; omega
  | ⟨1, _⟩ => show (2 * (i 0 : ℕ) + (i 1 : ℕ)) % 2 * 1 ≤ (i 1 : ℕ) ∧ (i 1 : ℕ) < (2 * (i 0 : ℕ) + (i 1 : ℕ)) % 2 * 1 + 1; omega
  | ⟨2, _⟩ => show 0 * 8 ≤ (i 2 : ℕ) ∧ (i 2 : ℕ) < 0 * 8 + 8; omega
  | ⟨3, _⟩ => show 0 * 2048 ≤ (i 3 : ℕ) ∧ (i 3 : ℕ) < 0 * 2048 + 2048; omega

theorem mem_7 (t : Fin cfg0.N) (i : S8x2x1x2048.Idx) : i ∈ ((cfg0.win 7).blk t).view.set
    ↔ ∀ a, win0_7.index t a * win0_7.size a ≤ i a ∧ (i a : ℕ) < win0_7.index t a * win0_7.size a + win0_7.xsize (grid0.coords t) a := by
  show i ∈ ((View.whole main_v0_4).slice (win0_7.rect t)).set ↔ _
  rw [View.set_slice_whole]
  exact Window.mem_rect_iff win0_7 t i (by rfl)

theorem cover_7 (i : S8x2x1x2048.Idx) :
    ∃ t : Fin cfg0.N, (cfg0.win 7).flush t = true ∧ i ∈ ((cfg0.win 7).blk t).view.set := by
  have h0 : (i 0 : ℕ) < 8 := (i 0).isLt
  have h1 : (i 1 : ℕ) < 2 := (i 1).isLt
  have h2 : (i 2 : ℕ) < 1 := (i 2).isLt
  have h3 : (i 3 : ℕ) < 2048 := (i 3).isLt
  refine ⟨ptOf (i 0) (i 1) h0 h1, flush0_7 _, ?_⟩
  refine (mem_7 _ i).mpr fun a => ?_
  rw [index_7]
  match a with
  | ⟨0, _⟩ => show (2 * (i 0 : ℕ) + (i 1 : ℕ)) / 2 * 1 ≤ (i 0 : ℕ) ∧ (i 0 : ℕ) < (2 * (i 0 : ℕ) + (i 1 : ℕ)) / 2 * 1 + 1; omega
  | ⟨1, _⟩ => show (2 * (i 0 : ℕ) + (i 1 : ℕ)) % 2 * 1 ≤ (i 1 : ℕ) ∧ (i 1 : ℕ) < (2 * (i 0 : ℕ) + (i 1 : ℕ)) % 2 * 1 + 1; omega
  | ⟨2, _⟩ => show 0 * 1 ≤ (i 2 : ℕ) ∧ (i 2 : ℕ) < 0 * 1 + 1; omega
  | ⟨3, _⟩ => show 0 * 2048 ≤ (i 3 : ℕ) ∧ (i 3 : ℕ) < 0 * 2048 + 2048; omega

theorem mem_9 (t : Fin cfg0.N) (i : S8x2x1x2048.Idx) : i ∈ ((cfg0.win 9).blk t).view.set
    ↔ ∀ a, win0_9.index t a * win0_9.size a ≤ i a ∧ (i a : ℕ) < win0_9.index t a * win0_9.size a + win0_9.xsize (grid0.coords t) a := by
  show i ∈ ((View.whole main_v0_6).slice (win0_9.rect t)).set ↔ _
  rw [View.set_slice_whole]
  exact Window.mem_rect_iff win0_9 t i (by rfl)

theorem cover_9 (i : S8x2x1x2048.Idx) :
    ∃ t : Fin cfg0.N, (cfg0.win 9).flush t = true ∧ i ∈ ((cfg0.win 9).blk t).view.set := by
  have h0 : (i 0 : ℕ) < 8 := (i 0).isLt
  have h1 : (i 1 : ℕ) < 2 := (i 1).isLt
  have h2 : (i 2 : ℕ) < 1 := (i 2).isLt
  have h3 : (i 3 : ℕ) < 2048 := (i 3).isLt
  refine ⟨ptOf (i 0) (i 1) h0 h1, flush0_9 _, ?_⟩
  refine (mem_9 _ i).mpr fun a => ?_
  rw [index_9]
  match a with
  | ⟨0, _⟩ => show (2 * (i 0 : ℕ) + (i 1 : ℕ)) / 2 * 1 ≤ (i 0 : ℕ) ∧ (i 0 : ℕ) < (2 * (i 0 : ℕ) + (i 1 : ℕ)) / 2 * 1 + 1; omega
  | ⟨1, _⟩ => show (2 * (i 0 : ℕ) + (i 1 : ℕ)) % 2 * 1 ≤ (i 1 : ℕ) ∧ (i 1 : ℕ) < (2 * (i 0 : ℕ) + (i 1 : ℕ)) % 2 * 1 + 1; omega
  | ⟨2, _⟩ => show 0 * 1 ≤ (i 2 : ℕ) ∧ (i 2 : ℕ) < 0 * 1 + 1; omega
  | ⟨3, _⟩ => show 0 * 2048 ≤ (i 3 : ℕ) ∧ (i 3 : ℕ) < 0 * 2048 + 2048; omega

theorem cut_3 (t : Fin cfg0.N) (G : (⟨3, ![8, 2048, 2048]⟩ : Shape).Idx → EReal) :
    (cfg0.win 3).cut (grid0.coords t) (fun y => G ((win0_3.rect t).emb y)) = ((cfg0.win 3).blk t).view.read (Elt Ideal) G := rfl

theorem final_3 (c : Dev nD) : (vdats m 0 c).arrAt 3 cfg0.N = attend (argX m c) (argK m c) (argV m c) :=
  (vdats m 0 c).arrAt_eq_of_cover 3 (attend (argX m c) (argK m c) (argV m c)) (fun t _ =>
    (congrArg ((cfg0.win 3).cut (grid0.coords t)) (vafter_3 m c t)).trans (cut_3 t (attend (argX m c) (argK m c) (argV m c)))) cover_3

theorem cut_4 (t : Fin cfg0.N) (G : (⟨3, ![8, 2048, 2048]⟩ : Shape).Idx → EReal) :
    (cfg0.win 4).cut (grid0.coords t) (fun y => G ((win0_4.rect t).emb y)) = ((cfg0.win 4).blk t).view.read (Elt Ideal) G := rfl

theorem final_4 (c : Dev nD) : (vdats m 0 c).arrAt 4 cfg0.N = codes (argX m c) :=
  (vdats m 0 c).arrAt_eq_of_cover 4 (codes (argX m c)) (fun t _ =>
    (congrArg ((cfg0.win 4).cut (grid0.coords t)) (vafter_4 m c t)).trans (cut_4 t (codes (argX m c)))) cover_4

theorem cut_5 (t : Fin cfg0.N) (G : (⟨4, ![8, 2, 8, 2048]⟩ : Shape).Idx → EReal) :
    (cfg0.win 5).cut (grid0.coords t) (fun y => G ((win0_5.rect t).emb y)) = ((cfg0.win 5).blk t).view.read (Elt Ideal) G := rfl

theorem final_5 (c : Dev nD) : (vdats m 0 c).arrAt 5 cfg0.N = scales 8 (argX m c) :=
  (vdats m 0 c).arrAt_eq_of_cover 5 (scales 8 (argX m c)) (fun t _ =>
    (congrArg ((cfg0.win 5).cut (grid0.coords t)) (vafter_5 m c t)).trans (cut_5 t (scales 8 (argX m c)))) cover_5

theorem cut_6 (t : Fin cfg0.N) (G : (⟨3, ![8, 2048, 256]⟩ : Shape).Idx → EReal) :
    (cfg0.win 6).cut (grid0.coords t) (fun y => G ((win0_6.rect t).emb y)) = ((cfg0.win 6).blk t).view.read (Elt Ideal) G := rfl

theorem final_6 (c : Dev nD) : (vdats m 0 c).arrAt 6 cfg0.N = codes (argK m c) :=
  (vdats m 0 c).arrAt_eq_of_cover 6 (codes (argK m c)) (fun t _ =>
    (congrArg ((cfg0.win 6).cut (grid0.coords t)) (vafter_6 m c t)).trans (cut_6 t (codes (argK m c)))) cover_6

theorem cut_7 (t : Fin cfg0.N) (G : (⟨4, ![8, 2, 1, 2048]⟩ : Shape).Idx → EReal) :
    (cfg0.win 7).cut (grid0.coords t) (fun y => G ((win0_7.rect t).emb y)) = ((cfg0.win 7).blk t).view.read (Elt Ideal) G := rfl

theorem final_7 (c : Dev nD) : (vdats m 0 c).arrAt 7 cfg0.N = scales 1 (argK m c) :=
  (vdats m 0 c).arrAt_eq_of_cover 7 (scales 1 (argK m c)) (fun t _ =>
    (congrArg ((cfg0.win 7).cut (grid0.coords t)) (vafter_7 m c t)).trans (cut_7 t (scales 1 (argK m c)))) cover_7

theorem cut_8 (t : Fin cfg0.N) (G : (⟨3, ![8, 2048, 256]⟩ : Shape).Idx → EReal) :
    (cfg0.win 8).cut (grid0.coords t) (fun y => G ((win0_8.rect t).emb y)) = ((cfg0.win 8).blk t).view.read (Elt Ideal) G := rfl

theorem final_8 (c : Dev nD) : (vdats m 0 c).arrAt 8 cfg0.N = codes (argV m c) :=
  (vdats m 0 c).arrAt_eq_of_cover 8 (codes (argV m c)) (fun t _ =>
    (congrArg ((cfg0.win 8).cut (grid0.coords t)) (vafter_8 m c t)).trans (cut_8 t (codes (argV m c)))) cover_8

theorem cut_9 (t : Fin cfg0.N) (G : (⟨4, ![8, 2, 1, 2048]⟩ : Shape).Idx → EReal) :
    (cfg0.win 9).cut (grid0.coords t) (fun y => G ((win0_9.rect t).emb y)) = ((cfg0.win 9).blk t).view.read (Elt Ideal) G := rfl

theorem final_9 (c : Dev nD) : (vdats m 0 c).arrAt 9 cfg0.N = scales 1 (argV m c) :=
  (vdats m 0 c).arrAt_eq_of_cover 9 (scales 1 (argV m c)) (fun t _ =>
    (congrArg ((cfg0.win 9).cut (grid0.coords t)) (vafter_9 m c t)).trans (cut_9 t (scales 1 (argV m c)))) cover_9

set_option backward.isDefEq.respectTransparency.types false in
/-- For tame arguments the kernel runs to an end with the attention of its arguments, their codes and their scales, and its
arguments unchanged. -/
theorem run_value (ht : ∀ c : Dev nD, ArgsTame m c) : θ_run defs (onTc (τ := τ) (main (F := Ideal))) ⟨m, fun _ => 0, ρ⟩ (fun r => ∀ c : Dev nD,
      r.2.mem ((c.tc : Thread nD τ).loc main_v0_0) = attend (argX m c) (argK m c) (argV m c)
      ∧ r.2.mem ((c.tc : Thread nD τ).loc main_v0_1) = codes (argX m c)
      ∧ r.2.mem ((c.tc : Thread nD τ).loc main_v0_2) = scales 8 (argX m c)
      ∧ r.2.mem ((c.tc : Thread nD τ).loc main_v0_3) = codes (argK m c)
      ∧ r.2.mem ((c.tc : Thread nD τ).loc main_v0_4) = scales 1 (argK m c)
      ∧ r.2.mem ((c.tc : Thread nD τ).loc main_v0_5) = codes (argV m c)
      ∧ r.2.mem ((c.tc : Thread nD τ).loc main_v0_6) = scales 1 (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_forget cfgs (vdats m) (0 : Fin 1) launch0 defs₀ Variants.none vforgot m ρ main
    (hbody := fun c => vbody m c (ht c)) (hshare := fun c => (vdats m 0 c).share_full fun _ => rfl)
    (howed := fun _ _ => rfl) (V := V m) (hmain := hmain m Variants.none) (hA := vA_eq m) (hΦ := fun _ _ => rfl)
    (Q' := _) (hQ' := fun r h c => ⟨
      ((Pipeline.Dat.toRForget_arrAt_iff (vdats m 0 c) (w := 3) (fgt := vforgot) rfl cfg0.N _).mp ((h.1 c).1 3)).trans (final_3 m c),
      ((Pipeline.Dat.toRForget_arrAt_iff (vdats m 0 c) (w := 4) (fgt := vforgot) rfl cfg0.N _).mp ((h.1 c).1 4)).trans (final_4 m c),
      ((Pipeline.Dat.toRForget_arrAt_iff (vdats m 0 c) (w := 5) (fgt := vforgot) rfl cfg0.N _).mp ((h.1 c).1 5)).trans (final_5 m c),
      ((Pipeline.Dat.toRForget_arrAt_iff (vdats m 0 c) (w := 6) (fgt := vforgot) rfl cfg0.N _).mp ((h.1 c).1 6)).trans (final_6 m c),
      ((Pipeline.Dat.toRForget_arrAt_iff (vdats m 0 c) (w := 7) (fgt := vforgot) rfl cfg0.N _).mp ((h.1 c).1 7)).trans (final_7 m c),
      ((Pipeline.Dat.toRForget_arrAt_iff (vdats m 0 c) (w := 8) (fgt := vforgot) rfl cfg0.N _).mp ((h.1 c).1 8)).trans (final_8 m c),
      ((Pipeline.Dat.toRForget_arrAt_iff (vdats m 0 c) (w := 9) (fgt := vforgot) rfl cfg0.N _).mp ((h.1 c).1 9)).trans (final_9 m c),
      (h.1.arr_in c 0 rfl).trans (vA_eq m c 0), (h.1.arr_in c 1 rfl).trans (vA_eq m c 1),
      (h.1.arr_in c 2 rfl).trans (vA_eq m c 2)⟩)

end Cert.KernelIdeal
-- ==== Proof.RefCore.lean ====
module

public import proofs.«01_k».proof.Proof.Core

/-!
# One row of the reference's attention

The reference subtracts the largest score before it exponentiates, and gives the row of weights one power of two as its
scale. Both cancel, and the clip leaves the weights as they are.
-/

@[expose] public section

set_option maxRecDepth 16384

noncomputable section

namespace Attn

open Idealize.ShloMosaic

/-- The exponent the reference finds for a largest magnitude: two to its power is above the magnitude over 448. -/
theorem refE_spec {a : ℝ} (h : 0 ≤ a) : ∃ e : ℤ, refE (a : EReal) = (((e : ℤ) : ℝ) : EReal) ∧ a * r448 < (2 : ℝ) ^ e := by
  rcases h.eq_or_lt with rfl | h
  · refine ⟨0, ?_, by simp⟩
    unfold refE
    rw [bits_zero, if_pos (by simp [Ideal.cmp])]
    simp
  · have hz0 : 0 < a * r448 := mul_pos h r448_pos
    refine ⟨lg (a * r448) + 1, ?_, lt_zpow_lg hz0⟩
    have hne : (a : EReal) ≠ 0 := by exact_mod_cast h.ne'
    unfold refE
    rw [bits_zero, if_neg (by simp [Ideal.cmp, h.ne']), c448_eq, ← EReal.coe_mul, bits_two, bits_one]
    have l1 : Ideal.log ((a * r448 : ℝ) : EReal) = ((Real.log (a * r448) : ℝ) : EReal) := by
      show (if a * r448 ≤ 0 then _ else _) = _
      rw [if_neg (not_le.mpr hz0)]
    have l2 : Ideal.log ((2 : ℝ) : EReal) = ((Real.log 2 : ℝ) : EReal) := by
      show (if (2 : ℝ) ≤ 0 then _ else _) = _
      rw [if_neg (by norm_num)]
    rw [l1, l2, div_real log_two_pos.ne']
    show (((⌊Real.log (a * r448) / Real.log 2⌋ : ℤ) : ℝ) : EReal) + ((1 : ℝ) : EReal) = _
    rw [← EReal.coe_add]
    congr 1
    unfold lg
    push_cast
    rfl

theorem pow_two (e : ℤ) : Ideal.pow (Ideal.ofBits .f32 0x40000000#32) (((e : ℤ) : ℝ) : EReal) = (((2 : ℝ) ^ e : ℝ) : EReal) := by
  rw [bits_two]
  show ((Real.rpow 2 (e : ℝ) : ℝ) : EReal) = _
  exact congrArg _ (Real.rpow_intCast 2 e)

theorem cancel {q p L T : ℝ} (hq : q ≠ 0) (hp : p ≠ 0) (hL : L ≠ 0) : q * p⁻¹ * T * p / (q * L) = T / L := by
  field_simp

/-- The reference's quotient. -/
theorem ref_core {cap z cv : ℕ → ℝ} {r : ℕ} (hr : r < 2048) (hz : ∀ n ≤ r, 0 ≤ z n) {s w : ℕ → EReal} {M l a : EReal}
    (hs : ∀ n < 2048, s n = if n ≤ r then (cap n : EReal) else ⊥) (hM : M = (Finset.range 2048).sup s)
    (hl : l = Ideal.ofBits .f32 0x00000000#32 + ∑ n ∈ Finset.range 2048, Ideal.exp (s n - M))
    (hw : ∀ n < 2048, w n = Ideal.exp (s n - M) * (z n : EReal))
    (ha : a = (Finset.range 2048).sup fun n => max (w n) (-(w n))) :
    Ideal.div ((∑ n ∈ Finset.range 2048, cl (w n * Ideal.pow (Ideal.ofBits .f32 0x40000000#32) (-(refE a))) * (cv n : EReal))
        * Ideal.pow (Ideal.ofBits .f32 0x40000000#32) (refE a)) l
      = (((∑ n ∈ Finset.range (r + 1), cv n * (Real.exp (cap n) * z n)) / ∑ n ∈ Finset.range (r + 1), Real.exp (cap n) : ℝ) : EReal) := by
  obtain ⟨m, em, -, -⟩ := sup_real cap (N := r + 1) (by omega)
  have hM' : M = (m : EReal) := by
    rw [hM, ← em]
    refine le_antisymm (Finset.sup_le fun n hn => ?_) (Finset.sup_le fun n hn => ?_)
    · rw [hs n (Finset.mem_range.mp hn)]
      split
      · exact Finset.le_sup (f := fun n => (cap n : EReal)) (Finset.mem_range.mpr (by omega))
      · exact bot_le
    · have hn := Finset.mem_range.mp hn
      refine le_trans (le_of_eq ?_) (Finset.le_sup (f := s) (Finset.mem_range.mpr (by omega : n < 2048)))
      rw [hs n (by omega), if_pos (by omega)]
  let ε : ℕ → ℝ := fun n => if n ≤ r then Real.exp (cap n - m) else 0
  have he : ∀ n < 2048, Ideal.exp (s n - M) = (ε n : EReal) := by
    intro n hn
    rw [hs n hn, hM']
    show _ = (((if n ≤ r then Real.exp (cap n - m) else 0 : ℝ)) : EReal)
    split
    · rw [← EReal.coe_sub]; rfl
    · rw [EReal.bot_sub]; rfl
  have hin : ∀ n ≤ r, ε n = Real.exp (cap n - m) := fun n h => if_pos h
  have hout : ∀ n, ¬ n ≤ r → ε n = 0 := fun n h => if_neg h
  clear_value ε
  have hx0 : ∀ n, 0 ≤ ε n * z n := fun n => by
    by_cases h : n ≤ r
    · rw [hin n h]; exact mul_nonneg (Real.exp_pos _).le (hz n h)
    · rw [hout n h, zero_mul]
  have hw' : ∀ n < 2048, w n = ((ε n * z n : ℝ) : EReal) := fun n hn => by rw [hw n hn, he n hn, EReal.coe_mul]
  obtain ⟨A, eA, ⟨k, -, ek⟩, hA⟩ := sup_real (fun n => ε n * z n) (N := 2048) (by norm_num)
  have ha' : a = (A : EReal) := by
    rw [ha, ← eA]
    refine Finset.sup_congr rfl fun n hn => ?_
    rw [hw' n (Finset.mem_range.mp hn), ← EReal.coe_neg]
    refine max_eq_left ?_
    have := hx0 n
    exact_mod_cast (by linarith : -(ε n * z n) ≤ ε n * z n)
  obtain ⟨e, e1, e2⟩ := refE_spec (a := A) (by rw [ek]; exact hx0 k)
  have hp : 0 < (2 : ℝ) ^ e := by positivity
  have hpn : Ideal.pow (Ideal.ofBits .f32 0x40000000#32) (-(((e : ℤ) : ℝ) : EReal)) = ((((2 : ℝ) ^ e)⁻¹ : ℝ) : EReal) := by
    rw [← EReal.coe_neg, ← Int.cast_neg, pow_two, zpow_neg]
  have hl' : l = ((∑ n ∈ Finset.range 2048, ε n : ℝ) : EReal) := by
    rw [hl, bits_zero, zero_add, ← coe_sum]
    exact Finset.sum_congr rfl fun n hn => he n (Finset.mem_range.mp hn)
  have hlim : ∀ (f : ℕ → ℝ), (∀ n, ¬ n ≤ r → f n = 0) → ∑ n ∈ Finset.range 2048, f n = ∑ n ∈ Finset.range (r + 1), f n :=
    fun f hf => (Finset.sum_subset (Finset.range_subset_range.mpr (by omega)) fun n _ h => hf n (by simpa [Nat.lt_succ_iff] using h)).symm
  have hcl : ∀ n < 2048, cl (w n * ((((2 : ℝ) ^ e)⁻¹ : ℝ) : EReal)) * (cv n : EReal) = ((ε n * z n * ((2 : ℝ) ^ e)⁻¹ * cv n : ℝ) : EReal) := by
    intro n hn
    rw [hw' n hn, ← EReal.coe_mul, cl_small (hx0 n) hp (lt_of_le_of_lt (mul_le_mul_of_nonneg_right (hA n hn) r448_pos.le) e2), ← EReal.coe_mul]
  have hsum : 0 < ∑ n ∈ Finset.range (r + 1), Real.exp (cap n) := Finset.sum_pos (fun n _ => Real.exp_pos _) ⟨0, by simp⟩
  have h1 : ∑ n ∈ Finset.range (r + 1), ε n = Real.exp (-m) * ∑ n ∈ Finset.range (r + 1), Real.exp (cap n) := by
    rw [Finset.mul_sum]
    refine Finset.sum_congr rfl fun n hn => ?_
    have := Finset.mem_range.mp hn
    rw [hin n (by omega), ← Real.exp_add]
    exact congrArg Real.exp (by ring)
  have h2 : ∑ n ∈ Finset.range (r + 1), ε n * z n * ((2 : ℝ) ^ e)⁻¹ * cv n
      = (Real.exp (-m) * ((2 : ℝ) ^ e)⁻¹) * ∑ n ∈ Finset.range (r + 1), cv n * (Real.exp (cap n) * z n) := by
    rw [Finset.mul_sum]
    refine Finset.sum_congr rfl fun n hn => ?_
    have := Finset.mem_range.mp hn
    rw [hin n (by omega), show cap n - m = -m + cap n by ring, Real.exp_add]
    ring
  have hem := (Real.exp_pos (-m)).ne'
  rw [ha', e1, hpn, pow_two, hl', Finset.sum_congr rfl fun n hn => hcl n (Finset.mem_range.mp hn), coe_sum, hlim ε hout, hlim _ (fun n h => by rw [hout n h]; ring),
    h1, h2, ← EReal.coe_mul, div_real (mul_pos (Real.exp_pos _) hsum).ne']
  exact congrArg _ (cancel hem (zpow_pos two_pos e).ne' hsum.ne')

/-- The reference's score of a key row for a query row, capped, and nothing above the diagonal. -/
def refS (Q : ℕ → EReal) (K : ℕ → ℕ → EReal) (r n : ℕ) : EReal :=
  if n ≤ r then Ideal.ofBits .f32 0x42480000#32 * Ideal.tanh (Ideal.div (Ideal.div
    ((∑ d ∈ Finset.range 128, code Q d * code (K n) d) * scl Q * scl (K n)) (Ideal.sqrt (Ideal.ofBits .f32 0x43000000#32))) (Ideal.ofBits .f32 0x42480000#32))
  else ⊥

theorem bits_fifty : Ideal.ofBits .f32 0x42480000#32 = ((50 : ℝ) : EReal) :=
  bits_finite 132 4718592 50 (by decide) (by decide) (by decide) (by decide) (by decide) (by norm_num)

theorem bits_128 : Ideal.ofBits .f32 0x43000000#32 = ((128 : ℝ) : EReal) :=
  bits_finite 134 0 128 (by decide) (by decide) (by decide) (by decide) (by decide) (by norm_num)

/-- The capped score, as a real number. -/
def capr (Q K : ℕ → EReal) : ℝ :=
  50 * Real.tanh ((∑ d ∈ Finset.range 128, cr K d * cr Q d) * (sr Q * ((Real.sqrt 128)⁻¹ * 50⁻¹)) * sr K)

theorem refS_real {Q : ℕ → EReal} {K : ℕ → ℕ → EReal} (hQ : Tame Q) (hK : ∀ n < 2048, Tame (K n)) {r n : ℕ} (hn : n < 2048) :
    refS Q K r n = if n ≤ r then (capr Q (K n) : EReal) else ⊥ := by
  unfold refS
  split
  · have hs : ∑ d ∈ Finset.range 128, code Q d * code (K n) d = ((∑ d ∈ Finset.range 128, cr (K n) d * cr Q d : ℝ) : EReal) := by
      rw [← coe_sum]
      exact Finset.sum_congr rfl fun d _ => by rw [code_real, code_real, mul_comm, EReal.coe_mul]
    have hq : Ideal.sqrt ((128 : ℝ) : EReal) = ((Real.sqrt 128 : ℝ) : EReal) := by
      show (if (128 : ℝ) < 0 then _ else _) = _
      rw [if_neg (by norm_num)]
    have h0 : Real.sqrt 128 ≠ 0 := by positivity
    rw [hs, (scl_real hQ).1, (scl_real (hK n hn)).1, bits_fifty, bits_128, hq, ← EReal.coe_mul, ← EReal.coe_mul, div_real h0, div_real (by norm_num)]
    show ((50 : ℝ) : EReal) * ((Real.tanh _ : ℝ) : EReal) = _
    rw [← EReal.coe_mul]
    unfold capr
    congr 3
    rw [div_div, div_eq_mul_inv, mul_inv]
    ring
  · rfl

/-- One row of the reference's attention is the attention of the row. -/
theorem ref_row {Q : ℕ → EReal} {K V : ℕ → ℕ → EReal} (hQ : Tame Q) (hK : ∀ n < 2048, Tame (K n)) (hV : ∀ n < 2048, Tame (V n))
    {r d : ℕ} (hr : r < 2048) {s w : ℕ → EReal} {M l a : EReal} (hs : ∀ n < 2048, s n = refS Q K r n) (hM : M = (Finset.range 2048).sup s)
    (hl : l = Ideal.ofBits .f32 0x00000000#32 + ∑ n ∈ Finset.range 2048, Ideal.exp (s n - M))
    (hw : ∀ n < 2048, w n = Ideal.exp (s n - M) * scl (V n)) (ha : a = (Finset.range 2048).sup fun n => max (w n) (-(w n))) :
    Ideal.div ((∑ n ∈ Finset.range 2048, cl (w n * Ideal.pow (Ideal.ofBits .f32 0x40000000#32) (-(refE a))) * code (V n) d)
        * Ideal.pow (Ideal.ofBits .f32 0x40000000#32) (refE a)) l = attn Q K V r d := by
  rw [Finset.sum_congr rfl fun n _ => by rw [code_real (V n) d]]
  exact ref_core (cap := fun n => capr Q (K n)) (z := fun n => sr (V n)) (cv := fun n => cr (V n) d) hr
    (fun n hn => by obtain ⟨-, e, he, -⟩ := scl_real (hV n (by omega)); rw [he]; positivity)
    (fun n hn => (hs n hn).trans (refS_real hQ hK hn)) hM hl (fun n hn => by rw [hw n hn, (scl_real (hV n hn)).1]) ha

end Attn
-- ==== Proof.RI.Quant.lean ====
module

public import proofs.«01_k».proof.Proof.RefRows
public import proofs.«01_k».proof.Proof.Gen.ReferenceIdeal.Run

/-!
# The quantised results of the reference

For tame arguments the reference's codes and scales are the codes and the scales of the kernel.
-/

@[expose] public section

set_option maxRecDepth 16384

noncomputable section

namespace Cert.ReferenceIdeal.Value

open Cert.ReferenceIdeal Cert.ReferenceIdeal.Gen
open Idealize.ShloMosaic Idealize.ShloMosaic.StableHlo Idealize.ShloMosaic.TcCoe Idealize.ShloMosaic.ValueIdx
open Attn (codes scales AllTame headRow refE amx)

/-- Codes joined to rows are the codes of the array. -/
theorem join_codes {n C : ℕ} (hC : C = n * 128) (x : (⟨3, ![8, 2048, C]⟩ : Shape).Idx → EReal) (Q : (⟨4, ![8, 2048, n, 128]⟩ : Shape).Idx → EReal)
    (h : (⟨4, ![8, 2048, n, 128]⟩ : Shape).ShapeCasts ⟨3, ![8, 2048, C]⟩)
    (hQ : ∀ (b : Fin 8) (r : Fin 2048) (k : Fin n) (d : Fin 128), Q (ValueIdx.ix4 b r k d) = Attn.code (headRow x b.val r.val k.val) d.val) :
    shapeCast ⟨3, ![8, 2048, C]⟩ Q h = codes x := by
  funext i
  have hi : i = ix3 (⟨(i 0).val, (i 0).isLt⟩ : Fin 8) (⟨(i 1).val, (i 1).isLt⟩ : Fin 2048) (⟨(i 2).val, (i 2).isLt⟩ : Fin C) := by
    funext a; fin_cases a <;> rfl
  rw [hi]
  exact (Attn.join_apply hC Q h _ _ _).trans (hQ _ _ _ _)

theorem drop_last {α : Type} {n : ℕ} (x : (⟨4, ![8, 2048, n, 1]⟩ : Shape).Idx → α)
    (h : (⟨4, ![8, 2048, n, 1]⟩ : Shape).ShapeCasts ⟨3, ![8, 2048, n]⟩) (b : Fin 8) (r : Fin 2048) (k : Fin n) :
    shapeCast ⟨3, ![8, 2048, n]⟩ x h (ix3 b r k) = x (ValueIdx.ix4 b r k 0) :=
  shapeCast_apply x h _ _ (by
    rw [Shape.rowMajor_val_four, Shape.rowMajor_val_three]
    show ((b.val * 2048 + r.val) * n + k.val) * 1 + 0 = (b.val * 2048 + r.val) * n + k.val
    omega)

theorem group_apply {α : Type} (x : (⟨3, ![8, 2048, 16]⟩ : Shape).Idx → α)
    (h : (⟨3, ![8, 2048, 16]⟩ : Shape).ShapeCasts ⟨4, ![8, 2048, 2, 8]⟩) (b : Fin 8) (r : Fin 2048) (g : Fin 2) (j : Fin 8) :
    shapeCast ⟨4, ![8, 2048, 2, 8]⟩ x h (ValueIdx.ix4 b r g j) = x (ix3 b r ⟨8 * g.val + j.val, by omega⟩) :=
  shapeCast_apply x h _ _ (by
    rw [Shape.rowMajor_val_four, Shape.rowMajor_val_three]
    show (b.val * 2048 + r.val) * 16 + (8 * g.val + j.val) = ((b.val * 2048 + r.val) * 2 + g.val) * 8 + j.val
    omega)

/-- The scales of the queries, laid out by key head. -/
theorem scales_grouped (x : (⟨3, ![8, 2048, 2048]⟩ : Shape).Idx → EReal) (P : (⟨4, ![8, 2048, 16, 1]⟩ : Shape).Idx → EReal) (h1 h2 h3)
    (hP : ∀ (b : Fin 8) (r : Fin 2048) (k : Fin 16), P (ValueIdx.ix4 b r k 0) = Attn.scl (headRow x b.val r.val k.val)) :
    transpose (⟨4, ![8, 2, 8, 2048]⟩ : Shape) [0, 2, 3, 1] (shapeCast (⟨4, ![8, 2048, 2, 8]⟩ : Shape) (shapeCast (⟨3, ![8, 2048, 16]⟩ : Shape) P h1) h2) h3
      = scales 8 x := by
  funext i
  have hi : i = ValueIdx.ix4 (⟨(i 0).val, (i 0).isLt⟩ : Fin 8) (⟨(i 1).val, (i 1).isLt⟩ : Fin 2) (⟨(i 2).val, (i 2).isLt⟩ : Fin 8) (⟨(i 3).val, (i 3).isLt⟩ : Fin 2048) := by
    funext a; fin_cases a <;> rfl
  rw [hi]
  generalize (⟨(i 0).val, (i 0).isLt⟩ : Fin 8) = b
  generalize (⟨(i 1).val, (i 1).isLt⟩ : Fin 2) = g
  generalize (⟨(i 2).val, (i 2).isLt⟩ : Fin 8) = j
  generalize (⟨(i 3).val, (i 3).isLt⟩ : Fin 2048) = r
  refine (transpose_apply _ _ _ _ (ValueIdx.ix4 b r g j) (fun a => by fin_cases a <;> rfl)).trans ?_
  exact (group_apply _ _ _ _ _ _).trans ((drop_last _ _ _ _ _).trans (hP _ _ _))

/-- The scales of the keys or of the values. -/
theorem scales_single (x : (⟨3, ![8, 2048, 256]⟩ : Shape).Idx → EReal) (P : (⟨4, ![8, 2048, 2, 1]⟩ : Shape).Idx → EReal) (h1 h2 h3)
    (hP : ∀ (b : Fin 8) (r : Fin 2048) (k : Fin 2), P (ValueIdx.ix4 b r k 0) = Attn.scl (headRow x b.val r.val k.val)) :
    broadcastInDim (⟨4, ![8, 2, 1, 2048]⟩ : Shape) (![0, 1, 3] : Fin 3 → Fin 4) h3
      (transpose (⟨3, ![8, 2, 2048]⟩ : Shape) [0, 2, 1] (shapeCast (⟨3, ![8, 2048, 2]⟩ : Shape) P h1) h2) = scales 1 x := by
  funext i
  have hi : i = ValueIdx.ix4 (⟨(i 0).val, (i 0).isLt⟩ : Fin 8) (⟨(i 1).val, (i 1).isLt⟩ : Fin 2) (⟨(i 2).val, (i 2).isLt⟩ : Fin 1) (⟨(i 3).val, (i 3).isLt⟩ : Fin 2048) := by
    funext a; fin_cases a <;> rfl
  rw [hi]
  generalize (⟨(i 0).val, (i 0).isLt⟩ : Fin 8) = b
  generalize (⟨(i 1).val, (i 1).isLt⟩ : Fin 2) = g
  generalize (⟨(i 2).val, (i 2).isLt⟩ : Fin 1) = j
  generalize (⟨(i 3).val, (i 3).isLt⟩ : Fin 2048) = r
  refine (broadcastInDim_apply _ _ _ _ (ix3 b g r) (fun a => by fin_cases a <;> rfl)).trans ?_
  refine (transpose_apply _ _ _ _ (ix3 b r g) (fun a => by fin_cases a <;> rfl)).trans ?_
  refine (drop_last _ _ _ _ _).trans ((hP _ _ _).trans ?_)
  exact congrArg (fun k => Attn.scl (headRow x b.val r.val k)) (by show g.val = 1 * g.val + j.val; omega)

variable (V0 : Valuation τ sig (Elt Ideal))

abbrev inX : (⟨3, ![8, 2048, 2048]⟩ : Shape).Idx → EReal := V0 (Proc.devRef .tc main_arg0)
abbrev inK : (⟨3, ![8, 2048, 256]⟩ : Shape).Idx → EReal := V0 (Proc.devRef .tc main_arg1)
abbrev inV : (⟨3, ![8, 2048, 256]⟩ : Shape).Idx → EReal := V0 (Proc.devRef .tc main_arg2)

/-! ## Queries -/

theorem q_rows (b : Fin 8) (r : Fin 2048) (k : Fin 16) (d : Fin 128) :
    res_main_v1 V0 (ValueIdx.ix4 b r k d) = headRow (inX V0) b.val r.val k.val d.val := by
  unfold res_main_v1; exact Attn.split_row rfl (inX V0) _ b r k d

theorem q_expo (b : Fin 8) (r : Fin 2048) (k : Fin 16) :
    res_main_v16 V0 (ValueIdx.ix4 b r k 0) = refE (amx (headRow (inX V0) b.val r.val k.val)) := by
  unfold res_main_v16
  refine (Attn.expo_apply _ bcast_S_S8x2048x16x1 (res_main_v4 V0) _).trans (congrArg refE ?_)
  unfold res_main_v4
  exact Attn.amaxCol_apply (res_main_v1 V0) _ _ (by decide) _ (by decide) b r k 0 (q_rows V0 b r k)

theorem q_code (ht : AllTame 16 (inX V0)) (b : Fin 8) (r : Fin 2048) (k : Fin 16) (d : Fin 128) :
    res_main_v24 V0 (ValueIdx.ix4 b r k d) = Attn.code (headRow (inX V0) b.val r.val k.val) d.val := by
  unfold res_main_v24
  exact Attn.clipped_code bcast_S_S8x2048x16x128 bcast_S_S8x2048x16x1 bcast_S8x2048x16x1_S8x2048x16x128_0_1_2_3 (by decide) (res_main_v1 V0) (res_main_v16 V0)
    b r k d (q_rows V0 b r k d) (q_expo V0 b r k) (ht b r k)

theorem q_scale (ht : AllTame 16 (inX V0)) (b : Fin 8) (r : Fin 2048) (k : Fin 16) :
    Attn.pow2 _ bcast_S_S8x2048x16x1 (res_main_v16 V0) (ValueIdx.ix4 b r k 0) = Attn.scl (headRow (inX V0) b.val r.val k.val) := by
  rw [Attn.pow2_apply, q_expo]; exact (Attn.pow_ref (ht b r k)).1

/-! ## Keys -/

theorem k_rows (b : Fin 8) (r : Fin 2048) (k : Fin 2) (d : Fin 128) :
    res_main_v26 V0 (ValueIdx.ix4 b r k d) = headRow (inK V0) b.val r.val k.val d.val := by
  unfold res_main_v26; exact Attn.split_row rfl (inK V0) _ b r k d

theorem k_expo (b : Fin 8) (r : Fin 2048) (k : Fin 2) :
    res_main_v41 V0 (ValueIdx.ix4 b r k 0) = refE (amx (headRow (inK V0) b.val r.val k.val)) := by
  unfold res_main_v41
  refine (Attn.expo_apply _ bcast_S_S8x2048x2x1 (res_main_v29 V0) _).trans (congrArg refE ?_)
  unfold res_main_v29
  exact Attn.amaxCol_apply (res_main_v26 V0) _ _ (by decide) _ (by decide) b r k 0 (k_rows V0 b r k)

theorem k_code (ht : AllTame 2 (inK V0)) (b : Fin 8) (r : Fin 2048) (k : Fin 2) (d : Fin 128) :
    res_main_v49 V0 (ValueIdx.ix4 b r k d) = Attn.code (headRow (inK V0) b.val r.val k.val) d.val := by
  unfold res_main_v49
  exact Attn.clipped_code bcast_S_S8x2048x2x128 bcast_S_S8x2048x2x1 bcast_S8x2048x2x1_S8x2048x2x128_0_1_2_3 (by decide) (res_main_v26 V0) (res_main_v41 V0)
    b r k d (k_rows V0 b r k d) (k_expo V0 b r k) (ht b r k)

theorem k_scale (ht : AllTame 2 (inK V0)) (b : Fin 8) (r : Fin 2048) (k : Fin 2) :
    Attn.pow2 _ bcast_S_S8x2048x2x1 (res_main_v41 V0) (ValueIdx.ix4 b r k 0) = Attn.scl (headRow (inK V0) b.val r.val k.val) := by
  rw [Attn.pow2_apply, k_expo]; exact (Attn.pow_ref (ht b r k)).1

/-! ## Values -/

theorem v_rows (b : Fin 8) (r : Fin 2048) (k : Fin 2) (d : Fin 128) :
    res_main_v51 V0 (ValueIdx.ix4 b r k d) = headRow (inV V0) b.val r.val k.val d.val := by
  unfold res_main_v51; exact Attn.split_row rfl (inV V0) _ b r k d

theorem v_expo (b : Fin 8) (r : Fin 2048) (k : Fin 2) :
    res_main_v66 V0 (ValueIdx.ix4 b r k 0) = refE (amx (headRow (inV V0) b.val r.val k.val)) := by
  unfold res_main_v66
  refine (Attn.expo_apply _ bcast_S_S8x2048x2x1 (res_main_v54 V0) _).trans (congrArg refE ?_)
  unfold res_main_v54
  exact Attn.amaxCol_apply (res_main_v51 V0) _ _ (by decide) _ (by decide) b r k 0 (v_rows V0 b r k)

theorem v_code (ht : AllTame 2 (inV V0)) (b : Fin 8) (r : Fin 2048) (k : Fin 2) (d : Fin 128) :
    res_main_v74 V0 (ValueIdx.ix4 b r k d) = Attn.code (headRow (inV V0) b.val r.val k.val) d.val := by
  unfold res_main_v74
  exact Attn.clipped_code bcast_S_S8x2048x2x128 bcast_S_S8x2048x2x1 bcast_S8x2048x2x1_S8x2048x2x128_0_1_2_3 (by decide) (res_main_v51 V0) (res_main_v66 V0)
    b r k d (v_rows V0 b r k d) (v_expo V0 b r k) (ht b r k)

theorem v_scale (ht : AllTame 2 (inV V0)) (b : Fin 8) (r : Fin 2048) (k : Fin 2) :
    Attn.pow2 _ bcast_S_S8x2048x2x1 (res_main_v66 V0) (ValueIdx.ix4 b r k 0) = Attn.scl (headRow (inV V0) b.val r.val k.val) := by
  rw [Attn.pow2_apply, v_expo]; exact (Attn.pow_ref (ht b r k)).1

end Cert.ReferenceIdeal.Value
-- ==== Proof.RI.Attend.lean ====
module

public import proofs.«01_k».proof.Proof.RefCore
public import proofs.«01_k».proof.Proof.RI.Quant

/-!
# The attention of the reference

The reference's scores, weights and products are read at one index each, and its first result is the attention.
-/

@[expose] public section

set_option maxRecDepth 16384

noncomputable section

namespace Cert.ReferenceIdeal.Value

open Cert.ReferenceIdeal Cert.ReferenceIdeal.Gen
open Idealize.ShloMosaic Idealize.ShloMosaic.StableHlo Idealize.ShloMosaic.TcCoe Idealize.ShloMosaic.ValueIdx
open Attn (codes scales AllTame headRow refE amx refS)

/-! ## The operations, at an index -/

theorem dot_qk (A : FVec Ideal S8x2x8x2048x128 .f32) (B : FVec Ideal S8x2048x2x128 .f32) (b : Fin 8) (g : Fin 2) (j : Fin 8) (r n : Fin 2048) :
    Host.dotGeneral (F := Ideal) dot_S8x2x8x2048x128_S8x2048x2x128_S8x2x8x2048x2048_4_3_23_1_01_02 none A B (ValueIdx.ix5 b g j r n)
      = ∑ d : Fin 128, A (ValueIdx.ix5 b g j r d) * B (ValueIdx.ix4 b n g d) := by
  show FloatOps.dotGeneral _ none _ A B (ValueIdx.ix5 b g j r n) = _
  rw [Ideal.dotGeneral_apply, ← Equiv.sum_comp (contrEquiv1 dot_S8x2x8x2048x128_S8x2048x2x128_S8x2x8x2048x2048_4_3_23_1_01_02 128 rfl rfl).symm]
  refine Finset.sum_congr rfl fun c _ => ?_
  have c3 := contrEquiv1_symm_val dot_S8x2x8x2048x128_S8x2048x2x128_S8x2x8x2048x2048_4_3_23_1_01_02 128 rfl rfl c
  have l3 : dot_S8x2x8x2048x128_S8x2048x2x128_S8x2x8x2048x2048_4_3_23_1_01_02.lhsIdx (ValueIdx.ix5 b g j r n) ((contrEquiv1 _ 128 rfl rfl).symm c)
      = ValueIdx.ix5 b g j r c := by
    funext ax; apply Fin.ext
    match ax with
    | ⟨0, _⟩ => simp [DotDims.lhsIdx, dot_S8x2x8x2048x128_S8x2048x2x128_S8x2x8x2048x2048_4_3_23_1_01_02]; rfl
    | ⟨1, _⟩ => simp [DotDims.lhsIdx, dot_S8x2x8x2048x128_S8x2048x2x128_S8x2x8x2048x2048_4_3_23_1_01_02]; rfl
    | ⟨2, _⟩ => simp [DotDims.lhsIdx, dot_S8x2x8x2048x128_S8x2048x2x128_S8x2x8x2048x2048_4_3_23_1_01_02]; rfl
    | ⟨3, _⟩ => simp [DotDims.lhsIdx, dot_S8x2x8x2048x128_S8x2048x2x128_S8x2x8x2048x2048_4_3_23_1_01_02]; rfl
    | ⟨4, _⟩ => simp [DotDims.lhsIdx, dot_S8x2x8x2048x128_S8x2048x2x128_S8x2x8x2048x2048_4_3_23_1_01_02]; exact c3
  have r3 : dot_S8x2x8x2048x128_S8x2048x2x128_S8x2x8x2048x2048_4_3_23_1_01_02.rhsIdx (ValueIdx.ix5 b g j r n) ((contrEquiv1 _ 128 rfl rfl).symm c)
      = ValueIdx.ix4 b n g c := by
    funext ax; apply Fin.ext
    match ax with
    | ⟨0, _⟩ => simp [DotDims.rhsIdx, dot_S8x2x8x2048x128_S8x2048x2x128_S8x2x8x2048x2048_4_3_23_1_01_02]; rfl
    | ⟨1, _⟩ => simp [DotDims.rhsIdx, dot_S8x2x8x2048x128_S8x2048x2x128_S8x2x8x2048x2048_4_3_23_1_01_02]; rfl
    | ⟨2, _⟩ => simp [DotDims.rhsIdx, dot_S8x2x8x2048x128_S8x2048x2x128_S8x2x8x2048x2048_4_3_23_1_01_02]; rfl
    | ⟨3, _⟩ => simp [DotDims.rhsIdx, dot_S8x2x8x2048x128_S8x2048x2x128_S8x2x8x2048x2048_4_3_23_1_01_02]; exact c3
  rw [l3, r3]

theorem dot_pv (A : FVec Ideal S8x2x8x2048x2048 .f32) (B : FVec Ideal S8x2048x2x128 .f32) (b : Fin 8) (g : Fin 2) (j : Fin 8) (r : Fin 2048) (d : Fin 128) :
    Host.dotGeneral (F := Ideal) dot_S8x2x8x2048x2048_S8x2048x2x128_S8x2x8x2048x128_4_1_23_3_01_02 none A B (ValueIdx.ix5 b g j r d)
      = ∑ n : Fin 2048, A (ValueIdx.ix5 b g j r n) * B (ValueIdx.ix4 b n g d) := by
  show FloatOps.dotGeneral _ none _ A B (ValueIdx.ix5 b g j r d) = _
  rw [Ideal.dotGeneral_apply, ← Equiv.sum_comp (contrEquiv1 dot_S8x2x8x2048x2048_S8x2048x2x128_S8x2x8x2048x128_4_1_23_3_01_02 2048 rfl rfl).symm]
  refine Finset.sum_congr rfl fun c _ => ?_
  have c3 := contrEquiv1_symm_val dot_S8x2x8x2048x2048_S8x2048x2x128_S8x2x8x2048x128_4_1_23_3_01_02 2048 rfl rfl c
  have l3 : dot_S8x2x8x2048x2048_S8x2048x2x128_S8x2x8x2048x128_4_1_23_3_01_02.lhsIdx (ValueIdx.ix5 b g j r d) ((contrEquiv1 _ 2048 rfl rfl).symm c)
      = ValueIdx.ix5 b g j r c := by
    funext ax; apply Fin.ext
    match ax with
    | ⟨0, _⟩ => simp [DotDims.lhsIdx, dot_S8x2x8x2048x2048_S8x2048x2x128_S8x2x8x2048x128_4_1_23_3_01_02]; rfl
    | ⟨1, _⟩ => simp [DotDims.lhsIdx, dot_S8x2x8x2048x2048_S8x2048x2x128_S8x2x8x2048x128_4_1_23_3_01_02]; rfl
    | ⟨2, _⟩ => simp [DotDims.lhsIdx, dot_S8x2x8x2048x2048_S8x2048x2x128_S8x2x8x2048x128_4_1_23_3_01_02]; rfl
    | ⟨3, _⟩ => simp [DotDims.lhsIdx, dot_S8x2x8x2048x2048_S8x2048x2x128_S8x2x8x2048x128_4_1_23_3_01_02]; rfl
    | ⟨4, _⟩ => simp [DotDims.lhsIdx, dot_S8x2x8x2048x2048_S8x2048x2x128_S8x2x8x2048x128_4_1_23_3_01_02]; exact c3
  have r3 : dot_S8x2x8x2048x2048_S8x2048x2x128_S8x2x8x2048x128_4_1_23_3_01_02.rhsIdx (ValueIdx.ix5 b g j r d) ((contrEquiv1 _ 2048 rfl rfl).symm c)
      = ValueIdx.ix4 b c g d := by
    funext ax; apply Fin.ext
    match ax with
    | ⟨0, _⟩ => simp [DotDims.rhsIdx, dot_S8x2x8x2048x2048_S8x2048x2x128_S8x2x8x2048x128_4_1_23_3_01_02]; rfl
    | ⟨1, _⟩ => simp [DotDims.rhsIdx, dot_S8x2x8x2048x2048_S8x2048x2x128_S8x2x8x2048x128_4_1_23_3_01_02]; exact c3
    | ⟨2, _⟩ => simp [DotDims.rhsIdx, dot_S8x2x8x2048x2048_S8x2048x2x128_S8x2x8x2048x128_4_1_23_3_01_02]; rfl
    | ⟨3, _⟩ => simp [DotDims.rhsIdx, dot_S8x2x8x2048x2048_S8x2048x2x128_S8x2x8x2048x128_4_1_23_3_01_02]; rfl
  rw [l3, r3]

/-- The query codes, laid out by key head. -/
theorem heads_apply (x : FVec Ideal S8x2048x16x128 .f32) (h1 h2) (b : Fin 8) (g : Fin 2) (j : Fin 8) (r : Fin 2048) (d : Fin 128) :
    transpose S8x2x8x2048x128 [0, 2, 3, 1, 4] (shapeCast S8x2048x2x8x128 x h1) h2 (ValueIdx.ix5 b g j r d)
      = x (ValueIdx.ix4 b r ⟨8 * g.val + j.val, by omega⟩ d) := by
  refine (transpose_apply _ _ _ _ (ValueIdx.ix5 b r g j d) (fun a => by fin_cases a <;> rfl)).trans ?_
  refine shapeCast_apply x h1 _ _ ?_
  rw [Shape.rowMajor_val_four, Shape.rowMajor_val_five]
  show ((b.val * 2048 + r.val) * 16 + (8 * g.val + j.val)) * 128 + d.val = (((b.val * 2048 + r.val) * 2 + g.val) * 8 + j.val) * 128 + d.val
  omega

/-- One number per query row, spread over the keys. -/
theorem over_keys (x : FVec Ideal S8x2x8x2048x1 .f32) (b : Fin 8) (g : Fin 2) (j : Fin 8) (r n : Fin 2048) :
    broadcastInDim S8x2x8x2048x2048 ![0, 1, 2, 3, 4] bcast_S8x2x8x2048x1_S8x2x8x2048x2048_0_1_2_3_4 x (ValueIdx.ix5 b g j r n)
      = x (ValueIdx.ix5 b g j r 0) :=
  broadcastInDim_apply _ _ _ _ _ (fun a => by fin_cases a <;> rfl)

theorem over_dims (x : FVec Ideal S8x2x8x2048x1 .f32) (b : Fin 8) (g : Fin 2) (j : Fin 8) (r : Fin 2048) (d : Fin 128) :
    broadcastInDim S8x2x8x2048x128 ![0, 1, 2, 3, 4] bcast_S8x2x8x2048x1_S8x2x8x2048x128_0_1_2_3_4 x (ValueIdx.ix5 b g j r d)
      = x (ValueIdx.ix5 b g j r 0) :=
  broadcastInDim_apply _ _ _ _ _ (fun a => by fin_cases a <;> rfl)

theorem column_apply (x : FVec Ideal S8x2x8x2048 .f32) (b : Fin 8) (g : Fin 2) (j : Fin 8) (r : Fin 2048) :
    broadcastInDim S8x2x8x2048x1 ![0, 1, 2, 3] bcast_S8x2x8x2048_S8x2x8x2048x1_0_1_2_3 x (ValueIdx.ix5 b g j r 0) = x (ValueIdx.ix4 b g j r) :=
  broadcastInDim_apply _ _ _ _ _ (fun a => by fin_cases a <;> rfl)

/-- One number per key row, spread over the queries. -/
theorem over_queries (x : FVec Ideal S8x2x1x2048 .f32) (b : Fin 8) (g : Fin 2) (j : Fin 8) (r n : Fin 2048) :
    broadcastInDim S8x2x8x2048x2048 ![0, 1, 2, 3, 4] bcast_S8x2x1x1x2048_S8x2x8x2048x2048_0_1_2_3_4
      (broadcastInDim S8x2x1x1x2048 ![0, 1, 2, 4] bcast_S8x2x1x2048_S8x2x1x1x2048_0_1_2_4 x) (ValueIdx.ix5 b g j r n)
      = x (ValueIdx.ix4 b g 0 n) :=
  (broadcastInDim_apply _ _ _ _ (ValueIdx.ix5 b g (0 : Fin 1) (0 : Fin 1) n) (fun a => by fin_cases a <;> rfl)).trans
    (broadcastInDim_apply _ _ _ _ _ (fun a => by fin_cases a <;> rfl))

theorem lift_keys (h' : S8x2x8x2048x2048.Reduces [4] S8x2x8x2048) (b : Fin 8) (g : Fin 2) (j : Fin 8) (r n : Fin 2048) :
    h'.lift (ValueIdx.ix4 b g j r) n = ValueIdx.ix5 b g j r n := by
  funext x
  match x with
  | ⟨0, _⟩ => rfl
  | ⟨1, _⟩ => rfl
  | ⟨2, _⟩ => rfl
  | ⟨3, _⟩ => rfl
  | ⟨4, _⟩ => rfl

theorem keys_reduce : S8x2x8x2048x2048.Reduces [4] S8x2x8x2048 := by decide

theorem max_keys (x : FVec Ideal S8x2x8x2048x2048 .f32) (b : Fin 8) (g : Fin 2) (j : Fin 8) (r : Fin 2048) {w : ℕ → EReal}
    (hw : ∀ n : Fin 2048, x (ValueIdx.ix5 b g j r n) = w n.val) :
    Host.reduce FloatOps.maximumf x (constant S_ .f32 0xFF800000#32) reducesTo_S8x2x8x2048x2048_S8x2x8x2048_d4 h_S_ (ValueIdx.ix4 b g j r)
      = (Finset.range 2048).sup w := by
  rw [hostReduce_maximumf_eq_multiReduction x 0xFF800000#32 _ h_S_ keys_reduce (.inl rfl) rfl]
  refine (Ideal.multiReduction_maximumf_single (s := S8x2x8x2048x2048) (t := S8x2x8x2048) (a := (4 : Fin 5)) _ _ _ _ _ _).trans ?_
  exact Attn.fold_max_eq _ _ fun n => (congrArg x (lift_keys keys_reduce b g j r n)).trans (hw n)

theorem sum_keys (x : FVec Ideal S8x2x8x2048x2048 .f32) (b : Fin 8) (g : Fin 2) (j : Fin 8) (r : Fin 2048) {w : ℕ → EReal}
    (hw : ∀ n : Fin 2048, x (ValueIdx.ix5 b g j r n) = w n.val) :
    Host.reduceAdd x (constant S_ .f32 0x00000000#32) reducesTo_S8x2x8x2048x2048_S8x2x8x2048_d4 h_S_ (ValueIdx.ix4 b g j r)
      = Ideal.ofBits .f32 0x00000000#32 + ∑ n ∈ Finset.range 2048, w n := by
  refine (Ideal.hostReduceAdd_single (s := S8x2x8x2048x2048) (t := S8x2x8x2048) (a := (4 : Fin 5)) reducesTo_S8x2x8x2048x2048_S8x2x8x2048_d4 keys_reduce x _ _).trans ?_
  rw [Finset.sum_range]
  exact congrArg _ (Finset.sum_congr rfl fun n _ => (congrArg x (lift_keys keys_reduce b g j r n)).trans (hw n))

theorem sle_rows (n r : Fin 2048) : (BitVec.ofNat 32 n.val).sle (BitVec.ofNat 32 r.val) = decide (n.val ≤ r.val) := by
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- Nothing of the scores is left above the diagonal. -/
theorem diagonal_apply (x y : FVec Ideal S8x2x8x2048x2048 .f32) (b : Fin 8) (g : Fin 2) (j : Fin 8) (r n : Fin 2048) :
    select (broadcastInDim S8x2x8x2048x2048 ![3, 4] bcast_S2048x2048_S8x2x8x2048x2048_3_4 (cmpi .sle (iotaInDim S2048x2048 32 1) (iotaInDim S2048x2048 32 0)))
      x y (ValueIdx.ix5 b g j r n) = if n.val ≤ r.val then x (ValueIdx.ix5 b g j r n) else y (ValueIdx.ix5 b g j r n) := by
  have h : broadcastInDim S8x2x8x2048x2048 ![3, 4] bcast_S2048x2048_S8x2x8x2048x2048_3_4 (cmpi .sle (iotaInDim S2048x2048 32 1) (iotaInDim S2048x2048 32 0))
      (ValueIdx.ix5 b g j r n) = BitVec.ofBool ((BitVec.ofNat 32 n.val).sle (BitVec.ofNat 32 r.val)) :=
    (broadcastInDim_apply _ _ _ _ (ix2 r n) (fun a => by fin_cases a <;> rfl)).trans rfl
  show (if _ = 1#1 then _ else _) = _
  rw [h, sle_rows]
  simp only [Attn.ofBool_eq_one, decide_eq_true_eq]

/-! ## The reference's arrays -/

variable (V0 : Valuation τ sig (Elt Ideal))

/-- The rows a query of key head `g` reads. -/
abbrev qr (b : Fin 8) (g : Fin 2) (j : Fin 8) (r : Fin 2048) : ℕ → EReal := headRow (inX V0) b.val r.val (8 * g.val + j.val)
abbrev kr (b : Fin 8) (g : Fin 2) : ℕ → ℕ → EReal := fun n => headRow (inK V0) b.val n g.val
abbrev vr (b : Fin 8) (g : Fin 2) : ℕ → ℕ → EReal := fun n => headRow (inV V0) b.val n g.val

theorem score_apply (tx : AllTame 16 (inX V0)) (tk : AllTame 2 (inK V0)) (b : Fin 8) (g : Fin 2) (j : Fin 8) (r n : Fin 2048) :
    res_main_v104 V0 (ValueIdx.ix5 b g j r n) = refS (qr V0 b g j r) (kr V0 b g) r.val n.val := by
  unfold res_main_v104
  refine (diagonal_apply _ _ b g j r n).trans ?_
  unfold refS
  split
  · refine congrArg (fun t => Ideal.ofBits .f32 0x42480000#32 * Ideal.tanh (Ideal.div (Ideal.div t (Ideal.sqrt (Ideal.ofBits .f32 0x43000000#32)))
      (Ideal.ofBits .f32 0x42480000#32))) ?_
    refine congrArg₂ (· * ·) (congrArg₂ (· * ·) ?_ ?_) ?_
    · refine (dot_qk _ _ b g j r n).trans ?_
      rw [Finset.sum_range]
      refine Finset.sum_congr rfl fun d _ => congrArg₂ (· * ·) ?_ ?_
      · exact (heads_apply _ _ _ b g j r d).trans (q_code V0 tx b r _ d)
      · exact k_code V0 tk b n g d
    · refine (over_keys _ b g j r n).trans ((column_apply _ b g j r).trans ?_)
      exact congrFun (scales_grouped (inX V0) _ _ _ _ (q_scale V0 tx)) (ValueIdx.ix4 b g j r)
    · refine (over_queries _ b g j r n).trans ?_
      refine (congrFun (scales_single (inK V0) _ _ _ _ (k_scale V0 tk)) (ValueIdx.ix4 b g 0 n)).trans ?_
      exact congrArg (fun k => Attn.scl (headRow (inK V0) b.val n.val k)) (by show 1 * g.val + 0 = g.val; omega)
  · exact Attn.neg_inf

/-- The largest score of a query. -/
abbrev top (b : Fin 8) (g : Fin 2) (j : Fin 8) (r : Fin 2048) : EReal :=
  (Finset.range 2048).sup (refS (qr V0 b g j r) (kr V0 b g) r.val)

theorem weight_apply (tx : AllTame 16 (inX V0)) (tk : AllTame 2 (inK V0)) (b : Fin 8) (g : Fin 2) (j : Fin 8) (r n : Fin 2048) :
    res_main_v109 V0 (ValueIdx.ix5 b g j r n) = Ideal.exp (refS (qr V0 b g j r) (kr V0 b g) r.val n.val - top V0 b g j r) := by
  unfold res_main_v109
  refine congrArg Ideal.exp (congrArg₂ (· - ·) (score_apply V0 tx tk b g j r n) ?_)
  exact (over_keys _ b g j r n).trans ((column_apply _ b g j r).trans (max_keys _ b g j r (score_apply V0 tx tk b g j r)))

/-- The weight of a key, with its value's scale. -/
abbrev scaled (b : Fin 8) (g : Fin 2) (j : Fin 8) (r : Fin 2048) (n : ℕ) : EReal :=
  Ideal.exp (refS (qr V0 b g j r) (kr V0 b g) r.val n - top V0 b g j r) * Attn.scl (vr V0 b g n)

theorem scaled_apply (tx : AllTame 16 (inX V0)) (tk : AllTame 2 (inK V0)) (tv : AllTame 2 (inV V0)) (b : Fin 8) (g : Fin 2) (j : Fin 8) (r n : Fin 2048) :
    res_main_v114 V0 (ValueIdx.ix5 b g j r n) = scaled V0 b g j r n.val := by
  unfold res_main_v114
  refine congrArg₂ (· * ·) (weight_apply V0 tx tk b g j r n) ((over_queries _ b g j r n).trans ?_)
  refine (congrFun (scales_single (inV V0) _ _ _ _ (v_scale V0 tv)) (ValueIdx.ix4 b g 0 n)).trans ?_
  exact congrArg (fun k => Attn.scl (headRow (inV V0) b.val n.val k)) (by show 1 * g.val + 0 = g.val; omega)

/-- The exponent of the weights' scale. -/
abbrev wexp (b : Fin 8) (g : Fin 2) (j : Fin 8) (r : Fin 2048) : EReal :=
  refE ((Finset.range 2048).sup fun n => max (scaled V0 b g j r n) (-(scaled V0 b g j r n)))

theorem wexp_apply (tx : AllTame 16 (inX V0)) (tk : AllTame 2 (inK V0)) (tv : AllTame 2 (inV V0)) (b : Fin 8) (g : Fin 2) (j : Fin 8) (r : Fin 2048) :
    res_main_v129 V0 (ValueIdx.ix5 b g j r 0) = wexp V0 b g j r := by
  unfold res_main_v129
  refine (Attn.expo_apply _ bcast_S_S8x2x8x2048x1 (res_main_v117 V0) _).trans (congrArg refE ?_)
  unfold res_main_v117
  refine (column_apply _ b g j r).trans (max_keys _ b g j r fun n => ?_)
  exact congrArg (fun t : EReal => max t (-t)) (scaled_apply V0 tx tk tv b g j r n)

/-- The first result, before its axes are put in order, from the weights, the value codes, the exponents and the scores' exponentials. -/
abbrev quotient (W : FVec Ideal S8x2x8x2048x2048 .f32) (C : FVec Ideal S8x2048x2x128 .f32) (E : FVec Ideal S8x2x8x2048x1 .f32)
    (P : FVec Ideal S8x2x8x2048x2048 .f32) : FVec Ideal S8x2x8x2048x128 .f32 :=
  Host.divf (mulf (Host.dotGeneral dot_S8x2x8x2048x2048_S8x2048x2x128_S8x2x8x2048x128_4_1_23_3_01_02 none
      (minimumf (broadcastInDim S8x2x8x2048x2048 ![] bcast_S_S8x2x8x2048x2048 (id (constant S_ .f32 0x43E00000#32)))
        (maximumf (broadcastInDim S8x2x8x2048x2048 ![] bcast_S_S8x2x8x2048x2048 (id (constant S_ .f32 0xC3E00000#32)))
          (mulf W (broadcastInDim S8x2x8x2048x2048 ![0, 1, 2, 3, 4] bcast_S8x2x8x2048x1_S8x2x8x2048x2048_0_1_2_3_4
            (Host.powf (broadcastInDim S8x2x8x2048x1 ![] bcast_S_S8x2x8x2048x1 (constant S_ .f32 0x40000000#32)) (Host.negf E))))))
      C)
    (broadcastInDim S8x2x8x2048x128 ![0, 1, 2, 3, 4] bcast_S8x2x8x2048x1_S8x2x8x2048x128_0_1_2_3_4
      (Host.powf (broadcastInDim S8x2x8x2048x1 ![] bcast_S_S8x2x8x2048x1 (constant S_ .f32 0x40000000#32)) E)))
    (broadcastInDim S8x2x8x2048x128 ![0, 1, 2, 3, 4] bcast_S8x2x8x2048x1_S8x2x8x2048x128_0_1_2_3_4
      (broadcastInDim S8x2x8x2048x1 ![0, 1, 2, 3] bcast_S8x2x8x2048_S8x2x8x2048x1_0_1_2_3
        (Host.reduceAdd P (constant S_ .f32 0x00000000#32) reducesTo_S8x2x8x2048x2048_S8x2x8x2048_d4 h_S_)))

theorem quotient_read (W : FVec Ideal S8x2x8x2048x2048 .f32) (C : FVec Ideal S8x2048x2x128 .f32) (E : FVec Ideal S8x2x8x2048x1 .f32)
    (P : FVec Ideal S8x2x8x2048x2048 .f32) (b : Fin 8) (g : Fin 2) (j : Fin 8) (r : Fin 2048) (d : Fin 128) {w k p : ℕ → EReal} {e : EReal}
    (hw : ∀ n : Fin 2048, W (ValueIdx.ix5 b g j r n) = w n.val) (hk : ∀ n : Fin 2048, C (ValueIdx.ix4 b n g d) = k n.val)
    (he : E (ValueIdx.ix5 b g j r 0) = e) (hp : ∀ n : Fin 2048, P (ValueIdx.ix5 b g j r n) = p n.val) :
    quotient W C E P (ValueIdx.ix5 b g j r d)
      = Ideal.div ((∑ n ∈ Finset.range 2048, Attn.cl (w n * Ideal.pow (Ideal.ofBits .f32 0x40000000#32) (-e)) * k n)
          * Ideal.pow (Ideal.ofBits .f32 0x40000000#32) e) (Ideal.ofBits .f32 0x00000000#32 + ∑ n ∈ Finset.range 2048, p n) := by
  subst he
  refine congrArg₂ Ideal.div (congrArg₂ (· * ·) ?_ ?_) ?_
  · refine (dot_pv _ _ b g j r d).trans ?_
    rw [Finset.sum_range]
    refine Finset.sum_congr rfl fun n _ => congrArg₂ (· * ·) ?_ (hk n)
    exact congrArg Attn.cl (congrArg₂ (· * ·) (hw n) (over_keys _ b g j r n))
  · exact over_dims _ b g j r d
  · exact (over_dims _ b g j r d).trans ((column_apply _ b g j r).trans (sum_keys _ b g j r hp))

theorem quotient_apply (tx : AllTame 16 (inX V0)) (tk : AllTame 2 (inK V0)) (tv : AllTame 2 (inV V0)) (b : Fin 8) (g : Fin 2) (j : Fin 8) (r : Fin 2048) (d : Fin 128) :
    quotient (res_main_v114 V0) (res_main_v74 V0) (res_main_v129 V0) (res_main_v109 V0) (ValueIdx.ix5 b g j r d)
      = Attn.attn (qr V0 b g j r) (kr V0 b g) (vr V0 b g) r.val d.val :=
  (quotient_read _ _ _ _ b g j r d (scaled_apply V0 tx tk tv b g j r) (fun n => v_code V0 tv b n g d) (wexp_apply V0 tx tk tv b g j r)
    (weight_apply V0 tx tk b g j r)).trans
  (Attn.ref_row (tx b r ⟨8 * g.val + j.val, by omega⟩) (fun n hn => tk b ⟨n, hn⟩ g) (fun n hn => tv b ⟨n, hn⟩ g) (d := d.val) r.isLt
    (s := refS (qr V0 b g j r) (kr V0 b g) r.val) (w := scaled V0 b g j r) (fun _ _ => rfl) (M := top V0 b g j r) rfl rfl (fun _ _ => rfl) rfl)

/-- Heads joined to rows. -/
theorem join_heads (x : FVec Ideal S8x2x8x2048x128 .f32) (h1 h2) (b : Fin 8) (r c : Fin 2048) :
    shapeCast S8x2048x2048 (transpose S8x2048x2x8x128 [0, 3, 1, 2, 4] x h1) h2 (ix3 b r c)
      = x (ValueIdx.ix5 b ⟨c.val / 1024, by omega⟩ ⟨c.val / 128 % 8, by omega⟩ r ⟨c.val % 128, by omega⟩) := by
  refine (shapeCast_apply _ h2 _ (ValueIdx.ix5 b r ⟨c.val / 1024, by omega⟩ ⟨c.val / 128 % 8, by omega⟩ ⟨c.val % 128, by omega⟩) ?_).trans ?_
  · rw [Shape.rowMajor_val_three, Shape.rowMajor_val_five]
    show (((b.val * 2048 + r.val) * 2 + c.val / 1024) * 8 + c.val / 128 % 8) * 128 + c.val % 128 = (b.val * 2048 + r.val) * 2048 + c.val
    omega
  · exact transpose_apply _ _ _ _ _ (fun a => by fin_cases a <;> rfl)

/-- The first result is the attention of the arguments. -/
theorem attention (tx : AllTame 16 (inX V0)) (tk : AllTame 2 (inK V0)) (tv : AllTame 2 (inV V0)) (h1 h2) :
    shapeCast S8x2048x2048 (transpose S8x2048x2x8x128 [0, 3, 1, 2, 4] (quotient (res_main_v114 V0) (res_main_v74 V0) (res_main_v129 V0) (res_main_v109 V0)) h1) h2 = Attn.attend (inX V0) (inK V0) (inV V0) := by
  funext i
  have hi : i = ix3 (⟨(i 0).val, (i 0).isLt⟩ : Fin 8) (⟨(i 1).val, (i 1).isLt⟩ : Fin 2048) (⟨(i 2).val, (i 2).isLt⟩ : Fin 2048) := by
    funext a; fin_cases a <;> rfl
  rw [hi]
  generalize (⟨(i 0).val, (i 0).isLt⟩ : Fin 8) = b
  generalize (⟨(i 1).val, (i 1).isLt⟩ : Fin 2048) = r
  generalize (⟨(i 2).val, (i 2).isLt⟩ : Fin 2048) = c
  refine (join_heads _ _ _ b r c).trans ((quotient_apply V0 tx tk tv _ _ _ _ _).trans ?_)
  show Attn.attn (headRow (inX V0) b.val r.val (8 * (c.val / 1024) + c.val / 128 % 8)) _ _ _ _ = Attn.attn (headRow (inX V0) b.val r.val (c.val / 128)) _ _ _ _
  rw [show 8 * (c.val / 1024) + c.val / 128 % 8 = c.val / 128 by omega]

variable (m : (ℓ : Loc nD τ sig) → Buf (Elt Ideal) ℓ) (ρ : Dev nD → PrngReg)

/-- For tame arguments the reference ends with the attention, the codes and the scales of its arguments, and its arguments unchanged. -/
theorem run_value
    (ht : ∀ c : Dev nD, AllTame (C := 2048) 16 (m ((c.tc : Thread nD τ).loc main_arg0)) ∧ AllTame (C := 256) 2 (m ((c.tc : Thread nD τ).loc main_arg1))
      ∧ AllTame (C := 256) 2 (m ((c.tc : Thread nD τ).loc main_arg2))) :
    θ_run defs (onTc (τ := τ) (main (F := Ideal))) ⟨m, fun _ => 0, ρ⟩ (fun r => ∀ c : Dev nD,
      r.2.mem ((c.tc : Thread nD τ).loc main_v145)
        = Attn.attend (m ((c.tc : Thread nD τ).loc main_arg0)) (m ((c.tc : Thread nD τ).loc main_arg1)) (m ((c.tc : Thread nD τ).loc main_arg2))
      ∧ r.2.mem ((c.tc : Thread nD τ).loc main_v147) = codes (R := 2048) (C := 2048) (m ((c.tc : Thread nD τ).loc main_arg0))
      ∧ r.2.mem ((c.tc : Thread nD τ).loc main_v79) = scales (R := 2048) (C := 2048) 8 (m ((c.tc : Thread nD τ).loc main_arg0))
      ∧ r.2.mem ((c.tc : Thread nD τ).loc main_v149) = codes (R := 2048) (C := 256) (m ((c.tc : Thread nD τ).loc main_arg1))
      ∧ r.2.mem ((c.tc : Thread nD τ).loc main_v82) = scales (R := 2048) (C := 256) 1 (m ((c.tc : Thread nD τ).loc main_arg1))
      ∧ r.2.mem ((c.tc : Thread nD τ).loc main_v151) = codes (R := 2048) (C := 256) (m ((c.tc : Thread nD τ).loc main_arg2))
      ∧ r.2.mem ((c.tc : Thread nD τ).loc main_v85) = scales (R := 2048) (C := 256) 1 (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h0, h1, h2, h3, h4, h5, h6, ha⟩ := h c
    obtain ⟨t0, t1, t2⟩ := ht c
    exact ⟨h0.trans (attention (launchContents m c) t0 t1 t2 _ _),
      h1.trans (join_codes (n := 16) (C := 2048) rfl (inX (launchContents m c)) _ _ (q_code (launchContents m c) t0)),
      h2.trans (scales_grouped (inX (launchContents m c)) _ _ _ _ (q_scale (launchContents m c) t0)),
      h3.trans (join_codes (n := 2) (C := 256) rfl (inK (launchContents m c)) _ _ (k_code (launchContents m c) t1)),
      h4.trans (scales_single (inK (launchContents m c)) _ _ _ _ (k_scale (launchContents m c) t1)),
      h5.trans (join_codes (n := 2) (C := 256) rfl (inV (launchContents m c)) _ _ (v_code (launchContents m c) t2)),
      h6.trans (scales_single (inV (launchContents m c)) _ _ _ _ (v_scale (launchContents m c) t2)), ha⟩) (run m ρ)

end Cert.ReferenceIdeal.Value
-- ==== Proof.RI.Tame.lean ====
module

public import proofs.«01_k».proof.Proof.RefRows
public import proofs.«01_k».proof.Pre_rows_tame
public import Idealize.ShloMosaic.Lib.ReduceAll
public import Idealize.ShloMosaic.Lib.Affine

/-!
# What the precondition says

The precondition, a conjunction over all rows written with array operations, says of each argument that its rows are tame.
-/

@[expose] public section

set_option maxRecDepth 16384

noncomputable section

namespace Attn

open Idealize.ShloMosaic Idealize.ShloMosaic.ValueIdx

instance preFacts : Cert.Pre_rows_tame.Facts where
  bitsLt_bf16_f32 := by decide
  shapeCasts_S8x2048x2048_S8x2048x16x128 := by decide
  reducesTo_S8x2048x16x128_S8x2048x16_d3 := by decide
  h_S_ := by decide
  bcast_S_S8x2048x16 := by decide
  reducesTo_S8x2048x16_S_d0_1_2 := by decide
  shapeCasts_S8x2048x256_S8x2048x2x128 := by decide
  reducesTo_S8x2048x2x128_S8x2048x2_d3 := by decide
  bcast_S_S8x2048x2 := by decide
  reducesTo_S8x2048x2_S_d0_1_2 := by decide

instance : Subsingleton (⟨0, ![]⟩ : Shape).Idx := ⟨fun _ _ => funext fun a => a.elim0⟩

/-- The test of one argument: every row's largest magnitude is zero or between the two bounds. -/
abbrev tameTest {n C : ℕ} (x : FVec Ideal ⟨3, ![8, 2048, C]⟩ .f32) (hc : (⟨3, ![8, 2048, C]⟩ : Shape).ShapeCasts ⟨4, ![8, 2048, n, 128]⟩)
    (hr : (⟨4, ![8, 2048, n, 128]⟩ : Shape).ReducesTo [3] ⟨3, ![8, 2048, n]⟩)
    (hb : (⟨0, ![]⟩ : Shape).BroadcastsInDim ⟨3, ![8, 2048, n]⟩ (![] : Fin 0 → Fin 3))
    (ha : (⟨3, ![8, 2048, n]⟩ : Shape).ReducesTo [0, 1, 2] ⟨0, ![]⟩) (hu : 0 < (⟨0, ![]⟩ : Shape).numel) : IVec ⟨0, ![]⟩ 1 :=
  let A := Host.reduce FloatOps.maximumf (Host.absf (shapeCast (⟨4, ![8, 2048, n, 128]⟩ : Shape) x hc)) (constant ⟨0, ![]⟩ .f32 0xFF800000#32) hr hu
  Host.reduce IntOp.andi
    (ori (cmpf .oeq A (broadcastInDim ⟨3, ![8, 2048, n]⟩ ![] hb (constant (F := Ideal) ⟨0, ![]⟩ .f32 0x00000000#32)))
      (andi (cmpf .oge A (broadcastInDim ⟨3, ![8, 2048, n]⟩ ![] hb (constant (F := Ideal) ⟨0, ![]⟩ .f32 0x05000000#32)))
        (cmpf .ole A (broadcastInDim ⟨3, ![8, 2048, n]⟩ ![] hb (constant (F := Ideal) ⟨0, ![]⟩ .f32 0x7F7F0000#32)))))
    (constantI ⟨0, ![]⟩ 1 1#1) ha hu

theorem ori_eq_one {c d : BitVec 1} : c ||| d = 1#1 ↔ c = 1#1 ∨ d = 1#1 := by revert c d; decide
theorem and_eq_one {c d : BitVec 1} : c &&& d = 1#1 ↔ c = 1#1 ∧ d = 1#1 := by revert c d; decide

theorem tame_of_test {n C : ℕ} (hC : C = n * 128) (x : FVec Ideal ⟨3, ![8, 2048, C]⟩ .f32) (hc hr hb ha hu)
    (h' : (⟨4, ![8, 2048, n, 128]⟩ : Shape).Reduces [3] ⟨3, ![8, 2048, n]⟩) (j : (⟨0, ![]⟩ : Shape).Idx)
    (e : tameTest (n := n) x hc hr hb ha hu j = 1#1) : AllTame n x := by
  intro b r k
  have h := Host.reduce_andi_all _ _ ha hu j e (ix3 b r k)
  have hA := amax_apply (shapeCast (⟨4, ![8, 2048, n, 128]⟩ : Shape) x hc) hr hu h' b r k (fun d => split_row hC x hc b r k d)
  generalize Host.reduce FloatOps.maximumf (Host.absf (shapeCast (⟨4, ![8, 2048, n, 128]⟩ : Shape) x hc)) (constant ⟨0, ![]⟩ .f32 0xFF800000#32) hr hu = A at h hA
  have h2 : BitVec.ofBool (decide (A (ix3 b r k) = Ideal.ofBits .f32 0x00000000#32))
      ||| (BitVec.ofBool (decide (Ideal.ofBits .f32 0x05000000#32 ≤ A (ix3 b r k))) &&& BitVec.ofBool (decide (A (ix3 b r k) ≤ Ideal.ofBits .f32 0x7F7F0000#32))) = 1#1 := h
  rw [ori_eq_one, and_eq_one, ofBool_eq_one, ofBool_eq_one, ofBool_eq_one, decide_eq_true_eq, decide_eq_true_eq, decide_eq_true_eq, hA, bits_zero] at h2
  exact h2

/-- The precondition is the three tests. -/
theorem pre_tests (x : FVec Ideal ⟨3, ![8, 2048, 2048]⟩ .bf16) (k v : FVec Ideal ⟨3, ![8, 2048, 256]⟩ .bf16)
    (h : Cert.Pre_rows_tame.fn (F := Ideal) x k v = fun _ => 1#1) :
    AllTame (C := 2048) 16 x ∧ AllTame (C := 256) 2 k ∧ AllTame (C := 256) 2 v := by
  have h0 := congrFun h (fun a => a.elim0)
  have h1 : Cert.Pre_rows_tame.fn (F := Ideal) x k v (fun a => a.elim0)
      = (tameTest (n := 16) (C := 2048) x preFacts.shapeCasts_S8x2048x2048_S8x2048x16x128 preFacts.reducesTo_S8x2048x16x128_S8x2048x16_d3
          preFacts.bcast_S_S8x2048x16 preFacts.reducesTo_S8x2048x16_S_d0_1_2 preFacts.h_S_ (fun a => a.elim0)
        &&& tameTest (n := 2) (C := 256) k preFacts.shapeCasts_S8x2048x256_S8x2048x2x128 preFacts.reducesTo_S8x2048x2x128_S8x2048x2_d3
          preFacts.bcast_S_S8x2048x2 preFacts.reducesTo_S8x2048x2_S_d0_1_2 preFacts.h_S_ (fun a => a.elim0))
        &&& tameTest (n := 2) (C := 256) v preFacts.shapeCasts_S8x2048x256_S8x2048x2x128 preFacts.reducesTo_S8x2048x2x128_S8x2048x2_d3
          preFacts.bcast_S_S8x2048x2 preFacts.reducesTo_S8x2048x2_S_d0_1_2 preFacts.h_S_ (fun a => a.elim0) := rfl
  rw [h1, and_eq_one, and_eq_one] at h0
  exact ⟨tame_of_test (n := 16) (C := 2048) rfl x _ _ _ _ _ (by decide) _ h0.1.1, tame_of_test (n := 2) (C := 256) rfl k _ _ _ _ _ (by decide) _ h0.1.2,
    tame_of_test (n := 2) (C := 256) rfl v _ _ _ _ _ (by decide) _ h0.2⟩

end Attn
-- ==== Proof.lean ====
/- The claims about the kernel, put together from the modules that prove them. -/
module

public import proofs.«01_k».proof.Defs
public import proofs.«01_k».proof.Proof.K.Frame
public import proofs.«01_k».proof.Proof.KI.Frame
public import proofs.«01_k».proof.Proof.KI.Result
public import proofs.«01_k».proof.Proof.RI.Attend
public import proofs.«01_k».proof.Proof.RI.Tame
public import proofs.«01_k».proof.Proof.Gen.ReferenceIdeal
public import proofs.«01_k».proof.Proof.Gen.ReferenceIdeal.Run
public import Idealize.ShloMosaic.Adequacy
public import Idealize.ShloMosaic.Init
public import Idealize.ShloMosaic.PureOps.IdealRules
public import Idealize.ShloMosaic.Lib.Quiescent

@[expose] public section

noncomputable section

namespace Cert.Proof

open Idealize.ShloMosaic Idealize.SL.Sem

/-- The kernel as compiled runs and leaves its arguments and every counter as they were. -/
theorem frame_kernel : Cert.quiescent_Kernel (hKernel := Cert.Kernel.Gen.facts) :=
  fun m ρ _ => Cert.Kernel.quiescent m ρ

/-- So does the kernel read over the extended reals. -/
theorem frame_kernel_ideal : Cert.quiescent_KernelIdeal (hKernelIdeal := Cert.KernelIdeal.Gen.facts) :=
  fun m ρ _ => Cert.KernelIdeal.quiescent m ρ

theorem frame_kernel_ideal_pre : Cert.quiescent_KernelIdeal_pre_rows_tame (hKernelIdeal := Cert.KernelIdeal.Gen.facts) (hPre_rows_tame := Attn.preFacts) :=
  fun m ρ _ => Cert.KernelIdeal.quiescent m ρ

/-- So does the reference, which has no counter at all. -/
theorem frame_reference : Cert.quiescent_ReferenceIdeal (hReferenceIdeal := Cert.ReferenceIdeal.Gen.facts) := by
  intro m ρ _
  exact (θ_run Cert.ReferenceIdeal.defs _ _).mono
    (fun r h => ⟨fun c => ⟨(h c).2.2.2.2.2.2.2.1, (h c).2.2.2.2.2.2.2.2.1, (h c).2.2.2.2.2.2.2.2.2⟩,
      sem_eq_zero_of_no_sems (by decide) r.2⟩)
    (Cert.ReferenceIdeal.Value.run (F := Ideal) m ρ)

theorem frame_reference_pre : Cert.quiescent_ReferenceIdeal_pre_rows_tame (hReferenceIdeal := Cert.ReferenceIdeal.Gen.facts) (hPre_rows_tame := Attn.preFacts) :=
  fun m ρ _ => frame_reference m ρ trivial

/-- The two constants the ideal reading names have the values the table gives them. -/
theorem preserves : Cert.preserves_Kernel_KernelIdeal :=
  ⟨IdealRules.named_const.statement _ _ _ _ _ rfl, IdealRules.named_const.statement _ _ _ _ _ rfl⟩

/-- For tame arguments the kernel and the reference end with the same attention, the same codes and the same scales. -/
theorem values : Cert.algebraic_KernelIdeal_ReferenceIdeal_pre_rows_tame (hKernelIdeal := Cert.KernelIdeal.Gen.facts)
    (hReferenceIdeal := Cert.ReferenceIdeal.Gen.facts) (hPre_rows_tame := Attn.preFacts) := by
  intro m g m' g' hp hm
  refine ⟨fun c => Attn.attend (Cert.KernelIdeal.argX m c) (Cert.KernelIdeal.argK m c) (Cert.KernelIdeal.argV m c),
    fun c => Attn.codes (Cert.KernelIdeal.argX m c), fun c => Attn.scales 8 (Cert.KernelIdeal.argX m c),
    fun c => Attn.codes (Cert.KernelIdeal.argK m c), fun c => Attn.scales 1 (Cert.KernelIdeal.argK m c),
    fun c => Attn.codes (Cert.KernelIdeal.argV m c), fun c => Attn.scales 1 (Cert.KernelIdeal.argV m c), ?_, ?_⟩
  · exact Cert.KernelIdeal.run_value m g (fun c => Attn.pre_tests _ _ _ (hp c))
  · refine (θ_run Cert.ReferenceIdeal.defs _ _).mono (fun r h c => ?_) (Cert.ReferenceIdeal.Value.run_value m' g' (fun c => ?_))
    · obtain ⟨h0, h1, h2, h3, h4, h5, h6, ha⟩ := h c
      obtain ⟨e0, e1, e2⟩ := hm c
      rw [e0, e1, e2] at h0
      rw [e0] at h1 h2
      rw [e1] at h3 h4
      rw [e2] at h5 h6
      exact ⟨h0, h1, h2, h3, h4, h5, h6, ha⟩
    · obtain ⟨e0, e1, e2⟩ := hm c
      rw [e0, e1, e2]
      exact Attn.pre_tests _ _ _ (hp c)

theorem claim : Cert.Claim :=
  ⟨Cert.Kernel.Gen.facts, Cert.KernelIdeal.Gen.facts, Cert.ReferenceIdeal.Gen.facts, Attn.preFacts,
    frame_kernel, frame_kernel_ideal, frame_kernel_ideal_pre, frame_reference, frame_reference_pre, preserves, values⟩

end Cert.Proof
